-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_FinalNormS (m : (ℓ : Loc Cert.FinalNormS.nD Cert.FinalNormS.τ Cert.FinalNormS.sig) → Buf (Elt Bits) ℓ) : Prop :=
  True

def Pre_FinalNormSIdeal (m : (ℓ : Loc Cert.FinalNormSIdeal.nD Cert.FinalNormSIdeal.τ Cert.FinalNormSIdeal.sig) → Buf (Elt Ideal) ℓ) : Prop :=
  True

def Pre_FinalNormSRefIdeal (m : (ℓ : Loc Cert.FinalNormSRefIdeal.nD Cert.FinalNormSRefIdeal.τ Cert.FinalNormSRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvS (m : (ℓ : Loc Cert.ConvS.nD Cert.ConvS.τ Cert.ConvS.sig) → Buf (Elt Bits) ℓ) : Prop :=
  True

def Pre_ConvSIdeal (m : (ℓ : Loc Cert.ConvSIdeal.nD Cert.ConvSIdeal.τ Cert.ConvSIdeal.sig) → Buf (Elt Ideal) ℓ) : Prop :=
  True

def Pre_ConvSRefIdeal (m : (ℓ : Loc Cert.ConvSRefIdeal.nD Cert.ConvSRefIdeal.τ Cert.ConvSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_HgrnS (m : (ℓ : Loc Cert.HgrnS.nD Cert.HgrnS.τ Cert.HgrnS.sig) → Buf (Elt Bits) ℓ) : Prop :=
  True

def Pre_HgrnSIdeal (m : (ℓ : Loc Cert.HgrnSIdeal.nD Cert.HgrnSIdeal.τ Cert.HgrnSIdeal.sig) → Buf (Elt Ideal) ℓ) : Prop :=
  True

def Pre_HgrnSIdeal_finite_lb [hPre_finite_lb : Cert.Pre_finite_lb.Facts] (m : (ℓ : Loc Cert.HgrnSIdeal.nD Cert.HgrnSIdeal.τ Cert.HgrnSIdeal.sig) → Buf (Elt Ideal) ℓ) : Prop :=
  ∀ c : Dev Cert.HgrnSIdeal.nD,
    (Cert.Pre_finite_lb.fn (F := Ideal) (m ((c.tc : Thread Cert.HgrnSIdeal.nD Cert.HgrnSIdeal.τ).loc Cert.HgrnSIdeal.main_arg0)) (m ((c.tc : Thread Cert.HgrnSIdeal.nD Cert.HgrnSIdeal.τ).loc Cert.HgrnSIdeal.main_arg1)) (m ((c.tc : Thread Cert.HgrnSIdeal.nD Cert.HgrnSIdeal.τ).loc Cert.HgrnSIdeal.main_arg2)) (m ((c.tc : Thread Cert.HgrnSIdeal.nD Cert.HgrnSIdeal.τ).loc Cert.HgrnSIdeal.main_arg3))) = (fun _ => 1#1)

def Pre_HgrnSRefIdeal (m : (ℓ : Loc Cert.HgrnSRefIdeal.nD Cert.HgrnSRefIdeal.τ Cert.HgrnSRefIdeal.sig) → Buf (Elt Ideal) ℓ) : Prop :=
  True

def Pre_HgrnSRefIdeal_finite_lb [hPre_finite_lb : Cert.Pre_finite_lb.Facts] (m : (ℓ : Loc Cert.HgrnSRefIdeal.nD Cert.HgrnSRefIdeal.τ Cert.HgrnSRefIdeal.sig) → Buf (Elt Ideal) ℓ) : Prop :=
  ∀ c : Dev Cert.HgrnSRefIdeal.nD,
    (Cert.Pre_finite_lb.fn (F := Ideal) (m ((c.tc : Thread Cert.HgrnSRefIdeal.nD Cert.HgrnSRefIdeal.τ).loc Cert.HgrnSRefIdeal.main_arg0)) (m ((c.tc : Thread Cert.HgrnSRefIdeal.nD Cert.HgrnSRefIdeal.τ).loc Cert.HgrnSRefIdeal.main_arg1)) (m ((c.tc : Thread Cert.HgrnSRefIdeal.nD Cert.HgrnSRefIdeal.τ).loc Cert.HgrnSRefIdeal.main_arg2)) (m ((c.tc : Thread Cert.HgrnSRefIdeal.nD Cert.HgrnSRefIdeal.τ).loc Cert.HgrnSRefIdeal.main_arg3))) = (fun _ => 1#1)

def Pre_RwkvS (m : (ℓ : Loc Cert.RwkvS.nD Cert.RwkvS.τ Cert.RwkvS.sig) → Buf (Elt Bits) ℓ) : Prop :=
  True

def Pre_RwkvSIdeal (m : (ℓ : Loc Cert.RwkvSIdeal.nD Cert.RwkvSIdeal.τ Cert.RwkvSIdeal.sig) → Buf (Elt Ideal) ℓ) : Prop :=
  True

def Pre_RwkvSRefIdeal (m : (ℓ : Loc Cert.RwkvSRefIdeal.nD Cert.RwkvSRefIdeal.τ Cert.RwkvSRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_gates [hPre_finite_gates : Cert.Pre_finite_gates.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_gates.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_gates [hPre_finite_gates : Cert.Pre_finite_gates.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_gates.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_FinalNormS [hFinalNormS : Cert.FinalNormS.Facts] : Prop :=
  ∀ (m : (ℓ : Loc Cert.FinalNormS.nD Cert.FinalNormS.τ Cert.FinalNormS.sig) → Buf (Elt Bits) ℓ) (g : Dev Cert.FinalNormS.nD → PrngReg), Pre_FinalNormS m →
    θ_run (Cert.FinalNormS.defs (F := Bits)) (onTc (τ := Cert.FinalNormS.τ) (Cert.FinalNormS.main (F := Bits))) ⟨m, fun _ => 0, g⟩ (fun r => (∀ c : Dev Cert.FinalNormS.nD,
      r.2.mem ((c.tc : Thread Cert.FinalNormS.nD Cert.FinalNormS.τ).loc Cert.FinalNormS.main_arg0) = m ((c.tc : Thread Cert.FinalNormS.nD Cert.FinalNormS.τ).loc Cert.FinalNormS.main_arg0)
      ∧ r.2.mem ((c.tc : Thread Cert.FinalNormS.nD Cert.FinalNormS.τ).loc Cert.FinalNormS.main_arg1) = m ((c.tc : Thread Cert.FinalNormS.nD Cert.FinalNormS.τ).loc Cert.FinalNormS.main_arg1))
      ∧ r.2.sem = fun _ => 0)

def quiescent_FinalNormSIdeal [hFinalNormSIdeal : Cert.FinalNormSIdeal.Facts] : Prop :=
  ∀ (m : (ℓ : Loc Cert.FinalNormSIdeal.nD Cert.FinalNormSIdeal.τ Cert.FinalNormSIdeal.sig) → Buf (Elt Ideal) ℓ) (g : Dev Cert.FinalNormSIdeal.nD → PrngReg), Pre_FinalNormSIdeal m →
    θ_run (Cert.FinalNormSIdeal.defs (F := Ideal)) (onTc (τ := Cert.FinalNormSIdeal.τ) (Cert.FinalNormSIdeal.main (F := Ideal))) ⟨m, fun _ => 0, g⟩ (fun r => (∀ c : Dev Cert.FinalNormSIdeal.nD,
      r.2.mem ((c.tc : Thread Cert.FinalNormSIdeal.nD Cert.FinalNormSIdeal.τ).loc Cert.FinalNormSIdeal.main_arg0) = m ((c.tc : Thread Cert.FinalNormSIdeal.nD Cert.FinalNormSIdeal.τ).loc Cert.FinalNormSIdeal.main_arg0)
      ∧ r.2.mem ((c.tc : Thread Cert.FinalNormSIdeal.nD Cert.FinalNormSIdeal.τ).loc Cert.FinalNormSIdeal.main_arg1) = m ((c.tc : Thread Cert.FinalNormSIdeal.nD Cert.FinalNormSIdeal.τ).loc Cert.FinalNormSIdeal.main_arg1))
      ∧ r.2.sem = fun _ => 0)

def quiescent_FinalNormSRefIdeal [hFinalNormSRefIdeal : Cert.FinalNormSRefIdeal.Facts] : Prop :=
  ∀ (m : (ℓ : Loc Cert.FinalNormSRefIdeal.nD Cert.FinalNormSRefIdeal.τ Cert.FinalNormSRefIdeal.sig) → Buf (Elt Ideal) ℓ) (g : Dev Cert.FinalNormSRefIdeal.nD → PrngReg), Pre_FinalNormSRefIdeal m →
    θ_run (Cert.FinalNormSRefIdeal.defs (F := Ideal)) (onTc (τ := Cert.FinalNormSRefIdeal.τ) (Cert.FinalNormSRefIdeal.main (F := Ideal))) ⟨m, fun _ => 0, g⟩ (fun r => (∀ c : Dev Cert.FinalNormSRefIdeal.nD,
      r.2.mem ((c.tc : Thread Cert.FinalNormSRefIdeal.nD Cert.FinalNormSRefIdeal.τ).loc Cert.FinalNormSRefIdeal.main_arg0) = m ((c.tc : Thread Cert.FinalNormSRefIdeal.nD Cert.FinalNormSRefIdeal.τ).loc Cert.FinalNormSRefIdeal.main_arg0)
      ∧ r.2.mem ((c.tc : Thread Cert.FinalNormSRefIdeal.nD Cert.FinalNormSRefIdeal.τ).loc Cert.FinalNormSRefIdeal.main_arg1) = m ((c.tc : Thread Cert.FinalNormSRefIdeal.nD Cert.FinalNormSRefIdeal.τ).loc Cert.FinalNormSRefIdeal.main_arg1))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvS [hConvS : Cert.ConvS.Facts] : Prop :=
  ∀ (m : (ℓ : Loc Cert.ConvS.nD Cert.ConvS.τ Cert.ConvS.sig) → Buf (Elt Bits) ℓ) (g : Dev Cert.ConvS.nD → PrngReg), Pre_ConvS m →
    θ_run (Cert.ConvS.defs (F := Bits)) (onTc (τ := Cert.ConvS.τ) (Cert.ConvS.main (F := Bits))) ⟨m, fun _ => 0, g⟩ (fun r => (∀ c : Dev Cert.ConvS.nD,
      r.2.mem ((c.tc : Thread Cert.ConvS.nD Cert.ConvS.τ).loc Cert.ConvS.main_arg0) = m ((c.tc : Thread Cert.ConvS.nD Cert.ConvS.τ).loc Cert.ConvS.main_arg0)
      ∧ r.2.mem ((c.tc : Thread Cert.ConvS.nD Cert.ConvS.τ).loc Cert.ConvS.main_arg1) = m ((c.tc : Thread Cert.ConvS.nD Cert.ConvS.τ).loc Cert.ConvS.main_arg1)
      ∧ r.2.mem ((c.tc : Thread Cert.ConvS.nD Cert.ConvS.τ).loc Cert.ConvS.main_arg2) = m ((c.tc : Thread Cert.ConvS.nD Cert.ConvS.τ).loc Cert.ConvS.main_arg2)
      ∧ r.2.mem ((c.tc : Thread Cert.ConvS.nD Cert.ConvS.τ).loc Cert.ConvS.main_arg3) = m ((c.tc : Thread Cert.ConvS.nD Cert.ConvS.τ).loc Cert.ConvS.main_arg3)
      ∧ r.2.mem ((c.tc : Thread Cert.ConvS.nD Cert.ConvS.τ).loc Cert.ConvS.main_arg4) = m ((c.tc : Thread Cert.ConvS.nD Cert.ConvS.τ).loc Cert.ConvS.main_arg4)
      ∧ r.2.mem ((c.tc : Thread Cert.ConvS.nD Cert.ConvS.τ).loc Cert.ConvS.main_arg5) = m ((c.tc : Thread Cert.ConvS.nD Cert.ConvS.τ).loc Cert.ConvS.main_arg5))
      ∧ r.2.sem = fun _ => 0)

def quiescent_ConvSIdeal [hConvSIdeal : Cert.ConvSIdeal.Facts] : Prop :=
  ∀ (m : (ℓ : Loc Cert.ConvSIdeal.nD Cert.ConvSIdeal.τ Cert.ConvSIdeal.sig) → Buf (Elt Ideal) ℓ) (g : Dev Cert.ConvSIdeal.nD → PrngReg), Pre_ConvSIdeal m →
    θ_run (Cert.ConvSIdeal.defs (F := Ideal)) (onTc (τ := Cert.ConvSIdeal.τ) (Cert.ConvSIdeal.main (F := Ideal))) ⟨m, fun _ => 0, g⟩ (fun r => (∀ c : Dev Cert.ConvSIdeal.nD,
      r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
      ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
      ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
      ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
      ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
      ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ r.2.sem = fun _ => 0)

def quiescent_ConvSRefIdeal [hConvSRefIdeal : Cert.ConvSRefIdeal.Facts] : Prop :=
  ∀ (m : (ℓ : Loc Cert.ConvSRefIdeal.nD Cert.ConvSRefIdeal.τ Cert.ConvSRefIdeal.sig) → Buf (Elt Ideal) ℓ) (g : Dev Cert.ConvSRefIdeal.nD → PrngReg), Pre_ConvSRefIdeal m →
    θ_run (Cert.ConvSRefIdeal.defs (F := Ideal)) (onTc (τ := Cert.ConvSRefIdeal.τ) (Cert.ConvSRefIdeal.main (F := Ideal))) ⟨m, fun _ => 0, g⟩ (fun r => (∀ c : Dev Cert.ConvSRefIdeal.nD,
      r.2.mem ((c.tc : Thread Cert.ConvSRefIdeal.nD Cert.ConvSRefIdeal.τ).loc Cert.ConvSRefIdeal.main_arg0) = m ((c.tc : Thread Cert.ConvSRefIdeal.nD Cert.ConvSRefIdeal.τ).loc Cert.ConvSRefIdeal.main_arg0)
      ∧ r.2.mem ((c.tc : Thread Cert.ConvSRefIdeal.nD Cert.ConvSRefIdeal.τ).loc Cert.ConvSRefIdeal.main_arg1) = m ((c.tc : Thread Cert.ConvSRefIdeal.nD Cert.ConvSRefIdeal.τ).loc Cert.ConvSRefIdeal.main_arg1)
      ∧ r.2.mem ((c.tc : Thread Cert.ConvSRefIdeal.nD Cert.ConvSRefIdeal.τ).loc Cert.ConvSRefIdeal.main_arg2) = m ((c.tc : Thread Cert.ConvSRefIdeal.nD Cert.ConvSRefIdeal.τ).loc Cert.ConvSRefIdeal.main_arg2)
      ∧ r.2.mem ((c.tc : Thread Cert.ConvSRefIdeal.nD Cert.ConvSRefIdeal.τ).loc Cert.ConvSRefIdeal.main_arg3) = m ((c.tc : Thread Cert.ConvSRefIdeal.nD Cert.ConvSRefIdeal.τ).loc Cert.ConvSRefIdeal.main_arg3)
      ∧ r.2.mem ((c.tc : Thread Cert.ConvSRefIdeal.nD Cert.ConvSRefIdeal.τ).loc Cert.ConvSRefIdeal.main_arg4) = m ((c.tc : Thread Cert.ConvSRefIdeal.nD Cert.ConvSRefIdeal.τ).loc Cert.ConvSRefIdeal.main_arg4)
      ∧ r.2.mem ((c.tc : Thread Cert.ConvSRefIdeal.nD Cert.ConvSRefIdeal.τ).loc Cert.ConvSRefIdeal.main_arg5) = m ((c.tc : Thread Cert.ConvSRefIdeal.nD Cert.ConvSRefIdeal.τ).loc Cert.ConvSRefIdeal.main_arg5))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7))
      ∧ r.2.sem = fun _ => 0)

def quiescent_HgrnS [hHgrnS : Cert.HgrnS.Facts] : Prop :=
  ∀ (m : (ℓ : Loc Cert.HgrnS.nD Cert.HgrnS.τ Cert.HgrnS.sig) → Buf (Elt Bits) ℓ) (g : Dev Cert.HgrnS.nD → PrngReg), Pre_HgrnS m →
    θ_run (Cert.HgrnS.defs (F := Bits)) (onTc (τ := Cert.HgrnS.τ) (Cert.HgrnS.main (F := Bits))) ⟨m, fun _ => 0, g⟩ (fun r => (∀ c : Dev Cert.HgrnS.nD,
      r.2.mem ((c.tc : Thread Cert.HgrnS.nD Cert.HgrnS.τ).loc Cert.HgrnS.main_arg0) = m ((c.tc : Thread Cert.HgrnS.nD Cert.HgrnS.τ).loc Cert.HgrnS.main_arg0)
      ∧ r.2.mem ((c.tc : Thread Cert.HgrnS.nD Cert.HgrnS.τ).loc Cert.HgrnS.main_arg1) = m ((c.tc : Thread Cert.HgrnS.nD Cert.HgrnS.τ).loc Cert.HgrnS.main_arg1)
      ∧ r.2.mem ((c.tc : Thread Cert.HgrnS.nD Cert.HgrnS.τ).loc Cert.HgrnS.main_arg2) = m ((c.tc : Thread Cert.HgrnS.nD Cert.HgrnS.τ).loc Cert.HgrnS.main_arg2)
      ∧ r.2.mem ((c.tc : Thread Cert.HgrnS.nD Cert.HgrnS.τ).loc Cert.HgrnS.main_arg3) = m ((c.tc : Thread Cert.HgrnS.nD Cert.HgrnS.τ).loc Cert.HgrnS.main_arg3))
      ∧ r.2.sem = fun _ => 0)

def quiescent_HgrnSIdeal [hHgrnSIdeal : Cert.HgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSIdeal_pre_finite_lb [hHgrnSIdeal : Cert.HgrnSIdeal.Facts] [hPre_finite_lb : Cert.Pre_finite_lb.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal_finite_lb m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSRefIdeal [hHgrnSRefIdeal : Cert.HgrnSRefIdeal.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_HgrnSRefIdeal_pre_finite_lb [hHgrnSRefIdeal : Cert.HgrnSRefIdeal.Facts] [hPre_finite_lb : Cert.Pre_finite_lb.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal_finite_lb m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_RwkvS [hRwkvS : Cert.RwkvS.Facts] : Prop :=
  ∀ (m : (ℓ : Loc Cert.RwkvS.nD Cert.RwkvS.τ Cert.RwkvS.sig) → Buf (Elt Bits) ℓ) (g : Dev Cert.RwkvS.nD → PrngReg), Pre_RwkvS m →
    θ_run (Cert.RwkvS.defs (F := Bits)) (onTc (τ := Cert.RwkvS.τ) (Cert.RwkvS.main (F := Bits))) ⟨m, fun _ => 0, g⟩ (fun r => (∀ c : Dev Cert.RwkvS.nD,
      r.2.mem ((c.tc : Thread Cert.RwkvS.nD Cert.RwkvS.τ).loc Cert.RwkvS.main_arg0) = m ((c.tc : Thread Cert.RwkvS.nD Cert.RwkvS.τ).loc Cert.RwkvS.main_arg0)
      ∧ r.2.mem ((c.tc : Thread Cert.RwkvS.nD Cert.RwkvS.τ).loc Cert.RwkvS.main_arg1) = m ((c.tc : Thread Cert.RwkvS.nD Cert.RwkvS.τ).loc Cert.RwkvS.main_arg1)
      ∧ r.2.mem ((c.tc : Thread Cert.RwkvS.nD Cert.RwkvS.τ).loc Cert.RwkvS.main_arg2) = m ((c.tc : Thread Cert.RwkvS.nD Cert.RwkvS.τ).loc Cert.RwkvS.main_arg2)
      ∧ r.2.mem ((c.tc : Thread Cert.RwkvS.nD Cert.RwkvS.τ).loc Cert.RwkvS.main_arg3) = m ((c.tc : Thread Cert.RwkvS.nD Cert.RwkvS.τ).loc Cert.RwkvS.main_arg3)
      ∧ r.2.mem ((c.tc : Thread Cert.RwkvS.nD Cert.RwkvS.τ).loc Cert.RwkvS.main_arg4) = m ((c.tc : Thread Cert.RwkvS.nD Cert.RwkvS.τ).loc Cert.RwkvS.main_arg4)
      ∧ r.2.mem ((c.tc : Thread Cert.RwkvS.nD Cert.RwkvS.τ).loc Cert.RwkvS.main_arg5) = m ((c.tc : Thread Cert.RwkvS.nD Cert.RwkvS.τ).loc Cert.RwkvS.main_arg5)
      ∧ r.2.mem ((c.tc : Thread Cert.RwkvS.nD Cert.RwkvS.τ).loc Cert.RwkvS.main_arg6) = m ((c.tc : Thread Cert.RwkvS.nD Cert.RwkvS.τ).loc Cert.RwkvS.main_arg6)
      ∧ r.2.mem ((c.tc : Thread Cert.RwkvS.nD Cert.RwkvS.τ).loc Cert.RwkvS.main_arg7) = m ((c.tc : Thread Cert.RwkvS.nD Cert.RwkvS.τ).loc Cert.RwkvS.main_arg7)
      ∧ r.2.mem ((c.tc : Thread Cert.RwkvS.nD Cert.RwkvS.τ).loc Cert.RwkvS.main_arg8) = m ((c.tc : Thread Cert.RwkvS.nD Cert.RwkvS.τ).loc Cert.RwkvS.main_arg8)
      ∧ r.2.mem ((c.tc : Thread Cert.RwkvS.nD Cert.RwkvS.τ).loc Cert.RwkvS.main_arg9) = m ((c.tc : Thread Cert.RwkvS.nD Cert.RwkvS.τ).loc Cert.RwkvS.main_arg9)
      ∧ r.2.mem ((c.tc : Thread Cert.RwkvS.nD Cert.RwkvS.τ).loc Cert.RwkvS.main_arg10) = m ((c.tc : Thread Cert.RwkvS.nD Cert.RwkvS.τ).loc Cert.RwkvS.main_arg10)
      ∧ r.2.mem ((c.tc : Thread Cert.RwkvS.nD Cert.RwkvS.τ).loc Cert.RwkvS.main_arg11) = m ((c.tc : Thread Cert.RwkvS.nD Cert.RwkvS.τ).loc Cert.RwkvS.main_arg11)
      ∧ r.2.mem ((c.tc : Thread Cert.RwkvS.nD Cert.RwkvS.τ).loc Cert.RwkvS.main_arg12) = m ((c.tc : Thread Cert.RwkvS.nD Cert.RwkvS.τ).loc Cert.RwkvS.main_arg12)
      ∧ r.2.mem ((c.tc : Thread Cert.RwkvS.nD Cert.RwkvS.τ).loc Cert.RwkvS.main_arg13) = m ((c.tc : Thread Cert.RwkvS.nD Cert.RwkvS.τ).loc Cert.RwkvS.main_arg13))
      ∧ r.2.sem = fun _ => 0)

def quiescent_RwkvSIdeal [hRwkvSIdeal : Cert.RwkvSIdeal.Facts] : Prop :=
  ∀ (m : (ℓ : Loc Cert.RwkvSIdeal.nD Cert.RwkvSIdeal.τ Cert.RwkvSIdeal.sig) → Buf (Elt Ideal) ℓ) (g : Dev Cert.RwkvSIdeal.nD → PrngReg), Pre_RwkvSIdeal m →
    θ_run (Cert.RwkvSIdeal.defs (F := Ideal)) (onTc (τ := Cert.RwkvSIdeal.τ) (Cert.RwkvSIdeal.main (F := Ideal))) ⟨m, fun _ => 0, g⟩ (fun r => (∀ c : Dev Cert.RwkvSIdeal.nD,
      r.2.mem ((c.tc : Thread Cert.RwkvSIdeal.nD Cert.RwkvSIdeal.τ).loc Cert.RwkvSIdeal.main_arg0) = m ((c.tc : Thread Cert.RwkvSIdeal.nD Cert.RwkvSIdeal.τ).loc Cert.RwkvSIdeal.main_arg0)
      ∧ r.2.mem ((c.tc : Thread Cert.RwkvSIdeal.nD Cert.RwkvSIdeal.τ).loc Cert.RwkvSIdeal.main_arg1) = m ((c.tc : Thread Cert.RwkvSIdeal.nD Cert.RwkvSIdeal.τ).loc Cert.RwkvSIdeal.main_arg1)
      ∧ r.2.mem ((c.tc : Thread Cert.RwkvSIdeal.nD Cert.RwkvSIdeal.τ).loc Cert.RwkvSIdeal.main_arg2) = m ((c.tc : Thread Cert.RwkvSIdeal.nD Cert.RwkvSIdeal.τ).loc Cert.RwkvSIdeal.main_arg2)
      ∧ r.2.mem ((c.tc : Thread Cert.RwkvSIdeal.nD Cert.RwkvSIdeal.τ).loc Cert.RwkvSIdeal.main_arg3) = m ((c.tc : Thread Cert.RwkvSIdeal.nD Cert.RwkvSIdeal.τ).loc Cert.RwkvSIdeal.main_arg3)
      ∧ r.2.mem ((c.tc : Thread Cert.RwkvSIdeal.nD Cert.RwkvSIdeal.τ).loc Cert.RwkvSIdeal.main_arg4) = m ((c.tc : Thread Cert.RwkvSIdeal.nD Cert.RwkvSIdeal.τ).loc Cert.RwkvSIdeal.main_arg4)
      ∧ r.2.mem ((c.tc : Thread Cert.RwkvSIdeal.nD Cert.RwkvSIdeal.τ).loc Cert.RwkvSIdeal.main_arg5) = m ((c.tc : Thread Cert.RwkvSIdeal.nD Cert.RwkvSIdeal.τ).loc Cert.RwkvSIdeal.main_arg5)
      ∧ r.2.mem ((c.tc : Thread Cert.RwkvSIdeal.nD Cert.RwkvSIdeal.τ).loc Cert.RwkvSIdeal.main_arg6) = m ((c.tc : Thread Cert.RwkvSIdeal.nD Cert.RwkvSIdeal.τ).loc Cert.RwkvSIdeal.main_arg6)
      ∧ r.2.mem ((c.tc : Thread Cert.RwkvSIdeal.nD Cert.RwkvSIdeal.τ).loc Cert.RwkvSIdeal.main_arg7) = m ((c.tc : Thread Cert.RwkvSIdeal.nD Cert.RwkvSIdeal.τ).loc Cert.RwkvSIdeal.main_arg7)
      ∧ r.2.mem ((c.tc : Thread Cert.RwkvSIdeal.nD Cert.RwkvSIdeal.τ).loc Cert.RwkvSIdeal.main_arg8) = m ((c.tc : Thread Cert.RwkvSIdeal.nD Cert.RwkvSIdeal.τ).loc Cert.RwkvSIdeal.main_arg8)
      ∧ r.2.mem ((c.tc : Thread Cert.RwkvSIdeal.nD Cert.RwkvSIdeal.τ).loc Cert.RwkvSIdeal.main_arg9) = m ((c.tc : Thread Cert.RwkvSIdeal.nD Cert.RwkvSIdeal.τ).loc Cert.RwkvSIdeal.main_arg9)
      ∧ r.2.mem ((c.tc : Thread Cert.RwkvSIdeal.nD Cert.RwkvSIdeal.τ).loc Cert.RwkvSIdeal.main_arg10) = m ((c.tc : Thread Cert.RwkvSIdeal.nD Cert.RwkvSIdeal.τ).loc Cert.RwkvSIdeal.main_arg10)
      ∧ r.2.mem ((c.tc : Thread Cert.RwkvSIdeal.nD Cert.RwkvSIdeal.τ).loc Cert.RwkvSIdeal.main_arg11) = m ((c.tc : Thread Cert.RwkvSIdeal.nD Cert.RwkvSIdeal.τ).loc Cert.RwkvSIdeal.main_arg11)
      ∧ r.2.mem ((c.tc : Thread Cert.RwkvSIdeal.nD Cert.RwkvSIdeal.τ).loc Cert.RwkvSIdeal.main_arg12) = m ((c.tc : Thread Cert.RwkvSIdeal.nD Cert.RwkvSIdeal.τ).loc Cert.RwkvSIdeal.main_arg12)
      ∧ r.2.mem ((c.tc : Thread Cert.RwkvSIdeal.nD Cert.RwkvSIdeal.τ).loc Cert.RwkvSIdeal.main_arg13) = m ((c.tc : Thread Cert.RwkvSIdeal.nD Cert.RwkvSIdeal.τ).loc Cert.RwkvSIdeal.main_arg13))
      ∧ r.2.sem = fun _ => 0)

def quiescent_RwkvSRefIdeal [hRwkvSRefIdeal : Cert.RwkvSRefIdeal.Facts] : Prop :=
  ∀ (m : (ℓ : Loc Cert.RwkvSRefIdeal.nD Cert.RwkvSRefIdeal.τ Cert.RwkvSRefIdeal.sig) → Buf (Elt Ideal) ℓ) (g : Dev Cert.RwkvSRefIdeal.nD → PrngReg), Pre_RwkvSRefIdeal m →
    θ_run (Cert.RwkvSRefIdeal.defs (F := Ideal)) (onTc (τ := Cert.RwkvSRefIdeal.τ) (Cert.RwkvSRefIdeal.main (F := Ideal))) ⟨m, fun _ => 0, g⟩ (fun r => (∀ c : Dev Cert.RwkvSRefIdeal.nD,
      r.2.mem ((c.tc : Thread Cert.RwkvSRefIdeal.nD Cert.RwkvSRefIdeal.τ).loc Cert.RwkvSRefIdeal.main_arg0) = m ((c.tc : Thread Cert.RwkvSRefIdeal.nD Cert.RwkvSRefIdeal.τ).loc Cert.RwkvSRefIdeal.main_arg0)
      ∧ r.2.mem ((c.tc : Thread Cert.RwkvSRefIdeal.nD Cert.RwkvSRefIdeal.τ).loc Cert.RwkvSRefIdeal.main_arg1) = m ((c.tc : Thread Cert.RwkvSRefIdeal.nD Cert.RwkvSRefIdeal.τ).loc Cert.RwkvSRefIdeal.main_arg1)
      ∧ r.2.mem ((c.tc : Thread Cert.RwkvSRefIdeal.nD Cert.RwkvSRefIdeal.τ).loc Cert.RwkvSRefIdeal.main_arg2) = m ((c.tc : Thread Cert.RwkvSRefIdeal.nD Cert.RwkvSRefIdeal.τ).loc Cert.RwkvSRefIdeal.main_arg2)
      ∧ r.2.mem ((c.tc : Thread Cert.RwkvSRefIdeal.nD Cert.RwkvSRefIdeal.τ).loc Cert.RwkvSRefIdeal.main_arg3) = m ((c.tc : Thread Cert.RwkvSRefIdeal.nD Cert.RwkvSRefIdeal.τ).loc Cert.RwkvSRefIdeal.main_arg3)
      ∧ r.2.mem ((c.tc : Thread Cert.RwkvSRefIdeal.nD Cert.RwkvSRefIdeal.τ).loc Cert.RwkvSRefIdeal.main_arg4) = m ((c.tc : Thread Cert.RwkvSRefIdeal.nD Cert.RwkvSRefIdeal.τ).loc Cert.RwkvSRefIdeal.main_arg4)
      ∧ r.2.mem ((c.tc : Thread Cert.RwkvSRefIdeal.nD Cert.RwkvSRefIdeal.τ).loc Cert.RwkvSRefIdeal.main_arg5) = m ((c.tc : Thread Cert.RwkvSRefIdeal.nD Cert.RwkvSRefIdeal.τ).loc Cert.RwkvSRefIdeal.main_arg5)
      ∧ r.2.mem ((c.tc : Thread Cert.RwkvSRefIdeal.nD Cert.RwkvSRefIdeal.τ).loc Cert.RwkvSRefIdeal.main_arg6) = m ((c.tc : Thread Cert.RwkvSRefIdeal.nD Cert.RwkvSRefIdeal.τ).loc Cert.RwkvSRefIdeal.main_arg6)
      ∧ r.2.mem ((c.tc : Thread Cert.RwkvSRefIdeal.nD Cert.RwkvSRefIdeal.τ).loc Cert.RwkvSRefIdeal.main_arg7) = m ((c.tc : Thread Cert.RwkvSRefIdeal.nD Cert.RwkvSRefIdeal.τ).loc Cert.RwkvSRefIdeal.main_arg7)
      ∧ r.2.mem ((c.tc : Thread Cert.RwkvSRefIdeal.nD Cert.RwkvSRefIdeal.τ).loc Cert.RwkvSRefIdeal.main_arg8) = m ((c.tc : Thread Cert.RwkvSRefIdeal.nD Cert.RwkvSRefIdeal.τ).loc Cert.RwkvSRefIdeal.main_arg8)
      ∧ r.2.mem ((c.tc : Thread Cert.RwkvSRefIdeal.nD Cert.RwkvSRefIdeal.τ).loc Cert.RwkvSRefIdeal.main_arg9) = m ((c.tc : Thread Cert.RwkvSRefIdeal.nD Cert.RwkvSRefIdeal.τ).loc Cert.RwkvSRefIdeal.main_arg9)
      ∧ r.2.mem ((c.tc : Thread Cert.RwkvSRefIdeal.nD Cert.RwkvSRefIdeal.τ).loc Cert.RwkvSRefIdeal.main_arg10) = m ((c.tc : Thread Cert.RwkvSRefIdeal.nD Cert.RwkvSRefIdeal.τ).loc Cert.RwkvSRefIdeal.main_arg10)
      ∧ r.2.mem ((c.tc : Thread Cert.RwkvSRefIdeal.nD Cert.RwkvSRefIdeal.τ).loc Cert.RwkvSRefIdeal.main_arg11) = m ((c.tc : Thread Cert.RwkvSRefIdeal.nD Cert.RwkvSRefIdeal.τ).loc Cert.RwkvSRefIdeal.main_arg11)
      ∧ r.2.mem ((c.tc : Thread Cert.RwkvSRefIdeal.nD Cert.RwkvSRefIdeal.τ).loc Cert.RwkvSRefIdeal.main_arg12) = m ((c.tc : Thread Cert.RwkvSRefIdeal.nD Cert.RwkvSRefIdeal.τ).loc Cert.RwkvSRefIdeal.main_arg12)
      ∧ r.2.mem ((c.tc : Thread Cert.RwkvSRefIdeal.nD Cert.RwkvSRefIdeal.τ).loc Cert.RwkvSRefIdeal.main_arg13) = m ((c.tc : Thread Cert.RwkvSRefIdeal.nD Cert.RwkvSRefIdeal.τ).loc Cert.RwkvSRefIdeal.main_arg13))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_finite_gates [hHgrnIdeal : Cert.HgrnIdeal.Facts] [hPre_finite_gates : Cert.Pre_finite_gates.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_gates m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_finite_gates [hHgrnRefIdeal : Cert.HgrnRefIdeal.Facts] [hPre_finite_gates : Cert.Pre_finite_gates.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_gates m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12)
      ∧ r.2.mem ((c.tc : Thread Cert.Rwkv.nD Cert.Rwkv.τ).loc Cert.Rwkv.main_arg13) = m ((c.tc : Thread Cert.Rwkv.nD Cert.Rwkv.τ).loc Cert.Rwkv.main_arg13))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
      ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11)
      ∧ r.2.mem ((c.tc : Thread Cert.RwkvRefIdeal.nD Cert.RwkvRefIdeal.τ).loc Cert.RwkvRefIdeal.main_arg12) = m ((c.tc : Thread Cert.RwkvRefIdeal.nD Cert.RwkvRefIdeal.τ).loc Cert.RwkvRefIdeal.main_arg12)
      ∧ r.2.mem ((c.tc : Thread Cert.RwkvRefIdeal.nD Cert.RwkvRefIdeal.τ).loc Cert.RwkvRefIdeal.main_arg13) = m ((c.tc : Thread Cert.RwkvRefIdeal.nD Cert.RwkvRefIdeal.τ).loc Cert.RwkvRefIdeal.main_arg13))
      ∧ r.2.sem = fun _ => 0)

def preserves_Kernel_KernelIdeal : Prop :=
  IdealRules.named_const.Statement Cert.KernelIdeal.κ "q_scale" .f32 0xBE38AA3B#32 ((-((1 / 8) * (Real.log 2)⁻¹) : ℝ) : EReal)
  ∧ IdealRules.named_const.Statement Cert.KernelIdeal.κ "inv_log2" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  IdealRules.named_const.Statement Cert.InProjIdeal.κ "q_scale" .f32 0xBE38AA3B#32 ((-((1 / 8) * (Real.log 2)⁻¹) : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)) (v4 : (c : Dev Cert.InProjIdeal.nD) → Buf (Elt Ideal) ((c.tc : Thread Cert.InProjIdeal.nD Cert.InProjIdeal.τ).loc Cert.InProjIdeal.main_v2_4)) (v5 : (c : Dev Cert.InProjIdeal.nD) → Buf (Elt Ideal) ((c.tc : Thread Cert.InProjIdeal.nD Cert.InProjIdeal.τ).loc Cert.InProjIdeal.main_v2_5)) (v6 : (c : Dev Cert.InProjIdeal.nD) → Buf (Elt Ideal) ((c.tc : Thread Cert.InProjIdeal.nD Cert.InProjIdeal.τ).loc Cert.InProjIdeal.main_v2_6)) (v7 : (c : Dev Cert.InProjIdeal.nD) → Buf (Elt Ideal) ((c.tc : Thread Cert.InProjIdeal.nD Cert.InProjIdeal.τ).loc Cert.InProjIdeal.main_v2_7)) (v8 : (c : Dev Cert.InProjIdeal.nD) → Buf (Elt Ideal) ((c.tc : Thread Cert.InProjIdeal.nD Cert.InProjIdeal.τ).loc Cert.InProjIdeal.main_v2_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_v2_4) = v4 c
          ∧ r.2.mem ((c.tc : Thread Cert.InProjIdeal.nD Cert.InProjIdeal.τ).loc Cert.InProjIdeal.main_v2_5) = v5 c
          ∧ r.2.mem ((c.tc : Thread Cert.InProjIdeal.nD Cert.InProjIdeal.τ).loc Cert.InProjIdeal.main_v2_6) = v6 c
          ∧ r.2.mem ((c.tc : Thread Cert.InProjIdeal.nD Cert.InProjIdeal.τ).loc Cert.InProjIdeal.main_v2_7) = v7 c
          ∧ r.2.mem ((c.tc : Thread Cert.InProjIdeal.nD Cert.InProjIdeal.τ).loc Cert.InProjIdeal.main_v2_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v29) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_v21) = v2 c
          ∧ r.2.mem ((c.tc : Thread Cert.InProjRefIdeal.nD Cert.InProjRefIdeal.τ).loc Cert.InProjRefIdeal.main_v30) = v3 c
          ∧ r.2.mem ((c.tc : Thread Cert.InProjRefIdeal.nD Cert.InProjRefIdeal.τ).loc Cert.InProjRefIdeal.main_v31) = v4 c
          ∧ r.2.mem ((c.tc : Thread Cert.InProjRefIdeal.nD Cert.InProjRefIdeal.τ).loc Cert.InProjRefIdeal.main_v15) = v5 c
          ∧ r.2.mem ((c.tc : Thread Cert.InProjRefIdeal.nD Cert.InProjRefIdeal.τ).loc Cert.InProjRefIdeal.main_v16) = v6 c
          ∧ r.2.mem ((c.tc : Thread Cert.InProjRefIdeal.nD Cert.InProjRefIdeal.τ).loc Cert.InProjRefIdeal.main_v17) = v7 c
          ∧ r.2.mem ((c.tc : Thread Cert.InProjRefIdeal.nD Cert.InProjRefIdeal.τ).loc Cert.InProjRefIdeal.main_v38) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v12) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_FinalNormS_FinalNormSIdeal : Prop :=
  True

def algebraic_FinalNormSIdeal_FinalNormSRefIdeal [hFinalNormSIdeal : Cert.FinalNormSIdeal.Facts] [hFinalNormSRefIdeal : Cert.FinalNormSRefIdeal.Facts] : Prop :=
  ∀ (m : (ℓ : Loc Cert.FinalNormSIdeal.nD Cert.FinalNormSIdeal.τ Cert.FinalNormSIdeal.sig) → Buf (Elt Ideal) ℓ) (g : Dev Cert.FinalNormSIdeal.nD → PrngReg)
    (m' : (ℓ : Loc Cert.FinalNormSRefIdeal.nD Cert.FinalNormSRefIdeal.τ Cert.FinalNormSRefIdeal.sig) → Buf (Elt Ideal) ℓ) (g' : Dev Cert.FinalNormSRefIdeal.nD → PrngReg), Pre_FinalNormSIdeal m →
    (∀ c : Dev Cert.FinalNormSIdeal.nD,
      m' ((c.tc : Thread Cert.FinalNormSRefIdeal.nD Cert.FinalNormSRefIdeal.τ).loc Cert.FinalNormSRefIdeal.main_arg0) = m ((c.tc : Thread Cert.FinalNormSIdeal.nD Cert.FinalNormSIdeal.τ).loc Cert.FinalNormSIdeal.main_arg0)
      ∧ m' ((c.tc : Thread Cert.FinalNormSRefIdeal.nD Cert.FinalNormSRefIdeal.τ).loc Cert.FinalNormSRefIdeal.main_arg1) = m ((c.tc : Thread Cert.FinalNormSIdeal.nD Cert.FinalNormSIdeal.τ).loc Cert.FinalNormSIdeal.main_arg1)) →
    ∃ (v0 : (c : Dev Cert.FinalNormSIdeal.nD) → Buf (Elt Ideal) ((c.tc : Thread Cert.FinalNormSIdeal.nD Cert.FinalNormSIdeal.τ).loc Cert.FinalNormSIdeal.main_v1)),
      θ_run (Cert.FinalNormSIdeal.defs (F := Ideal)) (onTc (τ := Cert.FinalNormSIdeal.τ) (Cert.FinalNormSIdeal.main (F := Ideal))) ⟨m, fun _ => 0, g⟩ (fun r => ∀ c : Dev Cert.FinalNormSIdeal.nD,
          r.2.mem ((c.tc : Thread Cert.FinalNormSIdeal.nD Cert.FinalNormSIdeal.τ).loc Cert.FinalNormSIdeal.main_v1) = v0 c
          ∧ r.2.mem ((c.tc : Thread Cert.FinalNormSIdeal.nD Cert.FinalNormSIdeal.τ).loc Cert.FinalNormSIdeal.main_arg0) = m ((c.tc : Thread Cert.FinalNormSIdeal.nD Cert.FinalNormSIdeal.τ).loc Cert.FinalNormSIdeal.main_arg0)
          ∧ r.2.mem ((c.tc : Thread Cert.FinalNormSIdeal.nD Cert.FinalNormSIdeal.τ).loc Cert.FinalNormSIdeal.main_arg1) = m ((c.tc : Thread Cert.FinalNormSIdeal.nD Cert.FinalNormSIdeal.τ).loc Cert.FinalNormSIdeal.main_arg1))
      ∧ θ_run (Cert.FinalNormSRefIdeal.defs (F := Ideal)) (onTc (τ := Cert.FinalNormSRefIdeal.τ) (Cert.FinalNormSRefIdeal.main (F := Ideal))) ⟨m', fun _ => 0, g'⟩ (fun r => ∀ c : Dev Cert.FinalNormSRefIdeal.nD,
          r.2.mem ((c.tc : Thread Cert.FinalNormSRefIdeal.nD Cert.FinalNormSRefIdeal.τ).loc Cert.FinalNormSRefIdeal.main_v12) = v0 c
          ∧ r.2.mem ((c.tc : Thread Cert.FinalNormSRefIdeal.nD Cert.FinalNormSRefIdeal.τ).loc Cert.FinalNormSRefIdeal.main_arg0) = m' ((c.tc : Thread Cert.FinalNormSRefIdeal.nD Cert.FinalNormSRefIdeal.τ).loc Cert.FinalNormSRefIdeal.main_arg0)
          ∧ r.2.mem ((c.tc : Thread Cert.FinalNormSRefIdeal.nD Cert.FinalNormSRefIdeal.τ).loc Cert.FinalNormSRefIdeal.main_arg1) = m' ((c.tc : Thread Cert.FinalNormSRefIdeal.nD Cert.FinalNormSRefIdeal.τ).loc Cert.FinalNormSRefIdeal.main_arg1))

def preserves_InProjS_InProjSIdeal : Prop :=
  IdealRules.named_const.Statement Cert.InProjSIdeal.κ "q_scale" .f32 0xBE38AA3B#32 ((-((1 / 8) * (Real.log 2)⁻¹) : ℝ) : EReal)

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v2_0)) (v1 : (c : Dev Cert.InProjSIdeal.nD) → Buf (Elt Ideal) ((c.tc : Thread Cert.InProjSIdeal.nD Cert.InProjSIdeal.τ).loc Cert.InProjSIdeal.main_v2_1)) (v2 : (c : Dev Cert.InProjSIdeal.nD) → Buf (Elt Ideal) ((c.tc : Thread Cert.InProjSIdeal.nD Cert.InProjSIdeal.τ).loc Cert.InProjSIdeal.main_v2_2)) (v3 : (c : Dev Cert.InProjSIdeal.nD) → Buf (Elt Ideal) ((c.tc : Thread Cert.InProjSIdeal.nD Cert.InProjSIdeal.τ).loc Cert.InProjSIdeal.main_v2_3)) (v4 : (c : Dev Cert.InProjSIdeal.nD) → Buf (Elt Ideal) ((c.tc : Thread Cert.InProjSIdeal.nD Cert.InProjSIdeal.τ).loc Cert.InProjSIdeal.main_v2_4)) (v5 : (c : Dev Cert.InProjSIdeal.nD) → Buf (Elt Ideal) ((c.tc : Thread Cert.InProjSIdeal.nD Cert.InProjSIdeal.τ).loc Cert.InProjSIdeal.main_v2_5)) (v6 : (c : Dev Cert.InProjSIdeal.nD) → Buf (Elt Ideal) ((c.tc : Thread Cert.InProjSIdeal.nD Cert.InProjSIdeal.τ).loc Cert.InProjSIdeal.main_v2_6)) (v7 : (c : Dev Cert.InProjSIdeal.nD) → Buf (Elt Ideal) ((c.tc : Thread Cert.InProjSIdeal.nD Cert.InProjSIdeal.τ).loc Cert.InProjSIdeal.main_v2_7)) (v8 : (c : Dev Cert.InProjSIdeal.nD) → Buf (Elt Ideal) ((c.tc : Thread Cert.InProjSIdeal.nD Cert.InProjSIdeal.τ).loc Cert.InProjSIdeal.main_v2_8)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v2_0) = v0 c
          ∧ r.2.mem ((c.tc : Thread Cert.InProjSIdeal.nD Cert.InProjSIdeal.τ).loc Cert.InProjSIdeal.main_v2_1) = v1 c
          ∧ r.2.mem ((c.tc : Thread Cert.InProjSIdeal.nD Cert.InProjSIdeal.τ).loc Cert.InProjSIdeal.main_v2_2) = v2 c
          ∧ r.2.mem ((c.tc : Thread Cert.InProjSIdeal.nD Cert.InProjSIdeal.τ).loc Cert.InProjSIdeal.main_v2_3) = v3 c
          ∧ r.2.mem ((c.tc : Thread Cert.InProjSIdeal.nD Cert.InProjSIdeal.τ).loc Cert.InProjSIdeal.main_v2_4) = v4 c
          ∧ r.2.mem ((c.tc : Thread Cert.InProjSIdeal.nD Cert.InProjSIdeal.τ).loc Cert.InProjSIdeal.main_v2_5) = v5 c
          ∧ r.2.mem ((c.tc : Thread Cert.InProjSIdeal.nD Cert.InProjSIdeal.τ).loc Cert.InProjSIdeal.main_v2_6) = v6 c
          ∧ r.2.mem ((c.tc : Thread Cert.InProjSIdeal.nD Cert.InProjSIdeal.τ).loc Cert.InProjSIdeal.main_v2_7) = v7 c
          ∧ r.2.mem ((c.tc : Thread Cert.InProjSIdeal.nD Cert.InProjSIdeal.τ).loc Cert.InProjSIdeal.main_v2_8) = v8 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v29) = v0 c
          ∧ r.2.mem ((c.tc : Thread Cert.InProjSRefIdeal.nD Cert.InProjSRefIdeal.τ).loc Cert.InProjSRefIdeal.main_v20) = v1 c
          ∧ r.2.mem ((c.tc : Thread Cert.InProjSRefIdeal.nD Cert.InProjSRefIdeal.τ).loc Cert.InProjSRefIdeal.main_v21) = v2 c
          ∧ r.2.mem ((c.tc : Thread Cert.InProjSRefIdeal.nD Cert.InProjSRefIdeal.τ).loc Cert.InProjSRefIdeal.main_v30) = v3 c
          ∧ r.2.mem ((c.tc : Thread Cert.InProjSRefIdeal.nD Cert.InProjSRefIdeal.τ).loc Cert.InProjSRefIdeal.main_v31) = v4 c
          ∧ r.2.mem ((c.tc : Thread Cert.InProjSRefIdeal.nD Cert.InProjSRefIdeal.τ).loc Cert.InProjSRefIdeal.main_v15) = v5 c
          ∧ r.2.mem ((c.tc : Thread Cert.InProjSRefIdeal.nD Cert.InProjSRefIdeal.τ).loc Cert.InProjSRefIdeal.main_v16) = v6 c
          ∧ r.2.mem ((c.tc : Thread Cert.InProjSRefIdeal.nD Cert.InProjSRefIdeal.τ).loc Cert.InProjSRefIdeal.main_v17) = v7 c
          ∧ r.2.mem ((c.tc : Thread Cert.InProjSRefIdeal.nD Cert.InProjSRefIdeal.τ).loc Cert.InProjSRefIdeal.main_v38) = v8 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v255) = v0 c
          ∧ r.2.mem ((c.tc : Thread Cert.ConvRefIdeal.nD Cert.ConvRefIdeal.τ).loc Cert.ConvRefIdeal.main_v256) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_ConvS_ConvSIdeal : Prop :=
  True

def algebraic_ConvSIdeal_ConvSRefIdeal [hConvSIdeal : Cert.ConvSIdeal.Facts] [hConvSRefIdeal : Cert.ConvSRefIdeal.Facts] : Prop :=
  ∀ (m : (ℓ : Loc Cert.ConvSIdeal.nD Cert.ConvSIdeal.τ Cert.ConvSIdeal.sig) → Buf (Elt Ideal) ℓ) (g : Dev Cert.ConvSIdeal.nD → PrngReg)
    (m' : (ℓ : Loc Cert.ConvSRefIdeal.nD Cert.ConvSRefIdeal.τ Cert.ConvSRefIdeal.sig) → Buf (Elt Ideal) ℓ) (g' : Dev Cert.ConvSRefIdeal.nD → PrngReg), Pre_ConvSIdeal m →
    (∀ c : Dev Cert.ConvSIdeal.nD,
      m' ((c.tc : Thread Cert.ConvSRefIdeal.nD Cert.ConvSRefIdeal.τ).loc Cert.ConvSRefIdeal.main_arg0) = m ((c.tc : Thread Cert.ConvSIdeal.nD Cert.ConvSIdeal.τ).loc Cert.ConvSIdeal.main_arg0)
      ∧ m' ((c.tc : Thread Cert.ConvSRefIdeal.nD Cert.ConvSRefIdeal.τ).loc Cert.ConvSRefIdeal.main_arg1) = m ((c.tc : Thread Cert.ConvSIdeal.nD Cert.ConvSIdeal.τ).loc Cert.ConvSIdeal.main_arg1)
      ∧ m' ((c.tc : Thread Cert.ConvSRefIdeal.nD Cert.ConvSRefIdeal.τ).loc Cert.ConvSRefIdeal.main_arg2) = m ((c.tc : Thread Cert.ConvSIdeal.nD Cert.ConvSIdeal.τ).loc Cert.ConvSIdeal.main_arg2)
      ∧ m' ((c.tc : Thread Cert.ConvSRefIdeal.nD Cert.ConvSRefIdeal.τ).loc Cert.ConvSRefIdeal.main_arg3) = m ((c.tc : Thread Cert.ConvSIdeal.nD Cert.ConvSIdeal.τ).loc Cert.ConvSIdeal.main_arg3)
      ∧ m' ((c.tc : Thread Cert.ConvSRefIdeal.nD Cert.ConvSRefIdeal.τ).loc Cert.ConvSRefIdeal.main_arg4) = m ((c.tc : Thread Cert.ConvSIdeal.nD Cert.ConvSIdeal.τ).loc Cert.ConvSIdeal.main_arg4)
      ∧ m' ((c.tc : Thread Cert.ConvSRefIdeal.nD Cert.ConvSRefIdeal.τ).loc Cert.ConvSRefIdeal.main_arg5) = m ((c.tc : Thread Cert.ConvSIdeal.nD Cert.ConvSIdeal.τ).loc Cert.ConvSIdeal.main_arg5)) →
    ∃ (v0 : (c : Dev Cert.ConvSIdeal.nD) → Buf (Elt Ideal) ((c.tc : Thread Cert.ConvSIdeal.nD Cert.ConvSIdeal.τ).loc Cert.ConvSIdeal.main_v5_0)) (v1 : (c : Dev Cert.ConvSIdeal.nD) → Buf (Elt Ideal) ((c.tc : Thread Cert.ConvSIdeal.nD Cert.ConvSIdeal.τ).loc Cert.ConvSIdeal.main_v5_1)),
      θ_run (Cert.ConvSIdeal.defs (F := Ideal)) (onTc (τ := Cert.ConvSIdeal.τ) (Cert.ConvSIdeal.main (F := Ideal))) ⟨m, fun _ => 0, g⟩ (fun r => ∀ c : Dev Cert.ConvSIdeal.nD,
          r.2.mem ((c.tc : Thread Cert.ConvSIdeal.nD Cert.ConvSIdeal.τ).loc Cert.ConvSIdeal.main_v5_0) = v0 c
          ∧ r.2.mem ((c.tc : Thread Cert.ConvSIdeal.nD Cert.ConvSIdeal.τ).loc Cert.ConvSIdeal.main_v5_1) = v1 c
          ∧ r.2.mem ((c.tc : Thread Cert.ConvSIdeal.nD Cert.ConvSIdeal.τ).loc Cert.ConvSIdeal.main_arg0) = m ((c.tc : Thread Cert.ConvSIdeal.nD Cert.ConvSIdeal.τ).loc Cert.ConvSIdeal.main_arg0)
          ∧ r.2.mem ((c.tc : Thread Cert.ConvSIdeal.nD Cert.ConvSIdeal.τ).loc Cert.ConvSIdeal.main_arg1) = m ((c.tc : Thread Cert.ConvSIdeal.nD Cert.ConvSIdeal.τ).loc Cert.ConvSIdeal.main_arg1)
          ∧ r.2.mem ((c.tc : Thread Cert.ConvSIdeal.nD Cert.ConvSIdeal.τ).loc Cert.ConvSIdeal.main_arg2) = m ((c.tc : Thread Cert.ConvSIdeal.nD Cert.ConvSIdeal.τ).loc Cert.ConvSIdeal.main_arg2)
          ∧ r.2.mem ((c.tc : Thread Cert.ConvSIdeal.nD Cert.ConvSIdeal.τ).loc Cert.ConvSIdeal.main_arg3) = m ((c.tc : Thread Cert.ConvSIdeal.nD Cert.ConvSIdeal.τ).loc Cert.ConvSIdeal.main_arg3)
          ∧ r.2.mem ((c.tc : Thread Cert.ConvSIdeal.nD Cert.ConvSIdeal.τ).loc Cert.ConvSIdeal.main_arg4) = m ((c.tc : Thread Cert.ConvSIdeal.nD Cert.ConvSIdeal.τ).loc Cert.ConvSIdeal.main_arg4)
          ∧ r.2.mem ((c.tc : Thread Cert.ConvSIdeal.nD Cert.ConvSIdeal.τ).loc Cert.ConvSIdeal.main_arg5) = m ((c.tc : Thread Cert.ConvSIdeal.nD Cert.ConvSIdeal.τ).loc Cert.ConvSIdeal.main_arg5))
      ∧ θ_run (Cert.ConvSRefIdeal.defs (F := Ideal)) (onTc (τ := Cert.ConvSRefIdeal.τ) (Cert.ConvSRefIdeal.main (F := Ideal))) ⟨m', fun _ => 0, g'⟩ (fun r => ∀ c : Dev Cert.ConvSRefIdeal.nD,
          r.2.mem ((c.tc : Thread Cert.ConvSRefIdeal.nD Cert.ConvSRefIdeal.τ).loc Cert.ConvSRefIdeal.main_v255) = v0 c
          ∧ r.2.mem ((c.tc : Thread Cert.ConvSRefIdeal.nD Cert.ConvSRefIdeal.τ).loc Cert.ConvSRefIdeal.main_v256) = v1 c
          ∧ r.2.mem ((c.tc : Thread Cert.ConvSRefIdeal.nD Cert.ConvSRefIdeal.τ).loc Cert.ConvSRefIdeal.main_arg0) = m' ((c.tc : Thread Cert.ConvSRefIdeal.nD Cert.ConvSRefIdeal.τ).loc Cert.ConvSRefIdeal.main_arg0)
          ∧ r.2.mem ((c.tc : Thread Cert.ConvSRefIdeal.nD Cert.ConvSRefIdeal.τ).loc Cert.ConvSRefIdeal.main_arg1) = m' ((c.tc : Thread Cert.ConvSRefIdeal.nD Cert.ConvSRefIdeal.τ).loc Cert.ConvSRefIdeal.main_arg1)
          ∧ r.2.mem ((c.tc : Thread Cert.ConvSRefIdeal.nD Cert.ConvSRefIdeal.τ).loc Cert.ConvSRefIdeal.main_arg2) = m' ((c.tc : Thread Cert.ConvSRefIdeal.nD Cert.ConvSRefIdeal.τ).loc Cert.ConvSRefIdeal.main_arg2)
          ∧ r.2.mem ((c.tc : Thread Cert.ConvSRefIdeal.nD Cert.ConvSRefIdeal.τ).loc Cert.ConvSRefIdeal.main_arg3) = m' ((c.tc : Thread Cert.ConvSRefIdeal.nD Cert.ConvSRefIdeal.τ).loc Cert.ConvSRefIdeal.main_arg3)
          ∧ r.2.mem ((c.tc : Thread Cert.ConvSRefIdeal.nD Cert.ConvSRefIdeal.τ).loc Cert.ConvSRefIdeal.main_arg4) = m' ((c.tc : Thread Cert.ConvSRefIdeal.nD Cert.ConvSRefIdeal.τ).loc Cert.ConvSRefIdeal.main_arg4)
          ∧ r.2.mem ((c.tc : Thread Cert.ConvSRefIdeal.nD Cert.ConvSRefIdeal.τ).loc Cert.ConvSRefIdeal.main_arg5) = m' ((c.tc : Thread Cert.ConvSRefIdeal.nD Cert.ConvSRefIdeal.τ).loc Cert.ConvSRefIdeal.main_arg5))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)) →
    ∃ (v0 : (c : Dev Cert.MergeSIdeal.nD) → Buf (Elt Ideal) ((c.tc : Thread Cert.MergeSIdeal.nD Cert.MergeSIdeal.τ).loc Cert.MergeSIdeal.main_v2)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v2) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v12) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7))

def preserves_HgrnS_HgrnSIdeal : Prop :=
  True

def algebraic_HgrnSIdeal_HgrnSRefIdeal_pre_finite_lb [hHgrnSIdeal : Cert.HgrnSIdeal.Facts] [hHgrnSRefIdeal : Cert.HgrnSRefIdeal.Facts] [hPre_finite_lb : Cert.Pre_finite_lb.Facts] : Prop :=
  ∀ (m : (ℓ : Loc Cert.HgrnSIdeal.nD Cert.HgrnSIdeal.τ Cert.HgrnSIdeal.sig) → Buf (Elt Ideal) ℓ) (g : Dev Cert.HgrnSIdeal.nD → PrngReg)
    (m' : (ℓ : Loc Cert.HgrnSRefIdeal.nD Cert.HgrnSRefIdeal.τ Cert.HgrnSRefIdeal.sig) → Buf (Elt Ideal) ℓ) (g' : Dev Cert.HgrnSRefIdeal.nD → PrngReg), Pre_HgrnSIdeal_finite_lb m →
    (∀ c : Dev Cert.HgrnSIdeal.nD,
      m' ((c.tc : Thread Cert.HgrnSRefIdeal.nD Cert.HgrnSRefIdeal.τ).loc Cert.HgrnSRefIdeal.main_arg0) = m ((c.tc : Thread Cert.HgrnSIdeal.nD Cert.HgrnSIdeal.τ).loc Cert.HgrnSIdeal.main_arg0)
      ∧ m' ((c.tc : Thread Cert.HgrnSRefIdeal.nD Cert.HgrnSRefIdeal.τ).loc Cert.HgrnSRefIdeal.main_arg1) = m ((c.tc : Thread Cert.HgrnSIdeal.nD Cert.HgrnSIdeal.τ).loc Cert.HgrnSIdeal.main_arg1)
      ∧ m' ((c.tc : Thread Cert.HgrnSRefIdeal.nD Cert.HgrnSRefIdeal.τ).loc Cert.HgrnSRefIdeal.main_arg2) = m ((c.tc : Thread Cert.HgrnSIdeal.nD Cert.HgrnSIdeal.τ).loc Cert.HgrnSIdeal.main_arg2)
      ∧ m' ((c.tc : Thread Cert.HgrnSRefIdeal.nD Cert.HgrnSRefIdeal.τ).loc Cert.HgrnSRefIdeal.main_arg3) = m ((c.tc : Thread Cert.HgrnSIdeal.nD Cert.HgrnSIdeal.τ).loc Cert.HgrnSIdeal.main_arg3)) →
    ∃ (v0 : (c : Dev Cert.HgrnSIdeal.nD) → Buf (Elt Ideal) ((c.tc : Thread Cert.HgrnSIdeal.nD Cert.HgrnSIdeal.τ).loc Cert.HgrnSIdeal.main_v22_1)),
      θ_run (Cert.HgrnSIdeal.defs (F := Ideal)) (onTc (τ := Cert.HgrnSIdeal.τ) (Cert.HgrnSIdeal.main (F := Ideal))) ⟨m, fun _ => 0, g⟩ (fun r => ∀ c : Dev Cert.HgrnSIdeal.nD,
          r.2.mem ((c.tc : Thread Cert.HgrnSIdeal.nD Cert.HgrnSIdeal.τ).loc Cert.HgrnSIdeal.main_v22_1) = v0 c
          ∧ r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
          ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
          ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
          ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ θ_run (Cert.HgrnSRefIdeal.defs (F := Ideal)) (onTc (τ := Cert.HgrnSRefIdeal.τ) (Cert.HgrnSRefIdeal.main (F := Ideal))) ⟨m', fun _ => 0, g'⟩ (fun r => ∀ c : Dev Cert.HgrnSRefIdeal.nD,
          r.2.mem ((c.tc : Thread Cert.HgrnSRefIdeal.nD Cert.HgrnSRefIdeal.τ).loc Cert.HgrnSRefIdeal.main_v51) = v0 c
          ∧ r.2.mem ((c.tc : Thread Cert.HgrnSRefIdeal.nD Cert.HgrnSRefIdeal.τ).loc Cert.HgrnSRefIdeal.main_arg0) = m' ((c.tc : Thread Cert.HgrnSRefIdeal.nD Cert.HgrnSRefIdeal.τ).loc Cert.HgrnSRefIdeal.main_arg0)
          ∧ r.2.mem ((c.tc : Thread Cert.HgrnSRefIdeal.nD Cert.HgrnSRefIdeal.τ).loc Cert.HgrnSRefIdeal.main_arg1) = m' ((c.tc : Thread Cert.HgrnSRefIdeal.nD Cert.HgrnSRefIdeal.τ).loc Cert.HgrnSRefIdeal.main_arg1)
          ∧ r.2.mem ((c.tc : Thread Cert.HgrnSRefIdeal.nD Cert.HgrnSRefIdeal.τ).loc Cert.HgrnSRefIdeal.main_arg2) = m' ((c.tc : Thread Cert.HgrnSRefIdeal.nD Cert.HgrnSRefIdeal.τ).loc Cert.HgrnSRefIdeal.main_arg2)
          ∧ r.2.mem ((c.tc : Thread Cert.HgrnSRefIdeal.nD Cert.HgrnSRefIdeal.τ).loc Cert.HgrnSRefIdeal.main_arg3) = m' ((c.tc : Thread Cert.HgrnSRefIdeal.nD Cert.HgrnSRefIdeal.τ).loc Cert.HgrnSRefIdeal.main_arg3))

def preserves_RwkvS_RwkvSIdeal : Prop :=
  True

def algebraic_RwkvSIdeal_RwkvSRefIdeal [hRwkvSIdeal : Cert.RwkvSIdeal.Facts] [hRwkvSRefIdeal : Cert.RwkvSRefIdeal.Facts] : Prop :=
  ∀ (m : (ℓ : Loc Cert.RwkvSIdeal.nD Cert.RwkvSIdeal.τ Cert.RwkvSIdeal.sig) → Buf (Elt Ideal) ℓ) (g : Dev Cert.RwkvSIdeal.nD → PrngReg)
    (m' : (ℓ : Loc Cert.RwkvSRefIdeal.nD Cert.RwkvSRefIdeal.τ Cert.RwkvSRefIdeal.sig) → Buf (Elt Ideal) ℓ) (g' : Dev Cert.RwkvSRefIdeal.nD → PrngReg), Pre_RwkvSIdeal m →
    (∀ c : Dev Cert.RwkvSIdeal.nD,
      m' ((c.tc : Thread Cert.RwkvSRefIdeal.nD Cert.RwkvSRefIdeal.τ).loc Cert.RwkvSRefIdeal.main_arg0) = m ((c.tc : Thread Cert.RwkvSIdeal.nD Cert.RwkvSIdeal.τ).loc Cert.RwkvSIdeal.main_arg0)
      ∧ m' ((c.tc : Thread Cert.RwkvSRefIdeal.nD Cert.RwkvSRefIdeal.τ).loc Cert.RwkvSRefIdeal.main_arg1) = m ((c.tc : Thread Cert.RwkvSIdeal.nD Cert.RwkvSIdeal.τ).loc Cert.RwkvSIdeal.main_arg1)
      ∧ m' ((c.tc : Thread Cert.RwkvSRefIdeal.nD Cert.RwkvSRefIdeal.τ).loc Cert.RwkvSRefIdeal.main_arg2) = m ((c.tc : Thread Cert.RwkvSIdeal.nD Cert.RwkvSIdeal.τ).loc Cert.RwkvSIdeal.main_arg2)
      ∧ m' ((c.tc : Thread Cert.RwkvSRefIdeal.nD Cert.RwkvSRefIdeal.τ).loc Cert.RwkvSRefIdeal.main_arg3) = m ((c.tc : Thread Cert.RwkvSIdeal.nD Cert.RwkvSIdeal.τ).loc Cert.RwkvSIdeal.main_arg3)
      ∧ m' ((c.tc : Thread Cert.RwkvSRefIdeal.nD Cert.RwkvSRefIdeal.τ).loc Cert.RwkvSRefIdeal.main_arg4) = m ((c.tc : Thread Cert.RwkvSIdeal.nD Cert.RwkvSIdeal.τ).loc Cert.RwkvSIdeal.main_arg4)
      ∧ m' ((c.tc : Thread Cert.RwkvSRefIdeal.nD Cert.RwkvSRefIdeal.τ).loc Cert.RwkvSRefIdeal.main_arg5) = m ((c.tc : Thread Cert.RwkvSIdeal.nD Cert.RwkvSIdeal.τ).loc Cert.RwkvSIdeal.main_arg5)
      ∧ m' ((c.tc : Thread Cert.RwkvSRefIdeal.nD Cert.RwkvSRefIdeal.τ).loc Cert.RwkvSRefIdeal.main_arg6) = m ((c.tc : Thread Cert.RwkvSIdeal.nD Cert.RwkvSIdeal.τ).loc Cert.RwkvSIdeal.main_arg6)
      ∧ m' ((c.tc : Thread Cert.RwkvSRefIdeal.nD Cert.RwkvSRefIdeal.τ).loc Cert.RwkvSRefIdeal.main_arg7) = m ((c.tc : Thread Cert.RwkvSIdeal.nD Cert.RwkvSIdeal.τ).loc Cert.RwkvSIdeal.main_arg7)
      ∧ m' ((c.tc : Thread Cert.RwkvSRefIdeal.nD Cert.RwkvSRefIdeal.τ).loc Cert.RwkvSRefIdeal.main_arg8) = m ((c.tc : Thread Cert.RwkvSIdeal.nD Cert.RwkvSIdeal.τ).loc Cert.RwkvSIdeal.main_arg8)
      ∧ m' ((c.tc : Thread Cert.RwkvSRefIdeal.nD Cert.RwkvSRefIdeal.τ).loc Cert.RwkvSRefIdeal.main_arg9) = m ((c.tc : Thread Cert.RwkvSIdeal.nD Cert.RwkvSIdeal.τ).loc Cert.RwkvSIdeal.main_arg9)
      ∧ m' ((c.tc : Thread Cert.RwkvSRefIdeal.nD Cert.RwkvSRefIdeal.τ).loc Cert.RwkvSRefIdeal.main_arg10) = m ((c.tc : Thread Cert.RwkvSIdeal.nD Cert.RwkvSIdeal.τ).loc Cert.RwkvSIdeal.main_arg10)
      ∧ m' ((c.tc : Thread Cert.RwkvSRefIdeal.nD Cert.RwkvSRefIdeal.τ).loc Cert.RwkvSRefIdeal.main_arg11) = m ((c.tc : Thread Cert.RwkvSIdeal.nD Cert.RwkvSIdeal.τ).loc Cert.RwkvSIdeal.main_arg11)
      ∧ m' ((c.tc : Thread Cert.RwkvSRefIdeal.nD Cert.RwkvSRefIdeal.τ).loc Cert.RwkvSRefIdeal.main_arg12) = m ((c.tc : Thread Cert.RwkvSIdeal.nD Cert.RwkvSIdeal.τ).loc Cert.RwkvSIdeal.main_arg12)
      ∧ m' ((c.tc : Thread Cert.RwkvSRefIdeal.nD Cert.RwkvSRefIdeal.τ).loc Cert.RwkvSRefIdeal.main_arg13) = m ((c.tc : Thread Cert.RwkvSIdeal.nD Cert.RwkvSIdeal.τ).loc Cert.RwkvSIdeal.main_arg13)) →
    ∃ (v0 : (c : Dev Cert.RwkvSIdeal.nD) → Buf (Elt Ideal) ((c.tc : Thread Cert.RwkvSIdeal.nD Cert.RwkvSIdeal.τ).loc Cert.RwkvSIdeal.main_v25_2)),
      θ_run (Cert.RwkvSIdeal.defs (F := Ideal)) (onTc (τ := Cert.RwkvSIdeal.τ) (Cert.RwkvSIdeal.main (F := Ideal))) ⟨m, fun _ => 0, g⟩ (fun r => ∀ c : Dev Cert.RwkvSIdeal.nD,
          r.2.mem ((c.tc : Thread Cert.RwkvSIdeal.nD Cert.RwkvSIdeal.τ).loc Cert.RwkvSIdeal.main_v25_2) = v0 c
          ∧ r.2.mem ((c.tc : Thread Cert.RwkvSIdeal.nD Cert.RwkvSIdeal.τ).loc Cert.RwkvSIdeal.main_arg0) = m ((c.tc : Thread Cert.RwkvSIdeal.nD Cert.RwkvSIdeal.τ).loc Cert.RwkvSIdeal.main_arg0)
          ∧ r.2.mem ((c.tc : Thread Cert.RwkvSIdeal.nD Cert.RwkvSIdeal.τ).loc Cert.RwkvSIdeal.main_arg1) = m ((c.tc : Thread Cert.RwkvSIdeal.nD Cert.RwkvSIdeal.τ).loc Cert.RwkvSIdeal.main_arg1)
          ∧ r.2.mem ((c.tc : Thread Cert.RwkvSIdeal.nD Cert.RwkvSIdeal.τ).loc Cert.RwkvSIdeal.main_arg2) = m ((c.tc : Thread Cert.RwkvSIdeal.nD Cert.RwkvSIdeal.τ).loc Cert.RwkvSIdeal.main_arg2)
          ∧ r.2.mem ((c.tc : Thread Cert.RwkvSIdeal.nD Cert.RwkvSIdeal.τ).loc Cert.RwkvSIdeal.main_arg3) = m ((c.tc : Thread Cert.RwkvSIdeal.nD Cert.RwkvSIdeal.τ).loc Cert.RwkvSIdeal.main_arg3)
          ∧ r.2.mem ((c.tc : Thread Cert.RwkvSIdeal.nD Cert.RwkvSIdeal.τ).loc Cert.RwkvSIdeal.main_arg4) = m ((c.tc : Thread Cert.RwkvSIdeal.nD Cert.RwkvSIdeal.τ).loc Cert.RwkvSIdeal.main_arg4)
          ∧ r.2.mem ((c.tc : Thread Cert.RwkvSIdeal.nD Cert.RwkvSIdeal.τ).loc Cert.RwkvSIdeal.main_arg5) = m ((c.tc : Thread Cert.RwkvSIdeal.nD Cert.RwkvSIdeal.τ).loc Cert.RwkvSIdeal.main_arg5)
          ∧ r.2.mem ((c.tc : Thread Cert.RwkvSIdeal.nD Cert.RwkvSIdeal.τ).loc Cert.RwkvSIdeal.main_arg6) = m ((c.tc : Thread Cert.RwkvSIdeal.nD Cert.RwkvSIdeal.τ).loc Cert.RwkvSIdeal.main_arg6)
          ∧ r.2.mem ((c.tc : Thread Cert.RwkvSIdeal.nD Cert.RwkvSIdeal.τ).loc Cert.RwkvSIdeal.main_arg7) = m ((c.tc : Thread Cert.RwkvSIdeal.nD Cert.RwkvSIdeal.τ).loc Cert.RwkvSIdeal.main_arg7)
          ∧ r.2.mem ((c.tc : Thread Cert.RwkvSIdeal.nD Cert.RwkvSIdeal.τ).loc Cert.RwkvSIdeal.main_arg8) = m ((c.tc : Thread Cert.RwkvSIdeal.nD Cert.RwkvSIdeal.τ).loc Cert.RwkvSIdeal.main_arg8)
          ∧ r.2.mem ((c.tc : Thread Cert.RwkvSIdeal.nD Cert.RwkvSIdeal.τ).loc Cert.RwkvSIdeal.main_arg9) = m ((c.tc : Thread Cert.RwkvSIdeal.nD Cert.RwkvSIdeal.τ).loc Cert.RwkvSIdeal.main_arg9)
          ∧ r.2.mem ((c.tc : Thread Cert.RwkvSIdeal.nD Cert.RwkvSIdeal.τ).loc Cert.RwkvSIdeal.main_arg10) = m ((c.tc : Thread Cert.RwkvSIdeal.nD Cert.RwkvSIdeal.τ).loc Cert.RwkvSIdeal.main_arg10)
          ∧ r.2.mem ((c.tc : Thread Cert.RwkvSIdeal.nD Cert.RwkvSIdeal.τ).loc Cert.RwkvSIdeal.main_arg11) = m ((c.tc : Thread Cert.RwkvSIdeal.nD Cert.RwkvSIdeal.τ).loc Cert.RwkvSIdeal.main_arg11)
          ∧ r.2.mem ((c.tc : Thread Cert.RwkvSIdeal.nD Cert.RwkvSIdeal.τ).loc Cert.RwkvSIdeal.main_arg12) = m ((c.tc : Thread Cert.RwkvSIdeal.nD Cert.RwkvSIdeal.τ).loc Cert.RwkvSIdeal.main_arg12)
          ∧ r.2.mem ((c.tc : Thread Cert.RwkvSIdeal.nD Cert.RwkvSIdeal.τ).loc Cert.RwkvSIdeal.main_arg13) = m ((c.tc : Thread Cert.RwkvSIdeal.nD Cert.RwkvSIdeal.τ).loc Cert.RwkvSIdeal.main_arg13))
      ∧ θ_run (Cert.RwkvSRefIdeal.defs (F := Ideal)) (onTc (τ := Cert.RwkvSRefIdeal.τ) (Cert.RwkvSRefIdeal.main (F := Ideal))) ⟨m', fun _ => 0, g'⟩ (fun r => ∀ c : Dev Cert.RwkvSRefIdeal.nD,
          r.2.mem ((c.tc : Thread Cert.RwkvSRefIdeal.nD Cert.RwkvSRefIdeal.τ).loc Cert.RwkvSRefIdeal.main_v0) = v0 c
          ∧ r.2.mem ((c.tc : Thread Cert.RwkvSRefIdeal.nD Cert.RwkvSRefIdeal.τ).loc Cert.RwkvSRefIdeal.main_arg0) = m' ((c.tc : Thread Cert.RwkvSRefIdeal.nD Cert.RwkvSRefIdeal.τ).loc Cert.RwkvSRefIdeal.main_arg0)
          ∧ r.2.mem ((c.tc : Thread Cert.RwkvSRefIdeal.nD Cert.RwkvSRefIdeal.τ).loc Cert.RwkvSRefIdeal.main_arg1) = m' ((c.tc : Thread Cert.RwkvSRefIdeal.nD Cert.RwkvSRefIdeal.τ).loc Cert.RwkvSRefIdeal.main_arg1)
          ∧ r.2.mem ((c.tc : Thread Cert.RwkvSRefIdeal.nD Cert.RwkvSRefIdeal.τ).loc Cert.RwkvSRefIdeal.main_arg2) = m' ((c.tc : Thread Cert.RwkvSRefIdeal.nD Cert.RwkvSRefIdeal.τ).loc Cert.RwkvSRefIdeal.main_arg2)
          ∧ r.2.mem ((c.tc : Thread Cert.RwkvSRefIdeal.nD Cert.RwkvSRefIdeal.τ).loc Cert.RwkvSRefIdeal.main_arg3) = m' ((c.tc : Thread Cert.RwkvSRefIdeal.nD Cert.RwkvSRefIdeal.τ).loc Cert.RwkvSRefIdeal.main_arg3)
          ∧ r.2.mem ((c.tc : Thread Cert.RwkvSRefIdeal.nD Cert.RwkvSRefIdeal.τ).loc Cert.RwkvSRefIdeal.main_arg4) = m' ((c.tc : Thread Cert.RwkvSRefIdeal.nD Cert.RwkvSRefIdeal.τ).loc Cert.RwkvSRefIdeal.main_arg4)
          ∧ r.2.mem ((c.tc : Thread Cert.RwkvSRefIdeal.nD Cert.RwkvSRefIdeal.τ).loc Cert.RwkvSRefIdeal.main_arg5) = m' ((c.tc : Thread Cert.RwkvSRefIdeal.nD Cert.RwkvSRefIdeal.τ).loc Cert.RwkvSRefIdeal.main_arg5)
          ∧ r.2.mem ((c.tc : Thread Cert.RwkvSRefIdeal.nD Cert.RwkvSRefIdeal.τ).loc Cert.RwkvSRefIdeal.main_arg6) = m' ((c.tc : Thread Cert.RwkvSRefIdeal.nD Cert.RwkvSRefIdeal.τ).loc Cert.RwkvSRefIdeal.main_arg6)
          ∧ r.2.mem ((c.tc : Thread Cert.RwkvSRefIdeal.nD Cert.RwkvSRefIdeal.τ).loc Cert.RwkvSRefIdeal.main_arg7) = m' ((c.tc : Thread Cert.RwkvSRefIdeal.nD Cert.RwkvSRefIdeal.τ).loc Cert.RwkvSRefIdeal.main_arg7)
          ∧ r.2.mem ((c.tc : Thread Cert.RwkvSRefIdeal.nD Cert.RwkvSRefIdeal.τ).loc Cert.RwkvSRefIdeal.main_arg8) = m' ((c.tc : Thread Cert.RwkvSRefIdeal.nD Cert.RwkvSRefIdeal.τ).loc Cert.RwkvSRefIdeal.main_arg8)
          ∧ r.2.mem ((c.tc : Thread Cert.RwkvSRefIdeal.nD Cert.RwkvSRefIdeal.τ).loc Cert.RwkvSRefIdeal.main_arg9) = m' ((c.tc : Thread Cert.RwkvSRefIdeal.nD Cert.RwkvSRefIdeal.τ).loc Cert.RwkvSRefIdeal.main_arg9)
          ∧ r.2.mem ((c.tc : Thread Cert.RwkvSRefIdeal.nD Cert.RwkvSRefIdeal.τ).loc Cert.RwkvSRefIdeal.main_arg10) = m' ((c.tc : Thread Cert.RwkvSRefIdeal.nD Cert.RwkvSRefIdeal.τ).loc Cert.RwkvSRefIdeal.main_arg10)
          ∧ r.2.mem ((c.tc : Thread Cert.RwkvSRefIdeal.nD Cert.RwkvSRefIdeal.τ).loc Cert.RwkvSRefIdeal.main_arg11) = m' ((c.tc : Thread Cert.RwkvSRefIdeal.nD Cert.RwkvSRefIdeal.τ).loc Cert.RwkvSRefIdeal.main_arg11)
          ∧ r.2.mem ((c.tc : Thread Cert.RwkvSRefIdeal.nD Cert.RwkvSRefIdeal.τ).loc Cert.RwkvSRefIdeal.main_arg12) = m' ((c.tc : Thread Cert.RwkvSRefIdeal.nD Cert.RwkvSRefIdeal.τ).loc Cert.RwkvSRefIdeal.main_arg12)
          ∧ r.2.mem ((c.tc : Thread Cert.RwkvSRefIdeal.nD Cert.RwkvSRefIdeal.τ).loc Cert.RwkvSRefIdeal.main_arg13) = m' ((c.tc : Thread Cert.RwkvSRefIdeal.nD Cert.RwkvSRefIdeal.τ).loc Cert.RwkvSRefIdeal.main_arg13))

def preserves_Hgrn_HgrnIdeal : Prop :=
  True

def algebraic_HgrnIdeal_HgrnRefIdeal_pre_finite_gates [hHgrnIdeal : Cert.HgrnIdeal.Facts] [hHgrnRefIdeal : Cert.HgrnRefIdeal.Facts] [hPre_finite_gates : Cert.Pre_finite_gates.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_gates m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v22_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v22_1) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v51) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Rwkv_RwkvIdeal : Prop :=
  True

def algebraic_RwkvIdeal_RwkvRefIdeal [hRwkvIdeal : Cert.RwkvIdeal.Facts] [hRwkvRefIdeal : Cert.RwkvRefIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)
      ∧ m' ((c.tc : Thread Cert.RwkvRefIdeal.nD Cert.RwkvRefIdeal.τ).loc Cert.RwkvRefIdeal.main_arg7) = m ((c.tc : Thread Cert.RwkvIdeal.nD Cert.RwkvIdeal.τ).loc Cert.RwkvIdeal.main_arg7)
      ∧ m' ((c.tc : Thread Cert.RwkvRefIdeal.nD Cert.RwkvRefIdeal.τ).loc Cert.RwkvRefIdeal.main_arg8) = m ((c.tc : Thread Cert.RwkvIdeal.nD Cert.RwkvIdeal.τ).loc Cert.RwkvIdeal.main_arg8)
      ∧ m' ((c.tc : Thread Cert.RwkvRefIdeal.nD Cert.RwkvRefIdeal.τ).loc Cert.RwkvRefIdeal.main_arg9) = m ((c.tc : Thread Cert.RwkvIdeal.nD Cert.RwkvIdeal.τ).loc Cert.RwkvIdeal.main_arg9)
      ∧ m' ((c.tc : Thread Cert.RwkvRefIdeal.nD Cert.RwkvRefIdeal.τ).loc Cert.RwkvRefIdeal.main_arg10) = m ((c.tc : Thread Cert.RwkvIdeal.nD Cert.RwkvIdeal.τ).loc Cert.RwkvIdeal.main_arg10)
      ∧ m' ((c.tc : Thread Cert.RwkvRefIdeal.nD Cert.RwkvRefIdeal.τ).loc Cert.RwkvRefIdeal.main_arg11) = m ((c.tc : Thread Cert.RwkvIdeal.nD Cert.RwkvIdeal.τ).loc Cert.RwkvIdeal.main_arg11)
      ∧ m' ((c.tc : Thread Cert.RwkvRefIdeal.nD Cert.RwkvRefIdeal.τ).loc Cert.RwkvRefIdeal.main_arg12) = m ((c.tc : Thread Cert.RwkvIdeal.nD Cert.RwkvIdeal.τ).loc Cert.RwkvIdeal.main_arg12)
      ∧ m' ((c.tc : Thread Cert.RwkvRefIdeal.nD Cert.RwkvRefIdeal.τ).loc Cert.RwkvRefIdeal.main_arg13) = m ((c.tc : Thread Cert.RwkvIdeal.nD Cert.RwkvIdeal.τ).loc Cert.RwkvIdeal.main_arg13)) →
    ∃ (v0 : (c : Dev Cert.RwkvIdeal.nD) → Buf (Elt Ideal) ((c.tc : Thread Cert.RwkvIdeal.nD Cert.RwkvIdeal.τ).loc Cert.RwkvIdeal.main_v25_2)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v25_2) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
          ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12)
          ∧ r.2.mem ((c.tc : Thread Cert.RwkvIdeal.nD Cert.RwkvIdeal.τ).loc Cert.RwkvIdeal.main_arg13) = m ((c.tc : Thread Cert.RwkvIdeal.nD Cert.RwkvIdeal.τ).loc Cert.RwkvIdeal.main_arg13))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v0) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10)
          ∧ r.2.mem ((c.tc : Thread Cert.RwkvRefIdeal.nD Cert.RwkvRefIdeal.τ).loc Cert.RwkvRefIdeal.main_arg11) = m' ((c.tc : Thread Cert.RwkvRefIdeal.nD Cert.RwkvRefIdeal.τ).loc Cert.RwkvRefIdeal.main_arg11)
          ∧ r.2.mem ((c.tc : Thread Cert.RwkvRefIdeal.nD Cert.RwkvRefIdeal.τ).loc Cert.RwkvRefIdeal.main_arg12) = m' ((c.tc : Thread Cert.RwkvRefIdeal.nD Cert.RwkvRefIdeal.τ).loc Cert.RwkvRefIdeal.main_arg12)
          ∧ r.2.mem ((c.tc : Thread Cert.RwkvRefIdeal.nD Cert.RwkvRefIdeal.τ).loc Cert.RwkvRefIdeal.main_arg13) = m' ((c.tc : Thread Cert.RwkvRefIdeal.nD Cert.RwkvRefIdeal.τ).loc Cert.RwkvRefIdeal.main_arg13))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hFinalNorm : Cert.FinalNorm.Facts) (hFinalNormIdeal : Cert.FinalNormIdeal.Facts) (hFinalNormRefIdeal : Cert.FinalNormRefIdeal.Facts) (hFinalNormS : Cert.FinalNormS.Facts) (hFinalNormSIdeal : Cert.FinalNormSIdeal.Facts) (hFinalNormSRefIdeal : Cert.FinalNormSRefIdeal.Facts) (hInProjS : Cert.InProjS.Facts) (hInProjSIdeal : Cert.InProjSIdeal.Facts) (hInProjSRefIdeal : Cert.InProjSRefIdeal.Facts) (hConv : Cert.Conv.Facts) (hConvIdeal : Cert.ConvIdeal.Facts) (hConvRefIdeal : Cert.ConvRefIdeal.Facts) (hConvS : Cert.ConvS.Facts) (hConvSIdeal : Cert.ConvSIdeal.Facts) (hConvSRefIdeal : Cert.ConvSRefIdeal.Facts) (hMergeS : Cert.MergeS.Facts) (hMergeSIdeal : Cert.MergeSIdeal.Facts) (hMergeSRefIdeal : Cert.MergeSRefIdeal.Facts) (hHgrnS : Cert.HgrnS.Facts) (hHgrnSIdeal : Cert.HgrnSIdeal.Facts) (hHgrnSRefIdeal : Cert.HgrnSRefIdeal.Facts) (hRwkvS : Cert.RwkvS.Facts) (hRwkvSIdeal : Cert.RwkvSIdeal.Facts) (hRwkvSRefIdeal : Cert.RwkvSRefIdeal.Facts) (hHgrn : Cert.Hgrn.Facts) (hHgrnIdeal : Cert.HgrnIdeal.Facts) (hHgrnRefIdeal : Cert.HgrnRefIdeal.Facts) (hRwkv : Cert.Rwkv.Facts) (hRwkvIdeal : Cert.RwkvIdeal.Facts) (hRwkvRefIdeal : Cert.RwkvRefIdeal.Facts) (hPre_finite_qk : Cert.Pre_finite_qk.Facts) (hPre_finite_lb : Cert.Pre_finite_lb.Facts) (hPre_finite_gates : Cert.Pre_finite_gates.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_FinalNormS (hFinalNormS := hFinalNormS)
    ∧ quiescent_FinalNormSIdeal (hFinalNormSIdeal := hFinalNormSIdeal)
    ∧ quiescent_FinalNormSRefIdeal (hFinalNormSRefIdeal := hFinalNormSRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_Conv (hConv := hConv)
    ∧ quiescent_ConvIdeal (hConvIdeal := hConvIdeal)
    ∧ quiescent_ConvRefIdeal (hConvRefIdeal := hConvRefIdeal)
    ∧ quiescent_ConvS (hConvS := hConvS)
    ∧ quiescent_ConvSIdeal (hConvSIdeal := hConvSIdeal)
    ∧ quiescent_ConvSRefIdeal (hConvSRefIdeal := hConvSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_HgrnS (hHgrnS := hHgrnS)
    ∧ quiescent_HgrnSIdeal (hHgrnSIdeal := hHgrnSIdeal)
    ∧ quiescent_HgrnSIdeal_pre_finite_lb (hHgrnSIdeal := hHgrnSIdeal) (hPre_finite_lb := hPre_finite_lb)
    ∧ quiescent_HgrnSRefIdeal (hHgrnSRefIdeal := hHgrnSRefIdeal)
    ∧ quiescent_HgrnSRefIdeal_pre_finite_lb (hHgrnSRefIdeal := hHgrnSRefIdeal) (hPre_finite_lb := hPre_finite_lb)
    ∧ quiescent_RwkvS (hRwkvS := hRwkvS)
    ∧ quiescent_RwkvSIdeal (hRwkvSIdeal := hRwkvSIdeal)
    ∧ quiescent_RwkvSRefIdeal (hRwkvSRefIdeal := hRwkvSRefIdeal)
    ∧ quiescent_Hgrn (hHgrn := hHgrn)
    ∧ quiescent_HgrnIdeal (hHgrnIdeal := hHgrnIdeal)
    ∧ quiescent_HgrnIdeal_pre_finite_gates (hHgrnIdeal := hHgrnIdeal) (hPre_finite_gates := hPre_finite_gates)
    ∧ quiescent_HgrnRefIdeal (hHgrnRefIdeal := hHgrnRefIdeal)
    ∧ quiescent_HgrnRefIdeal_pre_finite_gates (hHgrnRefIdeal := hHgrnRefIdeal) (hPre_finite_gates := hPre_finite_gates)
    ∧ quiescent_Rwkv (hRwkv := hRwkv)
    ∧ quiescent_RwkvIdeal (hRwkvIdeal := hRwkvIdeal)
    ∧ quiescent_RwkvRefIdeal (hRwkvRefIdeal := hRwkvRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_FinalNormS_FinalNormSIdeal
    ∧ algebraic_FinalNormSIdeal_FinalNormSRefIdeal (hFinalNormSIdeal := hFinalNormSIdeal) (hFinalNormSRefIdeal := hFinalNormSRefIdeal)
    ∧ preserves_InProjS_InProjSIdeal
    ∧ algebraic_InProjSIdeal_InProjSRefIdeal (hInProjSIdeal := hInProjSIdeal) (hInProjSRefIdeal := hInProjSRefIdeal)
    ∧ preserves_Conv_ConvIdeal
    ∧ algebraic_ConvIdeal_ConvRefIdeal (hConvIdeal := hConvIdeal) (hConvRefIdeal := hConvRefIdeal)
    ∧ preserves_ConvS_ConvSIdeal
    ∧ algebraic_ConvSIdeal_ConvSRefIdeal (hConvSIdeal := hConvSIdeal) (hConvSRefIdeal := hConvSRefIdeal)
    ∧ preserves_MergeS_MergeSIdeal
    ∧ algebraic_MergeSIdeal_MergeSRefIdeal (hMergeSIdeal := hMergeSIdeal) (hMergeSRefIdeal := hMergeSRefIdeal)
    ∧ preserves_HgrnS_HgrnSIdeal
    ∧ algebraic_HgrnSIdeal_HgrnSRefIdeal_pre_finite_lb (hHgrnSIdeal := hHgrnSIdeal) (hHgrnSRefIdeal := hHgrnSRefIdeal) (hPre_finite_lb := hPre_finite_lb)
    ∧ preserves_RwkvS_RwkvSIdeal
    ∧ algebraic_RwkvSIdeal_RwkvSRefIdeal (hRwkvSIdeal := hRwkvSIdeal) (hRwkvSRefIdeal := hRwkvSRefIdeal)
    ∧ preserves_Hgrn_HgrnIdeal
    ∧ algebraic_HgrnIdeal_HgrnRefIdeal_pre_finite_gates (hHgrnIdeal := hHgrnIdeal) (hHgrnRefIdeal := hHgrnRefIdeal) (hPre_finite_gates := hPre_finite_gates)
    ∧ preserves_Rwkv_RwkvIdeal
    ∧ algebraic_RwkvIdeal_RwkvRefIdeal (hRwkvIdeal := hRwkvIdeal) (hRwkvRefIdeal := hRwkvRefIdeal)
-- ==== Pre_finite_gates.lean ====
abbrev S2x16384x1024 : Shape := ⟨3, ![2, 16384, 1024]⟩
abbrev S2x4x64x64 : Shape := ⟨4, ![2, 4, 64, 64]⟩
abbrev S256 : Shape := ⟨1, ![256]⟩
abbrev S64 : Shape := ⟨1, ![64]⟩
abbrev S2x16384x256 : Shape := ⟨3, ![2, 16384, 256]⟩
abbrev S_ : Shape := ⟨0, ![]⟩

class Facts : Prop where
  slices_S2x16384x1024_S2x16384x256_0_0_256 : S2x16384x1024.Slices ![0, 0, 256] S2x16384x256
  bcast_S_S2x16384x256 : S_.BroadcastsInDim S2x16384x256 (![] : Fin 0 → Fin S2x16384x256.rank)
  reducesTo_S2x16384x256_S_d0_1_2 : S2x16384x256.ReducesTo [0, 1, 2] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S2x16384x1024 .f32) (main_arg1 : FVec F S2x4x64x64 .f32) (main_arg2 : FVec F S256 .f32) (main_arg3 : FVec F S64 .f32) : IVec S_ 1 :=
  let main_v0 : FVec F S2x16384x256 .f32 := (extractStridedSlice S2x16384x256 ![0, 0, 256] · slices_S2x16384x1024_S2x16384x256_0_0_256) main_arg0
  let main_v1 : FVec F S2x16384x256 .f32 := Host.absf main_v0
  let main_cst : FVec F S_ .f32 := constant S_ .f32 0x7F800000#32
  let main_v2 : FVec F S2x16384x256 .f32 := broadcastInDim S2x16384x256 ![] bcast_S_S2x16384x256 main_cst
  let main_v3 : IVec S2x16384x256 1 := cmpf .olt main_v1 main_v2
  let main_c : IVec S_ 1 := constantI S_ 1 1#1
  let main_v4 : IVec S_ 1 := (fun x v => Host.reduce IntOp.andi x v reducesTo_S2x16384x256_S_d0_1_2 h_S_) main_v3 main_c
  let main_v5 : FVec F S256 .f32 := Host.absf main_arg2
  let main_cst_0 : FVec F S_ .f32 := constant S_ .f32 0x7F800000#32
  let main_v6 : FVec F S256 .f32 := broadcastInDim S256 ![] bcast_S_S256 main_cst_0
  let main_v7 : IVec S256 1 := cmpf .olt main_v5 main_v6
  let main_c_1 : IVec S_ 1 := constantI S_ 1 1#1
  let main_v8 : IVec S_ 1 := (fun x v => Host.reduce IntOp.andi x v reducesTo_S256_S_d0 h_S_) main_v7 main_c_1
  let main_v9 : IVec S_ 1 := andi main_v4 main_v8
  main_v9
-- ==== Pre_finite_lb.lean ====
abbrev S8x32x1024 : Shape := ⟨3, ![8, 32, 1024]⟩
abbrev S8x4x64x64 : Shape := ⟨4, ![8, 4, 64, 64]⟩
abbrev S256 : Shape := ⟨1, ![256]⟩
abbrev S64 : Shape := ⟨1, ![64]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S8x32x1024 .f32) (main_arg1 : FVec F S8x4x64x64 .f32) (main_arg2 : FVec F S256 .f32) (main_arg3 : FVec F S64 .f32) : IVec S_ 1 :=
  let main_v0 : FVec F S256 .f32 := Host.absf main_arg2
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  main_v3
-- ==== Pre_finite_qk.lean ====
abbrev S2x16384x256 : Shape := ⟨3, ![2, 16384, 256]⟩
abbrev S_ : Shape := ⟨0, ![]⟩

class Facts : Prop where
  bcast_S_S2x16384x256 : S_.BroadcastsInDim S2x16384x256 (![] : Fin 0 → Fin S2x16384x256.rank)
  reducesTo_S2x16384x256_S_d0_1_2 : S2x16384x256.ReducesTo [0, 1, 2] S_
  h_S_ : 0 < S_.numel

variable [Facts]

def fn {F : FTy → Type} [FloatOps F] (main_arg0 : FVec F S2x16384x256 .f32) (main_arg1 : FVec F S2x16384x256 .f32) (main_arg2 : FVec F S2x16384x256 .f32) : IVec S_ 1 :=
  let main_v0 : FVec F S2x16384x256 .f32 := Host.absf main_arg0
  let main_cst : FVec F S_ .f32 := constant S_ .f32 0x7F800000#32
  let main_v1 : FVec F S2x16384x256 .f32 := broadcastInDim S2x16384x256 ![] bcast_S_S2x16384x256 main_cst
  let main_v2 : IVec S2x16384x256 1 := cmpf .olt main_v0 main_v1
  let main_c : IVec S_ 1 := constantI S_ 1 1#1
  let main_v3 : IVec S_ 1 := (fun x v => Host.reduce IntOp.andi x v reducesTo_S2x16384x256_S_d0_1_2 h_S_) main_v2 main_c
  let main_v4 : FVec F S2x16384x256 .f32 := Host.absf main_arg1
  let main_cst_0 : FVec F S_ .f32 := constant S_ .f32 0x7F800000#32
  let main_v5 : FVec F S2x16384x256 .f32 := broadcastInDim S2x16384x256 ![] bcast_S_S2x16384x256 main_cst_0
  let main_v6 : IVec S2x16384x256 1 := cmpf .olt main_v4 main_v5
  let main_c_1 : IVec S_ 1 := constantI S_ 1 1#1
  let main_v7 : IVec S_ 1 := (fun x v => Host.reduce IntOp.andi x v reducesTo_S2x16384x256_S_d0_1_2 h_S_) main_v6 main_c_1
  let main_v8 : IVec S_ 1 := andi main_v3 main_v7
  main_v8
-- ==== Kernel.lean ====
abbrev S2x16384x256 : Shape := ⟨3, ![2, 16384, 256]⟩
abbrev S1x256x256 : Shape := ⟨3, ![1, 256, 256]⟩
abbrev S1x16384x256 : Shape := ⟨3, ![1, 16384, 256]⟩
abbrev S4x256x128 : Shape := ⟨3, ![4, 256, 128]⟩
abbrev S256x256 : Shape := ⟨2, ![256, 256]⟩
abbrev S256x128 : Shape := ⟨2, ![256, 128]⟩
abbrev S1x256x128 : Shape := ⟨3, ![1, 256, 128]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x16384x256, .bf16⟩
  | .hbm, ⟨4, _⟩ => ⟨S2x16384x256, .bf16⟩
  | .hbm, ⟨5, _⟩ => ⟨S2x16384x256, .f32⟩
  | .local _ .vmem, ⟨0, _⟩ => ⟨S1x256x256, .f32⟩
  | .local _ .vmem, ⟨1, _⟩ => ⟨S1x256x256, .f32⟩
  | .local _ .vmem, ⟨2, _⟩ => ⟨S1x16384x256, .bf16⟩
  | .local _ .vmem, ⟨3, _⟩ => ⟨S1x16384x256, .bf16⟩
  | .local _ .vmem, ⟨4, _⟩ => ⟨S1x16384x256, .bf16⟩
  | .local _ .vmem, ⟨5, _⟩ => ⟨S1x16384x256, .bf16⟩
  | .local _ .vmem, ⟨6, _⟩ => ⟨S1x256x256, .f32⟩
  | .local _ .vmem, ⟨7, _⟩ => ⟨S1x256x256, .f32⟩
  | .local _ .vmem, ⟨8, _⟩ => ⟨S4x256x128, .f32⟩
  | .local _ .vmem, ⟨9, _⟩ => ⟨S4x256x128, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c0_i32_51 : BitVec 32 := 0#32
  let v155 : BitVec 32 := Scalar.addi v18 c0_i32_51
  let c256_i32_52 : BitVec 32 := 256#32
  let v156 : BitVec 32 := Scalar.muli v155 c256_i32_52
  v156
def k0_off1 (i : grid0.Coords) : Fin 3 → Nat :=
  let c0_53 : Index := 0#32
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c0_i32_51 : BitVec 32 := 0#32
  let v155 : BitVec 32 := Scalar.addi v18 c0_i32_51
  let c256_i32_52 : BitVec 32 := 256#32
  let v156 : BitVec 32 := Scalar.muli v155 c256_i32_52
  let v157 : BitVec 32 := v156
  let v158 : Index := Scalar.indexCast v157
  let c0_54 : Index := 0#32
  ![0, v158.toNat, 0]
@[reducible] def k0_t1_loop (i : grid0.Coords) : Scf.Loop 32 :=
  let c0_i32_139 : BitVec 32 := 0#32
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let v351 : BitVec 32 := Scalar.subi v18 c0_i32_139
  let c1_i32_140 : BitVec 32 := 1#32
  let v353 : BitVec 32 := Scalar.divsi v351 c1_i32_140
  let v354 : BitVec 32 := Scalar.muli v353 c1_i32_140
  let v355 : BitVec 32 := Scalar.addi c0_i32_139 v354
  let c1_i32_141 : BitVec 32 := 1#32
  ⟨c0_i32_139, v355, c1_i32_141⟩
def k0_mult2 (i : grid0.Coords) (k0_t1 : Fin (k0_t1_loop i).trips) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_158 : BitVec 32 := 1#32
  let v370 : BitVec 32 := Scalar.subi v18 c1_i32_158
  let c0_i32_139 : BitVec 32 := 0#32
  let c1_i32_141 : BitVec 32 := 1#32
  let arg8 : BitVec 32 := Scf.iv c0_i32_139 c1_i32_141 k0_t1
  let v371 : BitVec 32 := Scalar.subi v370 arg8
  let c256_i32_159 : BitVec 32 := 256#32
  let v372 : BitVec 32 := Scalar.muli v371 c256_i32_159
  v372
def k0_off2 (i : grid0.Coords) (k0_t1 : Fin (k0_t1_loop i).trips) : Fin 3 → Nat :=
  let c0_160 : Index := 0#32
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_158 : BitVec 32 := 1#32
  let v370 : BitVec 32 := Scalar.subi v18 c1_i32_158
  let c0_i32_139 : BitVec 32 := 0#32
  let c1_i32_141 : BitVec 32 := 1#32
  let arg8 : BitVec 32 := Scf.iv c0_i32_139 c1_i32_141 k0_t1
  let v371 : BitVec 32 := Scalar.subi v370 arg8
  let c256_i32_159 : BitVec 32 := 256#32
  let v372 : BitVec 32 := Scalar.muli v371 c256_i32_159
  let v373 : BitVec 32 := v372
  let v374 : Index := Scalar.indexCast v373
  let c0_161 : Index := 0#32
  ![0, v374.toNat, 0]
@[reducible] def k0_t2_loop (i : grid0.Coords) : Scf.Loop 32 :=
  let c0_i32_139 : BitVec 32 := 0#32
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let v351 : BitVec 32 := Scalar.subi v18 c0_i32_139
  let c1_i32_140 : BitVec 32 := 1#32
  let v353 : BitVec 32 := Scalar.divsi v351 c1_i32_140
  let v354 : BitVec 32 := Scalar.muli v353 c1_i32_140
  let v355 : BitVec 32 := Scalar.addi c0_i32_139 v354
  let v352 : BitVec 32 := Scalar.addi c0_i32_139 v351
  let c1_i32_142 : BitVec 32 := 1#32
  ⟨v355, v352, c1_i32_142⟩
def k0_mult3 (i : grid0.Coords) (k0_t2 : Fin (k0_t2_loop i).trips) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_158 : BitVec 32 := 1#32
  let v370 : BitVec 32 := Scalar.subi v18 c1_i32_158
  let c0_i32_139 : BitVec 32 := 0#32
  let v351 : BitVec 32 := Scalar.subi v18 c0_i32_139
  let c1_i32_140 : BitVec 32 := 1#32
  let v353 : BitVec 32 := Scalar.divsi v351 c1_i32_140
  let v354 : BitVec 32 := Scalar.muli v353 c1_i32_140
  let v355 : BitVec 32 := Scalar.addi c0_i32_139 v354
  let c1_i32_142 : BitVec 32 := 1#32
  let arg8 : BitVec 32 := Scf.iv v355 c1_i32_142 k0_t2
  let v371 : BitVec 32 := Scalar.subi v370 arg8
  let c256_i32_159 : BitVec 32 := 256#32
  let v372 : BitVec 32 := Scalar.muli v371 c256_i32_159
  v372
def k0_off3 (i : grid0.Coords) (k0_t2 : Fin (k0_t2_loop i).trips) : Fin 3 → Nat :=
  let c0_160 : Index := 0#32
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c256_i32_0 : BitVec 32 := 256#32
  let c0_i32_3 : BitVec 32 := 0#32
  let v8 : BitVec 1 := Scalar.cmpi .sgt c256_i32_0 c0_i32_3
  let v9 : BitVec 32 := Scalar.extui v8
  let c0_i32_4 : BitVec 32 := 0#32
  let v10 : BitVec 1 := Scalar.cmpi .slt c256_i32_0 c0_i32_4
  let v11 : BitVec 32 := Scalar.extui v10
  let v12 : BitVec 32 := Scalar.subi v9 v11
  let v13 : BitVec 1 := Scalar.cmpi .ne v7 v12
  let v14 : BitVec 32 := Scalar.remsi v1 c256_i32_0
  let c0_i32_5 : BitVec 32 := 0#32
  let v15 : BitVec 1 := Scalar.cmpi .ne v14 c0_i32_5
  let v16 : BitVec 1 := Scalar.andi v13 v15
  let v2 : BitVec 32 := Scalar.divsi v1 c256_i32_0
  let c1_i32 : BitVec 32 := 1#32
  let v17 : BitVec 32 := Scalar.subi v2 c1_i32
  let v18 : BitVec 32 := Scalar.select v16 v17 v2
  let c1_i32_158 : BitVec 32 := 1#32
  let v370 : BitVec 32 := Scalar.subi v18 c1_i32_158
  let c0_i32_139 : BitVec 32 := 0#32
  let v351 : BitVec 32 := Scalar.subi v18 c0_i32_139
  let c1_i32_140 : BitVec 32 := 1#32
  let v353 : BitVec 32 := Scalar.divsi v351 c1_i32_140
  let v354 : BitVec 32 := Scalar.muli v353 c1_i32_140
  let v355 : BitVec 32 := Scalar.addi c0_i32_139 v354
  let c1_i32_142 : BitVec 32 := 1#32
  let arg8 : BitVec 32 := Scf.iv v355 c1_i32_142 k0_t2
  let v371 : BitVec 32 := Scalar.subi v370 arg8
  let c256_i32_159 : BitVec 32 := 256#32
  let v372 : BitVec 32 := Scalar.muli v371 c256_i32_159
  let v373 : BitVec 32 := v372
  let v374 : Index := Scalar.indexCast v373
  let c0_161 : Index := 0#32
  ![0, v374.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "inv_log2" => some (((Real.log 2)⁻¹ : ℝ) : EReal)
  | "q_scale" => some ((-((1 / 8) * (Real.log 2)⁻¹) : ℝ) : EReal)
  | _ => none
-- ==== ReferenceIdeal.lean ====
abbrev S2x16384x256 : Shape := ⟨3, ![2, 16384, 256]⟩
abbrev S2x16384x4x64 : Shape := ⟨4, ![2, 16384, 4, 64]⟩
abbrev S16384 : Shape := ⟨1, ![16384]⟩
abbrev S2x4x16384x16384 : Shape := ⟨4, ![2, 4, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x4x64x16384 : Shape := ⟨4, ![2, 4, 64, 16384]⟩

abbrev nBuf : Space → Nat
  | .hbm => 69
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x16384x4x64, .f32⟩
  | .hbm, ⟨4, _⟩ => ⟨S2x16384x4x64, .f32⟩
  | .hbm, ⟨5, _⟩ => ⟨S2x16384x4x64, .f32⟩
  | .hbm, ⟨6, _⟩ => ⟨S16384, .i32⟩
  | .hbm, ⟨7, _⟩ => ⟨S2x4x16384x16384, .f32⟩
  | .hbm, ⟨8, _⟩ => ⟨S_, .f32⟩
  | .hbm, ⟨9, _⟩ => ⟨S2x4x16384x16384, .f32⟩
  | .hbm, ⟨10, _⟩ => ⟨S2x4x16384x16384, .f32⟩
  | .hbm, ⟨11, _⟩ => ⟨S16384, .i32⟩
  | .hbm, ⟨12, _⟩ => ⟨S1x16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S2x4x16384x16384, .f32⟩
  | .hbm, ⟨18, _⟩ => ⟨S2x4x16384x16384, .f32⟩
  | .hbm, ⟨19, _⟩ => ⟨S_, .f32⟩
  | .hbm, ⟨20, _⟩ => ⟨S2x4x16384x16384, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S2x4x16384x16384, .i1⟩
  | .hbm, ⟨25, _⟩ => ⟨S2x4x16384x16384, .f32⟩
  | .hbm, ⟨26, _⟩ => ⟨S2x4x16384x16384, .f32⟩
  | .hbm, ⟨27, _⟩ => ⟨S2x4x16384x16384, .f32⟩
  | .hbm, ⟨28, _⟩ => ⟨S2x4x16384x16384, .f32⟩
  | .hbm, ⟨29, _⟩ => ⟨S2x4x16384x16384, .f32⟩
  | .hbm, ⟨30, _⟩ => ⟨S2x4x16384x16384, .f32⟩
  | .hbm, ⟨31, _⟩ => ⟨S2x4x16384x16384, .f32⟩
  | .hbm, ⟨32, _⟩ => ⟨S2x4x16384x16384, .f32⟩
  | .hbm, ⟨33, _⟩ => ⟨S2x4x16384x16384, .f32⟩
  | .hbm, ⟨34, _⟩ => ⟨S_, .f32⟩
  | .hbm, ⟨35, _⟩ => ⟨S_, .f32⟩
  | .hbm, ⟨36, _⟩ => ⟨S2x4x16384x16384, .i1⟩
  | .hbm, ⟨37, _⟩ => ⟨S2x4x16384x16384, .f32⟩
  | .hbm, ⟨38, _⟩ => ⟨S2x4x16384x16384, .f32⟩
  | .hbm, ⟨39, _⟩ => ⟨S_, .f32⟩
  | .hbm, ⟨40, _⟩ => ⟨S_, .f32⟩
  | .hbm, ⟨41, _⟩ => ⟨S2x4x16384x16384, .f32⟩
  | .hbm, ⟨42, _⟩ => ⟨S2x4x16384x16384, .f32⟩
  | .hbm, ⟨43, _⟩ => ⟨S2x4x16384x16384, .f32⟩
  | .hbm, ⟨44, _⟩ => ⟨S_, .f32⟩
  | .hbm, ⟨45, _⟩ => ⟨S2x4x16384x16384, .f32⟩
  | .hbm, ⟨46, _⟩ => ⟨S2x4x16384x16384, .f32⟩
  | .hbm, ⟨47, _⟩ => ⟨S2x4x16384x16384, .f32⟩
  | .hbm, ⟨48, _⟩ => ⟨S2x4x16384x16384, .f32⟩
  | .hbm, ⟨49, _⟩ => ⟨S2x4x16384x16384, .i1⟩
  | .hbm, ⟨50, _⟩ => ⟨S2x4x16384x16384, .f32⟩
  | .hbm, ⟨51, _⟩ => ⟨S2x4x16384x16384, .f32⟩
  | .hbm, ⟨52, _⟩ => ⟨S2x4x16384x16384, .f32⟩
  | .hbm, ⟨53, _⟩ => ⟨S2x4x16384x16384, .f32⟩
  | .hbm, ⟨54, _⟩ => ⟨S2x4x16384x16384, .f32⟩
  | .hbm, ⟨55, _⟩ => ⟨S2x4x16384x16384, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S2x4x16384x16384, .f32⟩
  | .hbm, ⟨60, _⟩ => ⟨S2x4x16384x16384, .f32⟩
  | .hbm, ⟨61, _⟩ => ⟨S_, .f32⟩
  | .hbm, ⟨62, _⟩ => ⟨S_, .f32⟩
  | .hbm, ⟨63, _⟩ => ⟨S2x4x16384x16384, .i1⟩
  | .hbm, ⟨64, _⟩ => ⟨S2x4x16384x16384, .f32⟩
  | .hbm, ⟨65, _⟩ => ⟨S2x4x16384x16384, .f32⟩
  | .hbm, ⟨66, _⟩ => ⟨S2x4x64x16384, .f32⟩
  | .hbm, ⟨67, _⟩ => ⟨S2x16384x4x64, .f32⟩
  | .hbm, ⟨68, _⟩ => ⟨S2x16384x256, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== InProj.lean ====
abbrev S32768x1024 : Shape := ⟨2, ![32768, 1024]⟩
abbrev S1024 : Shape := ⟨1, ![1024]⟩
abbrev S1024x7424 : Shape := ⟨2, ![1024, 7424]⟩
abbrev S1x1024 : Shape := ⟨2, ![1, 1024]⟩
abbrev S32768x256 : Shape := ⟨2, ![32768, 256]⟩
abbrev S32768x512 : Shape := ⟨2, ![32768, 512]⟩
abbrev S32768x4096 : Shape := ⟨2, ![32768, 4096]⟩
abbrev S256x1024 : Shape := ⟨2, ![256, 1024]⟩
abbrev S256x256 : Shape := ⟨2, ![256, 256]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩
abbrev S1024x256 : Shape := ⟨2, ![1024, 256]⟩
abbrev S1024x1024 : Shape := ⟨2, ![1024, 1024]⟩
abbrev S1024x512 : Shape := ⟨2, ![1024, 512]⟩

abbrev nBuf : Space → Nat
  | .hbm => 14
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7424, .f32⟩
  | .hbm, ⟨3, _⟩ => ⟨S1024x7424, .bf16⟩
  | .hbm, ⟨4, _⟩ => ⟨S1x1024, .f32⟩
  | .hbm, ⟨5, _⟩ => ⟨S32768x256, .bf16⟩
  | .hbm, ⟨6, _⟩ => ⟨S32768x256, .f32⟩
  | .hbm, ⟨7, _⟩ => ⟨S32768x256, .f32⟩
  | .hbm, ⟨8, _⟩ => ⟨S32768x256, .bf16⟩
  | .hbm, ⟨9, _⟩ => ⟨S32768x256, .bf16⟩
  | .hbm, ⟨10, _⟩ => ⟨S32768x1024, .f32⟩
  | .hbm, ⟨11, _⟩ => ⟨S32768x512, .f32⟩
  | .hbm, ⟨12, _⟩ => ⟨S32768x1024, .f32⟩
  | .hbm, ⟨13, _⟩ => ⟨S32768x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7424, .bf16⟩
  | .local _ .vmem, ⟨4, _⟩ => ⟨S256x256, .bf16⟩
  | .local _ .vmem, ⟨5, _⟩ => ⟨S256x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x1024, .f32⟩
  | .local _ .vmem, ⟨15, _⟩ => ⟨S256x1024, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S256x4096, .bf16⟩
  | .local _ .vmem, ⟨21, _⟩ => ⟨S256x4096, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjIdeal.lean ====
abbrev S32768x1024 : Shape := ⟨2, ![32768, 1024]⟩
abbrev S1024 : Shape := ⟨1, ![1024]⟩
abbrev S1024x7424 : Shape := ⟨2, ![1024, 7424]⟩
abbrev S1x1024 : Shape := ⟨2, ![1, 1024]⟩
abbrev S32768x256 : Shape := ⟨2, ![32768, 256]⟩
abbrev S32768x512 : Shape := ⟨2, ![32768, 512]⟩
abbrev S32768x4096 : Shape := ⟨2, ![32768, 4096]⟩
abbrev S256x1024 : Shape := ⟨2, ![256, 1024]⟩
abbrev S256x256 : Shape := ⟨2, ![256, 256]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩
abbrev S1024x256 : Shape := ⟨2, ![1024, 256]⟩
abbrev S1024x1024 : Shape := ⟨2, ![1024, 1024]⟩
abbrev S1024x512 : Shape := ⟨2, ![1024, 512]⟩

abbrev nBuf : Space → Nat
  | .hbm => 14
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7424, .f32⟩
  | .hbm, ⟨3, _⟩ => ⟨S1024x7424, .bf16⟩
  | .hbm, ⟨4, _⟩ => ⟨S1x1024, .f32⟩
  | .hbm, ⟨5, _⟩ => ⟨S32768x256, .bf16⟩
  | .hbm, ⟨6, _⟩ => ⟨S32768x256, .f32⟩
  | .hbm, ⟨7, _⟩ => ⟨S32768x256, .f32⟩
  | .hbm, ⟨8, _⟩ => ⟨S32768x256, .bf16⟩
  | .hbm, ⟨9, _⟩ => ⟨S32768x256, .bf16⟩
  | .hbm, ⟨10, _⟩ => ⟨S32768x1024, .f32⟩
  | .hbm, ⟨11, _⟩ => ⟨S32768x512, .f32⟩
  | .hbm, ⟨12, _⟩ => ⟨S32768x1024, .f32⟩
  | .hbm, ⟨13, _⟩ => ⟨S32768x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7424, .bf16⟩
  | .local _ .vmem, ⟨4, _⟩ => ⟨S256x256, .bf16⟩
  | .local _ .vmem, ⟨5, _⟩ => ⟨S256x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x1024, .f32⟩
  | .local _ .vmem, ⟨15, _⟩ => ⟨S256x1024, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S256x4096, .bf16⟩
  | .local _ .vmem, ⟨21, _⟩ => ⟨S256x4096, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F] [Named F]

def κ : String → Option EReal := fun
  | "q_scale" => some ((-((1 / 8) * (Real.log 2)⁻¹) : ℝ) : EReal)
  | _ => none

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjRefIdeal.lean ====
abbrev S32768x1024 : Shape := ⟨2, ![32768, 1024]⟩
abbrev S1024 : Shape := ⟨1, ![1024]⟩
abbrev S1024x7424 : Shape := ⟨2, ![1024, 7424]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7424 : Shape := ⟨2, ![32768, 7424]⟩
abbrev S32768x768 : Shape := ⟨2, ![32768, 768]⟩
abbrev S32768x512 : Shape := ⟨2, ![32768, 512]⟩
abbrev S32768x4096 : Shape := ⟨2, ![32768, 4096]⟩
abbrev S32768x256 : Shape := ⟨2, ![32768, 256]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7424, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7424, .f32⟩
  | .hbm, ⟨20, _⟩ => ⟨S32768x768, .f32⟩
  | .hbm, ⟨21, _⟩ => ⟨S32768x1024, .f32⟩
  | .hbm, ⟨22, _⟩ => ⟨S32768x512, .f32⟩
  | .hbm, ⟨23, _⟩ => ⟨S32768x1024, .f32⟩
  | .hbm, ⟨24, _⟩ => ⟨S32768x4096, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S_, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S32768x256, .f32⟩
  | .hbm, ⟨36, _⟩ => ⟨S32768x256, .f32⟩
  | .hbm, ⟨37, _⟩ => ⟨S32768x256, .bf16⟩
  | .hbm, ⟨38, _⟩ => ⟨S32768x256, .bf16⟩
  | .hbm, ⟨39, _⟩ => ⟨S32768x256, .bf16⟩
  | .hbm, ⟨40, _⟩ => ⟨S32768x4096, .f32⟩
  | .hbm, ⟨41, _⟩ => ⟨S32768x4096, .f32⟩
  | .hbm, ⟨42, _⟩ => ⟨S_, .f32⟩
  | .hbm, ⟨43, _⟩ => ⟨S32768x4096, .f32⟩
  | .hbm, ⟨44, _⟩ => ⟨S32768x4096, .f32⟩
  | .hbm, ⟨45, _⟩ => ⟨S_, .f32⟩
  | .hbm, ⟨46, _⟩ => ⟨S32768x4096, .f32⟩
  | .hbm, ⟨47, _⟩ => ⟨S32768x4096, .f32⟩
  | .hbm, ⟨48, _⟩ => ⟨S32768x4096, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Merge.lean ====
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x4096, .bf16⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x4096, .bf16⟩
  | .local _ .vmem, ⟨11, _⟩ => ⟨S256x4096, .bf16⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeIdeal.lean ====
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S256x1024 : Shape := ⟨2, ![256, 1024]⟩
abbrev S256x256 : Shape := ⟨2, ![256, 256]⟩
abbrev S256x4096 : Shape := ⟨2, ![256, 4096]⟩
abbrev S1x256x1024 : Shape := ⟨3, ![1, 256, 1024]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x4096, .bf16⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x4096, .bf16⟩
  | .local _ .vmem, ⟨11, _⟩ => ⟨S256x4096, .bf16⟩
  | .local _ .vmem, ⟨12, _⟩ => ⟨S4x256x1024, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S32768x256 : Shape := ⟨2, ![32768, 256]⟩
abbrev S32768x4096 : Shape := ⟨2, ![32768, 4096]⟩
abbrev S4x256x1024 : Shape := ⟨3, ![4, 256, 1024]⟩
abbrev S1024x1024 : Shape := ⟨2, ![1024, 1024]⟩
abbrev S32768x1x256 : Shape := ⟨3, ![32768, 1, 256]⟩
abbrev S32768x4x256 : Shape := ⟨3, ![32768, 4, 256]⟩
abbrev S32768x4x1024 : Shape := ⟨3, ![32768, 4, 1024]⟩
abbrev S4x1024x32768 : Shape := ⟨3, ![4, 1024, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x4096, .bf16⟩
  | .hbm, ⟨6, _⟩ => ⟨S4x256x1024, .f32⟩
  | .hbm, ⟨7, _⟩ => ⟨S1024x1024, .f32⟩
  | .hbm, ⟨8, _⟩ => ⟨S32768x1x256, .f32⟩
  | .hbm, ⟨9, _⟩ => ⟨S32768x1x256, .f32⟩
  | .hbm, ⟨10, _⟩ => ⟨S32768x1x256, .f32⟩
  | .hbm, ⟨11, _⟩ => ⟨S32768x1x256, .f32⟩
  | .hbm, ⟨12, _⟩ => ⟨S32768x4x256, .f32⟩
  | .hbm, ⟨13, _⟩ => ⟨S32768x4096, .f32⟩
  | .hbm, ⟨14, _⟩ => ⟨S32768x4x1024, .f32⟩
  | .hbm, ⟨15, _⟩ => ⟨S4x1024x32768, .f32⟩
  | .hbm, ⟨16, _⟩ => ⟨S32768x4x1024, .f32⟩
  | .hbm, ⟨17, _⟩ => ⟨S32768x4x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== FinalNorm.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormIdeal.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FinalNormS.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinalNormSRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InProjS.lean ====
abbrev S256x1024 : Shape := ⟨2, ![256, 1024]⟩
abbrev S1024 : Shape := ⟨1, ![1024]⟩
abbrev S1024x7424 : Shape := ⟨2, ![1024, 7424]⟩
abbrev S1x1024 : Shape := ⟨2, ![1, 1024]⟩
abbrev S256x256 : Shape := ⟨2, ![256, 256]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩
abbrev S1024x256 : Shape := ⟨2, ![1024, 256]⟩
abbrev S1024x1024 : Shape := ⟨2, ![1024, 1024]⟩
abbrev S1024x512 : Shape := ⟨2, ![1024, 512]⟩

abbrev nBuf : Space → Nat
  | .hbm => 14
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x7424, .f32⟩
  | .hbm, ⟨3, _⟩ => ⟨S1024x7424, .bf16⟩
  | .hbm, ⟨4, _⟩ => ⟨S1x1024, .f32⟩
  | .hbm, ⟨5, _⟩ => ⟨S256x256, .bf16⟩
  | .hbm, ⟨6, _⟩ => ⟨S256x256, .f32⟩
  | .hbm, ⟨7, _⟩ => ⟨S256x256, .f32⟩
  | .hbm, ⟨8, _⟩ => ⟨S256x256, .bf16⟩
  | .hbm, ⟨9, _⟩ => ⟨S256x256, .bf16⟩
  | .hbm, ⟨10, _⟩ => ⟨S256x1024, .f32⟩
  | .hbm, ⟨11, _⟩ => ⟨S256x512, .f32⟩
  | .hbm, ⟨12, _⟩ => ⟨S256x1024, .f32⟩
  | .hbm, ⟨13, _⟩ => ⟨S256x4096, .bf16⟩
  | .local _ .vmem, ⟨0, _⟩ => ⟨S256x1024, .f32⟩
  | .local _ .vmem, ⟨1, _⟩ => ⟨S1x1024, .f32⟩
  | .local _ .vmem, ⟨2, _⟩ => ⟨S1024x7424, .bf16⟩
  | .local _ .vmem, ⟨3, _⟩ => ⟨S256x256, .bf16⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x1024, .f32⟩
  | .local _ .vmem, ⟨9, _⟩ => ⟨S256x512, .f32⟩
  | .local _ .vmem, ⟨10, _⟩ => ⟨S256x1024, .f32⟩
  | .local _ .vmem, ⟨11, _⟩ => ⟨S256x4096, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== InProjSIdeal.lean ====
variable {F : FTy → Type} [FloatOps F] [Named F]
def κ : String → Option EReal := fun
  | "q_scale" => some ((-((1 / 8) * (Real.log 2)⁻¹) : ℝ) : EReal)
  | _ => none
-- ==== InProjSRefIdeal.lean ====
abbrev S256x1024 : Shape := ⟨2, ![256, 1024]⟩
abbrev S1024 : Shape := ⟨1, ![1024]⟩
abbrev S1024x7424 : Shape := ⟨2, ![1024, 7424]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x7424 : Shape := ⟨2, ![256, 7424]⟩
abbrev S256x768 : Shape := ⟨2, ![256, 768]⟩
abbrev S256x512 : Shape := ⟨2, ![256, 512]⟩
abbrev S256x4096 : Shape := ⟨2, ![256, 4096]⟩
abbrev S256x256 : Shape := ⟨2, ![256, 256]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x7424, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x7424, .f32⟩
  | .hbm, ⟨20, _⟩ => ⟨S256x768, .f32⟩
  | .hbm, ⟨21, _⟩ => ⟨S256x1024, .f32⟩
  | .hbm, ⟨22, _⟩ => ⟨S256x512, .f32⟩
  | .hbm, ⟨23, _⟩ => ⟨S256x1024, .f32⟩
  | .hbm, ⟨24, _⟩ => ⟨S256x4096, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .bf16⟩
  | .hbm, ⟨38, _⟩ => ⟨S256x256, .bf16⟩
  | .hbm, ⟨39, _⟩ => ⟨S256x256, .bf16⟩
  | .hbm, ⟨40, _⟩ => ⟨S256x4096, .f32⟩
  | .hbm, ⟨41, _⟩ => ⟨S256x4096, .f32⟩
  | .hbm, ⟨42, _⟩ => ⟨S_, .f32⟩
  | .hbm, ⟨43, _⟩ => ⟨S256x4096, .f32⟩
  | .hbm, ⟨44, _⟩ => ⟨S256x4096, .f32⟩
  | .hbm, ⟨45, _⟩ => ⟨S_, .f32⟩
  | .hbm, ⟨46, _⟩ => ⟨S256x4096, .f32⟩
  | .hbm, ⟨47, _⟩ => ⟨S256x4096, .f32⟩
  | .hbm, ⟨48, _⟩ => ⟨S256x4096, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Conv.lean ====
abbrev S2x16384x512 : Shape := ⟨3, ![2, 16384, 512]⟩
abbrev S2x30x256 : Shape := ⟨3, ![2, 30, 256]⟩
abbrev S31x256 : Shape := ⟨2, ![31, 256]⟩
abbrev S256 : Shape := ⟨1, ![256]⟩
abbrev S_ : Shape := ⟨0, ![]⟩
abbrev S2x32x256 : Shape := ⟨3, ![2, 32, 256]⟩
abbrev S32x256 : Shape := ⟨2, ![32, 256]⟩
abbrev S1x256 : Shape := ⟨2, ![1, 256]⟩
abbrev S2x16384x256 : Shape := ⟨3, ![2, 16384, 256]⟩
abbrev S1x512x512 : Shape := ⟨3, ![1, 512, 512]⟩
abbrev S1x32x256 : Shape := ⟨3, ![1, 32, 256]⟩
abbrev S1x512x256 : Shape := ⟨3, ![1, 512, 256]⟩
abbrev S544x256 : Shape := ⟨2, ![544, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S2x16384x512, .f32⟩
  | .hbm, ⟨1, _⟩ => ⟨S2x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S2x32x256, .f32⟩
  | .hbm, ⟨9, _⟩ => ⟨S_, .i32⟩
  | .hbm, ⟨10, _⟩ => ⟨S_, .f32⟩
  | .hbm, ⟨11, _⟩ => ⟨S32x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S2x16384x256, .f32⟩
  | .hbm, ⟨16, _⟩ => ⟨S2x32x256, .f32⟩
  | .local _ .vmem, ⟨0, _⟩ => ⟨S1x512x512, .f32⟩
  | .local _ .vmem, ⟨1, _⟩ => ⟨S1x512x512, .f32⟩
  | .local _ .vmem, ⟨2, _⟩ => ⟨S1x32x256, .f32⟩
  | .local _ .vmem, ⟨3, _⟩ => ⟨S1x32x256, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | .local _ .vmem, ⟨10, _⟩ => ⟨S1x32x256, .f32⟩
  | .local _ .vmem, ⟨11, _⟩ => ⟨S1x32x256, .f32⟩
  | .local _ .vmem, ⟨12, _⟩ => ⟨S544x256, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v233 : BitVec 1 := Scalar.cmpi .eq arg1 c31_i32
  let v234 : BitVec 32 := Scalar.extui v233
  let c0_i32_112 : BitVec 32 := 0#32
  let v235 : BitVec 1 := Scalar.cmpi .ne v234 c0_i32_112
  v235

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvIdeal.lean ====
abbrev S2x16384x512 : Shape := ⟨3, ![2, 16384, 512]⟩
abbrev S2x30x256 : Shape := ⟨3, ![2, 30, 256]⟩
abbrev S31x256 : Shape := ⟨2, ![31, 256]⟩
abbrev S256 : Shape := ⟨1, ![256]⟩
abbrev S_ : Shape := ⟨0, ![]⟩
abbrev S2x32x256 : Shape := ⟨3, ![2, 32, 256]⟩
abbrev S32x256 : Shape := ⟨2, ![32, 256]⟩
abbrev S1x256 : Shape := ⟨2, ![1, 256]⟩
abbrev S2x16384x256 : Shape := ⟨3, ![2, 16384, 256]⟩
abbrev S1x512x512 : Shape := ⟨3, ![1, 512, 512]⟩
abbrev S1x32x256 : Shape := ⟨3, ![1, 32, 256]⟩
abbrev S1x512x256 : Shape := ⟨3, ![1, 512, 256]⟩
abbrev S544x256 : Shape := ⟨2, ![544, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S2x16384x512, .f32⟩
  | .hbm, ⟨1, _⟩ => ⟨S2x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S2x32x256, .f32⟩
  | .hbm, ⟨9, _⟩ => ⟨S_, .i32⟩
  | .hbm, ⟨10, _⟩ => ⟨S_, .f32⟩
  | .hbm, ⟨11, _⟩ => ⟨S32x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S2x16384x256, .f32⟩
  | .hbm, ⟨16, _⟩ => ⟨S2x32x256, .f32⟩
  | .local _ .vmem, ⟨0, _⟩ => ⟨S1x512x512, .f32⟩
  | .local _ .vmem, ⟨1, _⟩ => ⟨S1x512x512, .f32⟩
  | .local _ .vmem, ⟨2, _⟩ => ⟨S1x32x256, .f32⟩
  | .local _ .vmem, ⟨3, _⟩ => ⟨S1x32x256, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | .local _ .vmem, ⟨10, _⟩ => ⟨S1x32x256, .f32⟩
  | .local _ .vmem, ⟨11, _⟩ => ⟨S1x32x256, .f32⟩
  | .local _ .vmem, ⟨12, _⟩ => ⟨S544x256, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v233 : BitVec 1 := Scalar.cmpi .eq arg1 c31_i32
  let v234 : BitVec 32 := Scalar.extui v233
  let c0_i32_112 : BitVec 32 := 0#32
  let v235 : BitVec 1 := Scalar.cmpi .ne v234 c0_i32_112
  v235

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvRefIdeal.lean ====
abbrev S2x16384x512 : Shape := ⟨3, ![2, 16384, 512]⟩
abbrev S2x30x256 : Shape := ⟨3, ![2, 30, 256]⟩
abbrev S31x256 : Shape := ⟨2, ![31, 256]⟩
abbrev S256 : Shape := ⟨1, ![256]⟩
abbrev S2x16384x256 : Shape := ⟨3, ![2, 16384, 256]⟩
abbrev S_ : Shape := ⟨0, ![]⟩
abbrev S2x16414x256 : Shape := ⟨3, ![2, 16414, 256]⟩
abbrev S1x256 : Shape := ⟨2, ![1, 256]⟩
abbrev S1x1x256 : Shape := ⟨3, ![1, 1, 256]⟩
abbrev S2x16384 : Shape := ⟨2, ![2, 16384]⟩
abbrev S2x16384x1 : Shape := ⟨3, ![2, 16384, 1]⟩
abbrev S2x32x256 : Shape := ⟨3, ![2, 32, 256]⟩

abbrev nBuf : Space → Nat
  | .hbm => 279
  | .vmem => 0
  | .smem => 0
  | _ => 0

abbrev hbmTy0_0 (i : Nat) : BufTy := match i % 128 with
  | 0 => ⟨S2x16384x512, .f32⟩
  | 1 => ⟨S2x30x256, .f32⟩
  | 2 => ⟨S31x256, .f32⟩
  | 3 => ⟨S256, .f32⟩
  | 4 => ⟨S256, .f32⟩
  | 5 => ⟨S256, .f32⟩
  | 6 => ⟨S2x16384x256, .f32⟩
  | 7 => ⟨S2x16384x256, .f32⟩
  | 8 => ⟨S2x16384x256, .f32⟩
  | 9 => ⟨S2x16384x256, .f32⟩
  | 10 => ⟨S_, .f32⟩
  | 11 => ⟨S2x16384x256, .f32⟩
  | 12 => ⟨S2x16384x256, .f32⟩
  | 13 => ⟨S_, .f32⟩
  | 14 => ⟨S2x16384x256, .f32⟩
  | 15 => ⟨S2x16384x256, .f32⟩
  | 16 => ⟨S2x16384x256, .f32⟩
  | 17 => ⟨S2x16414x256, .f32⟩
  | 18 => ⟨S2x16384x256, .f32⟩
  | 19 => ⟨S1x256, .f32⟩
  | 20 => ⟨S256, .f32⟩
  | 21 => ⟨S1x1x256, .f32⟩
  | 22 => ⟨S2x16384x256, .f32⟩
  | 23 => ⟨S2x16384x256, .f32⟩
  | 24 => ⟨S_, .f32⟩
  | 25 => ⟨S2x16384x256, .f32⟩
  | 26 => ⟨S2x16384x256, .f32⟩
  | 27 => ⟨S2x16384x256, .f32⟩
  | 28 => ⟨S1x256, .f32⟩
  | 29 => ⟨S256, .f32⟩
  | 30 => ⟨S1x1x256, .f32⟩
  | 31 => ⟨S2x16384x256, .f32⟩
  | 32 => ⟨S2x16384x256, .f32⟩
  | 33 => ⟨S2x16384x256, .f32⟩
  | 34 => ⟨S2x16384x256, .f32⟩
  | 35 => ⟨S1x256, .f32⟩
  | 36 => ⟨S256, .f32⟩
  | 37 => ⟨S1x1x256, .f32⟩
  | 38 => ⟨S2x16384x256, .f32⟩
  | 39 => ⟨S2x16384x256, .f32⟩
  | 40 => ⟨S2x16384x256, .f32⟩
  | 41 => ⟨S2x16384x256, .f32⟩
  | 42 => ⟨S1x256, .f32⟩
  | 43 => ⟨S256, .f32⟩
  | 44 => ⟨S1x1x256, .f32⟩
  | 45 => ⟨S2x16384x256, .f32⟩
  | 46 => ⟨S2x16384x256, .f32⟩
  | 47 => ⟨S2x16384x256, .f32⟩
  | 48 => ⟨S2x16384x256, .f32⟩
  | 49 => ⟨S1x256, .f32⟩
  | 50 => ⟨S256, .f32⟩
  | 51 => ⟨S1x1x256, .f32⟩
  | 52 => ⟨S2x16384x256, .f32⟩
  | 53 => ⟨S2x16384x256, .f32⟩
  | 54 => ⟨S2x16384x256, .f32⟩
  | 55 => ⟨S2x16384x256, .f32⟩
  | 56 => ⟨S1x256, .f32⟩
  | 57 => ⟨S256, .f32⟩
  | 58 => ⟨S1x1x256, .f32⟩
  | 59 => ⟨S2x16384x256, .f32⟩
  | 60 => ⟨S2x16384x256, .f32⟩
  | 61 => ⟨S2x16384x256, .f32⟩
  | 62 => ⟨S2x16384x256, .f32⟩
  | 63 => ⟨S1x256, .f32⟩
  | 64 => ⟨S256, .f32⟩
  | 65 => ⟨S1x1x256, .f32⟩
  | 66 => ⟨S2x16384x256, .f32⟩
  | 67 => ⟨S2x16384x256, .f32⟩
  | 68 => ⟨S2x16384x256, .f32⟩
  | 69 => ⟨S2x16384x256, .f32⟩
  | 70 => ⟨S1x256, .f32⟩
  | 71 => ⟨S256, .f32⟩
  | 72 => ⟨S1x1x256, .f32⟩
  | 73 => ⟨S2x16384x256, .f32⟩
  | 74 => ⟨S2x16384x256, .f32⟩
  | 75 => ⟨S2x16384x256, .f32⟩
  | 76 => ⟨S2x16384x256, .f32⟩
  | 77 => ⟨S1x256, .f32⟩
  | 78 => ⟨S256, .f32⟩
  | 79 => ⟨S1x1x256, .f32⟩
  | 80 => ⟨S2x16384x256, .f32⟩
  | 81 => ⟨S2x16384x256, .f32⟩
  | 82 => ⟨S2x16384x256, .f32⟩
  | 83 => ⟨S2x16384x256, .f32⟩
  | 84 => ⟨S1x256, .f32⟩
  | 85 => ⟨S256, .f32⟩
  | 86 => ⟨S1x1x256, .f32⟩
  | 87 => ⟨S2x16384x256, .f32⟩
  | 88 => ⟨S2x16384x256, .f32⟩
  | 89 => ⟨S2x16384x256, .f32⟩
  | 90 => ⟨S2x16384x256, .f32⟩
  | 91 => ⟨S1x256, .f32⟩
  | 92 => ⟨S256, .f32⟩
  | 93 => ⟨S1x1x256, .f32⟩
  | 94 => ⟨S2x16384x256, .f32⟩
  | 95 => ⟨S2x16384x256, .f32⟩
  | 96 => ⟨S2x16384x256, .f32⟩
  | 97 => ⟨S2x16384x256, .f32⟩
  | 98 => ⟨S1x256, .f32⟩
  | 99 => ⟨S256, .f32⟩
  | 100 => ⟨S1x1x256, .f32⟩
  | 101 => ⟨S2x16384x256, .f32⟩
  | 102 => ⟨S2x16384x256, .f32⟩
  | 103 => ⟨S2x16384x256, .f32⟩
  | 104 => ⟨S2x16384x256, .f32⟩
  | 105 => ⟨S1x256, .f32⟩
  | 106 => ⟨S256, .f32⟩
  | 107 => ⟨S1x1x256, .f32⟩
  | 108 => ⟨S2x16384x256, .f32⟩
  | 109 => ⟨S2x16384x256, .f32⟩
  | 110 => ⟨S2x16384x256, .f32⟩
  | 111 => ⟨S2x16384x256, .f32⟩
  | 112 => ⟨S1x256, .f32⟩
  | 113 => ⟨S256, .f32⟩
  | 114 => ⟨S1x1x256, .f32⟩
  | 115 => ⟨S2x16384x256, .f32⟩
  | 116 => ⟨S2x16384x256, .f32⟩
  | 117 => ⟨S2x16384x256, .f32⟩
  | 118 => ⟨S2x16384x256, .f32⟩
  | 119 => ⟨S1x256, .f32⟩
  | 120 => ⟨S256, .f32⟩
  | 121 => ⟨S1x1x256, .f32⟩
  | 122 => ⟨S2x16384x256, .f32⟩
  | 123 => ⟨S2x16384x256, .f32⟩
  | 124 => ⟨S2x16384x256, .f32⟩
  | 125 => ⟨S2x16384x256, .f32⟩
  | 126 => ⟨S1x256, .f32⟩
  | 127 => ⟨S256, .f32⟩
  | _ => ⟨S2x16384x512, .f32⟩

abbrev hbmTy0_1 (i : Nat) : BufTy := match i % 128 with
  | 0 => ⟨S1x1x256, .f32⟩
  | 1 => ⟨S2x16384x256, .f32⟩
  | 2 => ⟨S2x16384x256, .f32⟩
  | 3 => ⟨S2x16384x256, .f32⟩
  | 4 => ⟨S2x16384x256, .f32⟩
  | 5 => ⟨S1x256, .f32⟩
  | 6 => ⟨S256, .f32⟩
  | 7 => ⟨S1x1x256, .f32⟩
  | 8 => ⟨S2x16384x256, .f32⟩
  | 9 => ⟨S2x16384x256, .f32⟩
  | 10 => ⟨S2x16384x256, .f32⟩
  | 11 => ⟨S2x16384x256, .f32⟩
  | 12 => ⟨S1x256, .f32⟩
  | 13 => ⟨S256, .f32⟩
  | 14 => ⟨S1x1x256, .f32⟩
  | 15 => ⟨S2x16384x256, .f32⟩
  | 16 => ⟨S2x16384x256, .f32⟩
  | 17 => ⟨S2x16384x256, .f32⟩
  | 18 => ⟨S2x16384x256, .f32⟩
  | 19 => ⟨S1x256, .f32⟩
  | 20 => ⟨S256, .f32⟩
  | 21 => ⟨S1x1x256, .f32⟩
  | 22 => ⟨S2x16384x256, .f32⟩
  | 23 => ⟨S2x16384x256, .f32⟩
  | 24 => ⟨S2x16384x256, .f32⟩
  | 25 => ⟨S2x16384x256, .f32⟩
  | 26 => ⟨S1x256, .f32⟩
  | 27 => ⟨S256, .f32⟩
  | 28 => ⟨S1x1x256, .f32⟩
  | 29 => ⟨S2x16384x256, .f32⟩
  | 30 => ⟨S2x16384x256, .f32⟩
  | 31 => ⟨S2x16384x256, .f32⟩
  | 32 => ⟨S2x16384x256, .f32⟩
  | 33 => ⟨S1x256, .f32⟩
  | 34 => ⟨S256, .f32⟩
  | 35 => ⟨S1x1x256, .f32⟩
  | 36 => ⟨S2x16384x256, .f32⟩
  | 37 => ⟨S2x16384x256, .f32⟩
  | 38 => ⟨S2x16384x256, .f32⟩
  | 39 => ⟨S2x16384x256, .f32⟩
  | 40 => ⟨S1x256, .f32⟩
  | 41 => ⟨S256, .f32⟩
  | 42 => ⟨S1x1x256, .f32⟩
  | 43 => ⟨S2x16384x256, .f32⟩
  | 44 => ⟨S2x16384x256, .f32⟩
  | 45 => ⟨S2x16384x256, .f32⟩
  | 46 => ⟨S2x16384x256, .f32⟩
  | 47 => ⟨S1x256, .f32⟩
  | 48 => ⟨S256, .f32⟩
  | 49 => ⟨S1x1x256, .f32⟩
  | 50 => ⟨S2x16384x256, .f32⟩
  | 51 => ⟨S2x16384x256, .f32⟩
  | 52 => ⟨S2x16384x256, .f32⟩
  | 53 => ⟨S2x16384x256, .f32⟩
  | 54 => ⟨S1x256, .f32⟩
  | 55 => ⟨S256, .f32⟩
  | 56 => ⟨S1x1x256, .f32⟩
  | 57 => ⟨S2x16384x256, .f32⟩
  | 58 => ⟨S2x16384x256, .f32⟩
  | 59 => ⟨S2x16384x256, .f32⟩
  | 60 => ⟨S2x16384x256, .f32⟩
  | 61 => ⟨S1x256, .f32⟩
  | 62 => ⟨S256, .f32⟩
  | 63 => ⟨S1x1x256, .f32⟩
  | 64 => ⟨S2x16384x256, .f32⟩
  | 65 => ⟨S2x16384x256, .f32⟩
  | 66 => ⟨S2x16384x256, .f32⟩
  | 67 => ⟨S2x16384x256, .f32⟩
  | 68 => ⟨S1x256, .f32⟩
  | 69 => ⟨S256, .f32⟩
  | 70 => ⟨S1x1x256, .f32⟩
  | 71 => ⟨S2x16384x256, .f32⟩
  | 72 => ⟨S2x16384x256, .f32⟩
  | 73 => ⟨S2x16384x256, .f32⟩
  | 74 => ⟨S2x16384x256, .f32⟩
  | 75 => ⟨S1x256, .f32⟩
  | 76 => ⟨S256, .f32⟩
  | 77 => ⟨S1x1x256, .f32⟩
  | 78 => ⟨S2x16384x256, .f32⟩
  | 79 => ⟨S2x16384x256, .f32⟩
  | 80 => ⟨S2x16384x256, .f32⟩
  | 81 => ⟨S2x16384x256, .f32⟩
  | 82 => ⟨S1x256, .f32⟩
  | 83 => ⟨S256, .f32⟩
  | 84 => ⟨S1x1x256, .f32⟩
  | 85 => ⟨S2x16384x256, .f32⟩
  | 86 => ⟨S2x16384x256, .f32⟩
  | 87 => ⟨S2x16384x256, .f32⟩
  | 88 => ⟨S2x16384x256, .f32⟩
  | 89 => ⟨S1x256, .f32⟩
  | 90 => ⟨S256, .f32⟩
  | 91 => ⟨S1x1x256, .f32⟩
  | 92 => ⟨S2x16384x256, .f32⟩
  | 93 => ⟨S2x16384x256, .f32⟩
  | 94 => ⟨S2x16384x256, .f32⟩
  | 95 => ⟨S2x16384x256, .f32⟩
  | 96 => ⟨S1x256, .f32⟩
  | 97 => ⟨S256, .f32⟩
  | 98 => ⟨S1x1x256, .f32⟩
  | 99 => ⟨S2x16384x256, .f32⟩
  | 100 => ⟨S2x16384x256, .f32⟩
  | 101 => ⟨S2x16384x256, .f32⟩
  | 102 => ⟨S2x16384x256, .f32⟩
  | 103 => ⟨S1x256, .f32⟩
  | 104 => ⟨S256, .f32⟩
  | 105 => ⟨S1x1x256, .f32⟩
  | 106 => ⟨S2x16384x256, .f32⟩
  | 107 => ⟨S2x16384x256, .f32⟩
  | 108 => ⟨S2x16384x256, .f32⟩
  | 109 => ⟨S1x1x256, .f32⟩
  | 110 => ⟨S2x16384x256, .f32⟩
  | 111 => ⟨S2x16384x256, .f32⟩
  | 112 => ⟨S_, .f32⟩
  | 113 => ⟨S2x16384, .f32⟩
  | 114 => ⟨S2x16384x1, .f32⟩
  | 115 => ⟨S_, .f32⟩
  | 116 => ⟨S2x16384x1, .f32⟩
  | 117 => ⟨S2x16384x1, .f32⟩
  | 118 => ⟨S2x16384x256, .f32⟩
  | 119 => ⟨S2x16384x256, .f32⟩
  | 120 => ⟨S2x16384x256, .f32⟩
  | 121 => ⟨S_, .f32⟩
  | 122 => ⟨S2x16384, .f32⟩
  | 123 => ⟨S2x16384x1, .f32⟩
  | 124 => ⟨S_, .f32⟩
  | 125 => ⟨S2x16384x1, .f32⟩
  | 126 => ⟨S2x16384x1, .f32⟩
  | 127 => ⟨S2x16384x256, .f32⟩
  | _ => ⟨S2x16384x512, .f32⟩

abbrev hbmTy0_2 (i : Nat) : BufTy := match i % 128 with
  | 0 => ⟨S2x16384x256, .f32⟩
  | 1 => ⟨S_, .f32⟩
  | 2 => ⟨S2x16384x1, .f32⟩
  | 3 => ⟨S2x16384x1, .f32⟩
  | 4 => ⟨S2x16384x1, .f32⟩
  | 5 => ⟨S2x16384x256, .f32⟩
  | 6 => ⟨S2x16384x256, .f32⟩
  | 7 => ⟨S1x1x256, .f32⟩
  | 8 => ⟨S2x16384x256, .f32⟩
  | 9 => ⟨S2x16384x256, .f32⟩
  | 10 => ⟨S1x1x256, .f32⟩
  | 11 => ⟨S2x16384x256, .f32⟩
  | 12 => ⟨S2x16384x256, .f32⟩
  | 13 => ⟨S2x16384x256, .f32⟩
  | 14 => ⟨S2x16384x256, .f32⟩
  | 15 => ⟨S_, .f32⟩
  | 16 => ⟨S2x16384x256, .f32⟩
  | 17 => ⟨S2x16384x256, .f32⟩
  | 18 => ⟨S_, .f32⟩
  | 19 => ⟨S2x16384x256, .f32⟩
  | 20 => ⟨S2x16384x256, .f32⟩
  | 21 => ⟨S2x16384x256, .f32⟩
  | 22 => ⟨S2x32x256, .f32⟩
  | _ => ⟨S2x16384x512, .f32⟩

abbrev hbmTy (i : Nat) : BufTy := match i / 128 with
  | 0 => hbmTy0_0 i
  | 1 => hbmTy0_1 i
  | 2 => hbmTy0_2 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_6 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== ConvS.lean ====
abbrev S8x32x512 : Shape := ⟨3, ![8, 32, 512]⟩
abbrev S8x30x256 : Shape := ⟨3, ![8, 30, 256]⟩
abbrev S31x256 : Shape := ⟨2, ![31, 256]⟩
abbrev S256 : Shape := ⟨1, ![256]⟩
abbrev S_ : Shape := ⟨0, ![]⟩
abbrev S8x32x256 : Shape := ⟨3, ![8, 32, 256]⟩
abbrev S32x256 : Shape := ⟨2, ![32, 256]⟩
abbrev S1x256 : Shape := ⟨2, ![1, 256]⟩
abbrev S1x32x512 : Shape := ⟨3, ![1, 32, 512]⟩
abbrev S1x32x256 : Shape := ⟨3, ![1, 32, 256]⟩
abbrev S64x256 : Shape := ⟨2, ![64, 256]⟩
abbrev S32x512 : Shape := ⟨2, ![32, 512]⟩
abbrev S32 : Shape := ⟨1, ![32]⟩
abbrev S32x1 : Shape := ⟨2, ![32, 1]⟩

abbrev nBuf : Space → Nat
  | .hbm => 17
  | .vmem => 13
  | .smem => 0
  | _ => 0

abbrev bufTy : (tb : Table) → Fin (tcTables nBuf tb) → BufTy
  | .hbm, ⟨0, _⟩ => ⟨S8x32x512, .f32⟩
  | .hbm, ⟨1, _⟩ => ⟨S8x30x256, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S_, .f32⟩
  | .hbm, ⟨8, _⟩ => ⟨S8x32x256, .f32⟩
  | .hbm, ⟨9, _⟩ => ⟨S_, .i32⟩
  | .hbm, ⟨10, _⟩ => ⟨S_, .f32⟩
  | .hbm, ⟨11, _⟩ => ⟨S32x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S8x32x256, .f32⟩
  | .hbm, ⟨16, _⟩ => ⟨S8x32x256, .f32⟩
  | .local _ .vmem, ⟨0, _⟩ => ⟨S1x32x512, .f32⟩
  | .local _ .vmem, ⟨1, _⟩ => ⟨S1x32x512, .f32⟩
  | .local _ .vmem, ⟨2, _⟩ => ⟨S1x32x256, .f32⟩
  | .local _ .vmem, ⟨3, _⟩ => ⟨S1x32x256, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S64x256, .f32⟩
  | _, _ => ⟨S8x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_113 : BitVec 32 := 0#32
  let v233 : BitVec 1 := Scalar.cmpi .eq arg1 c0_i32_113
  let v234 : BitVec 32 := Scalar.extui v233
  let c0_i32_114 : BitVec 32 := 0#32
  let v235 : BitVec 1 := Scalar.cmpi .ne v234 c0_i32_114
  v235

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvSRefIdeal.lean ====
abbrev S8x32x512 : Shape := ⟨3, ![8, 32, 512]⟩
abbrev S8x30x256 : Shape := ⟨3, ![8, 30, 256]⟩
abbrev S31x256 : Shape := ⟨2, ![31, 256]⟩
abbrev S256 : Shape := ⟨1, ![256]⟩
abbrev S8x32x256 : Shape := ⟨3, ![8, 32, 256]⟩
abbrev S_ : Shape := ⟨0, ![]⟩
abbrev S8x62x256 : Shape := ⟨3, ![8, 62, 256]⟩
abbrev S1x256 : Shape := ⟨2, ![1, 256]⟩
abbrev S1x1x256 : Shape := ⟨3, ![1, 1, 256]⟩
abbrev S8x32 : Shape := ⟨2, ![8, 32]⟩
abbrev S8x32x1 : Shape := ⟨3, ![8, 32, 1]⟩

abbrev nBuf : Space → Nat
  | .hbm => 279
  | .vmem => 0
  | .smem => 0
  | _ => 0

abbrev hbmTy0_0 (i : Nat) : BufTy := match i % 128 with
  | 0 => ⟨S8x32x512, .f32⟩
  | 1 => ⟨S8x30x256, .f32⟩
  | 2 => ⟨S31x256, .f32⟩
  | 3 => ⟨S256, .f32⟩
  | 4 => ⟨S256, .f32⟩
  | 5 => ⟨S256, .f32⟩
  | 6 => ⟨S8x32x256, .f32⟩
  | 7 => ⟨S8x32x256, .f32⟩
  | 8 => ⟨S8x32x256, .f32⟩
  | 9 => ⟨S8x32x256, .f32⟩
  | 10 => ⟨S_, .f32⟩
  | 11 => ⟨S8x32x256, .f32⟩
  | 12 => ⟨S8x32x256, .f32⟩
  | 13 => ⟨S_, .f32⟩
  | 14 => ⟨S8x32x256, .f32⟩
  | 15 => ⟨S8x32x256, .f32⟩
  | 16 => ⟨S8x32x256, .f32⟩
  | 17 => ⟨S8x62x256, .f32⟩
  | 18 => ⟨S8x32x256, .f32⟩
  | 19 => ⟨S1x256, .f32⟩
  | 20 => ⟨S256, .f32⟩
  | 21 => ⟨S1x1x256, .f32⟩
  | 22 => ⟨S8x32x256, .f32⟩
  | 23 => ⟨S8x32x256, .f32⟩
  | 24 => ⟨S_, .f32⟩
  | 25 => ⟨S8x32x256, .f32⟩
  | 26 => ⟨S8x32x256, .f32⟩
  | 27 => ⟨S8x32x256, .f32⟩
  | 28 => ⟨S1x256, .f32⟩
  | 29 => ⟨S256, .f32⟩
  | 30 => ⟨S1x1x256, .f32⟩
  | 31 => ⟨S8x32x256, .f32⟩
  | 32 => ⟨S8x32x256, .f32⟩
  | 33 => ⟨S8x32x256, .f32⟩
  | 34 => ⟨S8x32x256, .f32⟩
  | 35 => ⟨S1x256, .f32⟩
  | 36 => ⟨S256, .f32⟩
  | 37 => ⟨S1x1x256, .f32⟩
  | 38 => ⟨S8x32x256, .f32⟩
  | 39 => ⟨S8x32x256, .f32⟩
  | 40 => ⟨S8x32x256, .f32⟩
  | 41 => ⟨S8x32x256, .f32⟩
  | 42 => ⟨S1x256, .f32⟩
  | 43 => ⟨S256, .f32⟩
  | 44 => ⟨S1x1x256, .f32⟩
  | 45 => ⟨S8x32x256, .f32⟩
  | 46 => ⟨S8x32x256, .f32⟩
  | 47 => ⟨S8x32x256, .f32⟩
  | 48 => ⟨S8x32x256, .f32⟩
  | 49 => ⟨S1x256, .f32⟩
  | 50 => ⟨S256, .f32⟩
  | 51 => ⟨S1x1x256, .f32⟩
  | 52 => ⟨S8x32x256, .f32⟩
  | 53 => ⟨S8x32x256, .f32⟩
  | 54 => ⟨S8x32x256, .f32⟩
  | 55 => ⟨S8x32x256, .f32⟩
  | 56 => ⟨S1x256, .f32⟩
  | 57 => ⟨S256, .f32⟩
  | 58 => ⟨S1x1x256, .f32⟩
  | 59 => ⟨S8x32x256, .f32⟩
  | 60 => ⟨S8x32x256, .f32⟩
  | 61 => ⟨S8x32x256, .f32⟩
  | 62 => ⟨S8x32x256, .f32⟩
  | 63 => ⟨S1x256, .f32⟩
  | 64 => ⟨S256, .f32⟩
  | 65 => ⟨S1x1x256, .f32⟩
  | 66 => ⟨S8x32x256, .f32⟩
  | 67 => ⟨S8x32x256, .f32⟩
  | 68 => ⟨S8x32x256, .f32⟩
  | 69 => ⟨S8x32x256, .f32⟩
  | 70 => ⟨S1x256, .f32⟩
  | 71 => ⟨S256, .f32⟩
  | 72 => ⟨S1x1x256, .f32⟩
  | 73 => ⟨S8x32x256, .f32⟩
  | 74 => ⟨S8x32x256, .f32⟩
  | 75 => ⟨S8x32x256, .f32⟩
  | 76 => ⟨S8x32x256, .f32⟩
  | 77 => ⟨S1x256, .f32⟩
  | 78 => ⟨S256, .f32⟩
  | 79 => ⟨S1x1x256, .f32⟩
  | 80 => ⟨S8x32x256, .f32⟩
  | 81 => ⟨S8x32x256, .f32⟩
  | 82 => ⟨S8x32x256, .f32⟩
  | 83 => ⟨S8x32x256, .f32⟩
  | 84 => ⟨S1x256, .f32⟩
  | 85 => ⟨S256, .f32⟩
  | 86 => ⟨S1x1x256, .f32⟩
  | 87 => ⟨S8x32x256, .f32⟩
  | 88 => ⟨S8x32x256, .f32⟩
  | 89 => ⟨S8x32x256, .f32⟩
  | 90 => ⟨S8x32x256, .f32⟩
  | 91 => ⟨S1x256, .f32⟩
  | 92 => ⟨S256, .f32⟩
  | 93 => ⟨S1x1x256, .f32⟩
  | 94 => ⟨S8x32x256, .f32⟩
  | 95 => ⟨S8x32x256, .f32⟩
  | 96 => ⟨S8x32x256, .f32⟩
  | 97 => ⟨S8x32x256, .f32⟩
  | 98 => ⟨S1x256, .f32⟩
  | 99 => ⟨S256, .f32⟩
  | 100 => ⟨S1x1x256, .f32⟩
  | 101 => ⟨S8x32x256, .f32⟩
  | 102 => ⟨S8x32x256, .f32⟩
  | 103 => ⟨S8x32x256, .f32⟩
  | 104 => ⟨S8x32x256, .f32⟩
  | 105 => ⟨S1x256, .f32⟩
  | 106 => ⟨S256, .f32⟩
  | 107 => ⟨S1x1x256, .f32⟩
  | 108 => ⟨S8x32x256, .f32⟩
  | 109 => ⟨S8x32x256, .f32⟩
  | 110 => ⟨S8x32x256, .f32⟩
  | 111 => ⟨S8x32x256, .f32⟩
  | 112 => ⟨S1x256, .f32⟩
  | 113 => ⟨S256, .f32⟩
  | 114 => ⟨S1x1x256, .f32⟩
  | 115 => ⟨S8x32x256, .f32⟩
  | 116 => ⟨S8x32x256, .f32⟩
  | 117 => ⟨S8x32x256, .f32⟩
  | 118 => ⟨S8x32x256, .f32⟩
  | 119 => ⟨S1x256, .f32⟩
  | 120 => ⟨S256, .f32⟩
  | 121 => ⟨S1x1x256, .f32⟩
  | 122 => ⟨S8x32x256, .f32⟩
  | 123 => ⟨S8x32x256, .f32⟩
  | 124 => ⟨S8x32x256, .f32⟩
  | 125 => ⟨S8x32x256, .f32⟩
  | 126 => ⟨S1x256, .f32⟩
  | 127 => ⟨S256, .f32⟩
  | _ => ⟨S8x32x512, .f32⟩

abbrev hbmTy0_1 (i : Nat) : BufTy := match i % 128 with
  | 0 => ⟨S1x1x256, .f32⟩
  | 1 => ⟨S8x32x256, .f32⟩
  | 2 => ⟨S8x32x256, .f32⟩
  | 3 => ⟨S8x32x256, .f32⟩
  | 4 => ⟨S8x32x256, .f32⟩
  | 5 => ⟨S1x256, .f32⟩
  | 6 => ⟨S256, .f32⟩
  | 7 => ⟨S1x1x256, .f32⟩
  | 8 => ⟨S8x32x256, .f32⟩
  | 9 => ⟨S8x32x256, .f32⟩
  | 10 => ⟨S8x32x256, .f32⟩
  | 11 => ⟨S8x32x256, .f32⟩
  | 12 => ⟨S1x256, .f32⟩
  | 13 => ⟨S256, .f32⟩
  | 14 => ⟨S1x1x256, .f32⟩
  | 15 => ⟨S8x32x256, .f32⟩
  | 16 => ⟨S8x32x256, .f32⟩
  | 17 => ⟨S8x32x256, .f32⟩
  | 18 => ⟨S8x32x256, .f32⟩
  | 19 => ⟨S1x256, .f32⟩
  | 20 => ⟨S256, .f32⟩
  | 21 => ⟨S1x1x256, .f32⟩
  | 22 => ⟨S8x32x256, .f32⟩
  | 23 => ⟨S8x32x256, .f32⟩
  | 24 => ⟨S8x32x256, .f32⟩
  | 25 => ⟨S8x32x256, .f32⟩
  | 26 => ⟨S1x256, .f32⟩
  | 27 => ⟨S256, .f32⟩
  | 28 => ⟨S1x1x256, .f32⟩
  | 29 => ⟨S8x32x256, .f32⟩
  | 30 => ⟨S8x32x256, .f32⟩
  | 31 => ⟨S8x32x256, .f32⟩
  | 32 => ⟨S8x32x256, .f32⟩
  | 33 => ⟨S1x256, .f32⟩
  | 34 => ⟨S256, .f32⟩
  | 35 => ⟨S1x1x256, .f32⟩
  | 36 => ⟨S8x32x256, .f32⟩
  | 37 => ⟨S8x32x256, .f32⟩
  | 38 => ⟨S8x32x256, .f32⟩
  | 39 => ⟨S8x32x256, .f32⟩
  | 40 => ⟨S1x256, .f32⟩
  | 41 => ⟨S256, .f32⟩
  | 42 => ⟨S1x1x256, .f32⟩
  | 43 => ⟨S8x32x256, .f32⟩
  | 44 => ⟨S8x32x256, .f32⟩
  | 45 => ⟨S8x32x256, .f32⟩
  | 46 => ⟨S8x32x256, .f32⟩
  | 47 => ⟨S1x256, .f32⟩
  | 48 => ⟨S256, .f32⟩
  | 49 => ⟨S1x1x256, .f32⟩
  | 50 => ⟨S8x32x256, .f32⟩
  | 51 => ⟨S8x32x256, .f32⟩
  | 52 => ⟨S8x32x256, .f32⟩
  | 53 => ⟨S8x32x256, .f32⟩
  | 54 => ⟨S1x256, .f32⟩
  | 55 => ⟨S256, .f32⟩
  | 56 => ⟨S1x1x256, .f32⟩
  | 57 => ⟨S8x32x256, .f32⟩
  | 58 => ⟨S8x32x256, .f32⟩
  | 59 => ⟨S8x32x256, .f32⟩
  | 60 => ⟨S8x32x256, .f32⟩
  | 61 => ⟨S1x256, .f32⟩
  | 62 => ⟨S256, .f32⟩
  | 63 => ⟨S1x1x256, .f32⟩
  | 64 => ⟨S8x32x256, .f32⟩
  | 65 => ⟨S8x32x256, .f32⟩
  | 66 => ⟨S8x32x256, .f32⟩
  | 67 => ⟨S8x32x256, .f32⟩
  | 68 => ⟨S1x256, .f32⟩
  | 69 => ⟨S256, .f32⟩
  | 70 => ⟨S1x1x256, .f32⟩
  | 71 => ⟨S8x32x256, .f32⟩
  | 72 => ⟨S8x32x256, .f32⟩
  | 73 => ⟨S8x32x256, .f32⟩
  | 74 => ⟨S8x32x256, .f32⟩
  | 75 => ⟨S1x256, .f32⟩
  | 76 => ⟨S256, .f32⟩
  | 77 => ⟨S1x1x256, .f32⟩
  | 78 => ⟨S8x32x256, .f32⟩
  | 79 => ⟨S8x32x256, .f32⟩
  | 80 => ⟨S8x32x256, .f32⟩
  | 81 => ⟨S8x32x256, .f32⟩
  | 82 => ⟨S1x256, .f32⟩
  | 83 => ⟨S256, .f32⟩
  | 84 => ⟨S1x1x256, .f32⟩
  | 85 => ⟨S8x32x256, .f32⟩
  | 86 => ⟨S8x32x256, .f32⟩
  | 87 => ⟨S8x32x256, .f32⟩
  | 88 => ⟨S8x32x256, .f32⟩
  | 89 => ⟨S1x256, .f32⟩
  | 90 => ⟨S256, .f32⟩
  | 91 => ⟨S1x1x256, .f32⟩
  | 92 => ⟨S8x32x256, .f32⟩
  | 93 => ⟨S8x32x256, .f32⟩
  | 94 => ⟨S8x32x256, .f32⟩
  | 95 => ⟨S8x32x256, .f32⟩
  | 96 => ⟨S1x256, .f32⟩
  | 97 => ⟨S256, .f32⟩
  | 98 => ⟨S1x1x256, .f32⟩
  | 99 => ⟨S8x32x256, .f32⟩
  | 100 => ⟨S8x32x256, .f32⟩
  | 101 => ⟨S8x32x256, .f32⟩
  | 102 => ⟨S8x32x256, .f32⟩
  | 103 => ⟨S1x256, .f32⟩
  | 104 => ⟨S256, .f32⟩
  | 105 => ⟨S1x1x256, .f32⟩
  | 106 => ⟨S8x32x256, .f32⟩
  | 107 => ⟨S8x32x256, .f32⟩
  | 108 => ⟨S8x32x256, .f32⟩
  | 109 => ⟨S1x1x256, .f32⟩
  | 110 => ⟨S8x32x256, .f32⟩
  | 111 => ⟨S8x32x256, .f32⟩
  | 112 => ⟨S_, .f32⟩
  | 113 => ⟨S8x32, .f32⟩
  | 114 => ⟨S8x32x1, .f32⟩
  | 115 => ⟨S_, .f32⟩
  | 116 => ⟨S8x32x1, .f32⟩
  | 117 => ⟨S8x32x1, .f32⟩
  | 118 => ⟨S8x32x256, .f32⟩
  | 119 => ⟨S8x32x256, .f32⟩
  | 120 => ⟨S8x32x256, .f32⟩
  | 121 => ⟨S_, .f32⟩
  | 122 => ⟨S8x32, .f32⟩
  | 123 => ⟨S8x32x1, .f32⟩
  | 124 => ⟨S_, .f32⟩
  | 125 => ⟨S8x32x1, .f32⟩
  | 126 => ⟨S8x32x1, .f32⟩
  | 127 => ⟨S8x32x256, .f32⟩
  | _ => ⟨S8x32x512, .f32⟩

abbrev hbmTy0_2 (i : Nat) : BufTy := match i % 128 with
  | 0 => ⟨S8x32x256, .f32⟩
  | 1 => ⟨S_, .f32⟩
  | 2 => ⟨S8x32x1, .f32⟩
  | 3 => ⟨S8x32x1, .f32⟩
  | 4 => ⟨S8x32x1, .f32⟩
  | 5 => ⟨S8x32x256, .f32⟩
  | 6 => ⟨S8x32x256, .f32⟩
  | 7 => ⟨S1x1x256, .f32⟩
  | 8 => ⟨S8x32x256, .f32⟩
  | 9 => ⟨S8x32x256, .f32⟩
  | 10 => ⟨S1x1x256, .f32⟩
  | 11 => ⟨S8x32x256, .f32⟩
  | 12 => ⟨S8x32x256, .f32⟩
  | 13 => ⟨S8x32x256, .f32⟩
  | 14 => ⟨S8x32x256, .f32⟩
  | 15 => ⟨S_, .f32⟩
  | 16 => ⟨S8x32x256, .f32⟩
  | 17 => ⟨S8x32x256, .f32⟩
  | 18 => ⟨S_, .f32⟩
  | 19 => ⟨S8x32x256, .f32⟩
  | 20 => ⟨S8x32x256, .f32⟩
  | 21 => ⟨S8x32x256, .f32⟩
  | 22 => ⟨S8x32x256, .f32⟩
  | _ => ⟨S8x32x512, .f32⟩

abbrev hbmTy (i : Nat) : BufTy := match i / 128 with
  | 0 => hbmTy0_0 i
  | 1 => hbmTy0_1 i
  | 2 => hbmTy0_2 i
  | _ => ⟨S8x32x512, .f32⟩

abbrev bufTy : (tb : Table) → Fin (tcTables nBuf tb) → BufTy
  | .hbm, ⟨i, _⟩ => hbmTy i
  | _, _ => ⟨S8x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_2 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_4 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_6 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩

abbrev nD : Nat := 1
abbrev τ : Topo := Topo.v7x

variable {F : FTy → Type} [FloatOps F]
-- ==== MergeS.lean ====
abbrev S256x1024 : Shape := ⟨2, ![256, 1024]⟩
abbrev S256x256 : Shape := ⟨2, ![256, 256]⟩
abbrev S256x4096 : Shape := ⟨2, ![256, 4096]⟩
abbrev S4x256x1024 : Shape := ⟨3, ![4, 256, 1024]⟩
abbrev S1024x1024 : Shape := ⟨2, ![1024, 1024]⟩
abbrev S1x256x1024 : Shape := ⟨3, ![1, 256, 1024]⟩

abbrev nBuf : Space → Nat
  | .hbm => 11
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x4096, .bf16⟩
  | .hbm, ⟨6, _⟩ => ⟨S4x256x1024, .f32⟩
  | .hbm, ⟨7, _⟩ => ⟨S1024x1024, .f32⟩
  | .hbm, ⟨8, _⟩ => ⟨S4x256x1024, .bf16⟩
  | .hbm, ⟨9, _⟩ => ⟨S1024x1024, .bf16⟩
  | .hbm, ⟨10, _⟩ => ⟨S256x1024, .f32⟩
  | .local _ .vmem, ⟨0, _⟩ => ⟨S256x1024, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x4096, .bf16⟩
  | .local _ .vmem, ⟨6, _⟩ => ⟨S4x256x1024, .bf16⟩
  | .local _ .vmem, ⟨7, _⟩ => ⟨S1024x1024, .bf16⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MergeSRefIdeal.lean ====
abbrev S256x1024 : Shape := ⟨2, ![256, 1024]⟩
abbrev S256x256 : Shape := ⟨2, ![256, 256]⟩
abbrev S256x4096 : Shape := ⟨2, ![256, 4096]⟩
abbrev S4x256x1024 : Shape := ⟨3, ![4, 256, 1024]⟩
abbrev S1024x1024 : Shape := ⟨2, ![1024, 1024]⟩
abbrev S256x1x256 : Shape := ⟨3, ![256, 1, 256]⟩
abbrev S256x4x256 : Shape := ⟨3, ![256, 4, 256]⟩
abbrev S256x4x1024 : Shape := ⟨3, ![256, 4, 1024]⟩
abbrev S4x1024x256 : Shape := ⟨3, ![4, 1024, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x4096, .bf16⟩
  | .hbm, ⟨6, _⟩ => ⟨S4x256x1024, .f32⟩
  | .hbm, ⟨7, _⟩ => ⟨S1024x1024, .f32⟩
  | .hbm, ⟨8, _⟩ => ⟨S256x1x256, .f32⟩
  | .hbm, ⟨9, _⟩ => ⟨S256x1x256, .f32⟩
  | .hbm, ⟨10, _⟩ => ⟨S256x1x256, .f32⟩
  | .hbm, ⟨11, _⟩ => ⟨S256x1x256, .f32⟩
  | .hbm, ⟨12, _⟩ => ⟨S256x4x256, .f32⟩
  | .hbm, ⟨13, _⟩ => ⟨S256x4096, .f32⟩
  | .hbm, ⟨14, _⟩ => ⟨S256x4x1024, .f32⟩
  | .hbm, ⟨15, _⟩ => ⟨S4x1024x256, .f32⟩
  | .hbm, ⟨16, _⟩ => ⟨S256x4x1024, .f32⟩
  | .hbm, ⟨17, _⟩ => ⟨S256x4x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== HgrnS.lean ====
abbrev S8x32x1024 : Shape := ⟨3, ![8, 32, 1024]⟩
abbrev S8x4x64x64 : Shape := ⟨4, ![8, 4, 64, 64]⟩
abbrev S256 : Shape := ⟨1, ![256]⟩
abbrev S64 : Shape := ⟨1, ![64]⟩
abbrev S4x4 : Shape := ⟨2, ![4, 4]⟩
abbrev S_ : Shape := ⟨0, ![]⟩
abbrev S8x4x64x1x64 : Shape := ⟨5, ![8, 4, 64, 1, 64]⟩
abbrev S1x4x1x4x1 : Shape := ⟨5, ![1, 4, 1, 4, 1]⟩
abbrev S8x4x64x4x64 : Shape := ⟨5, ![8, 4, 64, 4, 64]⟩
abbrev S8x256x256 : Shape := ⟨3, ![8, 256, 256]⟩
abbrev S1x256 : Shape := ⟨2, ![1, 256]⟩
abbrev S1x64 : Shape := ⟨2, ![1, 64]⟩
abbrev S4x64 : Shape := ⟨2, ![4, 64]⟩
abbrev S8x32x256 : Shape := ⟨3, ![8, 32, 256]⟩
abbrev S1x32x1024 : Shape := ⟨3, ![1, 32, 1024]⟩
abbrev S1x256x256 : Shape := ⟨3, ![1, 256, 256]⟩
abbrev S1x32x256 : Shape := ⟨3, ![1, 32, 256]⟩
abbrev S256x256 : Shape := ⟨2, ![256, 256]⟩
abbrev S32x1024 : Shape := ⟨2, ![32, 1024]⟩
abbrev S32x256 : Shape := ⟨2, ![32, 256]⟩
abbrev S32x32 : Shape := ⟨2, ![32, 32]⟩
abbrev S24x256 : Shape := ⟨2, ![24, 256]⟩
abbrev S16x256 : Shape := ⟨2, ![16, 256]⟩
abbrev S8x256 : Shape := ⟨2, ![8, 256]⟩
abbrev S640x256 : Shape := ⟨2, ![640, 256]⟩

abbrev nBuf : Space → Nat
  | .hbm => 29
  | .vmem => 12
  | .smem => 0
  | _ => 0

abbrev bufTy : (tb : Table) → Fin (tcTables nBuf tb) → BufTy
  | .hbm, ⟨0, _⟩ => ⟨S8x32x1024, .f32⟩
  | .hbm, ⟨1, _⟩ => ⟨S8x4x64x64, .f32⟩
  | .hbm, ⟨2, _⟩ => ⟨S256, .f32⟩
  | .hbm, ⟨3, _⟩ => ⟨S64, .f32⟩
  | .hbm, ⟨4, _⟩ => ⟨S8x4x64x64, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S8x4x64x1x64, .f32⟩
  | .hbm, ⟨13, _⟩ => ⟨S1x4x1x4x1, .f32⟩
  | .hbm, ⟨14, _⟩ => ⟨S8x4x64x4x64, .f32⟩
  | .hbm, ⟨15, _⟩ => ⟨S8x4x64x4x64, .f32⟩
  | .hbm, ⟨16, _⟩ => ⟨S8x4x64x4x64, .f32⟩
  | .hbm, ⟨17, _⟩ => ⟨S8x256x256, .f32⟩
  | .hbm, ⟨18, _⟩ => ⟨S256, .f32⟩
  | .hbm, ⟨19, _⟩ => ⟨S1x256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S1x64, .f32⟩
  | .hbm, ⟨24, _⟩ => ⟨S4x64, .f32⟩
  | .hbm, ⟨25, _⟩ => ⟨S256, .f32⟩
  | .hbm, ⟨26, _⟩ => ⟨S1x256, .f32⟩
  | .hbm, ⟨27, _⟩ => ⟨S8x32x256, .f32⟩
  | .hbm, ⟨28, _⟩ => ⟨S8x256x256, .f32⟩
  | .local _ .vmem, ⟨0, _⟩ => ⟨S1x32x1024, .f32⟩
  | .local _ .vmem, ⟨1, _⟩ => ⟨S1x32x1024, .f32⟩
  | .local _ .vmem, ⟨2, _⟩ => ⟨S1x256x256, .f32⟩
  | .local _ .vmem, ⟨3, _⟩ => ⟨S1x256x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x32x256, .f32⟩
  | .local _ .vmem, ⟨8, _⟩ => ⟨S1x32x256, .f32⟩
  | .local _ .vmem, ⟨9, _⟩ => ⟨S1x256x256, .f32⟩
  | .local _ .vmem, ⟨10, _⟩ => ⟨S1x256x256, .f32⟩
  | .local _ .vmem, ⟨11, _⟩ => ⟨S256x256, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_111 : BitVec 32 := 0#32
  let v1122 : BitVec 1 := Scalar.cmpi .eq arg1 c0_i32_111
  let v1123 : BitVec 32 := Scalar.extui v1122
  let c0_i32_112 : BitVec 32 := 0#32
  let v1124 : BitVec 1 := Scalar.cmpi .ne v1123 c0_i32_112
  v1124

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HgrnSIdeal.lean ====
abbrev S8x32x1024 : Shape := ⟨3, ![8, 32, 1024]⟩
abbrev S8x4x64x64 : Shape := ⟨4, ![8, 4, 64, 64]⟩
abbrev S256 : Shape := ⟨1, ![256]⟩
abbrev S64 : Shape := ⟨1, ![64]⟩
abbrev S4x4 : Shape := ⟨2, ![4, 4]⟩
abbrev S_ : Shape := ⟨0, ![]⟩
abbrev S8x4x64x1x64 : Shape := ⟨5, ![8, 4, 64, 1, 64]⟩
abbrev S1x4x1x4x1 : Shape := ⟨5, ![1, 4, 1, 4, 1]⟩
abbrev S8x4x64x4x64 : Shape := ⟨5, ![8, 4, 64, 4, 64]⟩
abbrev S8x256x256 : Shape := ⟨3, ![8, 256, 256]⟩
abbrev S1x256 : Shape := ⟨2, ![1, 256]⟩
abbrev S1x64 : Shape := ⟨2, ![1, 64]⟩
abbrev S4x64 : Shape := ⟨2, ![4, 64]⟩
abbrev S8x32x256 : Shape := ⟨3, ![8, 32, 256]⟩
abbrev S1x32x1024 : Shape := ⟨3, ![1, 32, 1024]⟩
abbrev S1x256x256 : Shape := ⟨3, ![1, 256, 256]⟩
abbrev S1x32x256 : Shape := ⟨3, ![1, 32, 256]⟩
abbrev S256x256 : Shape := ⟨2, ![256, 256]⟩
abbrev S32x1024 : Shape := ⟨2, ![32, 1024]⟩
abbrev S32x256 : Shape := ⟨2, ![32, 256]⟩
abbrev S32x32 : Shape := ⟨2, ![32, 32]⟩
abbrev S24x256 : Shape := ⟨2, ![24, 256]⟩
abbrev S16x256 : Shape := ⟨2, ![16, 256]⟩
abbrev S8x256 : Shape := ⟨2, ![8, 256]⟩
abbrev S640x256 : Shape := ⟨2, ![640, 256]⟩

abbrev nBuf : Space → Nat
  | .hbm => 29
  | .vmem => 12
  | .smem => 0
  | _ => 0

abbrev bufTy : (tb : Table) → Fin (tcTables nBuf tb) → BufTy
  | .hbm, ⟨0, _⟩ => ⟨S8x32x1024, .f32⟩
  | .hbm, ⟨1, _⟩ => ⟨S8x4x64x64, .f32⟩
  | .hbm, ⟨2, _⟩ => ⟨S256, .f32⟩
  | .hbm, ⟨3, _⟩ => ⟨S64, .f32⟩
  | .hbm, ⟨4, _⟩ => ⟨S8x4x64x64, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S8x4x64x1x64, .f32⟩
  | .hbm, ⟨13, _⟩ => ⟨S1x4x1x4x1, .f32⟩
  | .hbm, ⟨14, _⟩ => ⟨S8x4x64x4x64, .f32⟩
  | .hbm, ⟨15, _⟩ => ⟨S8x4x64x4x64, .f32⟩
  | .hbm, ⟨16, _⟩ => ⟨S8x4x64x4x64, .f32⟩
  | .hbm, ⟨17, _⟩ => ⟨S8x256x256, .f32⟩
  | .hbm, ⟨18, _⟩ => ⟨S256, .f32⟩
  | .hbm, ⟨19, _⟩ => ⟨S1x256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S1x64, .f32⟩
  | .hbm, ⟨24, _⟩ => ⟨S4x64, .f32⟩
  | .hbm, ⟨25, _⟩ => ⟨S256, .f32⟩
  | .hbm, ⟨26, _⟩ => ⟨S1x256, .f32⟩
  | .hbm, ⟨27, _⟩ => ⟨S8x32x256, .f32⟩
  | .hbm, ⟨28, _⟩ => ⟨S8x256x256, .f32⟩
  | .local _ .vmem, ⟨0, _⟩ => ⟨S1x32x1024, .f32⟩
  | .local _ .vmem, ⟨1, _⟩ => ⟨S1x32x1024, .f32⟩
  | .local _ .vmem, ⟨2, _⟩ => ⟨S1x256x256, .f32⟩
  | .local _ .vmem, ⟨3, _⟩ => ⟨S1x256x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x32x256, .f32⟩
  | .local _ .vmem, ⟨8, _⟩ => ⟨S1x32x256, .f32⟩
  | .local _ .vmem, ⟨9, _⟩ => ⟨S1x256x256, .f32⟩
  | .local _ .vmem, ⟨10, _⟩ => ⟨S1x256x256, .f32⟩
  | .local _ .vmem, ⟨11, _⟩ => ⟨S256x256, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_111 : BitVec 32 := 0#32
  let v1122 : BitVec 1 := Scalar.cmpi .eq arg1 c0_i32_111
  let v1123 : BitVec 32 := Scalar.extui v1122
  let c0_i32_112 : BitVec 32 := 0#32
  let v1124 : BitVec 1 := Scalar.cmpi .ne v1123 c0_i32_112
  v1124

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HgrnSRefIdeal.lean ====
abbrev S8x32x1024 : Shape := ⟨3, ![8, 32, 1024]⟩
abbrev S8x4x64x64 : Shape := ⟨4, ![8, 4, 64, 64]⟩
abbrev S256 : Shape := ⟨1, ![256]⟩
abbrev S64 : Shape := ⟨1, ![64]⟩
abbrev S8x32x256 : Shape := ⟨3, ![8, 32, 256]⟩
abbrev S_ : Shape := ⟨0, ![]⟩
abbrev S1x1x256 : Shape := ⟨3, ![1, 1, 256]⟩
abbrev S8x1x256 : Shape := ⟨3, ![8, 1, 256]⟩
abbrev S8x4x64x1 : Shape := ⟨4, ![8, 4, 64, 1]⟩
abbrev S8x32x4x64 : Shape := ⟨4, ![8, 32, 4, 64]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x4x1x4x1 : Shape := ⟨5, ![1, 4, 1, 4, 1]⟩
abbrev S8x4x64x1x64 : Shape := ⟨5, ![8, 4, 64, 1, 64]⟩
abbrev S8x4x64x4x64 : Shape := ⟨5, ![8, 4, 64, 4, 64]⟩
abbrev S8x256x256 : Shape := ⟨3, ![8, 256, 256]⟩

abbrev nBuf : Space → Nat
  | .hbm => 78
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x4x64x64, .f32⟩
  | .hbm, ⟨2, _⟩ => ⟨S256, .f32⟩
  | .hbm, ⟨3, _⟩ => ⟨S64, .f32⟩
  | .hbm, ⟨4, _⟩ => ⟨S8x32x256, .f32⟩
  | .hbm, ⟨5, _⟩ => ⟨S8x32x256, .f32⟩
  | .hbm, ⟨6, _⟩ => ⟨S8x32x256, .f32⟩
  | .hbm, ⟨7, _⟩ => ⟨S8x32x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S8x32x256, .f32⟩
  | .hbm, ⟨12, _⟩ => ⟨S_, .f32⟩
  | .hbm, ⟨13, _⟩ => ⟨S8x32x256, .f32⟩
  | .hbm, ⟨14, _⟩ => ⟨S8x32x256, .f32⟩
  | .hbm, ⟨15, _⟩ => ⟨S8x32x256, .f32⟩
  | .hbm, ⟨16, _⟩ => ⟨S8x32x256, .f32⟩
  | .hbm, ⟨17, _⟩ => ⟨S8x32x256, .i1⟩
  | .hbm, ⟨18, _⟩ => ⟨S8x32x256, .f32⟩
  | .hbm, ⟨19, _⟩ => ⟨S8x32x256, .f32⟩
  | .hbm, ⟨20, _⟩ => ⟨S8x32x256, .f32⟩
  | .hbm, ⟨21, _⟩ => ⟨S8x32x256, .f32⟩
  | .hbm, ⟨22, _⟩ => ⟨S8x32x256, .f32⟩
  | .hbm, ⟨23, _⟩ => ⟨S8x32x256, .f32⟩
  | .hbm, ⟨24, _⟩ => ⟨S8x32x256, .f32⟩
  | .hbm, ⟨25, _⟩ => ⟨S8x32x256, .f32⟩
  | .hbm, ⟨26, _⟩ => ⟨S8x32x256, .f32⟩
  | .hbm, ⟨27, _⟩ => ⟨S1x1x256, .f32⟩
  | .hbm, ⟨28, _⟩ => ⟨S8x32x256, .f32⟩
  | .hbm, ⟨29, _⟩ => ⟨S8x32x256, .f32⟩
  | .hbm, ⟨30, _⟩ => ⟨S1x1x256, .f32⟩
  | .hbm, ⟨31, _⟩ => ⟨S8x32x256, .f32⟩
  | .hbm, ⟨32, _⟩ => ⟨S8x32x256, .f32⟩
  | .hbm, ⟨33, _⟩ => ⟨S8x32x256, .f32⟩
  | .hbm, ⟨34, _⟩ => ⟨S8x32x256, .f32⟩
  | .hbm, ⟨35, _⟩ => ⟨S8x32x256, .i1⟩
  | .hbm, ⟨36, _⟩ => ⟨S8x32x256, .f32⟩
  | .hbm, ⟨37, _⟩ => ⟨S8x32x256, .f32⟩
  | .hbm, ⟨38, _⟩ => ⟨S8x32x256, .f32⟩
  | .hbm, ⟨39, _⟩ => ⟨S8x32x256, .f32⟩
  | .hbm, ⟨40, _⟩ => ⟨S8x32x256, .f32⟩
  | .hbm, ⟨41, _⟩ => ⟨S8x32x256, .f32⟩
  | .hbm, ⟨42, _⟩ => ⟨S8x32x256, .f32⟩
  | .hbm, ⟨43, _⟩ => ⟨S8x32x256, .f32⟩
  | .hbm, ⟨44, _⟩ => ⟨S8x32x256, .f32⟩
  | .hbm, ⟨45, _⟩ => ⟨S8x32x256, .f32⟩
  | .hbm, ⟨46, _⟩ => ⟨S_, .f32⟩
  | .hbm, ⟨47, _⟩ => ⟨S_, .f32⟩
  | .hbm, ⟨48, _⟩ => ⟨S8x32x256, .f32⟩
  | .hbm, ⟨49, _⟩ => ⟨S8x1x256, .f32⟩
  | .hbm, ⟨50, _⟩ => ⟨S8x1x256, .f32⟩
  | .hbm, ⟨51, _⟩ => ⟨S8x4x64x1, .f32⟩
  | .hbm, ⟨52, _⟩ => ⟨S8x4x64x64, .f32⟩
  | .hbm, ⟨53, _⟩ => ⟨S8x4x64x64, .f32⟩
  | .hbm, ⟨54, _⟩ => ⟨S8x32x256, .f32⟩
  | .hbm, ⟨55, _⟩ => ⟨S8x32x256, .f32⟩
  | .hbm, ⟨56, _⟩ => ⟨S8x32x256, .f32⟩
  | .hbm, ⟨57, _⟩ => ⟨S8x32x256, .f32⟩
  | .hbm, ⟨58, _⟩ => ⟨S8x32x4x64, .f32⟩
  | .hbm, ⟨59, _⟩ => ⟨S8x32x4x64, .f32⟩
  | .hbm, ⟨60, _⟩ => ⟨S8x4x64x64, .f32⟩
  | .hbm, ⟨61, _⟩ => ⟨S8x4x64x64, .f32⟩
  | .hbm, ⟨62, _⟩ => ⟨S4, .i32⟩
  | .hbm, ⟨63, _⟩ => ⟨S4x1, .i32⟩
  | .hbm, ⟨64, _⟩ => ⟨S1x4, .i32⟩
  | .hbm, ⟨65, _⟩ => ⟨S4x4, .i32⟩
  | .hbm, ⟨66, _⟩ => ⟨S4x4, .i32⟩
  | .hbm, ⟨67, _⟩ => ⟨S4x4, .i1⟩
  | .hbm, ⟨68, _⟩ => ⟨S1x4x1x4x1, .i1⟩
  | .hbm, ⟨69, _⟩ => ⟨S8x4x64x64, .f32⟩
  | .hbm, ⟨70, _⟩ => ⟨S8x4x64x1x64, .f32⟩
  | .hbm, ⟨71, _⟩ => ⟨S_, .f32⟩
  | .hbm, ⟨72, _⟩ => ⟨S_, .f32⟩
  | .hbm, ⟨73, _⟩ => ⟨S8x4x64x4x64, .i1⟩
  | .hbm, ⟨74, _⟩ => ⟨S8x4x64x4x64, .f32⟩
  | .hbm, ⟨75, _⟩ => ⟨S8x4x64x4x64, .f32⟩
  | .hbm, ⟨76, _⟩ => ⟨S8x4x64x4x64, .f32⟩
  | .hbm, ⟨77, _⟩ => ⟨S8x256x256, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== RwkvS.lean ====
abbrev S8x32x1024 : Shape := ⟨3, ![8, 32, 1024]⟩
abbrev S8x4x64x64 : Shape := ⟨4, ![8, 4, 64, 64]⟩
abbrev S8x1024 : Shape := ⟨2, ![8, 1024]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S4x64 : Shape := ⟨2, ![4, 64]⟩
abbrev S4x4 : Shape := ⟨2, ![4, 4]⟩
abbrev S_ : Shape := ⟨0, ![]⟩
abbrev S8x4x64x1x64 : Shape := ⟨5, ![8, 4, 64, 1, 64]⟩
abbrev S1x4x1x4x1 : Shape := ⟨5, ![1, 4, 1, 4, 1]⟩
abbrev S8x4x64x4x64 : Shape := ⟨5, ![8, 4, 64, 4, 64]⟩
abbrev S8x256x256 : Shape := ⟨3, ![8, 256, 256]⟩
abbrev S8x1x1024 : Shape := ⟨3, ![8, 1, 1024]⟩
abbrev S1x1024 : Shape := ⟨2, ![1, 1024]⟩
abbrev S1x256 : Shape := ⟨2, ![1, 256]⟩
abbrev S8x32x256 : Shape := ⟨3, ![8, 32, 256]⟩
abbrev S1x32x1024 : Shape := ⟨3, ![1, 32, 1024]⟩
abbrev S1x1x1024 : Shape := ⟨3, ![1, 1, 1024]⟩
abbrev S1x256x256 : Shape := ⟨3, ![1, 256, 256]⟩
abbrev S1x32x256 : Shape := ⟨3, ![1, 32, 256]⟩
abbrev S256x256 : Shape := ⟨2, ![256, 256]⟩
abbrev S32x1024 : Shape := ⟨2, ![32, 1024]⟩
abbrev S32x256 : Shape := ⟨2, ![32, 256]⟩
abbrev S32x128 : Shape := ⟨2, ![32, 128]⟩
abbrev S32x32 : Shape := ⟨2, ![32, 32]⟩
abbrev S128x128 : Shape := ⟨2, ![128, 128]⟩

abbrev nBuf : Space → Nat
  | .hbm => 45
  | .vmem => 25
  | .smem => 0
  | _ => 0

abbrev bufTy : (tb : Table) → Fin (tcTables nBuf tb) → BufTy
  | .hbm, ⟨0, _⟩ => ⟨S8x32x1024, .f32⟩
  | .hbm, ⟨1, _⟩ => ⟨S8x4x64x64, .f32⟩
  | .hbm, ⟨2, _⟩ => ⟨S8x1024, .f32⟩
  | .hbm, ⟨3, _⟩ => ⟨S1024, .f32⟩
  | .hbm, ⟨4, _⟩ => ⟨S256, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S128x256, .f32⟩
  | .hbm, ⟨9, _⟩ => ⟨S256, .f32⟩
  | .hbm, ⟨10, _⟩ => ⟨S256, .f32⟩
  | .hbm, ⟨11, _⟩ => ⟨S4x64, .f32⟩
  | .hbm, ⟨12, _⟩ => ⟨S256, .f32⟩
  | .hbm, ⟨13, _⟩ => ⟨S256, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S8x4x64x1x64, .f32⟩
  | .hbm, ⟨22, _⟩ => ⟨S1x4x1x4x1, .f32⟩
  | .hbm, ⟨23, _⟩ => ⟨S8x4x64x4x64, .f32⟩
  | .hbm, ⟨24, _⟩ => ⟨S8x4x64x4x64, .f32⟩
  | .hbm, ⟨25, _⟩ => ⟨S8x4x64x4x64, .f32⟩
  | .hbm, ⟨26, _⟩ => ⟨S8x256x256, .f32⟩
  | .hbm, ⟨27, _⟩ => ⟨S_, .f32⟩
  | .hbm, ⟨28, _⟩ => ⟨S64x256, .f32⟩
  | .hbm, ⟨29, _⟩ => ⟨S128x256, .f32⟩
  | .hbm, ⟨30, _⟩ => ⟨S_, .f32⟩
  | .hbm, ⟨31, _⟩ => ⟨S64x256, .f32⟩
  | .hbm, ⟨32, _⟩ => ⟨S128x256, .f32⟩
  | .hbm, ⟨33, _⟩ => ⟨S8x1x1024, .f32⟩
  | .hbm, ⟨34, _⟩ => ⟨S1x1024, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S8x32x256, .f32⟩
  | .hbm, ⟨43, _⟩ => ⟨S8x256x256, .f32⟩
  | .hbm, ⟨44, _⟩ => ⟨S8x1x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x256, .f32⟩
  | .local _ .vmem, ⟨5, _⟩ => ⟨S1x256x256, .f32⟩
  | .local _ .vmem, ⟨6, _⟩ => ⟨S1x1024, .f32⟩
  | .local _ .vmem, ⟨7, _⟩ => ⟨S1x256, .f32⟩
  | .local _ .vmem, ⟨8, _⟩ => ⟨S128x256, .f32⟩
  | .local _ .vmem, ⟨9, _⟩ => ⟨S1x256, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x32x256, .f32⟩
  | .local _ .vmem, ⟨18, _⟩ => ⟨S1x32x256, .f32⟩
  | .local _ .vmem, ⟨19, _⟩ => ⟨S1x256x256, .f32⟩
  | .local _ .vmem, ⟨20, _⟩ => ⟨S1x256x256, .f32⟩
  | .local _ .vmem, ⟨21, _⟩ => ⟨S1x1x1024, .f32⟩
  | .local _ .vmem, ⟨22, _⟩ => ⟨S1x1x1024, .f32⟩
  | .local _ .vmem, ⟨23, _⟩ => ⟨S256x256, .f32⟩
  | .local _ .vmem, ⟨24, _⟩ => ⟨S1x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_198 : BitVec 32 := 0#32
  let v716 : BitVec 1 := Scalar.cmpi .eq arg1 c0_i32_198
  let v717 : BitVec 32 := Scalar.extui v716
  let c0_i32_199 : BitVec 32 := 0#32
  let v718 : BitVec 1 := Scalar.cmpi .ne v717 c0_i32_199
  v718

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== RwkvSIdeal.lean ====
abbrev S8x32x1024 : Shape := ⟨3, ![8, 32, 1024]⟩
abbrev S8x4x64x64 : Shape := ⟨4, ![8, 4, 64, 64]⟩
abbrev S8x1024 : Shape := ⟨2, ![8, 1024]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S4x64 : Shape := ⟨2, ![4, 64]⟩
abbrev S4x4 : Shape := ⟨2, ![4, 4]⟩
abbrev S_ : Shape := ⟨0, ![]⟩
abbrev S8x4x64x1x64 : Shape := ⟨5, ![8, 4, 64, 1, 64]⟩
abbrev S1x4x1x4x1 : Shape := ⟨5, ![1, 4, 1, 4, 1]⟩
abbrev S8x4x64x4x64 : Shape := ⟨5, ![8, 4, 64, 4, 64]⟩
abbrev S8x256x256 : Shape := ⟨3, ![8, 256, 256]⟩
abbrev S8x1x1024 : Shape := ⟨3, ![8, 1, 1024]⟩
abbrev S1x1024 : Shape := ⟨2, ![1, 1024]⟩
abbrev S1x256 : Shape := ⟨2, ![1, 256]⟩
abbrev S8x32x256 : Shape := ⟨3, ![8, 32, 256]⟩
abbrev S1x32x1024 : Shape := ⟨3, ![1, 32, 1024]⟩
abbrev S1x1x1024 : Shape := ⟨3, ![1, 1, 1024]⟩
abbrev S1x256x256 : Shape := ⟨3, ![1, 256, 256]⟩
abbrev S1x32x256 : Shape := ⟨3, ![1, 32, 256]⟩
abbrev S256x256 : Shape := ⟨2, ![256, 256]⟩
abbrev S32x1024 : Shape := ⟨2, ![32, 1024]⟩
abbrev S32x256 : Shape := ⟨2, ![32, 256]⟩
abbrev S32x128 : Shape := ⟨2, ![32, 128]⟩
abbrev S32x32 : Shape := ⟨2, ![32, 32]⟩
abbrev S128x128 : Shape := ⟨2, ![128, 128]⟩

abbrev nBuf : Space → Nat
  | .hbm => 45
  | .vmem => 25
  | .smem => 0
  | _ => 0

abbrev bufTy : (tb : Table) → Fin (tcTables nBuf tb) → BufTy
  | .hbm, ⟨0, _⟩ => ⟨S8x32x1024, .f32⟩
  | .hbm, ⟨1, _⟩ => ⟨S8x4x64x64, .f32⟩
  | .hbm, ⟨2, _⟩ => ⟨S8x1024, .f32⟩
  | .hbm, ⟨3, _⟩ => ⟨S1024, .f32⟩
  | .hbm, ⟨4, _⟩ => ⟨S256, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S128x256, .f32⟩
  | .hbm, ⟨9, _⟩ => ⟨S256, .f32⟩
  | .hbm, ⟨10, _⟩ => ⟨S256, .f32⟩
  | .hbm, ⟨11, _⟩ => ⟨S4x64, .f32⟩
  | .hbm, ⟨12, _⟩ => ⟨S256, .f32⟩
  | .hbm, ⟨13, _⟩ => ⟨S256, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S8x4x64x1x64, .f32⟩
  | .hbm, ⟨22, _⟩ => ⟨S1x4x1x4x1, .f32⟩
  | .hbm, ⟨23, _⟩ => ⟨S8x4x64x4x64, .f32⟩
  | .hbm, ⟨24, _⟩ => ⟨S8x4x64x4x64, .f32⟩
  | .hbm, ⟨25, _⟩ => ⟨S8x4x64x4x64, .f32⟩
  | .hbm, ⟨26, _⟩ => ⟨S8x256x256, .f32⟩
  | .hbm, ⟨27, _⟩ => ⟨S_, .f32⟩
  | .hbm, ⟨28, _⟩ => ⟨S64x256, .f32⟩
  | .hbm, ⟨29, _⟩ => ⟨S128x256, .f32⟩
  | .hbm, ⟨30, _⟩ => ⟨S_, .f32⟩
  | .hbm, ⟨31, _⟩ => ⟨S64x256, .f32⟩
  | .hbm, ⟨32, _⟩ => ⟨S128x256, .f32⟩
  | .hbm, ⟨33, _⟩ => ⟨S8x1x1024, .f32⟩
  | .hbm, ⟨34, _⟩ => ⟨S1x1024, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S8x32x256, .f32⟩
  | .hbm, ⟨43, _⟩ => ⟨S8x256x256, .f32⟩
  | .hbm, ⟨44, _⟩ => ⟨S8x1x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x256, .f32⟩
  | .local _ .vmem, ⟨5, _⟩ => ⟨S1x256x256, .f32⟩
  | .local _ .vmem, ⟨6, _⟩ => ⟨S1x1024, .f32⟩
  | .local _ .vmem, ⟨7, _⟩ => ⟨S1x256, .f32⟩
  | .local _ .vmem, ⟨8, _⟩ => ⟨S128x256, .f32⟩
  | .local _ .vmem, ⟨9, _⟩ => ⟨S1x256, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x32x256, .f32⟩
  | .local _ .vmem, ⟨18, _⟩ => ⟨S1x32x256, .f32⟩
  | .local _ .vmem, ⟨19, _⟩ => ⟨S1x256x256, .f32⟩
  | .local _ .vmem, ⟨20, _⟩ => ⟨S1x256x256, .f32⟩
  | .local _ .vmem, ⟨21, _⟩ => ⟨S1x1x1024, .f32⟩
  | .local _ .vmem, ⟨22, _⟩ => ⟨S1x1x1024, .f32⟩
  | .local _ .vmem, ⟨23, _⟩ => ⟨S256x256, .f32⟩
  | .local _ .vmem, ⟨24, _⟩ => ⟨S1x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_198 : BitVec 32 := 0#32
  let v716 : BitVec 1 := Scalar.cmpi .eq arg1 c0_i32_198
  let v717 : BitVec 32 := Scalar.extui v716
  let c0_i32_199 : BitVec 32 := 0#32
  let v718 : BitVec 1 := Scalar.cmpi .ne v717 c0_i32_199
  v718

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x32x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== RwkvSRefIdeal.lean ====
abbrev S8x32x1024 : Shape := ⟨3, ![8, 32, 1024]⟩
abbrev S8x4x64x64 : Shape := ⟨4, ![8, 4, 64, 64]⟩
abbrev S8x1024 : Shape := ⟨2, ![8, 1024]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S4x64 : Shape := ⟨2, ![4, 64]⟩
abbrev S8x1x1024 : Shape := ⟨3, ![8, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x4x64x64, .f32⟩
  | .hbm, ⟨2, _⟩ => ⟨S8x1024, .f32⟩
  | .hbm, ⟨3, _⟩ => ⟨S1024, .f32⟩
  | .hbm, ⟨4, _⟩ => ⟨S256, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S128x256, .f32⟩
  | .hbm, ⟨9, _⟩ => ⟨S256, .f32⟩
  | .hbm, ⟨10, _⟩ => ⟨S256, .f32⟩
  | .hbm, ⟨11, _⟩ => ⟨S4x64, .f32⟩
  | .hbm, ⟨12, _⟩ => ⟨S256, .f32⟩
  | .hbm, ⟨13, _⟩ => ⟨S256, .f32⟩
  | .hbm, ⟨14, _⟩ => ⟨S8x1x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩

abbrev nD : Nat := 1
abbrev τ : Topo := Topo.v7x

variable {F : FTy → Type} [FloatOps F]
-- ==== Hgrn.lean ====
abbrev S2x16384x1024 : Shape := ⟨3, ![2, 16384, 1024]⟩
abbrev S2x4x64x64 : Shape := ⟨4, ![2, 4, 64, 64]⟩
abbrev S256 : Shape := ⟨1, ![256]⟩
abbrev S64 : Shape := ⟨1, ![64]⟩
abbrev S4x4 : Shape := ⟨2, ![4, 4]⟩
abbrev S_ : Shape := ⟨0, ![]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S1x256 : Shape := ⟨2, ![1, 256]⟩
abbrev S1x64 : Shape := ⟨2, ![1, 64]⟩
abbrev S4x64 : Shape := ⟨2, ![4, 64]⟩
abbrev S2x16384x256 : Shape := ⟨3, ![2, 16384, 256]⟩
abbrev S1x64x1024 : Shape := ⟨3, ![1, 64, 1024]⟩
abbrev S1x256x256 : Shape := ⟨3, ![1, 256, 256]⟩
abbrev S1x64x256 : Shape := ⟨3, ![1, 64, 256]⟩
abbrev S256x256 : Shape := ⟨2, ![256, 256]⟩
abbrev S64x1024 : Shape := ⟨2, ![64, 1024]⟩
abbrev S64x256 : Shape := ⟨2, ![64, 256]⟩
abbrev S64x64 : Shape := ⟨2, ![64, 64]⟩
abbrev S56x256 : Shape := ⟨2, ![56, 256]⟩
abbrev S48x256 : Shape := ⟨2, ![48, 256]⟩
abbrev S40x256 : Shape := ⟨2, ![40, 256]⟩
abbrev S32x256 : Shape := ⟨2, ![32, 256]⟩
abbrev S24x256 : Shape := ⟨2, ![24, 256]⟩
abbrev S16x256 : Shape := ⟨2, ![16, 256]⟩
abbrev S8x256 : Shape := ⟨2, ![8, 256]⟩
abbrev S2304x256 : Shape := ⟨2, ![2304, 256]⟩

abbrev nBuf : Space → Nat
  | .hbm => 29
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x4x64x64, .f32⟩
  | .hbm, ⟨2, _⟩ => ⟨S256, .f32⟩
  | .hbm, ⟨3, _⟩ => ⟨S64, .f32⟩
  | .hbm, ⟨4, _⟩ => ⟨S2x4x64x64, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .f32⟩
  | .hbm, ⟨12, _⟩ => ⟨S2x4x64x1x64, .f32⟩
  | .hbm, ⟨13, _⟩ => ⟨S1x4x1x4x1, .f32⟩
  | .hbm, ⟨14, _⟩ => ⟨S2x4x64x4x64, .f32⟩
  | .hbm, ⟨15, _⟩ => ⟨S2x4x64x4x64, .f32⟩
  | .hbm, ⟨16, _⟩ => ⟨S2x4x64x4x64, .f32⟩
  | .hbm, ⟨17, _⟩ => ⟨S2x256x256, .f32⟩
  | .hbm, ⟨18, _⟩ => ⟨S256, .f32⟩
  | .hbm, ⟨19, _⟩ => ⟨S1x256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S1x64, .f32⟩
  | .hbm, ⟨24, _⟩ => ⟨S4x64, .f32⟩
  | .hbm, ⟨25, _⟩ => ⟨S256, .f32⟩
  | .hbm, ⟨26, _⟩ => ⟨S1x256, .f32⟩
  | .hbm, ⟨27, _⟩ => ⟨S2x16384x256, .f32⟩
  | .hbm, ⟨28, _⟩ => ⟨S2x256x256, .f32⟩
  | .local _ .vmem, ⟨0, _⟩ => ⟨S1x64x1024, .f32⟩
  | .local _ .vmem, ⟨1, _⟩ => ⟨S1x64x1024, .f32⟩
  | .local _ .vmem, ⟨2, _⟩ => ⟨S1x256x256, .f32⟩
  | .local _ .vmem, ⟨3, _⟩ => ⟨S1x256x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x64x256, .f32⟩
  | .local _ .vmem, ⟨8, _⟩ => ⟨S1x64x256, .f32⟩
  | .local _ .vmem, ⟨9, _⟩ => ⟨S1x256x256, .f32⟩
  | .local _ .vmem, ⟨10, _⟩ => ⟨S1x256x256, .f32⟩
  | .local _ .vmem, ⟨11, _⟩ => ⟨S256x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v2742 : BitVec 1 := Scalar.cmpi .eq arg1 c255_i32
  let v2743 : BitVec 32 := Scalar.extui v2742
  let c0_i32_179 : BitVec 32 := 0#32
  let v2744 : BitVec 1 := Scalar.cmpi .ne v2743 c0_i32_179
  v2744

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== HgrnRefIdeal.lean ====
abbrev S2x16384x1024 : Shape := ⟨3, ![2, 16384, 1024]⟩
abbrev S2x4x64x64 : Shape := ⟨4, ![2, 4, 64, 64]⟩
abbrev S256 : Shape := ⟨1, ![256]⟩
abbrev S64 : Shape := ⟨1, ![64]⟩
abbrev S2x16384x256 : Shape := ⟨3, ![2, 16384, 256]⟩
abbrev S_ : Shape := ⟨0, ![]⟩
abbrev S1x1x256 : Shape := ⟨3, ![1, 1, 256]⟩
abbrev S2x1x256 : Shape := ⟨3, ![2, 1, 256]⟩
abbrev S2x4x64x1 : Shape := ⟨4, ![2, 4, 64, 1]⟩
abbrev S2x16384x4x64 : Shape := ⟨4, ![2, 16384, 4, 64]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x4x1x4x1 : Shape := ⟨5, ![1, 4, 1, 4, 1]⟩
abbrev S2x4x64x1x64 : Shape := ⟨5, ![2, 4, 64, 1, 64]⟩
abbrev S2x4x64x4x64 : Shape := ⟨5, ![2, 4, 64, 4, 64]⟩
abbrev S2x256x256 : Shape := ⟨3, ![2, 256, 256]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x4x64x64, .f32⟩
  | .hbm, ⟨2, _⟩ => ⟨S256, .f32⟩
  | .hbm, ⟨3, _⟩ => ⟨S64, .f32⟩
  | .hbm, ⟨4, _⟩ => ⟨S2x16384x256, .f32⟩
  | .hbm, ⟨5, _⟩ => ⟨S2x16384x256, .f32⟩
  | .hbm, ⟨6, _⟩ => ⟨S2x16384x256, .f32⟩
  | .hbm, ⟨7, _⟩ => ⟨S2x16384x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S2x16384x256, .f32⟩
  | .hbm, ⟨12, _⟩ => ⟨S_, .f32⟩
  | .hbm, ⟨13, _⟩ => ⟨S2x16384x256, .f32⟩
  | .hbm, ⟨14, _⟩ => ⟨S2x16384x256, .f32⟩
  | .hbm, ⟨15, _⟩ => ⟨S2x16384x256, .f32⟩
  | .hbm, ⟨16, _⟩ => ⟨S2x16384x256, .f32⟩
  | .hbm, ⟨17, _⟩ => ⟨S2x16384x256, .i1⟩
  | .hbm, ⟨18, _⟩ => ⟨S2x16384x256, .f32⟩
  | .hbm, ⟨19, _⟩ => ⟨S2x16384x256, .f32⟩
  | .hbm, ⟨20, _⟩ => ⟨S2x16384x256, .f32⟩
  | .hbm, ⟨21, _⟩ => ⟨S2x16384x256, .f32⟩
  | .hbm, ⟨22, _⟩ => ⟨S2x16384x256, .f32⟩
  | .hbm, ⟨23, _⟩ => ⟨S2x16384x256, .f32⟩
  | .hbm, ⟨24, _⟩ => ⟨S2x16384x256, .f32⟩
  | .hbm, ⟨25, _⟩ => ⟨S2x16384x256, .f32⟩
  | .hbm, ⟨26, _⟩ => ⟨S2x16384x256, .f32⟩
  | .hbm, ⟨27, _⟩ => ⟨S1x1x256, .f32⟩
  | .hbm, ⟨28, _⟩ => ⟨S2x16384x256, .f32⟩
  | .hbm, ⟨29, _⟩ => ⟨S2x16384x256, .f32⟩
  | .hbm, ⟨30, _⟩ => ⟨S1x1x256, .f32⟩
  | .hbm, ⟨31, _⟩ => ⟨S2x16384x256, .f32⟩
  | .hbm, ⟨32, _⟩ => ⟨S2x16384x256, .f32⟩
  | .hbm, ⟨33, _⟩ => ⟨S2x16384x256, .f32⟩
  | .hbm, ⟨34, _⟩ => ⟨S2x16384x256, .f32⟩
  | .hbm, ⟨35, _⟩ => ⟨S2x16384x256, .i1⟩
  | .hbm, ⟨36, _⟩ => ⟨S2x16384x256, .f32⟩
  | .hbm, ⟨37, _⟩ => ⟨S2x16384x256, .f32⟩
  | .hbm, ⟨38, _⟩ => ⟨S2x16384x256, .f32⟩
  | .hbm, ⟨39, _⟩ => ⟨S2x16384x256, .f32⟩
  | .hbm, ⟨40, _⟩ => ⟨S2x16384x256, .f32⟩
  | .hbm, ⟨41, _⟩ => ⟨S2x16384x256, .f32⟩
  | .hbm, ⟨42, _⟩ => ⟨S2x16384x256, .f32⟩
  | .hbm, ⟨43, _⟩ => ⟨S2x16384x256, .f32⟩
  | .hbm, ⟨44, _⟩ => ⟨S2x16384x256, .f32⟩
  | .hbm, ⟨45, _⟩ => ⟨S2x16384x256, .f32⟩
  | .hbm, ⟨46, _⟩ => ⟨S_, .f32⟩
  | .hbm, ⟨47, _⟩ => ⟨S_, .f32⟩
  | .hbm, ⟨48, _⟩ => ⟨S2x16384x256, .f32⟩
  | .hbm, ⟨49, _⟩ => ⟨S2x1x256, .f32⟩
  | .hbm, ⟨50, _⟩ => ⟨S2x1x256, .f32⟩
  | .hbm, ⟨51, _⟩ => ⟨S2x4x64x1, .f32⟩
  | .hbm, ⟨52, _⟩ => ⟨S2x4x64x64, .f32⟩
  | .hbm, ⟨53, _⟩ => ⟨S2x4x64x64, .f32⟩
  | .hbm, ⟨54, _⟩ => ⟨S2x16384x256, .f32⟩
  | .hbm, ⟨55, _⟩ => ⟨S2x16384x256, .f32⟩
  | .hbm, ⟨56, _⟩ => ⟨S2x16384x256, .f32⟩
  | .hbm, ⟨57, _⟩ => ⟨S2x16384x256, .f32⟩
  | .hbm, ⟨58, _⟩ => ⟨S2x16384x4x64, .f32⟩
  | .hbm, ⟨59, _⟩ => ⟨S2x16384x4x64, .f32⟩
  | .hbm, ⟨60, _⟩ => ⟨S2x4x64x64, .f32⟩
  | .hbm, ⟨61, _⟩ => ⟨S2x4x64x64, .f32⟩
  | .hbm, ⟨62, _⟩ => ⟨S4, .i32⟩
  | .hbm, ⟨63, _⟩ => ⟨S4x1, .i32⟩
  | .hbm, ⟨64, _⟩ => ⟨S1x4, .i32⟩
  | .hbm, ⟨65, _⟩ => ⟨S4x4, .i32⟩
  | .hbm, ⟨66, _⟩ => ⟨S4x4, .i32⟩
  | .hbm, ⟨67, _⟩ => ⟨S4x4, .i1⟩
  | .hbm, ⟨68, _⟩ => ⟨S1x4x1x4x1, .i1⟩
  | .hbm, ⟨69, _⟩ => ⟨S2x4x64x64, .f32⟩
  | .hbm, ⟨70, _⟩ => ⟨S2x4x64x1x64, .f32⟩
  | .hbm, ⟨71, _⟩ => ⟨S_, .f32⟩
  | .hbm, ⟨72, _⟩ => ⟨S_, .f32⟩
  | .hbm, ⟨73, _⟩ => ⟨S2x4x64x4x64, .i1⟩
  | .hbm, ⟨74, _⟩ => ⟨S2x4x64x4x64, .f32⟩
  | .hbm, ⟨75, _⟩ => ⟨S2x4x64x4x64, .f32⟩
  | .hbm, ⟨76, _⟩ => ⟨S2x4x64x4x64, .f32⟩
  | .hbm, ⟨77, _⟩ => ⟨S2x256x256, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Rwkv.lean ====
abbrev S2x16384x1024 : Shape := ⟨3, ![2, 16384, 1024]⟩
abbrev S2x4x64x64 : Shape := ⟨4, ![2, 4, 64, 64]⟩
abbrev S2x1024 : Shape := ⟨2, ![2, 1024]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S4x64 : Shape := ⟨2, ![4, 64]⟩
abbrev S4x4 : Shape := ⟨2, ![4, 4]⟩
abbrev S_ : Shape := ⟨0, ![]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2x1x1024 : Shape := ⟨3, ![2, 1, 1024]⟩
abbrev S1x1024 : Shape := ⟨2, ![1, 1024]⟩
abbrev S1x256 : Shape := ⟨2, ![1, 256]⟩
abbrev S2x16384x256 : Shape := ⟨3, ![2, 16384, 256]⟩
abbrev S1x64x1024 : Shape := ⟨3, ![1, 64, 1024]⟩
abbrev S1x1x1024 : Shape := ⟨3, ![1, 1, 1024]⟩
abbrev S1x256x256 : Shape := ⟨3, ![1, 256, 256]⟩
abbrev S1x64x256 : Shape := ⟨3, ![1, 64, 256]⟩
abbrev S256x256 : Shape := ⟨2, ![256, 256]⟩
abbrev S64x1024 : Shape := ⟨2, ![64, 1024]⟩
abbrev S64x128 : Shape := ⟨2, ![64, 128]⟩
abbrev S64x64 : Shape := ⟨2, ![64, 64]⟩

abbrev nBuf : Space → Nat
  | .hbm => 45
  | .vmem => 25
  | .smem => 0
  | _ => 0

abbrev bufTy : (tb : Table) → Fin (tcTables nBuf tb) → BufTy
  | .hbm, ⟨0, _⟩ => ⟨S2x16384x1024, .f32⟩
  | .hbm, ⟨1, _⟩ => ⟨S2x4x64x64, .f32⟩
  | .hbm, ⟨2, _⟩ => ⟨S2x1024, .f32⟩
  | .hbm, ⟨3, _⟩ => ⟨S1024, .f32⟩
  | .hbm, ⟨4, _⟩ => ⟨S256, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S128x256, .f32⟩
  | .hbm, ⟨9, _⟩ => ⟨S256, .f32⟩
  | .hbm, ⟨10, _⟩ => ⟨S256, .f32⟩
  | .hbm, ⟨11, _⟩ => ⟨S4x64, .f32⟩
  | .hbm, ⟨12, _⟩ => ⟨S256, .f32⟩
  | .hbm, ⟨13, _⟩ => ⟨S256, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S2x4x64x1x64, .f32⟩
  | .hbm, ⟨22, _⟩ => ⟨S1x4x1x4x1, .f32⟩
  | .hbm, ⟨23, _⟩ => ⟨S2x4x64x4x64, .f32⟩
  | .hbm, ⟨24, _⟩ => ⟨S2x4x64x4x64, .f32⟩
  | .hbm, ⟨25, _⟩ => ⟨S2x4x64x4x64, .f32⟩
  | .hbm, ⟨26, _⟩ => ⟨S2x256x256, .f32⟩
  | .hbm, ⟨27, _⟩ => ⟨S_, .f32⟩
  | .hbm, ⟨28, _⟩ => ⟨S64x256, .f32⟩
  | .hbm, ⟨29, _⟩ => ⟨S128x256, .f32⟩
  | .hbm, ⟨30, _⟩ => ⟨S_, .f32⟩
  | .hbm, ⟨31, _⟩ => ⟨S64x256, .f32⟩
  | .hbm, ⟨32, _⟩ => ⟨S128x256, .f32⟩
  | .hbm, ⟨33, _⟩ => ⟨S2x1x1024, .f32⟩
  | .hbm, ⟨34, _⟩ => ⟨S1x1024, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S2x16384x256, .f32⟩
  | .hbm, ⟨43, _⟩ => ⟨S2x256x256, .f32⟩
  | .hbm, ⟨44, _⟩ => ⟨S2x1x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x256, .f32⟩
  | .local _ .vmem, ⟨5, _⟩ => ⟨S1x256x256, .f32⟩
  | .local _ .vmem, ⟨6, _⟩ => ⟨S1x1024, .f32⟩
  | .local _ .vmem, ⟨7, _⟩ => ⟨S1x256, .f32⟩
  | .local _ .vmem, ⟨8, _⟩ => ⟨S128x256, .f32⟩
  | .local _ .vmem, ⟨9, _⟩ => ⟨S1x256, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x64x256, .f32⟩
  | .local _ .vmem, ⟨18, _⟩ => ⟨S1x64x256, .f32⟩
  | .local _ .vmem, ⟨19, _⟩ => ⟨S1x256x256, .f32⟩
  | .local _ .vmem, ⟨20, _⟩ => ⟨S1x256x256, .f32⟩
  | .local _ .vmem, ⟨21, _⟩ => ⟨S1x1x1024, .f32⟩
  | .local _ .vmem, ⟨22, _⟩ => ⟨S1x1x1024, .f32⟩
  | .local _ .vmem, ⟨23, _⟩ => ⟨S256x256, .f32⟩
  | .local _ .vmem, ⟨24, _⟩ => ⟨S1x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v844 : BitVec 1 := Scalar.cmpi .eq arg1 c255_i32
  let v845 : BitVec 32 := Scalar.extui v844
  let c0_i32_233 : BitVec 32 := 0#32
  let v846 : BitVec 1 := Scalar.cmpi .ne v845 c0_i32_233
  v846

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== RwkvRefIdeal.lean ====
abbrev S2x16384x1024 : Shape := ⟨3, ![2, 16384, 1024]⟩
abbrev S2x4x64x64 : Shape := ⟨4, ![2, 4, 64, 64]⟩
abbrev S2x1024 : Shape := ⟨2, ![2, 1024]⟩
abbrev S1024 : Shape := ⟨1, ![1024]⟩
abbrev S256 : Shape := ⟨1, ![256]⟩
abbrev S64x256 : Shape := ⟨2, ![64, 256]⟩
abbrev S128x256 : Shape := ⟨2, ![128, 256]⟩
abbrev S4x64 : Shape := ⟨2, ![4, 64]⟩
abbrev S2x1x1024 : Shape := ⟨3, ![2, 1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x4x64x64, .f32⟩
  | .hbm, ⟨2, _⟩ => ⟨S2x1024, .f32⟩
  | .hbm, ⟨3, _⟩ => ⟨S1024, .f32⟩
  | .hbm, ⟨4, _⟩ => ⟨S256, .f32⟩
  | .hbm, ⟨5, _⟩ => ⟨S64x256, .f32⟩
  | .hbm, ⟨6, _⟩ => ⟨S256, .f32⟩
  | .hbm, ⟨7, _⟩ => ⟨S64x256, .f32⟩
  | .hbm, ⟨8, _⟩ => ⟨S128x256, .f32⟩
  | .hbm, ⟨9, _⟩ => ⟨S256, .f32⟩
  | .hbm, ⟨10, _⟩ => ⟨S256, .f32⟩
  | .hbm, ⟨11, _⟩ => ⟨S4x64, .f32⟩
  | .hbm, ⟨12, _⟩ => ⟨S256, .f32⟩
  | .hbm, ⟨13, _⟩ => ⟨S256, .f32⟩
  | .hbm, ⟨14, _⟩ => ⟨S2x1x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩

abbrev nD : Nat := 1
abbrev τ : Topo := Topo.v7x

variable {F : FTy → Type} [FloatOps F]
-- ==== Proof.Head.lean ====
/-
  What one head does with one block of 256 keys, as functions of whole blocks: the scaled scores, the logarithm of
  the stay-probability, the sums over the later keys of the block, the weights, and the two running values (the
  output accumulator and the carried sum). Each function is read here at an index, at the ideal instance.
-/
module

public import proofs.«01_k».proof.Proof.Gen.KernelIdeal.Value
public import Idealize.ShloMosaic.Lib.Pointwise

@[expose] public section

set_option maxRecDepth 16384

noncomputable section

namespace Cert.Att

open Idealize.ShloMosaic Idealize.ShloMosaic.TcCoe
open Cert.KernelIdeal Cert.KernelIdeal.Gen

/-- The scaled, negated scores of one head: the query block against the key block over the lane pair. -/
def nlT (q kk : FVec Ideal S256x128 .bf16) : FVec Ideal S256x256 .f32 :=
  matmul dot_S256x128_S256x128_S256x256_1_1_0_0_n_n none q kk (constant S256x256 .f32 0x00000000#32)

/-- The base-two logarithm of the probability of passing a key by, from the scaled negated score. -/
def lsmT (nl : FVec Ideal S256x256 .f32) : FVec Ideal S256x256 .f32 :=
  subf (minimumf nl (broadcast S256x256 (Scalar.ofBits (F := Ideal) .f32 0x00000000#32)))
    (mulf (log (addf (broadcast S256x256 (Scalar.ofBits (F := Ideal) .f32 0x3F800000#32))
      (exp2 (subf (broadcast S256x256 (Scalar.ofBits (F := Ideal) .f32 0x00000000#32)) (absf nl)))))
      (broadcast S256x256 (Named.named (F := Ideal) κ "inv_log2" 0x3FB8AA3B#32)))

/-- The same where the mask holds, zero elsewhere. -/
def maskT (mk : IVec S256x256 1) (x : FVec Ideal S256x256 .f32) : FVec Ideal S256x256 .f32 :=
  select mk x (broadcast S256x256 (Scalar.ofBits (F := Ideal) .f32 0x00000000#32))

/-- The sums over the strictly later keys of the block. -/
def latT (lsm : FVec Ideal S256x256 .f32) : FVec Ideal S256x256 .f32 :=
  matmul dot_S256x256_S256x256_S256x256_1_0_0_1_n_n none (truncf .bf16 lsm bitsLt_bf16_f32) (k0_pay80 (F := Ideal))
    (constant S256x256 .f32 0x00000000#32)

/-- One head's slice of a scratch block as a matrix. -/
def flat (x : Vec Ideal S1x256x128 .f32) : FVec Ideal S256x128 .f32 :=
  shapeCast S256x128 x shapeCasts_S1x256x128_S256x128

/-- A matrix as one head's slice of a scratch block. -/
def slab (x : FVec Ideal S256x128 .f32) : FVec Ideal S1x256x128 .f32 :=
  shapeCast S1x256x128 x shapeCasts_S256x128_S1x256x128

/-- The weights before masking: two to the power of the accumulated logarithms. -/
def wT (nl lsm : FVec Ideal S256x256 .f32) (car : FVec Ideal S256x128 .f32) : FVec Ideal S256x256 .f32 :=
  exp2 (addf (addf (subf lsm nl) (latT lsm))
    (concatenate S256x256 1 [⟨S256x128, car⟩, ⟨S256x128, car⟩] concatenates_S256x128_S256x128_S256x256_d1))

/-- The accumulator after the block: the weights times the values are added. -/
def accT (acc : FVec Ideal S256x128 .f32) (w : FVec Ideal S256x256 .f32) (vv : FVec Ideal S256x128 .bf16) :
    FVec Ideal S256x128 .f32 :=
  addf acc (matmul dot_S256x256_S256x128_S256x128_1_0_0_1_n_n none (truncf .bf16 w bitsLt_bf16_f32) vv
    (constant S256x128 .f32 0x00000000#32))

/-- The carried sum after the block: the block's total is added to every lane. -/
def carT (car : FVec Ideal S256x128 .f32) (lsm : FVec Ideal S256x256 .f32) : FVec Ideal S256x128 .f32 :=
  addf car (broadcastTo S256x128 (shapeCast S256x1
    (addf (extractStridedSlice S256x1 ![0, 0] (latT lsm) slices_S256x256_o0_0_S256x1)
      (extractStridedSlice S256x1 ![0, 0] lsm slices_S256x256_o0_0_S256x1)) shapeCasts_S256x1_S256x1)
    broadcasts_S256x1_S256x128)

theorem zero_bits : Ideal.ofBits .f32 0x00000000#32 = 0 := by simp [Ideal.ofBits, Ideal.ieee]
theorem one_bits : Ideal.ofBits .f32 0x3F800000#32 = 1 := by
  simp [Ideal.ofBits, Ideal.ieee, -EReal.coe_mul]; norm_num

/-- The value of the named constant one over the logarithm of two. -/
theorem inv_log2 : Named.named (F := Ideal) κ "inv_log2" (φ := .f32) 0x3FB8AA3B#32 = (((Real.log 2)⁻¹ : ℝ) : EReal) :=
  IdealRules.named_const.ideal_named_scalar _ _ _ _ rfl

/-- The value of the named scale of the queries: minus an eighth over the logarithm of two. -/
theorem q_scale : Named.named (F := Ideal) κ "q_scale" (φ := .f32) 0xBE38AA3B#32
    = ((-((1 / 8) * (Real.log 2)⁻¹) : ℝ) : EReal) :=
  IdealRules.named_const.ideal_named_scalar _ _ _ _ rfl

/-- The coercion of the reals into the extended reals carries a finite sum over. -/
theorem coe_sum {ι : Type*} (t : Finset ι) (f : ι → ℝ) : ((∑ j ∈ t, f j : ℝ) : EReal) = ∑ j ∈ t, (f j : EReal) :=
  map_sum (⟨⟨Real.toEReal, EReal.coe_zero⟩, EReal.coe_add⟩ : ℝ →+ EReal) f t

theorem nlT_apply (q kk : FVec Ideal S256x128 .bf16) (i s : Fin 256) :
    nlT q kk (ix2 i s) = ∑ l : Fin 128, q (ix2 i l) * kk (ix2 s l) := by
  pointwise [nlT]

/-- The function of a real score that the block computes. -/
def ls (n : ℝ) : ℝ := min n 0 - Real.log (1 + (2 : ℝ) ^ (-|n|)) * (Real.log 2)⁻¹

theorem lsmT_apply (nl : FVec Ideal S256x256 .f32) (i s : Fin 256) (n : ℝ) (h : nl (ix2 i s) = (n : EReal)) :
    lsmT nl (ix2 i s) = ((ls n : ℝ) : EReal) := by
  pointwise [lsmT]
  rw [h]
  have habs : FloatOps.absf (F := Ideal) (φ := .f32) (n : EReal) = ((|n| : ℝ) : EReal) := by
    show max (n : EReal) (-(n : EReal)) = _
    rw [← EReal.coe_neg, abs_eq_max_neg]
    exact (EReal.coe_strictMono.monotone.map_max).symm
  have hexp : FloatOps.exp2 (F := Ideal) (φ := .f32) (0 - ((|n| : ℝ) : EReal)) = (((2 : ℝ) ^ (-|n|) : ℝ) : EReal) := by
    show Ideal.exp2 _ = _
    rw [zero_sub, ← EReal.coe_neg, Ideal.exp2_coe]; rfl
  have hpos : (0 : ℝ) < 1 + (2 : ℝ) ^ (-|n|) := by positivity
  rw [habs, hexp, inv_log2, ← EReal.coe_one, ← EReal.coe_add, Ideal.log_coe, if_neg (not_le.mpr hpos),
    ← EReal.coe_mul, ← EReal.coe_zero, show min (n : EReal) ((0 : ℝ) : EReal) = ((min n 0 : ℝ) : EReal) from
      (EReal.coe_strictMono.monotone.map_min).symm, ← EReal.coe_sub]
  rfl

theorem later_apply (j s : Fin 256) : k0_pay80 (F := Ideal) (ix2 j s) = if s < j then 1 else 0 := by
  pointwise [k0_pay80]
  have hj : (j : ℕ) < 2 ^ (32 - 1) := lt_trans j.isLt (by norm_num)
  have hs : (s : ℕ) < 2 ^ (32 - 1) := lt_trans s.isLt (by norm_num)
  rw [WordCmp.cmpi_sgt_ofNat hj hs]
  show ((((BitVec.setWidth 32 (BitVec.ofBool (decide ((s : ℕ) < (j : ℕ))))).toInt : ℤ) : ℝ) : EReal) = _
  by_cases h : s < j
  · have h' : (s : ℕ) < (j : ℕ) := h
    simp [h, h']
  · have h' : ¬ (s : ℕ) < (j : ℕ) := h
    simp [h, h']

theorem latT_apply (lsm : FVec Ideal S256x256 .f32) (i s : Fin 256) (m : Fin 256 → ℝ)
    (h : ∀ j, lsm (ix2 i j) = (m j : EReal)) :
    latT lsm (ix2 i s) = ((∑ j : Fin 256, if s < j then m j else 0 : ℝ) : EReal) := by
  pointwise [latT]
  simp only [later_apply, h]
  rw [coe_sum]
  refine Finset.sum_congr rfl fun j _ => ?_
  split_ifs <;> simp

theorem wT_apply (nl lsm : FVec Ideal S256x256 .f32) (car : FVec Ideal S256x128 .f32) (i s : Fin 256) (N C : ℝ)
    (m : Fin 256 → ℝ) (hn : nl (ix2 i s) = (N : EReal)) (h : ∀ j, lsm (ix2 i j) = (m j : EReal))
    (hc : ∀ l, car (ix2 i l) = (C : EReal)) :
    wT nl lsm car (ix2 i s)
      = (((2 : ℝ) ^ (m s - N + (∑ j : Fin 256, if s < j then m j else 0) + C) : ℝ) : EReal) := by
  pointwise [wT]
  simp only [hn, h, hc, latT_apply lsm i s m h]
  have e : (if h : (s : ℕ) < 128 then (C : EReal) else C) = C := by split_ifs <;> rfl
  show Ideal.exp2 _ = _
  rw [e, ← EReal.coe_sub, ← EReal.coe_add, ← EReal.coe_add, Ideal.exp2_coe]
  rfl

theorem accT_apply (acc : FVec Ideal S256x128 .f32) (w : FVec Ideal S256x256 .f32) (vv : FVec Ideal S256x128 .bf16)
    (i : Fin 256) (l : Fin 128) :
    accT acc w vv (ix2 i l) = acc (ix2 i l) + ∑ s : Fin 256, w (ix2 i s) * vv (ix2 s l) := by
  pointwise [accT]

theorem carT_apply (car : FVec Ideal S256x128 .f32) (lsm : FVec Ideal S256x256 .f32) (i : Fin 256) (l : Fin 128)
    (m : Fin 256 → ℝ) (C : ℝ) (h : ∀ j, lsm (ix2 i j) = (m j : EReal)) (hc : car (ix2 i l) = (C : EReal)) :
    carT car lsm (ix2 i l) = ((C + ∑ j : Fin 256, m j : ℝ) : EReal) := by
  pointwise [carT]
  rw [hc, h, latT_apply lsm i 0 m h, ← EReal.coe_add, ← EReal.coe_add, EReal.coe_eq_coe_iff,
    Fin.sum_univ_succ, Fin.sum_univ_succ (f := m)]
  simp [Fin.succ_pos, add_comm]

theorem maskT_apply (mk : IVec S256x256 1) (x : FVec Ideal S256x256 .f32) (i s : Fin 256) :
    maskT mk x (ix2 i s) = if mk (ix2 i s) = 1#1 then x (ix2 i s) else 0 := by
  pointwise [maskT]
  rfl

theorem flat_apply (x : Vec Ideal S1x256x128 .f32) (i : Fin 256) (l : Fin 128) :
    flat x (ix2 i l) = x (ix3 0 i l) := by
  pointwise [flat]

theorem slab_apply (x : FVec Ideal S256x128 .f32) (i : Fin 256) (l : Fin 128) :
    slab x (ix3 0 i l) = x (ix2 i l) := by
  pointwise [slab]

end Cert.Att
-- ==== Proof.Trip.lean ====
/-
  One trip of the kernel's loop over the earlier key blocks, as four pieces per scratch array: head `h`'s accumulator
  and head `h`'s carried sum, each the function of Head.lean of what the trip finds there.
-/
module

public import proofs.«01_k».proof.Proof.Head
public import Idealize.ShloMosaic.Lib.WritesUnit

@[expose] public section

set_option maxRecDepth 16384

noncomputable section

namespace Cert.Att

open Idealize.ShloMosaic Idealize.ShloMosaic.TcCoe
open Cert.KernelIdeal Cert.KernelIdeal.Gen

/-- Head `h`'s slice of a scratch array. -/
def sRect (h : Fin 4) : Rect S4x256x128 :=
  Rect.unit (s := S4x256x128) ![h.val, 0, 0] S1x256x128.size
    ((by decide : ∀ h : Fin 4, ∀ a, (![h.val, 0, 0] : Fin 3 → ℕ) a + S1x256x128.size a ≤ S4x256x128.size a) h)

/-- Head `h`'s slice of the contents `f`, as a load reads it. -/
def ld (a : Memref sig .tc .vmem S4x256x128 .f32) (f : BufTy.Contents (Elt Ideal) a.view.ty) (h : Fin 4) :
    Vec Ideal S1x256x128 .f32 := View.readAt (Elt Ideal) a.view (sRect h).toLoadRect f

/-- A piece that replaces head `h`'s slice. -/
def pc (h : Fin 4) (x : Vec Ideal S1x256x128 .f32) : View.Piece (Elt Ideal) S4x256x128 .f32 := ⟨sRect h, x⟩

/-- Four pieces, one for each head, the last head's newest. -/
def pcs (g : Fin 4 → Vec Ideal S1x256x128 .f32) : List (View.Piece (Elt Ideal) S4x256x128 .f32) :=
  [pc 3 (g 3), pc 2 (g 2), pc 1 (g 1), pc 0 (g 0)]

/-- A slice reads the array at its head. -/
theorem ld_apply (a : Memref sig .tc .vmem S4x256x128 .f32) (f : BufTy.Contents (Elt Ideal) a.view.ty) (h : Fin 4)
    (i : Fin 256) (l : Fin 128) : ld a f h (ix3 0 i l) = a.view.read (Elt Ideal) f (ix3 h i l) := by
  show a.view.read (Elt Ideal) f ((sRect h).idx (ix3 0 i l)) = _
  congr 1
  funext x
  apply Fin.ext
  fin_cases x
  · show h.val + 1 * 0 = h.val; omega
  · show 0 + 1 * i.val = i.val; omega
  · show 0 + 1 * l.val = l.val; omega

/-- After the newest piece, its head's slice reads the piece and every other slice reads what was there. -/
theorem read_pc (a : Memref sig .tc .vmem S4x256x128 .f32) (f : BufTy.Contents (Elt Ideal) a.view.ty)
    (L : List (View.Piece (Elt Ideal) S4x256x128 .f32)) (h h' : Fin 4) (x : Vec Ideal S1x256x128 .f32)
    (i : Fin 256) (l : Fin 128) :
    a.view.read (Elt Ideal) (a.view.writes (Elt Ideal) f (pc h' x :: L)) (ix3 h i l)
      = if h = h' then x (ix3 0 i l) else a.view.read (Elt Ideal) (a.view.writes (Elt Ideal) f L) (ix3 h i l) := by
  split_ifs with e
  · subst e
    refine View.read_writes_cons_unit_of_mem a.view f _ x L (ix3 h i l) (ix3 0 i l) rfl fun b => ?_
    fin_cases b
    · show h.val = h.val + 0; omega
    · show i.val = 0 + i.val; omega
    · show l.val = 0 + l.val; omega
  · refine View.read_writes_cons_unit_of_not_mem a.view f _ x L (ix3 h i l) rfl 0 ?_
    show h.val < h'.val ∨ h'.val + 1 ≤ h.val
    have : h.val ≠ h'.val := fun c => e (Fin.ext c)
    omega

/-- After the four pieces every slice reads its own. -/
theorem read_pcs (a : Memref sig .tc .vmem S4x256x128 .f32) (f : BufTy.Contents (Elt Ideal) a.view.ty)
    (L : List (View.Piece (Elt Ideal) S4x256x128 .f32)) (g : Fin 4 → Vec Ideal S1x256x128 .f32) (h : Fin 4)
    (i : Fin 256) (l : Fin 128) :
    a.view.read (Elt Ideal) (a.view.writes (Elt Ideal) f (pcs g ++ L)) (ix3 h i l) = g h (ix3 0 i l) := by
  show a.view.read (Elt Ideal) (a.view.writes (Elt Ideal) f (pc 3 (g 3) :: pc 2 (g 2) :: pc 1 (g 1) :: pc 0 (g 0) :: L))
    (ix3 h i l) = _
  simp only [read_pc]
  fin_cases h <;> simp

/-- A block of 256 rows of keys or values as a matrix. -/
def blk (x : Vec Ideal S1x256x256 .bf16) : FVec Ideal S256x256 .bf16 :=
  shapeCast S256x256 x shapeCasts_S1x256x256_S256x256

/-- The lane half of a block that head `h` uses. -/
def half (h : Fin 4) (x : FVec Ideal S256x256 .bf16) : FVec Ideal S256x128 .bf16 :=
  match h with
  | 0 => extractStridedSlice S256x128 ![0, 0] x slices_S256x256_o0_0_S256x128
  | 1 => extractStridedSlice S256x128 ![0, 0] x slices_S256x256_o0_0_S256x128
  | 2 => extractStridedSlice S256x128 ![0, 128] x slices_S256x256_o0_128_S256x128
  | 3 => extractStridedSlice S256x128 ![0, 128] x slices_S256x256_o0_128_S256x128

/-- The lane of a block that lane `l` of head `h`'s half is. -/
def lane (h : Fin 4) (l : Fin 128) : Fin 256 := ⟨128 * (h.val / 2) + l.val, by omega⟩

theorem half_apply (h : Fin 4) (x : FVec Ideal S256x256 .bf16) (i : Fin 256) (l : Fin 128) :
    half h x (ix2 i l) = x (ix2 i (lane h l)) := by
  fin_cases h <;> (pointwise [half]) <;> exact congrArg x (congrArg (ix2 i) (Fin.ext (by simp [lane])))

theorem blk_apply (x : Vec Ideal S1x256x256 .bf16) (i l : Fin 256) : blk x (ix2 i l) = x (ix3 0 i l) := by
  pointwise [blk]

/-- The 256 rows from `o` of a whole-array memref, as a load reads them. -/
def rows (a : Memref sig .tc .vmem S1x16384x256 .bf16) (X : BufTy.Contents (Elt Ideal) a.view.ty) (off : Fin 3 → ℕ)
    (hb : ∀ a, off a + S1x256x256.size a ≤ S1x16384x256.size a) : FVec Ideal S256x256 .bf16 :=
  blk (View.readAt (Elt Ideal) a.view (Rect.unit (s := S1x16384x256) off S1x256x256.size hb).toLoadRect X)

/-- A head's query rows among the four. -/
def q4 (q0 q1 q2 q3 : FVec Ideal S256x128 .bf16) : Fin 4 → FVec Ideal S256x128 .bf16
  | 0 => q0 | 1 => q1 | 2 => q2 | 3 => q3

section Trip

variable (c : Dev nD) (i : grid0.Coords) (arg2 : Memref sig .tc .vmem S1x256x256 .f32) (harg2 : arg2.IsWhole)
  (arg3 : Memref sig .tc .vmem S1x16384x256 .bf16) (harg3 : arg3.IsWhole)
  (arg4 : Memref sig .tc .vmem S1x16384x256 .bf16) (harg4 : arg4.IsWhole)
  (arg5 : Memref sig .tc .vmem S1x256x256 .f32) (harg5 : arg5.IsWhole)
  (arg6 : Memref sig .tc .vmem S4x256x128 .f32) (harg6 : arg6.IsWhole)
  (arg7 : Memref sig .tc .vmem S4x256x128 .f32) (harg7 : arg7.IsWhole)
  (v18 : BitVec 32) (v58 : IVec S256x128 1) (v139 v142 v145 v148 : FVec Ideal S256x128 .bf16)
  (v163 : FVec Ideal S256x256 .bf16) (v240 v242 : FVec Ideal S256x256 .f32) (v325 : FVec Ideal S256x128 .f32)
  (v332 : FVec Ideal S256x256 .f32)
  (X3 : BufTy.Contents (Elt Ideal) arg3.view.ty) (X4 : BufTy.Contents (Elt Ideal) arg4.view.ty)

/-- The scores of head `h` in trip `k`. -/
def tnl (k : Fin (k0_t1_loop i).trips) (h : Fin 4) : FVec Ideal S256x256 .f32 :=
  nlT (q4 v139 v142 v145 v148 h) (half h (rows arg3 X3 (k0_off2 i k) (k0_off2_inb i k)))

/-- What a trip writes: into each scratch array one piece for each head. -/
theorem trip_eq (k : Fin (k0_t1_loop i).trips) (f6 : BufTy.Contents (Elt Ideal) arg6.view.ty)
    (f7 : BufTy.Contents (Elt Ideal) arg7.view.ty) :
    tripL_k0_t1 (F := Ideal) Variants.none c none i arg2 harg2 arg3 harg3 arg4 harg4 arg5 harg5 arg6 harg6 arg7 harg7 v18
        v58 v139 v142 v145 v148 k0_pay80 v163 v240 v242 v325 v332 X3 X4 k f6 f7
      = (pcs fun h => slab (accT (flat (ld arg6 f6 h))
            (wT (tnl i arg3 v139 v142 v145 v148 X3 k h) (lsmT (tnl i arg3 v139 v142 v145 v148 X3 k h))
              (flat (ld arg7 f7 h)))
            (half h (rows arg4 X4 (k0_off2 i k) (k0_off2_inb i k)))),
         pcs fun h => slab (carT (flat (ld arg7 f7 h)) (lsmT (tnl i arg3 v139 v142 v145 v148 X3 k h)))) := by
  unfold tripL_k0_t1 trip_k0_t1
  dsimp only
  rfl

end Trip

end Cert.Att
-- ==== Proof.Diag.lean ====
/-
  The block of keys that holds the queries' own positions, which the kernel does first and under the causal mask: the
  two scratch arrays are zeroed, and then each head's slice of each array gets one piece.
-/
module

public import proofs.«01_k».proof.Proof.Trip

@[expose] public section

set_option maxRecDepth 16384

noncomputable section

namespace Cert.Att

open Idealize.ShloMosaic Idealize.ShloMosaic.TcCoe
open Cert.KernelIdeal Cert.KernelIdeal.Gen

/-- A slice of zeros. -/
def zslab : Vec Ideal S1x256x128 .f32 := fun _ => (0 : EReal)

/-- The zeros a scratch array starts from. -/
def zpiece : List (View.Piece (Elt Ideal) S4x256x128 .f32) :=
  [⟨Rect.unit ![0, 0, 0] S4x256x128.size inb_S4x256x128_S4x256x128_0_0_0, k0_pay64 (F := Ideal)⟩]

theorem read_zpiece (a : Memref sig .tc .vmem S4x256x128 .f32) (f : BufTy.Contents (Elt Ideal) a.view.ty) (h : Fin 4)
    (i : Fin 256) (l : Fin 128) :
    a.view.read (Elt Ideal) (a.view.writes (Elt Ideal) f zpiece) (ix3 h i l) = (0 : EReal) := by
  refine (View.read_writes_cons_unit_of_mem a.view f _ _ [] (ix3 h i l) (ix3 h i l) rfl fun b => ?_).trans ?_
  · fin_cases b
    · show h.val = 0 + h.val; omega
    · show i.val = 0 + i.val; omega
    · show l.val = 0 + l.val; omega
  · pointwise [k0_pay64]

/-- A slice that reads zero everywhere is the slice of zeros. -/
theorem ld_zslab (a : Memref sig .tc .vmem S4x256x128 .f32) (f : BufTy.Contents (Elt Ideal) a.view.ty) (h : Fin 4)
    (e : ∀ (i : Fin 256) (l : Fin 128), a.view.read (Elt Ideal) f (ix3 h i l) = (0 : EReal)) : ld a f h = zslab := by
  funext j
  obtain ⟨z, i, l, rfl⟩ : ∃ (z : Fin 1) (i : Fin 256) (l : Fin 128), j = ix3 z i l := by
    idx_vars j
    exact ⟨_, _, _, rfl⟩
  have : z = 0 := Subsingleton.elim _ _
  subst this
  exact (ld_apply a f h i l).trans (e i l)

section Diag

variable (c : Dev nD) (i : grid0.Coords) (arg2 : Memref sig .tc .vmem S1x256x256 .f32) (harg2 : arg2.IsWhole)
  (arg3 : Memref sig .tc .vmem S1x16384x256 .bf16) (harg3 : arg3.IsWhole)
  (arg4 : Memref sig .tc .vmem S1x16384x256 .bf16) (harg4 : arg4.IsWhole)
  (arg5 : Memref sig .tc .vmem S1x256x256 .f32) (harg5 : arg5.IsWhole)
  (arg6 : Memref sig .tc .vmem S4x256x128 .f32) (harg6 : arg6.IsWhole)
  (arg7 : Memref sig .tc .vmem S4x256x128 .f32) (harg7 : arg7.IsWhole)
  (x0 : Vec Ideal S1x256x256 .f32) (x1 x2 : Vec Ideal S1x16384x256 .bf16)

/-- Head `h`'s query rows: scaled, and zero outside the head's own lanes. -/
def qh (h : Fin 4) : FVec Ideal S256x128 .bf16 :=
  q4 (kernelRun0_A.sl.r_3 c arg2 harg2 x0) (kernelRun0_A.sl.r_4 c arg2 harg2 x0) (kernelRun0_A.sl.r_5 c arg2 harg2 x0)
    (kernelRun0_A.sl.r_6 c arg2 harg2 x0) h

/-- The causal mask of the block. -/
def dmask : IVec S256x256 1 := k0_pay83 (kernelRun0_A.sl.v1 i) (kernelRun0_A.sl.v18 i)

/-- The scores of head `h` in the diagonal block. -/
def dnl (h : Fin 4) : FVec Ideal S256x256 .f32 :=
  nlT (qh c arg2 harg2 x0 h) (half h (rows arg3 (harg3.unread x1) (k0_off1 i) (k0_off1_inb i)))

/-- The masked logarithms of head `h` in the diagonal block. -/
def dlsm (h : Fin 4) : FVec Ideal S256x256 .f32 := maskT (dmask i) (lsmT (dnl c i arg2 harg2 arg3 harg3 x0 x1 h))

/-- What the diagonal block leaves in the carried sums. -/
def dcar (h : Fin 4) (car : FVec Ideal S256x128 .f32) : Vec Ideal S1x256x128 .f32 :=
  slab (carT car (dlsm c i arg2 harg2 arg3 harg3 x0 x1 h))

/-- What the diagonal block leaves in the accumulators. -/
def dacc (h : Fin 4) (acc car : FVec Ideal S256x128 .f32) : Vec Ideal S1x256x128 .f32 :=
  slab (accT acc (maskT (dmask i) (wT (dnl c i arg2 harg2 arg3 harg3 x0 x1 h) (dlsm c i arg2 harg2 arg3 harg3 x0 x1 h) car))
    (half h (rows arg4 (harg4.unread x2) (k0_off1 i) (k0_off1_inb i))))

theorem hs1_1 : kernelRun0_A.sl.HS1_1 (F := Ideal) = zpiece := rfl
theorem hs0_1 : kernelRun0_A.sl.HS0_1 (F := Ideal) = zpiece := rfl

theorem hs1_2 : kernelRun0_A.sl.HS1_2 (F := Ideal) c i arg2 harg2 arg3 harg3 arg7 x0 x1
    = pc 0 (dcar c i arg2 harg2 arg3 harg3 x0 x1 0 (flat (ld arg7 (arg7.view.writes (Elt Ideal) arg7.view.junk zpiece) 0)))
      :: zpiece := rfl
theorem hs1_3 : kernelRun0_A.sl.HS1_3 (F := Ideal) c i arg2 harg2 arg3 harg3 arg7 x0 x1
    = pc 1 (dcar c i arg2 harg2 arg3 harg3 x0 x1 1 (flat (ld arg7 (arg7.view.writes (Elt Ideal) arg7.view.junk
        (kernelRun0_A.sl.HS1_2 c i arg2 harg2 arg3 harg3 arg7 x0 x1)) 1)))
      :: kernelRun0_A.sl.HS1_2 c i arg2 harg2 arg3 harg3 arg7 x0 x1 := rfl
theorem hs1_4 : kernelRun0_A.sl.HS1_4 (F := Ideal) c i arg2 harg2 arg3 harg3 arg7 x0 x1
    = pc 2 (dcar c i arg2 harg2 arg3 harg3 x0 x1 2 (flat (ld arg7 (arg7.view.writes (Elt Ideal) arg7.view.junk
        (kernelRun0_A.sl.HS1_3 c i arg2 harg2 arg3 harg3 arg7 x0 x1)) 2)))
      :: kernelRun0_A.sl.HS1_3 c i arg2 harg2 arg3 harg3 arg7 x0 x1 := rfl
theorem hs1_5 : kernelRun0_A.sl.HS1_5 (F := Ideal) c i arg2 harg2 arg3 harg3 arg7 x0 x1
    = pc 3 (dcar c i arg2 harg2 arg3 harg3 x0 x1 3 (flat (ld arg7 (arg7.view.writes (Elt Ideal) arg7.view.junk
        (kernelRun0_A.sl.HS1_4 c i arg2 harg2 arg3 harg3 arg7 x0 x1)) 3)))
      :: kernelRun0_A.sl.HS1_4 c i arg2 harg2 arg3 harg3 arg7 x0 x1 := rfl

/-- The carried sums after the diagonal block: each head's piece starts from zeros. -/
theorem diag_car : kernelRun0_A.sl.HS1_5 (F := Ideal) c i arg2 harg2 arg3 harg3 arg7 x0 x1
    = pcs (fun h => dcar c i arg2 harg2 arg3 harg3 x0 x1 h (flat zslab)) ++ zpiece := by
  have z0 := fun f => ld_zslab arg7 (arg7.view.writes (Elt Ideal) f zpiece) 0 fun i l => read_zpiece arg7 _ 0 i l
  have e2 := hs1_2 c i arg2 harg2 arg3 harg3 arg7 x0 x1
  rw [z0] at e2
  have e3 := hs1_3 c i arg2 harg2 arg3 harg3 arg7 x0 x1
  rw [e2, ld_zslab arg7 _ 1 fun i l => by simp only [read_pc, read_zpiece]; simp] at e3
  have e4 := hs1_4 c i arg2 harg2 arg3 harg3 arg7 x0 x1
  rw [e3, ld_zslab arg7 _ 2 fun i l => by simp only [read_pc, read_zpiece]; simp] at e4
  have e5 := hs1_5 c i arg2 harg2 arg3 harg3 arg7 x0 x1
  rw [e4, ld_zslab arg7 _ 3 fun i l => by simp only [read_pc, read_zpiece]; simp] at e5
  exact e5

theorem hs0_2 : kernelRun0_A.sl.HS0_2 (F := Ideal) c i arg2 harg2 arg3 harg3 arg4 harg4 arg6 arg7 x0 x1 x2
    = pc 0 (dacc c i arg2 harg2 arg3 harg3 arg4 harg4 x0 x1 x2 0
        (flat (ld arg6 (arg6.view.writes (Elt Ideal) arg6.view.junk zpiece) 0))
        (flat (ld arg7 (arg7.view.writes (Elt Ideal) arg7.view.junk zpiece) 0)))
      :: zpiece := rfl
theorem hs0_3 : kernelRun0_A.sl.HS0_3 (F := Ideal) c i arg2 harg2 arg3 harg3 arg4 harg4 arg6 arg7 x0 x1 x2
    = pc 1 (dacc c i arg2 harg2 arg3 harg3 arg4 harg4 x0 x1 x2 1
        (flat (ld arg6 (arg6.view.writes (Elt Ideal) arg6.view.junk
          (kernelRun0_A.sl.HS0_2 c i arg2 harg2 arg3 harg3 arg4 harg4 arg6 arg7 x0 x1 x2)) 1))
        (flat (ld arg7 (arg7.view.writes (Elt Ideal) arg7.view.junk
          (kernelRun0_A.sl.HS1_2 c i arg2 harg2 arg3 harg3 arg7 x0 x1)) 1)))
      :: kernelRun0_A.sl.HS0_2 c i arg2 harg2 arg3 harg3 arg4 harg4 arg6 arg7 x0 x1 x2 := rfl
theorem hs0_4 : kernelRun0_A.sl.HS0_4 (F := Ideal) c i arg2 harg2 arg3 harg3 arg4 harg4 arg6 arg7 x0 x1 x2
    = pc 2 (dacc c i arg2 harg2 arg3 harg3 arg4 harg4 x0 x1 x2 2
        (flat (ld arg6 (arg6.view.writes (Elt Ideal) arg6.view.junk
          (kernelRun0_A.sl.HS0_3 c i arg2 harg2 arg3 harg3 arg4 harg4 arg6 arg7 x0 x1 x2)) 2))
        (flat (ld arg7 (arg7.view.writes (Elt Ideal) arg7.view.junk
          (kernelRun0_A.sl.HS1_3 c i arg2 harg2 arg3 harg3 arg7 x0 x1)) 2)))
      :: kernelRun0_A.sl.HS0_3 c i arg2 harg2 arg3 harg3 arg4 harg4 arg6 arg7 x0 x1 x2 := rfl
theorem hs0_5 : kernelRun0_A.sl.HS0_5 (F := Ideal) c i arg2 harg2 arg3 harg3 arg4 harg4 arg6 arg7 x0 x1 x2
    = pc 3 (dacc c i arg2 harg2 arg3 harg3 arg4 harg4 x0 x1 x2 3
        (flat (ld arg6 (arg6.view.writes (Elt Ideal) arg6.view.junk
          (kernelRun0_A.sl.HS0_4 c i arg2 harg2 arg3 harg3 arg4 harg4 arg6 arg7 x0 x1 x2)) 3))
        (flat (ld arg7 (arg7.view.writes (Elt Ideal) arg7.view.junk
          (kernelRun0_A.sl.HS1_4 c i arg2 harg2 arg3 harg3 arg7 x0 x1)) 3)))
      :: kernelRun0_A.sl.HS0_4 c i arg2 harg2 arg3 harg3 arg4 harg4 arg6 arg7 x0 x1 x2 := rfl

/-- The accumulators after the diagonal block: each head's piece starts from zeros. -/
theorem diag_acc : kernelRun0_A.sl.HS0_5 (F := Ideal) c i arg2 harg2 arg3 harg3 arg4 harg4 arg6 arg7 x0 x1 x2
    = pcs (fun h => dacc c i arg2 harg2 arg3 harg3 arg4 harg4 x0 x1 x2 h (flat zslab) (flat zslab)) ++ zpiece := by
  have z0 := fun f => ld_zslab arg7 (arg7.view.writes (Elt Ideal) f zpiece) 0 fun i l => read_zpiece arg7 _ 0 i l
  have z1 := ld_zslab arg7 (arg7.view.writes (Elt Ideal) arg7.view.junk
    (kernelRun0_A.sl.HS1_2 c i arg2 harg2 arg3 harg3 arg7 x0 x1)) 1 fun _ _ => by
      rw [hs1_2]; simp only [read_pc, read_zpiece]; simp
  have z2 := ld_zslab arg7 (arg7.view.writes (Elt Ideal) arg7.view.junk
    (kernelRun0_A.sl.HS1_3 c i arg2 harg2 arg3 harg3 arg7 x0 x1)) 2 fun _ _ => by
      rw [hs1_3, hs1_2]; simp only [read_pc, read_zpiece]; simp
  have z3 := ld_zslab arg7 (arg7.view.writes (Elt Ideal) arg7.view.junk
    (kernelRun0_A.sl.HS1_4 c i arg2 harg2 arg3 harg3 arg7 x0 x1)) 3 fun _ _ => by
      rw [hs1_4, hs1_3, hs1_2]; simp only [read_pc, read_zpiece]; simp
  have y0 := fun f => ld_zslab arg6 (arg6.view.writes (Elt Ideal) f zpiece) 0 fun i l => read_zpiece arg6 _ 0 i l
  have e2 := hs0_2 c i arg2 harg2 arg3 harg3 arg4 harg4 arg6 arg7 x0 x1 x2
  rw [z0, y0] at e2
  have e3 := hs0_3 c i arg2 harg2 arg3 harg3 arg4 harg4 arg6 arg7 x0 x1 x2
  rw [z1, e2, ld_zslab arg6 _ 1 fun i l => by simp only [read_pc, read_zpiece]; simp] at e3
  have e4 := hs0_4 c i arg2 harg2 arg3 harg3 arg4 harg4 arg6 arg7 x0 x1 x2
  rw [z2, e3, ld_zslab arg6 _ 2 fun i l => by simp only [read_pc, read_zpiece]; simp] at e4
  have e5 := hs0_5 c i arg2 harg2 arg3 harg3 arg4 harg4 arg6 arg7 x0 x1 x2
  rw [z3, e4, ld_zslab arg6 _ 3 fun i l => by simp only [read_pc, read_zpiece]; simp] at e5
  exact e5

end Diag

end Cert.Att
-- ==== Proof.Points.lean ====
/-
  The numbers the kernel computes from a grid point: how many trips the loop over earlier blocks makes, which block of
  keys each trip reads, and the causal mask of the diagonal block.
-/
module

public import proofs.«01_k».proof.Proof.Diag

@[expose] public section

set_option maxRecDepth 16384

noncomputable section

namespace Cert.Att

open Idealize.ShloMosaic Idealize.ShloMosaic.TcCoe
open Cert.KernelIdeal Cert.KernelIdeal.Gen

/-- A grid point of the first batch entry with query block `y`. -/
def pt (y : Fin 64) : grid0.Coords := fun a => match a with
  | 0 => (0 : Fin 2)
  | 1 => y

/-- The loop over earlier blocks makes as many trips as there are earlier blocks. -/
theorem trips1 (i : grid0.Coords) : (k0_t1_loop i).trips = (i 1).val :=
  (by decide +kernel : ∀ y : Fin 64, (k0_t1_loop (pt y)).trips = y.val) (i 1)

/-- The loop's remainder makes no trip. -/
theorem trips2 (i : grid0.Coords) : (k0_t2_loop i).trips = 0 :=
  (by decide +kernel : ∀ y : Fin 64, (k0_t2_loop (pt y)).trips = 0) (i 1)

/-- The diagonal block starts where the queries do. -/
theorem off1 (i : grid0.Coords) : k0_off1 i = ![0, 256 * (i 1).val, 0] :=
  (by decide +kernel : ∀ y : Fin 64, k0_off1 (pt y) = ![0, 256 * y.val, 0]) (i 1)

/-- Trip `k` reads the `k + 1`-th block before the diagonal one. -/
theorem off2 (i : grid0.Coords) (k : Fin (k0_t1_loop i).trips) :
    k0_off2 i k = ![0, 256 * ((i 1).val - 1 - k.val), 0] :=
  (by decide +kernel : ∀ (y : Fin 64) (k : Fin (k0_t1_loop (pt y)).trips),
    k0_off2 (pt y) k = ![0, 256 * (y.val - 1 - k.val), 0]) (i 1) k

theorem word1 (i : grid0.Coords) : kernelRun0_A.sl.v1 i = BitVec.ofNat 32 (256 * (i 1).val) :=
  (by decide +kernel : ∀ y : Fin 64, kernelRun0_A.sl.v1 (pt y) = BitVec.ofNat 32 (256 * y.val)) (i 1)

theorem word18 (i : grid0.Coords) : kernelRun0_A.sl.v18 i = BitVec.ofNat 32 (i 1).val :=
  (by decide +kernel : ∀ y : Fin 64, kernelRun0_A.sl.v18 (pt y) = BitVec.ofNat 32 y.val) (i 1)

/-- The mask of the diagonal block: the key comes strictly before the query. -/
theorem dmask_apply (i : grid0.Coords) (r s : Fin 256) : dmask i (ix2 r s) = 1#1 ↔ s.val < r.val := by
  rw [dmask, word1, word18]
  pointwise [k0_pay83]
  have hy : (i 1).val < 64 := (i 1).isLt
  have h1 : IntOp.addi (Scalar.muli (Scalar.addi (BitVec.ofNat 32 (i 1).val) 0#32) 256#32) (BitVec.ofNat 32 s.val)
      = BitVec.ofNat 32 (256 * (i 1).val + s.val) := by
    show (BitVec.ofNat 32 (i 1).val + 0#32) * 256#32 + BitVec.ofNat 32 s.val = _
    apply BitVec.eq_of_toNat_eq
    simp only [BitVec.toNat_add, BitVec.toNat_mul, BitVec.toNat_ofNat]
    omega
  have h2 : IntOp.addi (BitVec.ofNat 32 (256 * (i 1).val)) (BitVec.ofNat 32 r.val)
      = BitVec.ofNat 32 (256 * (i 1).val + r.val) := by
    show BitVec.ofNat 32 (256 * (i 1).val) + BitVec.ofNat 32 r.val = _
    rw [BitVec.ofNat_add]
  have hs := s.isLt
  have hr := r.isLt
  rw [h1, h2, WordCmp.cmpi_slt_ofNat (by norm_num; omega) (by norm_num; omega)]
  by_cases h : s.val < r.val
  · simp [h]
  · simp [h]

/-- Rows of a whole-array memref at an index. -/
theorem rows_apply (a : Memref sig .tc .vmem S1x16384x256 .bf16) (X : BufTy.Contents (Elt Ideal) a.view.ty)
    (off : Fin 3 → ℕ) (hb : ∀ a, off a + S1x256x256.size a ≤ S1x16384x256.size a) (o : ℕ) (e : off = ![0, o, 0])
    (s l : Fin 256) (h : o + s.val < 16384) :
    rows a X off hb (ix2 s l) = a.view.read (Elt Ideal) X (ix3 0 ⟨o + s.val, h⟩ l) := by
  subst e
  rw [rows, blk_apply]
  show a.view.read (Elt Ideal) X ((Rect.unit (s := S1x16384x256) ![0, o, 0] S1x256x256.size hb).toLoadRect.idx (ix3 0 s l)) = _
  congr 1
  funext x
  apply Fin.ext
  fin_cases x
  · show 0 + 1 * 0 = 0; omega
  · show o + 1 * s.val = o + s.val; omega
  · show 0 + 1 * l.val = l.val; omega

end Cert.Att
-- ==== Proof.Sums.lean ====
/-
  Finite sums over the positions of a block of 256, as sums over an interval of positions.
-/
module

public import Mathlib.Algebra.BigOperators.Fin
public import Mathlib.Algebra.BigOperators.Intervals
public import Mathlib.Data.Real.Basic

@[expose] public section

namespace Cert.Att

/-- A sum over a block is a sum over its interval of positions. -/
theorem sum_block {M : Type*} [AddCommMonoid M] (n o : ℕ) (f : ℕ → M) :
    ∑ j : Fin n, f (o + j.val) = ∑ s ∈ Finset.Ico o (o + n), f s := by
  rw [Finset.sum_Ico_eq_sum_range, Fin.sum_univ_eq_sum_range (fun j => f (o + j)), Nat.add_sub_cancel_left]

/-- A sum over the strictly later positions of a block. -/
theorem sum_later {M : Type*} [AddCommMonoid M] (n o : ℕ) (s : Fin n) (f : ℕ → M) :
    (∑ j : Fin n, if s < j then f (o + j.val) else 0) = ∑ t ∈ Finset.Ico (o + s.val + 1) (o + n), f t := by
  have e := sum_block n o fun t => if o + s.val < t then f t else 0
  have e2 : ∀ j : Fin n, (if s < j then f (o + j.val) else 0) = if o + s.val < o + j.val then f (o + j.val) else 0 :=
    fun j => if_congr ⟨fun h => Nat.add_lt_add_left h o, fun h => by
      have : s.val < j.val := by omega
      exact this⟩ rfl rfl
  rw [Finset.sum_congr rfl fun j _ => e2 j, e, ← Finset.sum_filter]
  refine Finset.sum_congr (Finset.ext fun t => ?_) fun _ _ => rfl
  simp only [Finset.mem_filter, Finset.mem_Ico]
  omega

/-- A sum over a block and the interval after it. -/
theorem sum_join {M : Type*} [AddCommMonoid M] (a b c : ℕ) (f : ℕ → M) (h : a ≤ b) (h' : b ≤ c) :
    ∑ t ∈ Finset.Ico a b, f t + ∑ t ∈ Finset.Ico b c, f t = ∑ t ∈ Finset.Ico a c, f t :=
  Finset.sum_Ico_consecutive f h h'

end Cert.Att
-- ==== Proof.Walk.lean ====
/-
  The walk over the key blocks, from the diagonal one backwards. Before each trip head `h`'s carried sum is the sum of
  the masked logarithms over the keys already met, and its accumulator is the weighted sum of their values.
-/
module

public import proofs.«01_k».proof.Proof.Points
public import proofs.«01_k».proof.Proof.Sums

@[expose] public section

set_option maxRecDepth 16384

noncomputable section

namespace Cert.Att

open Idealize.ShloMosaic Idealize.ShloMosaic.TcCoe
open Cert.KernelIdeal Cert.KernelIdeal.Gen

/-- The masked logarithm at key `s` of a query at position `p` with scores `N`. -/
def mm (p : ℕ) (N : ℕ → ℝ) (s : ℕ) : ℝ := if s < p then ls (N s) else 0

/-- The weight of key `s`, the later keys counted up to `e`. -/
def ww (p e : ℕ) (N : ℕ → ℝ) (s : ℕ) : ℝ :=
  if s < p then (2 : ℝ) ^ (mm p N s - N s + ∑ t ∈ Finset.Ico (s + 1) e, mm p N t) else 0

/-- One block's step of the carried sum. -/
theorem carT_block (car : FVec Ideal S256x128 .f32) (lsm : FVec Ideal S256x256 .f32) (r : Fin 256) (l : Fin 128)
    (m : ℕ → ℝ) (o e : ℕ) (he : o + 256 ≤ e) (h : ∀ j : Fin 256, lsm (ix2 r j) = (m (o + j.val) : EReal))
    (hc : car (ix2 r l) = ((∑ t ∈ Finset.Ico (o + 256) e, m t : ℝ) : EReal)) :
    carT car lsm (ix2 r l) = ((∑ t ∈ Finset.Ico o e, m t : ℝ) : EReal) := by
  rw [carT_apply car lsm r l (fun j => m (o + j.val)) _ h hc, sum_block 256 o m, add_comm,
    sum_join o (o + 256) e m (by omega) he]

/-- One block's weights before masking. -/
theorem wT_block (nl lsm : FVec Ideal S256x256 .f32) (car : FVec Ideal S256x128 .f32) (r s : Fin 256) (N m : ℕ → ℝ)
    (o e : ℕ) (he : o + 256 ≤ e) (hn : nl (ix2 r s) = (N (o + s.val) : EReal))
    (h : ∀ j : Fin 256, lsm (ix2 r j) = (m (o + j.val) : EReal))
    (hc : ∀ l, car (ix2 r l) = ((∑ t ∈ Finset.Ico (o + 256) e, m t : ℝ) : EReal)) :
    wT nl lsm car (ix2 r s)
      = (((2 : ℝ) ^ (m (o + s.val) - N (o + s.val) + ∑ t ∈ Finset.Ico (o + s.val + 1) e, m t) : ℝ) : EReal) := by
  rw [wT_apply nl lsm car r s (N (o + s.val)) _ (fun j => m (o + j.val)) hn h hc, sum_later 256 o s m, add_assoc,
    sum_join (o + s.val + 1) (o + 256) e m (by omega) he]

/-- One block's step of the accumulator. -/
theorem accT_block (acc : FVec Ideal S256x128 .f32) (w : FVec Ideal S256x256 .f32) (vv : FVec Ideal S256x128 .bf16)
    (r : Fin 256) (l : Fin 128) (W : ℕ → ℝ) (V : ℕ → EReal) (o e : ℕ) (he : o + 256 ≤ e)
    (hw : ∀ s : Fin 256, w (ix2 r s) = (W (o + s.val) : EReal)) (hv : ∀ s : Fin 256, vv (ix2 s l) = V (o + s.val))
    (ha : acc (ix2 r l) = ∑ t ∈ Finset.Ico (o + 256) e, (W t : EReal) * V t) :
    accT acc w vv (ix2 r l) = ∑ t ∈ Finset.Ico o e, (W t : EReal) * V t := by
  rw [accT_apply, ha]
  have : ∑ s : Fin 256, w (ix2 r s) * vv (ix2 s l) = ∑ s : Fin 256, (W (o + s.val) : EReal) * V (o + s.val) :=
    Finset.sum_congr rfl fun s _ => by rw [hw, hv]
  rw [this, sum_block 256 o fun t => (W t : EReal) * V t, add_comm,
    sum_join o (o + 256) e (fun t => (W t : EReal) * V t) (by omega) he]

section Walk

variable (c : Dev nD) (i : grid0.Coords) (arg2 : Memref sig .tc .vmem S1x256x256 .f32) (harg2 : arg2.IsWhole)
  (arg3 : Memref sig .tc .vmem S1x16384x256 .bf16) (harg3 : arg3.IsWhole)
  (arg4 : Memref sig .tc .vmem S1x16384x256 .bf16) (harg4 : arg4.IsWhole)
  (arg5 : Memref sig .tc .vmem S1x256x256 .f32) (harg5 : arg5.IsWhole)
  (arg6 : Memref sig .tc .vmem S4x256x128 .f32) (harg6 : arg6.IsWhole)
  (arg7 : Memref sig .tc .vmem S4x256x128 .f32) (harg7 : arg7.IsWhole)
  (v18 : BitVec 32) (v58 : IVec S256x128 1) (v139 v142 v145 v148 : FVec Ideal S256x128 .bf16)
  (v163 : FVec Ideal S256x256 .bf16) (v240 v242 : FVec Ideal S256x256 .f32) (v325 : FVec Ideal S256x128 .f32)
  (v332 : FVec Ideal S256x256 .f32)
  (X3 : BufTy.Contents (Elt Ideal) arg3.view.ty) (X4 : BufTy.Contents (Elt Ideal) arg4.view.ty)

/-- The state of head `h`'s two slices at query row `r` once the keys from `o` on are done. -/
def Done (i : grid0.Coords) (arg6 arg7 : Memref sig .tc .vmem S4x256x128 .f32)
    (N : Fin 4 → Fin 256 → ℕ → ℝ) (V : ℕ → Fin 256 → EReal) (o : ℕ)
    (f6 : BufTy.Contents (Elt Ideal) arg6.view.ty) (f7 : BufTy.Contents (Elt Ideal) arg7.view.ty) : Prop :=
  ∀ (h : Fin 4) (r : Fin 256) (l : Fin 128),
    arg7.view.read (Elt Ideal) f7 (ix3 h r l)
        = ((∑ t ∈ Finset.Ico o (256 * (i 1).val + 256), mm (256 * (i 1).val + r.val) (N h r) t : ℝ) : EReal)
      ∧ arg6.view.read (Elt Ideal) f6 (ix3 h r l)
        = ∑ t ∈ Finset.Ico o (256 * (i 1).val + 256),
            (ww (256 * (i 1).val + r.val) (256 * (i 1).val + 256) (N h r) t : EReal) * V t (lane h l)

/-- The walk: after `k` trips the keys from `k` blocks before the diagonal one on are done. -/
theorem walk (N : Fin 4 → Fin 256 → ℕ → ℝ) (V : ℕ → Fin 256 → EReal)
    (G6 : BufTy.Contents (Elt Ideal) arg6.view.ty) (G7 : BufTy.Contents (Elt Ideal) arg7.view.ty)
    (hN : ∀ (h : Fin 4) (r : Fin 256) (k : Fin (k0_t1_loop i).trips) (s : Fin 256),
      tnl i arg3 v139 v142 v145 v148 X3 k h (ix2 r s) = (N h r (256 * ((i 1).val - 1 - k.val) + s.val) : EReal))
    (hV : ∀ (s : ℕ) (hs : s < 16384) (l : Fin 256), arg4.view.read (Elt Ideal) X4 (ix3 0 ⟨s, hs⟩ l) = V s l)
    (h0 : Done i arg6 arg7 N V (256 * (i 1).val) G6 G7) (k : ℕ) (hk : k ≤ (i 1).val) :
    Done i arg6 arg7 N V (256 * ((i 1).val - k))
      (arg6.view.writes (Elt Ideal) G6 (pb_k0_t1 (F := Ideal) Variants.none c none i arg2 harg2 arg3 harg3 arg4 harg4 arg5 harg5 arg6
        harg6 arg7 harg7 v18 v58 v139 v142 v145 v148 k0_pay80 v163 v240 v242 v325 v332 X3 X4 G6 G7 k).1)
      (arg7.view.writes (Elt Ideal) G7 (pb_k0_t1 (F := Ideal) Variants.none c none i arg2 harg2 arg3 harg3 arg4 harg4 arg5 harg5 arg6
        harg6 arg7 harg7 v18 v58 v139 v142 v145 v148 k0_pay80 v163 v240 v242 v325 v332 X3 X4 G6 G7 k).2) := by
  have hy : (i 1).val < 64 := (i 1).isLt
  induction k with
  | zero => exact h0
  | succ k ih =>
    have hk' : k < (k0_t1_loop i).trips := by rw [trips1]; omega
    have ih := ih (by omega)
    have es := pb_k0_t1_succ (F := Ideal) Variants.none c none i arg2 harg2 arg3 harg3 arg4 harg4 arg5 harg5 arg6
        harg6 arg7 harg7 v18 v58 v139 v142 v145 v148 k0_pay80 v163 v240 v242 v325 v332 X3 X4 G6 G7 ⟨k, hk'⟩
    rw [trip_eq] at es
    rw [es]
    generalize arg6.view.writes (Elt Ideal) G6 (pb_k0_t1 (F := Ideal) Variants.none c none i arg2 harg2 arg3 harg3 arg4 harg4 arg5 harg5 arg6
        harg6 arg7 harg7 v18 v58 v139 v142 v145 v148 k0_pay80 v163 v240 v242 v325 v332 X3 X4 G6 G7 k).1 = f6 at ih ⊢
    generalize arg7.view.writes (Elt Ideal) G7 (pb_k0_t1 (F := Ideal) Variants.none c none i arg2 harg2 arg3 harg3 arg4 harg4 arg5 harg5 arg6
        harg6 arg7 harg7 v18 v58 v139 v142 v145 v148 k0_pay80 v163 v240 v242 v325 v332 X3 X4 G6 G7 k).2 = f7 at ih ⊢
    have eo : 256 * ((i 1).val - (k + 1)) + 256 = 256 * ((i 1).val - k) := by omega
    have eo' : 256 * ((i 1).val - 1 - k) = 256 * ((i 1).val - (k + 1)) := by omega
    intro h r l
    rw [read_pcs, read_pcs, slab_apply, slab_apply]
    have hn : ∀ j : Fin 256, tnl i arg3 v139 v142 v145 v148 X3 ⟨k, hk'⟩ h (ix2 r j)
        = (N h r (256 * ((i 1).val - (k + 1)) + j.val) : EReal) := fun j => by
      rw [hN h r ⟨k, hk'⟩ j]; dsimp only; rw [eo']
    have hm : ∀ j : Fin 256, lsmT (tnl i arg3 v139 v142 v145 v148 X3 ⟨k, hk'⟩ h) (ix2 r j)
        = (mm (256 * (i 1).val + r.val) (N h r) (256 * ((i 1).val - (k + 1)) + j.val) : EReal) := fun j => by
      rw [lsmT_apply _ r j _ (hn j), mm, if_pos (by omega)]
    have hc : ∀ l : Fin 128, flat (ld arg7 f7 h) (ix2 r l)
        = ((∑ t ∈ Finset.Ico (256 * ((i 1).val - (k + 1)) + 256) (256 * (i 1).val + 256),
            mm (256 * (i 1).val + r.val) (N h r) t : ℝ) : EReal) := fun l => by
      rw [flat_apply, ld_apply, (ih h r l).1, eo]
    have ha : flat (ld arg6 f6 h) (ix2 r l)
        = ∑ t ∈ Finset.Ico (256 * ((i 1).val - (k + 1)) + 256) (256 * (i 1).val + 256),
            (ww (256 * (i 1).val + r.val) (256 * (i 1).val + 256) (N h r) t : EReal) * V t (lane h l) := by
      rw [flat_apply, ld_apply, (ih h r l).2, eo]
    refine ⟨carT_block _ _ r l _ _ _ (by omega) hm (hc l), ?_⟩
    refine accT_block _ _ _ r l (ww (256 * (i 1).val + r.val) (256 * (i 1).val + 256) (N h r)) (fun t => V t (lane h l)) _ _ (by omega)
      (fun s => ?_) (fun s => ?_) ha
    · rw [wT_block _ _ _ r s (N h r) (mm (256 * (i 1).val + r.val) (N h r)) _ _ (by omega) (hn s) hm hc, ww, if_pos (by omega)]
    · rw [half_apply, rows_apply arg4 X4 _ _ _ (off2 i ⟨k, hk'⟩) s (lane h l) (by dsimp only; omega), hV]
      dsimp only
      rw [eo']

end Walk

section Start

variable (c : Dev nD) (i : grid0.Coords) (arg2 : Memref sig .tc .vmem S1x256x256 .f32) (harg2 : arg2.IsWhole)
  (arg3 : Memref sig .tc .vmem S1x16384x256 .bf16) (harg3 : arg3.IsWhole)
  (arg4 : Memref sig .tc .vmem S1x16384x256 .bf16) (harg4 : arg4.IsWhole)
  (arg6 arg7 : Memref sig .tc .vmem S4x256x128 .f32)
  (x0 : Vec Ideal S1x256x256 .f32) (x1 x2 : Vec Ideal S1x16384x256 .bf16)

/-- The diagonal block leaves the keys from its first one on done. -/
theorem start (N : Fin 4 → Fin 256 → ℕ → ℝ) (V : ℕ → Fin 256 → EReal)
    (f6 : BufTy.Contents (Elt Ideal) arg6.view.ty) (f7 : BufTy.Contents (Elt Ideal) arg7.view.ty)
    (hN : ∀ (h : Fin 4) (r s : Fin 256),
      dnl c i arg2 harg2 arg3 harg3 x0 x1 h (ix2 r s) = (N h r (256 * (i 1).val + s.val) : EReal))
    (hV : ∀ (s : ℕ) (hs : s < 16384) (l : Fin 256),
      arg4.view.read (Elt Ideal) (harg4.unread x2) (ix3 0 ⟨s, hs⟩ l) = V s l) :
    Done i arg6 arg7 N V (256 * (i 1).val)
      (arg6.view.writes (Elt Ideal) f6 (kernelRun0_A.sl.HS0_5 (F := Ideal) c i arg2 harg2 arg3 harg3 arg4 harg4 arg6 arg7 x0 x1 x2))
      (arg7.view.writes (Elt Ideal) f7 (kernelRun0_A.sl.HS1_5 (F := Ideal) c i arg2 harg2 arg3 harg3 arg7 x0 x1)) := by
  have hy : (i 1).val < 64 := (i 1).isLt
  intro h r l
  rw [diag_car, diag_acc, read_pcs, read_pcs, dcar, dacc, slab_apply, slab_apply]
  have hm : ∀ j : Fin 256, dlsm c i arg2 harg2 arg3 harg3 x0 x1 h (ix2 r j)
      = (mm (256 * (i 1).val + r.val) (N h r) (256 * (i 1).val + j.val) : EReal) := fun j => by
    rw [dlsm, maskT_apply, lsmT_apply _ r j _ (hN h r j), mm]
    by_cases hj : j.val < r.val
    · rw [if_pos ((dmask_apply i r j).mpr hj), if_pos (by omega)]
    · rw [if_neg (fun e => hj ((dmask_apply i r j).mp e)), if_neg (by omega), EReal.coe_zero]
  have hc : ∀ l : Fin 128, flat zslab (ix2 r l)
      = ((∑ t ∈ Finset.Ico (256 * (i 1).val + 256) (256 * (i 1).val + 256),
          mm (256 * (i 1).val + r.val) (N h r) t : ℝ) : EReal) := fun l => by
    rw [flat_apply, Finset.Ico_self, Finset.sum_empty, EReal.coe_zero]; rfl
  refine ⟨carT_block _ _ r l _ _ _ le_rfl hm (hc l), ?_⟩
  refine accT_block _ _ _ r l (ww (256 * (i 1).val + r.val) (256 * (i 1).val + 256) (N h r)) (fun t => V t (lane h l)) _ _ le_rfl
    (fun s => ?_) (fun s => ?_) ?_
  · rw [maskT_apply, wT_block _ _ _ r s (N h r) (mm (256 * (i 1).val + r.val) (N h r)) _ _ le_rfl (hN h r s) hm hc, ww]
    by_cases hj : s.val < r.val
    · rw [if_pos ((dmask_apply i r s).mpr hj), if_pos (by omega)]
    · rw [if_neg (fun e => hj ((dmask_apply i r s).mp e)), if_neg (by omega), EReal.coe_zero]
  · rw [half_apply, rows_apply arg4 _ _ _ _ (off1 i) s (lane h l) (by omega), hV]
  · rw [flat_apply, Finset.Ico_self, Finset.sum_empty]; rfl

end Start

end Cert.Att
-- ==== Proof.Out.lean ====
/-
  What one grid point writes: the attention output of its 256 queries, as a weighted sum of the values over the keys up
  to the end of the queries' own block.
-/
module

public import proofs.«01_k».proof.Proof.Walk

@[expose] public section

set_option maxRecDepth 16384

noncomputable section

namespace Cert.Att

open Idealize.ShloMosaic Idealize.ShloMosaic.TcCoe
open Cert.KernelIdeal Cert.KernelIdeal.Gen

/-! ### The lanes a head owns -/

/-- The even heads own the lower half of the lanes. -/
theorem own1 (r : Fin 256) (l : Fin 128) : kernelRun0_A.sl.r_1 (ix2 r l) = 1#1 ↔ l.val < 64 := by
  pointwise [kernelRun0_A.sl.r_1, kernelRun0_A.sl.v32, k0_pay67, k0_pay68]
  revert l
  decide +kernel

/-- The odd heads own the upper half of the lanes. -/
theorem own2 (r : Fin 256) (l : Fin 128) : kernelRun0_A.sl.r_2 (ix2 r l) = 1#1 ↔ ¬ l.val < 64 := by
  pointwise [kernelRun0_A.sl.r_2, kernelRun0_A.sl.v32, k0_pay69, k0_pay70, k0_pay71]
  revert l
  decide +kernel

theorem own3 (r : Fin 256) (l : Fin 128) : k0_pay72 kernelRun0_A.sl.v32 (ix2 r l) = 1#1 ↔ l.val < 64 := by
  pointwise [kernelRun0_A.sl.v32, k0_pay72]
  revert l
  decide +kernel

/-- A choice by a mask, as a choice by the condition the mask holds. -/
theorem select_of {α : Type} (w : BitVec 1) (p : Prop) [Decidable p] (h : w = 1#1 ↔ p) (x y : α) :
    Scalar.select w x y = if p then x else y := by
  by_cases hp : p
  · rw [if_pos hp, h.mpr hp]; rfl
  · rw [if_neg hp]
    have : w ≠ 1#1 := fun e => hp (h.mp e)
    exact if_neg this

section Queries

variable (c : Dev nD) (arg2 : Memref sig .tc .vmem S1x256x256 .f32) (harg2 : arg2.IsWhole) (x0 : Vec Ideal S1x256x256 .f32)

/-- The scaled queries. -/
theorem q_apply (r L : Fin 256) : kernelRun0_A.sl.r c arg2 harg2 x0 (ix2 r L)
    = x0 (ix3 0 r L) * ((-((1 / 8) * (Real.log 2)⁻¹) : ℝ) : EReal) := by
  pointwise [kernelRun0_A.sl.r, k0_pay66]
  rw [q_scale]
  congr 1
  show arg2.view.read (Elt Ideal) (harg2.unread x0)
    ((Rect.unit (s := S1x256x256) ![0, 0, 0] S1x256x256.size inb_S1x256x256_S1x256x256_0_0_0).toLoadRect.idx (ix3 0 r L)) = _
  rw [harg2.read_unread]
  congr 1
  funext x
  apply Fin.ext
  fin_cases x
  · show 0 + 1 * 0 = 0; omega
  · show 0 + 1 * r.val = r.val; omega
  · show 0 + 1 * L.val = L.val; omega

/-- A head's queries: the scaled queries in the head's own lanes of its lane pair, zero in the others. -/
theorem qh_apply (h : Fin 4) (r : Fin 256) (l : Fin 128) : qh c arg2 harg2 x0 h (ix2 r l)
    = if l.val / 64 = h.val % 2 then kernelRun0_A.sl.r c arg2 harg2 x0 (ix2 r (lane h l)) else 0 := by
  have hl := l.isLt
  fin_cases h
  · show kernelRun0_A.sl.r_3 c arg2 harg2 x0 (ix2 r l) = _
    pointwise [kernelRun0_A.sl.r_3, k0_pay76]
    rw [select_of _ _ (own1 r l)]
    refine if_congr (by simp <;> omega) (congrArg _ (congrArg (ix2 r) (Fin.ext (by simp [lane])))) rfl
  · show kernelRun0_A.sl.r_4 c arg2 harg2 x0 (ix2 r l) = _
    pointwise [kernelRun0_A.sl.r_4, k0_pay77]
    rw [select_of _ _ (own2 r l)]
    refine if_congr (by simp <;> omega) (congrArg _ (congrArg (ix2 r) (Fin.ext (by simp [lane])))) rfl
  · show kernelRun0_A.sl.r_5 c arg2 harg2 x0 (ix2 r l) = _
    pointwise [kernelRun0_A.sl.r_5, k0_pay78]
    rw [select_of _ _ (own3 r l)]
    refine if_congr (by simp <;> omega) (congrArg _ (congrArg (ix2 r) (Fin.ext (by simp [lane])))) rfl
  · show kernelRun0_A.sl.r_6 c arg2 harg2 x0 (ix2 r l) = _
    have e := own2 r l
    revert e
    pointwise [kernelRun0_A.sl.r_6, kernelRun0_A.sl.r_2, kernelRun0_A.sl.v32, k0_pay69, k0_pay70, k0_pay71, k0_pay73,
      k0_pay74, k0_pay75, k0_pay79]
    intro e
    rw [select_of _ _ e]
    refine if_congr (by simp <;> omega) (congrArg _ (congrArg (ix2 r) (Fin.ext (by simp [lane])))) rfl

end Queries

/-- The lane that place `d` of head `h` is. -/
def hd (h : Fin 4) (d : Fin 64) : Fin 256 := ⟨64 * h.val + d.val, by omega⟩

/-- The scaled, negated score of a query row against a key. -/
def score (Q : Fin 256 → ℝ) (K : Fin 256 → ℝ) (h : Fin 4) : ℝ :=
  -((1 / 8) * (Real.log 2)⁻¹) * ∑ d : Fin 64, Q (hd h d) * K (hd h d)

/-- The sum over a lane pair with the other head's lanes zeroed is the sum over the head's own lanes. -/
theorem sum_own (f : Fin 256 → ℝ) (h : Fin 4) :
    (∑ l : Fin 128, if l.val / 64 = h.val % 2 then f (lane h l) else 0) = ∑ d : Fin 64, f (hd h d) := by
  rw [← Finset.sum_filter]
  refine (Finset.sum_bij' (fun (d : Fin 64) _ => (⟨64 * (h.val % 2) + d.val, by omega⟩ : Fin 128))
    (fun (l : Fin 128) _ => (⟨l.val % 64, by omega⟩ : Fin 64)) ?_ ?_ ?_ ?_ ?_).symm
  · intro d _
    simp only [Finset.mem_filter, Finset.mem_univ, true_and]
    omega
  · intro l _; exact Finset.mem_univ _
  · intro d _; apply Fin.ext; dsimp only; omega
  · intro l hl
    simp only [Finset.mem_filter, Finset.mem_univ, true_and] at hl
    apply Fin.ext; dsimp only; omega
  · intro d _
    congr 1
    apply Fin.ext
    show 64 * h.val + d.val = 128 * (h.val / 2) + (64 * (h.val % 2) + d.val)
    omega

/-- The scores from real queries and keys. -/
theorem nlT_score (c : Dev nD) (arg2 : Memref sig .tc .vmem S1x256x256 .f32) (harg2 : arg2.IsWhole)
    (x0 : Vec Ideal S1x256x256 .f32) (kk : FVec Ideal S256x128 .bf16) (h : Fin 4) (r s : Fin 256)
    (Q K : Fin 256 → ℝ) (hQ : ∀ L, x0 (ix3 0 r L) = (Q L : EReal)) (hK : ∀ l, kk (ix2 s l) = (K (lane h l) : EReal)) :
    nlT (qh c arg2 harg2 x0 h) kk (ix2 r s) = (score Q K h : EReal) := by
  rw [nlT_apply]
  have e : ∀ l : Fin 128, qh c arg2 harg2 x0 h (ix2 r l) * kk (ix2 s l)
      = ((if l.val / 64 = h.val % 2 then
          (fun L => -((1 / 8) * (Real.log 2)⁻¹) * (Q L * K L)) (lane h l) else 0 : ℝ) : EReal) := fun l => by
    rw [qh_apply, hK]
    split_ifs with hl
    · rw [q_apply, hQ, ← EReal.coe_mul, ← EReal.coe_mul]; congr 1; ring
    · rw [zero_mul, EReal.coe_zero]
  rw [Finset.sum_congr rfl fun l _ => e l, ← coe_sum, sum_own (fun L => -((1 / 8) * (Real.log 2)⁻¹) * (Q L * K L)) h,
    score, Finset.mul_sum]

section Point

variable (c : Dev nD) (i : grid0.Coords) (arg2 : Memref sig .tc .vmem S1x256x256 .f32) (harg2 : arg2.IsWhole)
  (arg3 : Memref sig .tc .vmem S1x16384x256 .bf16) (harg3 : arg3.IsWhole)
  (arg4 : Memref sig .tc .vmem S1x16384x256 .bf16) (harg4 : arg4.IsWhole)
  (arg5 : Memref sig .tc .vmem S1x256x256 .f32) (harg5 : arg5.IsWhole)
  (arg6 : Memref sig .tc .vmem S4x256x128 .f32) (harg6 : arg6.IsWhole)
  (arg7 : Memref sig .tc .vmem S4x256x128 .f32) (harg7 : arg7.IsWhole)
  (x0 : Vec Ideal S1x256x256 .f32) (x1 x2 : Vec Ideal S1x16384x256 .bf16)

/-- The accumulators when the walk is over. -/
def fin6 : BufTy.Contents (Elt Ideal) arg6.view.ty :=
  arg6.view.writes (Elt Ideal)
    (arg6.view.writes (Elt Ideal) arg6.view.junk (kernelRun0_A.sl.HS0_5 c i arg2 harg2 arg3 harg3 arg4 harg4 arg6 arg7 x0 x1 x2))
    (pb_k0_t1 Variants.none c none i arg2 harg2 arg3 harg3 arg4 harg4 arg5 harg5 arg6 harg6 arg7 harg7
      (kernelRun0_A.sl.v18 i) kernelRun0_A.sl.r_1 (kernelRun0_A.sl.r_3 c arg2 harg2 x0)
      (kernelRun0_A.sl.r_4 c arg2 harg2 x0) (kernelRun0_A.sl.r_5 c arg2 harg2 x0)
      (kernelRun0_A.sl.r_6 c arg2 harg2 x0) k0_pay80 (kernelRun0_A.sl.r_8 c i arg4 harg4 x2)
      (kernelRun0_A.sl.r_22 c i arg2 harg2 arg3 harg3 x0 x1)
      (kernelRun0_A.sl.r_23 c i arg2 harg2 arg3 harg3 x0 x1)
      (kernelRun0_A.sl.r_28 c i arg2 harg2 arg3 harg3 arg7 x0 x1)
      (kernelRun0_A.sl.r_29 c i arg2 harg2 arg3 harg3 arg7 x0 x1) (harg3.unread x1) (harg4.unread x2)
      (arg6.view.writes (Elt Ideal) arg6.view.junk
        (kernelRun0_A.sl.HS0_5 c i arg2 harg2 arg3 harg3 arg4 harg4 arg6 arg7 x0 x1 x2))
      (arg7.view.writes (Elt Ideal) arg7.view.junk (kernelRun0_A.sl.HS1_5 c i arg2 harg2 arg3 harg3 arg7 x0 x1))
      (k0_t1_loop i).trips).1

/-- The weighted sum a query row ends with. -/
def rowOut (qi : ℕ) (r : Fin 256) (Q : Fin 256 → ℝ) (K : ℕ → Fin 256 → ℝ) (V : ℕ → Fin 256 → EReal) (h : Fin 4)
    (L : Fin 256) : EReal :=
  ∑ t ∈ Finset.Ico 0 (256 * qi + 256),
    (ww (256 * qi + r.val) (256 * qi + 256) (fun s => score Q (K s) h) t : EReal) * V t L

theorem fin6_apply (Q : Fin 256 → Fin 256 → ℝ) (K : ℕ → Fin 256 → ℝ) (V : ℕ → Fin 256 → EReal)
    (hQ : ∀ r L, x0 (ix3 0 r L) = (Q r L : EReal))
    (hK : ∀ (s : ℕ) (hs : s < 16384) (L : Fin 256), x1 (ix3 0 ⟨s, hs⟩ L) = (K s L : EReal))
    (hV : ∀ (s : ℕ) (hs : s < 16384) (L : Fin 256), x2 (ix3 0 ⟨s, hs⟩ L) = V s L)
    (h : Fin 4) (r : Fin 256) (l : Fin 128) :
    arg6.view.read (Elt Ideal)
        (fin6 c i arg2 harg2 arg3 harg3 arg4 harg4 arg5 harg5 arg6 harg6 arg7 harg7 x0 x1 x2) (ix3 h r l)
      = rowOut (i 1).val r (Q r) K V h (lane h l) := by
  have hy : (i 1).val < 64 := (i 1).isLt
  have hV' : ∀ (s : ℕ) (hs : s < 16384) (l : Fin 256),
      arg4.view.read (Elt Ideal) (harg4.unread x2) (ix3 0 ⟨s, hs⟩ l) = V s l := fun s hs l => by
    rw [harg4.read_unread]; exact hV s hs l
  have hrow : ∀ (off : Fin 3 → ℕ) (hb : ∀ a, off a + S1x256x256.size a ≤ S1x16384x256.size a) (o : ℕ),
      off = ![0, o, 0] → o + 256 ≤ 16384 → ∀ (h : Fin 4) (s : Fin 256) (l : Fin 128),
      half h (rows arg3 (harg3.unread x1) off hb) (ix2 s l) = (K (o + s.val) (lane h l) : EReal) :=
    fun off hb o e ho h s l => by
      rw [half_apply, rows_apply arg3 _ off hb o e s (lane h l) (by omega), harg3.read_unread]
      exact hK _ _ _
  have w := walk c i arg2 harg2 arg3 harg3 arg4 harg4 arg5 harg5 arg6 harg6 arg7 harg7 (kernelRun0_A.sl.v18 i)
    kernelRun0_A.sl.r_1 (kernelRun0_A.sl.r_3 c arg2 harg2 x0) (kernelRun0_A.sl.r_4 c arg2 harg2 x0)
    (kernelRun0_A.sl.r_5 c arg2 harg2 x0) (kernelRun0_A.sl.r_6 c arg2 harg2 x0) (kernelRun0_A.sl.r_8 c i arg4 harg4 x2)
    (kernelRun0_A.sl.r_22 c i arg2 harg2 arg3 harg3 x0 x1) (kernelRun0_A.sl.r_23 c i arg2 harg2 arg3 harg3 x0 x1)
    (kernelRun0_A.sl.r_28 c i arg2 harg2 arg3 harg3 arg7 x0 x1) (kernelRun0_A.sl.r_29 c i arg2 harg2 arg3 harg3 arg7 x0 x1)
    (harg3.unread x1) (harg4.unread x2) (fun h r s => score (Q r) (K s) h) V _ _
    (fun h r k s => nlT_score c arg2 harg2 x0 _ h r s (Q r) (K _) (hQ r) fun l =>
      hrow _ (k0_off2_inb i k) _ (off2 i k) (by omega) h s l)
    hV'
    (start c i arg2 harg2 arg3 harg3 arg4 harg4 arg6 arg7 x0 x1 x2 (fun h r s => score (Q r) (K s) h) V arg6.view.junk
      arg7.view.junk
      (fun h r s => nlT_score c arg2 harg2 x0 _ h r s (Q r) (K _) (hQ r) fun l =>
        hrow _ (k0_off1_inb i) _ (off1 i) (by omega) h s l) hV')
    (i 1).val le_rfl h r l
  rw [Nat.sub_self, Nat.mul_zero] at w
  rw [fin6, trips1]
  exact w.2

/-- What the last write leaves in the output block: of each lane pair's two accumulators the one whose head owns the
    lane. -/
theorem run_eq : (kernelRun0_A (F := Ideal) c i arg2 harg2 arg3 harg3 arg4 harg4 arg5 harg5 arg6 harg6 arg7 harg7 x0 x1 x2).1
    = [⟨Rect.unit ![0, 0, 0] S1x256x256.size inb_S1x256x256_S1x256x256_0_0_0,
        k0_pay1 (k0_pay72 kernelRun0_A.sl.v32)
          (k0_pay119 kernelRun0_A.sl.r_1
            (ld arg6 (fin6 c i arg2 harg2 arg3 harg3 arg4 harg4 arg5 harg5 arg6 harg6 arg7 harg7 x0 x1 x2) 0)
            (ld arg6 (fin6 c i arg2 harg2 arg3 harg3 arg4 harg4 arg5 harg5 arg6 harg6 arg7 harg7 x0 x1 x2) 1))
          (k0_pay120
            (ld arg6 (fin6 c i arg2 harg2 arg3 harg3 arg4 harg4 arg5 harg5 arg6 harg6 arg7 harg7 x0 x1 x2) 2))
          (ld arg6 (fin6 c i arg2 harg2 arg3 harg3 arg4 harg4 arg5 harg5 arg6 harg6 arg7 harg7 x0 x1 x2) 3)⟩] := by
  have t2 : Scf.trips (k0_t2_loop i).lb (k0_t2_loop i).ub (k0_t2_loop i).st = 0 := trips2 i
  have t1 : Scf.trips (k0_t1_loop i).lb (k0_t1_loop i).ub (k0_t1_loop i).st = (k0_t1_loop i).trips := rfl
  unfold kernelRun0_A
  dsimp only
  unfold kernelRun0_A.sl.r_30 kernelRun0_A.sl.r_31 kernelRun0_A.sl.v356 kernelRun0_A.sl.v358 kernelRun0_A.sl.v361
    kernelRun0_A.sl.v363
  simp only [t2, t1, pb_k0_t2, List.nil_append, View.readCov, View.writes_append]
  rfl

/-- THE BLOCK A GRID POINT WRITES, at an index. -/
theorem out_apply (Q : Fin 256 → Fin 256 → ℝ) (K : ℕ → Fin 256 → ℝ) (V : ℕ → Fin 256 → EReal)
    (hQ : ∀ r L, x0 (ix3 0 r L) = (Q r L : EReal))
    (hK : ∀ (s : ℕ) (hs : s < 16384) (L : Fin 256), x1 (ix3 0 ⟨s, hs⟩ L) = (K s L : EReal))
    (hV : ∀ (s : ℕ) (hs : s < 16384) (L : Fin 256), x2 (ix3 0 ⟨s, hs⟩ L) = V s L) (r L : Fin 256) :
    out0_A_3 (F := Ideal) c i arg2 harg2 arg3 harg3 arg4 harg4 arg5 harg5 arg6 harg6 arg7 harg7 x0 x1 x2 (ix3 0 r L)
      = rowOut (i 1).val r (Q r) K V ⟨L.val / 64, by omega⟩ L := by
  have hf := fun h l => fin6_apply c i arg2 harg2 arg3 harg3 arg4 harg4 arg5 harg5 arg6 harg6 arg7 harg7 x0 x1 x2 Q K V
    hQ hK hV h r l
  have hL := L.isLt
  have e : ∀ (h : Fin 4) (l : Fin 128), h.val = L.val / 64 → l.val = L.val % 128 →
      rowOut (i 1).val r (Q r) K V h (lane h l) = rowOut (i 1).val r (Q r) K V ⟨L.val / 64, by omega⟩ L := fun h l e1 e2 => by
    have a : h = ⟨L.val / 64, by omega⟩ := Fin.ext e1
    have b : lane h l = L := Fin.ext (by show 128 * (h.val / 2) + l.val = L.val; omega)
    rw [b, a]
  rw [out0_A_3, run_eq]
  refine (View.read_writes_cons_unit_of_mem VO0_3 _ _ _ [] (ix3 0 r L) (ix3 0 r L) rfl fun b => ?_).trans ?_
  · fin_cases b
    · show 0 = 0 + 0; omega
    · show r.val = 0 + r.val; omega
    · show L.val = 0 + L.val; omega
  pointwise [k0_pay1, k0_pay119, k0_pay120]
  simp only [ld_apply, hf]
  split_ifs with h
  · rw [select_of _ _ (own1 r _)]
    dsimp only
    split_ifs with h'
    · exact e 0 _ (by show 0 = _; omega) (by dsimp only; omega)
    · exact e 1 _ (by show 1 = _; omega) (by dsimp only; omega)
  · rw [select_of _ _ (own3 r _)]
    dsimp only
    split_ifs with h'
    · exact e 2 _ (by show 2 = _; omega) (by dsimp only; omega)
    · exact e 3 _ (by show 3 = _; omega) (by dsimp only; omega)
  · exact absurd rfl ‹¬ _›

end Point

end Cert.Att
-- ==== Proof.Array.lean ====
/-
  The array the attention kernel leaves: every result element is the weighted sum of its own query row.
-/
module

public import proofs.«01_k».proof.Proof.Out
public import proofs.«01_k».proof.Proof.Gen.KernelIdeal.Value
public import Idealize.ShloMosaic.Lib.Pipeline.ValueKit

@[expose] public section

set_option maxRecDepth 16384

noncomputable section

namespace Cert.Att

open Idealize.ShloMosaic Idealize.ShloMosaic.TcCoe
open Cert.KernelIdeal Cert.KernelIdeal.Gen Cert.KernelIdeal.Value

/-- Where the four windows stand at a point: queries and results at the point's own block of its batch, keys and values
    at the whole of the batch. -/
theorem places : ∀ t : Fin grid0.N,
    win0_0.index t = ![(grid0.coords t 0).val, (grid0.coords t 1).val, 0]
    ∧ win0_1.index t = ![(grid0.coords t 0).val, 0, 0] ∧ win0_2.index t = ![(grid0.coords t 0).val, 0, 0]
    ∧ win0_3.index t = ![(grid0.coords t 0).val, (grid0.coords t 1).val, 0] := by
  decide +kernel

/-- The point of a batch and a block of queries. -/
theorem point_at : ∀ (b : Fin 2) (y : Fin 64), ∃ t : Fin grid0.N, (grid0.coords t 0).val = b.val ∧ (grid0.coords t 1).val = y.val := by
  decide +kernel

variable (m : (ℓ : Loc nD τ sig) → Buf (Elt Ideal) ℓ) (c : Dev nD)

/-- The queries' block at a point. -/
theorem q_block (t : Fin cfg0.N) (b : Fin 2) (p : Fin 16384) (r L : Fin 256) (hb : (grid0.coords t 0).val = b.val)
    (hp : 256 * (grid0.coords t 1).val + r.val = p.val) :
    (iblk m c 0 t : S1x256x256.Idx → EReal) (ix3 0 r L) = m ((c : Thread nD τ).loc main_arg0) (ix3 b p L) := by
  have e := (places t).1
  blk_ext [iblk, V, e]

/-- The keys' block at a point: the whole of the batch (the change of format is the identity on extended reals). -/
theorem k_block (t : Fin cfg0.N) (b : Fin 2) (s : Fin 16384) (L : Fin 256) (hb : (grid0.coords t 0).val = b.val) :
    (iblk m c 1 t : S1x16384x256.Idx → EReal) (ix3 0 s L) = m ((c : Thread nD τ).loc main_arg1) (ix3 b s L) := by
  have e := (places t).2.1
  blk_ext [iblk, V, e]

/-- The values' block at a point. -/
theorem v_block (t : Fin cfg0.N) (b : Fin 2) (s : Fin 16384) (L : Fin 256) (hb : (grid0.coords t 0).val = b.val) :
    (iblk m c 2 t : S1x16384x256.Idx → EReal) (ix3 0 s L) = m ((c : Thread nD τ).loc main_arg2) (ix3 b s L) := by
  have e := (places t).2.2.1
  blk_ext [iblk, V, e]

/-- The result array: batch `b`, query `p`, lane `L` holds the weighted sum of the values of the head that owns the lane,
    for real queries and keys. -/
theorem arr_apply (Q K : Fin 2 → ℕ → Fin 256 → ℝ)
    (hQ : ∀ b (s : Fin 16384) L, m ((c : Thread nD τ).loc main_arg0) (ix3 b s L) = (Q b s.val L : EReal))
    (hK : ∀ b (s : Fin 16384) L, m ((c : Thread nD τ).loc main_arg1) (ix3 b s L) = (K b s.val L : EReal))
    (W : Fin 2 → ℕ → Fin 256 → EReal)
    (hW : ∀ b (s : Fin 16384) L, m ((c : Thread nD τ).loc main_arg2) (ix3 b s L) = W b s.val L)
    (b : Fin 2) (p : Fin 16384) (L : Fin 256) :
    (dats m 0 c).arrAt 3 cfg0.N (ix3 b p L)
      = rowOut (p.val / 256) ⟨p.val % 256, by omega⟩ (Q b p.val) (K b) (W b) ⟨L.val / 64, by omega⟩ L := by
  obtain ⟨t, h0, h1⟩ := point_at b ⟨p.val / 256, by omega⟩
  have h1 : (grid0.coords t 1).val = p.val / 256 := h1
  have e := (places t).2.2.2
  have hb := congrFun (blocks3 m c t (flush0_3 t)) (ix3 (0 : Fin 1) (⟨p.val % 256, by omega⟩ : Fin 256) L)
  have hp : ((cfg0.win 3).blk t).view.emb (ix3 (0 : Fin 1) (⟨p.val % 256, by omega⟩ : Fin 256) L) = ix3 b p L := by
    blk_ext [e]
  have hl : ((cfg0.win 3).blk t).view.read (Elt Ideal) ((dats m 0 c).arrAt 3 cfg0.N)
      (ix3 (0 : Fin 1) (⟨p.val % 256, by omega⟩ : Fin 256) L) = (dats m 0 c).arrAt 3 cfg0.N (ix3 b p L) := by
    rw [← hp]; rfl
  rw [← hl, hb, flushed3_A]
  refine (out_apply c (grid0.coords t) _ _ _ _ _ _ _ _ _ _ _ _ _ _ _
    (fun r => Q b (256 * (p.val / 256) + r.val)) (K b) (W b) (fun r L => ?_) (fun s hs L => ?_) (fun s hs L => ?_)
    ⟨p.val % 256, by omega⟩ L).trans ?_
  · exact (q_block m c t b ⟨256 * (p.val / 256) + r.val, by omega⟩ r L h0 (by rw [h1])).trans (hQ b _ L)
  · exact (k_block m c t b ⟨s, hs⟩ L h0).trans (hK b _ L)
  · exact (v_block m c t b ⟨s, hs⟩ L h0).trans (hW b _ L)
  · rw [h1]
    dsimp only
    rw [Nat.div_add_mod]

end Cert.Att
-- ==== Proof.Stick.lean ====
/-
  The real arithmetic that relates the kernel's base-two weights to the stick-breaking weights.
-/
module

public import proofs.«01_k».proof.Proof.Out

@[expose] public section

noncomputable section

namespace Cert.Att

/-- The logarithm of one plus the exponential. -/
def sp (x : ℝ) : ℝ := max x 0 + Real.log (1 + Real.exp (-|x|))

theorem two_pow (y : ℝ) : (2 : ℝ) ^ (y * (Real.log 2)⁻¹) = Real.exp y := by
  have h : Real.log 2 ≠ 0 := (Real.log_pos (by norm_num)).ne'
  rw [Real.rpow_def_of_pos (by norm_num)]
  congr 1
  field_simp

theorem sp_neg (x : ℝ) : sp (-x) = sp x - x := by
  unfold sp
  rw [abs_neg]
  rcases le_total 0 x with h | h
  · rw [max_eq_right (by linarith), max_eq_left h]; ring
  · rw [max_eq_left (by linarith), max_eq_right h]; ring

/-- The kernel's logarithm of one minus the break fraction, in base two, of a logit `g`. -/
theorem ls_logit (g : ℝ) : ls (-(g * (Real.log 2)⁻¹)) = -sp g * (Real.log 2)⁻¹ := by
  have hc : 0 < (Real.log 2)⁻¹ := inv_pos.mpr (Real.log_pos (by norm_num))
  have ha : -|(-(g * (Real.log 2)⁻¹))| = -|g| * (Real.log 2)⁻¹ := by
    rw [abs_neg, abs_mul, abs_of_pos hc]; ring
  have hm : min (-(g * (Real.log 2)⁻¹)) 0 = -max g 0 * (Real.log 2)⁻¹ := by
    rcases le_total 0 g with h | h
    · rw [max_eq_left h, min_eq_left (by nlinarith [mul_nonneg h hc.le])]; ring
    · rw [max_eq_right h, min_eq_right (by nlinarith [mul_nonneg (neg_nonneg.mpr h) hc.le])]; ring
  unfold ls sp
  rw [ha, hm, two_pow]
  ring

/-- The logarithm of what key `s` leaves of the stick, zero for the keys that the query does not see. -/
def left (p : ℕ) (G : ℕ → ℝ) (s : ℕ) : ℝ := if s < p then -sp (G s) else 0

/-- The stick-breaking weight of key `s` for query `p`, the keys being those below `n`. -/
def weight (p n : ℕ) (G : ℕ → ℝ) (s : ℕ) : ℝ :=
  if s < p then Real.exp (-sp (-G s) + ∑ t ∈ Finset.Ico (s + 1) n, left p G t) else 0

/-- Keys that the query does not see do not change the weights. -/
theorem weight_cut (p e n : ℕ) (G : ℕ → ℝ) (he : p ≤ e) (hn : e ≤ n) (s : ℕ) : weight p n G s = weight p e G s := by
  unfold weight
  by_cases h : s < p
  · rw [if_pos h, if_pos h, ← Finset.sum_Ico_consecutive _ (show s + 1 ≤ e by omega) hn,
      Finset.sum_eq_zero (s := Finset.Ico e n) (f := left p G)
        fun t ht => if_neg (Nat.not_lt.mpr (he.trans (Finset.mem_Ico.mp ht).1)), add_zero]
  · rw [if_neg h, if_neg h]

/-- The kernel's base-two weight is the stick-breaking weight. -/
theorem ww_eq (p e : ℕ) (G : ℕ → ℝ) (s : ℕ) :
    ww p e (fun t => -(G t * (Real.log 2)⁻¹)) s = weight p e G s := by
  unfold ww weight
  have hm : ∀ t, mm p (fun t => -(G t * (Real.log 2)⁻¹)) t = left p G t * (Real.log 2)⁻¹ := fun t => by
    unfold mm left
    split_ifs
    · exact ls_logit _
    · rw [zero_mul]
  by_cases h : s < p
  · rw [if_pos h, if_pos h, ← two_pow]
    simp only [hm]
    rw [← Finset.sum_mul, sp_neg, show left p G s = -sp (G s) from if_pos h]
    congr 1
    ring
  · rw [if_neg h, if_neg h]

/-- The logit of a query and a key in head `h`. -/
def logit (q k : Fin 256 → ℝ) (h : Fin 4) : ℝ := (∑ d : Fin 64, q (hd h d) * k (hd h d)) * (1 / 8)

theorem score_logit (q k : Fin 256 → ℝ) (h : Fin 4) : score q k h = -(logit q k h * (Real.log 2)⁻¹) := by
  unfold score logit
  ring

/-- What a lane of the kernel's result holds: the values weighted by the stick-breaking weights, over all keys. -/
theorem rowOut_eq (p : ℕ) (hp : p < 16384) (q : Fin 256 → ℝ) (K : ℕ → Fin 256 → ℝ) (V : ℕ → Fin 256 → EReal)
    (h : Fin 4) (L : Fin 256) :
    rowOut (p / 256) ⟨p % 256, by omega⟩ q K V h L
      = ∑ t ∈ Finset.range 16384, (weight p 16384 (fun s => logit q (K s) h) t : EReal) * V t L := by
  unfold rowOut
  have hpp : 256 * (p / 256) + p % 256 = p := Nat.div_add_mod p 256
  dsimp only
  rw [hpp]
  simp only [score_logit]
  have hs : Finset.Ico 0 (256 * (p / 256) + 256) ⊆ Finset.range 16384 := fun t ht => by
    have := (Finset.mem_Ico.mp ht).2
    exact Finset.mem_range.mpr (by omega)
  rw [← Finset.sum_subset hs fun t _ ht => by
    have : ¬ t < p := fun hlt => ht (Finset.mem_Ico.mpr ⟨by omega, by omega⟩)
    rw [weight, if_neg this, EReal.coe_zero, zero_mul]]
  refine Finset.sum_congr rfl fun t _ => ?_
  rw [ww_eq, weight_cut p (256 * (p / 256) + 256) 16384 _ (by omega) (by omega)]

end Cert.Att
-- ==== Proof.Later.lean ====
/-
  A window sum over the last axis that reaches from each element to the end: the sum of the element and all later ones.
-/
module

public import Idealize.ShloMosaic.Lib.StableHlo
public import Idealize.ShloMosaic.PureOps.Ideal.Laws
public import Idealize.ShloMosaic.Lib.Pointwise

@[expose] public section

noncomputable section

namespace Cert.Att

open Idealize.ShloMosaic

theorem foldl_sum {ι : Type} (g : ι → EReal) (l : List ι) (z : EReal) :
    l.foldl (fun r n => r + g n) z = z + (l.map g).sum := by
  induction l generalizing z with
  | nil => simp
  | cons a l ih => rw [List.foldl_cons, ih, List.map_cons, List.sum_cons, add_assoc]

/-- The window sum at an element is the sum over the elements from it to the end of its row. -/
theorem window_sum {A B C N M : ℕ} (hM : M + 1 = N) (x : (⟨4, ![A, B, C, N]⟩ : Shape).Idx → EReal)
    (h : (⟨4, ![A, B, C, N]⟩ : Shape).ReduceWindows ![1, 1, 1, N] ![1, 1, 1, 1] ![0, 0, 0, 0] ![0, 0, 0, M] ⟨4, ![A, B, C, N]⟩)
    (a : Fin A) (b : Fin B) (c : Fin C) (s : Fin N) (F : ℕ → EReal) (hF : ∀ t : Fin N, x (ix4 a b c t) = F t.val) :
    Ideal.hostReduceWindowAdd ![1, 1, 1, N] ![1, 1, 1, 1] ![0, 0, 0, 0] ![0, 0, 0, M] h x 0 (ix4 a b c s)
      = ∑ t ∈ Finset.Ico s.val N, F t := by
  unfold Ideal.hostReduceWindowAdd Host.reduceWindow
  dsimp only
  rw [foldl_sum, zero_add, ← Fin.sum_univ_def]
  let G : (⟨4, ![1, 1, 1, N]⟩ : Shape).Idx → EReal := fun w =>
    if s.val + (w 3).val < N then F (s.val + (w 3).val) else 0
  refine (Finset.sum_congr rfl fun n _ => ?_ : _ = ∑ n, G ((Shape.rowMajor ⟨4, ![1, 1, 1, N]⟩).symm n)).trans ?_
  · set w := (Shape.rowMajor ⟨4, ![1, 1, 1, N]⟩).symm n
    have w0 : (w 0).val < 1 := (w 0).isLt
    have w1 : (w 1).val < 1 := (w 1).isLt
    have w2 : (w 2).val < 1 := (w 2).isLt
    have e0 : a.val * 1 + (w 0).val - 0 = a.val := by omega
    have e1 : b.val * 1 + (w 1).val - 0 = b.val := by omega
    have e2 : c.val * 1 + (w 2).val - 0 = c.val := by omega
    have e3 : s.val * 1 + (w 3).val - 0 = s.val + (w 3).val := by omega
    show _ = if s.val + (w 3).val < N then F (s.val + (w 3).val) else 0
    split
    · next hin =>
      have h3 : s.val * 1 + (w 3).val - 0 < N := (hin 3).2
      rw [if_pos (by omega)]
      refine Eq.trans (congrArg x (funext fun y => Fin.ext ?_)) (hF ⟨s.val + (w 3).val, by omega⟩)
      match y with
      | ⟨0, _⟩ => exact e0
      | ⟨1, _⟩ => exact e1
      | ⟨2, _⟩ => exact e2
      | ⟨3, _⟩ => exact e3
    · next hin =>
      rw [if_neg fun hlt => hin fun y => ?_]
      match y with
      | ⟨0, _⟩ => exact ⟨Nat.zero_le _, lt_of_eq_of_lt e0 a.isLt⟩
      | ⟨1, _⟩ => exact ⟨Nat.zero_le _, lt_of_eq_of_lt e1 b.isLt⟩
      | ⟨2, _⟩ => exact ⟨Nat.zero_le _, lt_of_eq_of_lt e2 c.isLt⟩
      | ⟨3, _⟩ => exact ⟨Nat.zero_le _, lt_of_eq_of_lt e3 hlt⟩
  · rw [Equiv.sum_comp]
    have hbij : Function.Bijective (fun t : Fin N => (ix4 (0 : Fin 1) (0 : Fin 1) (0 : Fin 1) t : (⟨4, ![1, 1, 1, N]⟩ : Shape).Idx)) := by
      refine ⟨fun t u e => congrFun e 3, fun w => ⟨w 3, funext fun y => Fin.ext ?_⟩⟩
      match y with
      | ⟨0, _⟩ => exact (Nat.lt_one_iff.mp (w 0).isLt).symm
      | ⟨1, _⟩ => exact (Nat.lt_one_iff.mp (w 1).isLt).symm
      | ⟨2, _⟩ => exact (Nat.lt_one_iff.mp (w 2).isLt).symm
      | ⟨3, _⟩ => rfl
    rw [← hbij.sum_comp G]
    show (∑ t : Fin N, if s.val + t.val < N then F (s.val + t.val) else 0) = _
    rw [Fin.sum_univ_eq_sum_range (fun t => if s.val + t < N then F (s.val + t) else 0) N, ← Finset.sum_filter]
    rw [Finset.sum_Ico_eq_sum_range]
    refine Finset.sum_congr (Finset.ext fun t => ?_) fun t _ => rfl
    simp only [Finset.mem_filter, Finset.mem_range]
    have := s.isLt
    omega

end Cert.Att
-- ==== Proof.Ref.lean ====
/-
  The reference's result at an index: the values weighted by the stick-breaking weights.
-/
module

public import proofs.«01_k».proof.Proof.Stick
public import proofs.«01_k».proof.Proof.Later
public import proofs.«01_k».proof.Proof.Gen.ReferenceIdeal.Read

@[expose] public section

set_option maxRecDepth 16384

noncomputable section

namespace Cert.Att

open Idealize.ShloMosaic Cert.ReferenceIdeal Cert.ReferenceIdeal.Gen Cert.ReferenceIdeal.Read

theorem eighth_bits : Ideal.ofBits .f32 0x3E000000#32 = ((1 / 8 : ℝ) : EReal) := by
  simp [Ideal.ofBits, Ideal.ieee, -EReal.coe_mul]; norm_num

/-- The reference's softplus of a real number. -/
theorem softplus_real (x : ℝ) :
    Scalar.select (FloatOps.cmpf (F := Ideal) (φ := .f32) .une ((x : EReal) - 0) ((x : EReal) - 0)) ((x : EReal) + 0)
      (max (x : EReal) 0 + Ideal.log1p (Ideal.exp (-(max ((x : EReal) - 0) (-((x : EReal) - 0)))))) = (sp x : EReal) := by
  have hc : FloatOps.cmpf (F := Ideal) (φ := .f32) .une ((x : EReal) - 0) ((x : EReal) - 0) = 0#1 := by
    show BitVec.ofBool _ = _
    simp
  have ha : max (x : EReal) (-(x : EReal)) = ((|x| : ℝ) : EReal) := by
    rw [← EReal.coe_neg, abs_eq_max_neg]
    exact (EReal.coe_strictMono.monotone.map_max).symm
  have hm : max (x : EReal) 0 = ((max x 0 : ℝ) : EReal) := (EReal.coe_strictMono.monotone.map_max (a := x) (b := 0)).symm
  have hpos : (0 : ℝ) < 1 + Real.exp (-|x|) := by positivity
  rw [hc]
  show max (x : EReal) 0 + _ = _
  rw [sub_zero, ha, hm, ← EReal.coe_neg, Ideal.exp_coe, Ideal.log1p, ← EReal.coe_one, ← EReal.coe_add, Ideal.log_coe,
    if_neg (not_le.mpr hpos), ← EReal.coe_add]
  rfl

section Row

variable (x0 x1 x2 : (⟨3, ![2, 16384, 256]⟩ : Shape).Idx → EReal) (Q K : Fin 2 → ℕ → Fin 256 → ℝ)
  (hQ : ∀ b (s : Fin 16384) L, x0 (ix3 b s L) = (Q b s.val L : EReal))
  (hK : ∀ b (s : Fin 16384) L, x1 (ix3 b s L) = (K b s.val L : EReal))
include hQ hK

/-- The logits. -/
theorem v6_apply (b : Fin 2) (h : Fin 4) (p s : Fin 16384) :
    val_main_v6 (F := Ideal) x0 x1 (ix4 b h p s) = (logit (Q b p.val) (K b s.val) h : EReal) := by
  rw [val_main_v6_apply, val_main_v4_apply, val_main_v5_apply, val_main_cst_apply]
  show (∑ k : Fin 64, _) * Ideal.ofBits .f32 0x3E000000#32 = _
  rw [eighth_bits, logit, EReal.coe_mul, coe_sum]
  congr 1
  refine Finset.sum_congr rfl fun d _ => ?_
  rw [val_main_v0_apply, val_main_v1_apply, EReal.coe_mul, ← hQ, ← hK]
  have hb := b.isLt; have hh := h.isLt; have hp := p.isLt; have hs := s.isLt; have hd := d.isLt
  congr 2
  · funext a
    apply Fin.ext
    fin_cases a
    · show (((b.val * 16384 + p.val) * 4 + h.val) * 64 + d.val) / 4194304 = b.val; omega
    · show (((b.val * 16384 + p.val) * 4 + h.val) * 64 + d.val) / 256 % 16384 = p.val; omega
    · show (((b.val * 16384 + p.val) * 4 + h.val) * 64 + d.val) % 256 = 64 * h.val + d.val; omega
  · funext a
    apply Fin.ext
    fin_cases a
    · show (((b.val * 16384 + s.val) * 4 + h.val) * 64 + d.val) / 4194304 = b.val; omega
    · show (((b.val * 16384 + s.val) * 4 + h.val) * 64 + d.val) / 256 % 16384 = s.val; omega
    · show (((b.val * 16384 + s.val) * 4 + h.val) * 64 + d.val) % 256 = 64 * h.val + d.val; omega

omit hQ hK in
/-- The mask: the key comes strictly before the query. -/
theorem v12_apply (p s : Fin 16384) : val_main_v12 (F := Ideal) (ix2 p s) = 1#1 ↔ s.val < p.val := by
  rw [val_main_v12_apply, val_main_v10_apply, val_main_v11_apply, val_main_v8_apply, val_main_v9_apply,
    val_main_v7_apply, val_main_v3_apply]
  have hp := p.isLt; have hs := s.isLt
  show IntOp.cmpi .slt (BitVec.ofNat 32 s.val) (BitVec.ofNat 32 p.val) = 1#1 ↔ _
  rw [WordCmp.cmpi_slt_ofNat (by norm_num; omega) (by norm_num; omega)]
  by_cases h : s.val < p.val <;> simp [h]

/-- The logarithm of one minus the break fraction, masked. -/
theorem v15_apply (b : Fin 2) (h : Fin 4) (p s : Fin 16384) :
    val_main_v15 (F := Ideal) x0 x1 (ix4 b h p s)
      = (left p.val (fun t => logit (Q b p.val) (K b t) h) s.val : EReal) := by
  rw [val_main_v15_apply, val_main_call1_v1_apply, show idx_main_call1_v1 (ix4 b h p s) = ix2 p s from
    funext fun a => Fin.ext (by fin_cases a <;> rfl), select_of _ _ (v12_apply p s), left]
  split_ifs with hlt
  · rw [val_main_v14_apply, val_main_call0_v1_apply, val_main_call0_call0_v4_apply, val_main_call0_call0_v6_apply,
      val_main_call0_call0_v11_apply, val_main_call0_call0_v10_apply, val_main_call0_call0_v9_apply,
      val_main_call0_call0_v8_apply, val_main_call0_call0_v7_apply, val_main_call0_call0_v1_apply,
      val_main_call0_call0_v3_apply, val_main_call0_call0_v0_apply, val_main_call0_call0_v2_apply,
      val_main_call0_call0_v5_apply, val_main_call0_v0_apply, val_main_v13_apply, v6_apply x0 x1 Q K hQ hK]
    simp only [val_main_call0_call0_cst_apply]
    generalize logit (Q b p.val) (K b s.val) h = g
    have e := softplus_real g
    rw [EReal.coe_neg, ← e, ← zero_bits]
    have hn : FloatOps.hostNegf (F := Ideal) (φ := .f32) (FloatOps.hostNegf (F := Ideal) (φ := .f32) (g : EReal)) = (g : EReal) :=
      neg_neg (g : EReal)
    rw [hn]
    rfl
  · rw [val_main_call1_v2_apply, val_main_call1_v0_apply, val_main_cst_0_apply]
    exact zero_bits

/-- The logarithm of what the later keys leave of the stick. -/
theorem v17_apply (b : Fin 2) (h : Fin 4) (p s : Fin 16384) :
    val_main_v17 (F := Ideal) x0 x1 (ix4 b h p s)
      = ((∑ t ∈ Finset.Ico (s.val + 1) 16384, left p.val (fun t => logit (Q b p.val) (K b t) h) t : ℝ) : EReal) := by
  rw [val_main_v17_apply, v15_apply x0 x1 Q K hQ hK]
  have hw : val_main_v16 (F := Ideal) x0 x1 (ix4 b h p s)
      = ((∑ t ∈ Finset.Ico s.val 16384, left p.val (fun t => logit (Q b p.val) (K b t) h) t : ℝ) : EReal) := by
    have hz : val_main_call2_v0 (F := Ideal) (Shape.Idx.first h_S_) = 0 := by
      rw [val_main_call2_v0_apply, val_main_call2_cst_apply]; exact zero_bits
    unfold val_main_v16 Host.reduceWindowAdd
    rw [hz]
    refine (window_sum (M := 16383) rfl _ _ b h p s
      (fun t => ((left p.val (fun t => logit (Q b p.val) (K b t) h) t : ℝ) : EReal)) fun t => v15_apply x0 x1 Q K hQ hK b h p t).trans ?_
    rw [coe_sum]
  rw [hw, Finset.sum_eq_sum_Ico_succ_bot s.isLt]
  show _ - _ = _
  rw [← EReal.coe_sub, add_sub_cancel_left]

/-- The weights. -/
theorem v21_apply (b : Fin 2) (h : Fin 4) (p s : Fin 16384) :
    val_main_v21 (F := Ideal) x0 x1 (ix4 b h p s)
      = (weight p.val 16384 (fun t => logit (Q b p.val) (K b t) h) s.val : EReal) := by
  rw [val_main_v21_apply, val_main_call4_v1_apply, show idx_main_call4_v1 (ix4 b h p s) = ix2 p s from
    funext fun a => Fin.ext (by fin_cases a <;> rfl), select_of _ _ (v12_apply p s), weight]
  split_ifs with hlt
  · rw [val_main_v20_apply, val_main_v19_apply, v17_apply x0 x1 Q K hQ hK, val_main_v18_apply, val_main_call3_v1_apply,
      val_main_call3_call0_v4_apply, val_main_call3_call0_v6_apply,
      val_main_call3_call0_v11_apply, val_main_call3_call0_v10_apply, val_main_call3_call0_v9_apply,
      val_main_call3_call0_v8_apply, val_main_call3_call0_v7_apply, val_main_call3_call0_v1_apply,
      val_main_call3_call0_v3_apply, val_main_call3_call0_v0_apply, val_main_call3_call0_v2_apply,
      val_main_call3_call0_v5_apply, val_main_call3_v0_apply, v6_apply x0 x1 Q K hQ hK]
    simp only [val_main_call3_call0_cst_apply]
    generalize (∑ t ∈ Finset.Ico (s.val + 1) 16384, left p.val (fun t => logit (Q b p.val) (K b t) h) t) = S
    generalize logit (Q b p.val) (K b s.val) h = g
    have e := softplus_real (-g)
    rw [← zero_bits, EReal.coe_neg] at e
    refine (congrArg (fun y : EReal => Ideal.exp (-y + (S : EReal))) e).trans ?_
    rw [← EReal.coe_neg, ← EReal.coe_add, Ideal.exp_coe]
  · rw [val_main_call4_v2_apply, val_main_call4_v0_apply, val_main_cst_1_apply]
    exact zero_bits

/-- The reference's result. -/
theorem ref_apply (W : Fin 2 → ℕ → Fin 256 → EReal) (hW : ∀ b (s : Fin 16384) L, x2 (ix3 b s L) = W b s.val L)
    (b : Fin 2) (p : Fin 16384) (L : Fin 256) :
    val_main_v24 (F := Ideal) x0 x1 x2 (ix3 b p L)
      = ∑ t ∈ Finset.range 16384,
        (weight p.val 16384 (fun s => logit (Q b p.val) (K b s) ⟨L.val / 64, by omega⟩) t : EReal) * W b t L := by
  have hb := b.isLt; have hL := L.isLt; have hp := p.isLt
  rw [val_main_v24_apply, val_main_v23_apply, val_main_v22_apply, ← Fin.sum_univ_eq_sum_range
    (fun t => (weight p.val 16384 (fun s => logit (Q b p.val) (K b s) ⟨L.val / 64, by omega⟩) t : EReal) * W b t L)]
  refine Finset.sum_congr rfl fun k _ => ?_
  have hk := k.isLt
  rw [mul_comm, val_main_v2_apply, ← v21_apply x0 x1 Q K hQ hK, ← hW]
  congr 2
  · funext a
    apply Fin.ext
    fin_cases a
    · show ((b.val * 16384 + p.val) * 256 + L.val) / 4194304 = b.val; omega
    · show ((b.val * 16384 + p.val) * 256 + L.val) / 64 % 4 = L.val / 64; omega
    · show ((b.val * 16384 + p.val) * 256 + L.val) / 256 % 16384 = p.val; omega
    · rfl
  · funext a
    apply Fin.ext
    have e0 : ((b.val * 16384 + p.val) * 256 + L.val) / 4194304 = b.val := by omega
    have e1 : ((b.val * 16384 + p.val) * 256 + L.val) / 64 % 4 = L.val / 64 := by omega
    have e2 : ((b.val * 16384 + p.val) * 256 + L.val) % 64 = L.val % 64 := by omega
    fin_cases a
    · show (((((b.val * 16384 + p.val) * 256 + L.val) / 4194304 * 16384 + k.val) * 4
        + ((b.val * 16384 + p.val) * 256 + L.val) / 64 % 4) * 64 + ((b.val * 16384 + p.val) * 256 + L.val) % 64) / 4194304 = b.val
      rw [e0, e1, e2]; omega
    · show (((((b.val * 16384 + p.val) * 256 + L.val) / 4194304 * 16384 + k.val) * 4
        + ((b.val * 16384 + p.val) * 256 + L.val) / 64 % 4) * 64 + ((b.val * 16384 + p.val) * 256 + L.val) % 64) / 256 % 16384 = k.val
      rw [e0, e1, e2]; omega
    · show (((((b.val * 16384 + p.val) * 256 + L.val) / 4194304 * 16384 + k.val) * 4
        + ((b.val * 16384 + p.val) * 256 + L.val) / 64 % 4) * 64 + ((b.val * 16384 + p.val) * 256 + L.val) % 64) % 256 = L.val
      rw [e0, e1, e2]; omega

end Row

end Cert.Att
-- ==== Proof.Finite.lean ====
/-
  What the precondition gives: every element of the queries and of the keys is a real number.
-/
module

public import proofs.«01_k».proof.Defs
public import Idealize.ShloMosaic.Lib.ReduceAll
public import Idealize.ShloMosaic.Lib.Pointwise
public import Idealize.ShloMosaic.PureOps.Ideal.Laws

@[expose] public section

set_option maxRecDepth 16384

noncomputable section

namespace Cert.Att

open Idealize.ShloMosaic

/-- The shape relations that the precondition's operations take. -/
theorem pre_facts : Cert.Pre_finite_qk.Facts := ⟨by decide, by decide, by decide⟩

theorem inf_bits : Ideal.ofBits .f32 0x7F800000#32 = ⊤ := by
  simp [Ideal.ofBits, Ideal.ieee]

theorem real_of_abs_lt (x : EReal) (h : FloatOps.cmpf (F := Ideal) (φ := .f32) .olt (max x (-x)) (Ideal.ofBits .f32 0x7F800000#32) = 1#1) :
    x = (x.toReal : EReal) := by
  rw [inf_bits] at h
  have hlt : max x (-x) < ⊤ := by
    by_contra hn
    have : FloatOps.cmpf (F := Ideal) (φ := .f32) .olt (max x (-x)) ⊤ = 0#1 := by
      show BitVec.ofBool (decide _) = _
      rw [decide_eq_false hn]; rfl
    rw [this] at h
    exact absurd h (by decide)
  refine (EReal.coe_toReal (fun e => ?_) (fun e => ?_)).symm
  · rw [e] at hlt; simp at hlt
  · rw [e] at hlt; simp at hlt

/-- Under the precondition the queries and the keys are real. -/
theorem finite_real [Cert.Pre_finite_qk.Facts] (x0 x1 x2 : (⟨3, ![2, 16384, 256]⟩ : Shape).Idx → EReal)
    (h : Cert.Pre_finite_qk.fn (F := Ideal) x0 x1 x2 = fun _ => 1#1) (i : (⟨3, ![2, 16384, 256]⟩ : Shape).Idx) :
    x0 i = ((x0 i).toReal : EReal) ∧ x1 i = ((x1 i).toReal : EReal) := by
  have h0 := congrFun h ix0
  dsimp only [Cert.Pre_finite_qk.fn] at h0
  have h1 := IntOp.andi_eq_one.mp h0
  haveI : Subsingleton Cert.Pre_finite_qk.S_.Idx := ⟨fun a b => funext fun k => k.elim0⟩
  exact ⟨real_of_abs_lt _ (Host.reduce_andi_all _ _ _ _ _ h1.1 i), real_of_abs_lt _ (Host.reduce_andi_all _ _ _ _ _ h1.2 i)⟩

end Cert.Att
-- ==== Proof.Attention.lean ====
/-
  The attention claim: over the extended reals the kernel's result and the reference's are equal, element by element.
-/
module

public import proofs.«01_k».proof.Proof.Array
public import proofs.«01_k».proof.Proof.Ref
public import proofs.«01_k».proof.Proof.Finite

@[expose] public section

set_option maxRecDepth 16384

noncomputable section

namespace Cert.Att

open Idealize.ShloMosaic Idealize.SL.Sem

/-- The reference ends with its arguments unchanged and every semaphore at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants have the values stated of them. -/
theorem preserves : Cert.preserves_Kernel_KernelIdeal :=
  ⟨IdealRules.named_const.statement Cert.KernelIdeal.κ "q_scale" .f32 0xBE38AA3B#32 _ rfl,
    IdealRules.named_const.statement Cert.KernelIdeal.κ "inv_log2" .f32 0x3FB8AA3B#32 _ rfl⟩

/-- Both programs leave the same array: the values weighted by the stick-breaking weights of their queries and keys. -/
theorem algebraic : Cert.algebraic_KernelIdeal_ReferenceIdeal_pre_finite_qk (hKernelIdeal := Cert.KernelIdeal.Gen.facts)
    (hReferenceIdeal := Cert.ReferenceIdeal.Gen.facts) (hPre_finite_qk := pre_facts) := by
  intro m g m' g' hpre hagree
  refine ⟨fun c => (Cert.KernelIdeal.Gen.dats m 0 c).arrAt 3 Cert.KernelIdeal.cfg0.N, Cert.KernelIdeal.Value.run_blocks m g,
    (θ_run _ _ _).mono (fun r h c => ⟨(h c).1.trans ?_, (h c).2⟩) (Cert.ReferenceIdeal.Value.run m' g')⟩
  obtain ⟨a0, a1, a2⟩ := hagree c
  haveI := pre_facts
  have hf := fun i => finite_real _ _ _ (hpre c) i
  rw [Cert.ReferenceIdeal.Read.val_main_v24_eq, a0, a1, a2]
  funext i
  obtain ⟨b, p, L, rfl⟩ : ∃ (b : Fin 2) (p : Fin 16384) (L : Fin 256), i = ix3 b p L :=
    ⟨i 0, i 1, i 2, funext fun a => by fin_cases a <;> rfl⟩
  let Q : Fin 2 → ℕ → Fin 256 → ℝ := fun b s L => if hs : s < 16384 then
    ((m ((c.tc : Thread Cert.KernelIdeal.nD Cert.KernelIdeal.τ).loc Cert.KernelIdeal.main_arg0) : (⟨3, ![2, 16384, 256]⟩ : Shape).Idx → EReal) (ix3 b (⟨s, hs⟩ : Fin 16384) L)).toReal else 0
  let K : Fin 2 → ℕ → Fin 256 → ℝ := fun b s L => if hs : s < 16384 then
    ((m ((c.tc : Thread Cert.KernelIdeal.nD Cert.KernelIdeal.τ).loc Cert.KernelIdeal.main_arg1) : (⟨3, ![2, 16384, 256]⟩ : Shape).Idx → EReal) (ix3 b (⟨s, hs⟩ : Fin 16384) L)).toReal else 0
  let W : Fin 2 → ℕ → Fin 256 → EReal := fun b s L => if hs : s < 16384 then
    ((m ((c.tc : Thread Cert.KernelIdeal.nD Cert.KernelIdeal.τ).loc Cert.KernelIdeal.main_arg2) : (⟨3, ![2, 16384, 256]⟩ : Shape).Idx → EReal) (ix3 b (⟨s, hs⟩ : Fin 16384) L)) else 0
  have hQ : ∀ b (s : Fin 16384) L, (m ((c.tc : Thread Cert.KernelIdeal.nD Cert.KernelIdeal.τ).loc Cert.KernelIdeal.main_arg0) : (⟨3, ![2, 16384, 256]⟩ : Shape).Idx → EReal) (ix3 b s L) = (Q b s.val L : EReal) := fun b s L => by
    show _ = ((dite _ _ _ : ℝ) : EReal)
    rw [dif_pos s.isLt]; exact (hf _).1
  have hK : ∀ b (s : Fin 16384) L, (m ((c.tc : Thread Cert.KernelIdeal.nD Cert.KernelIdeal.τ).loc Cert.KernelIdeal.main_arg1) : (⟨3, ![2, 16384, 256]⟩ : Shape).Idx → EReal) (ix3 b s L) = (K b s.val L : EReal) := fun b s L => by
    show _ = ((dite _ _ _ : ℝ) : EReal)
    rw [dif_pos s.isLt]; exact (hf _).2
  have hW : ∀ b (s : Fin 16384) L, (m ((c.tc : Thread Cert.KernelIdeal.nD Cert.KernelIdeal.τ).loc Cert.KernelIdeal.main_arg2) : (⟨3, ![2, 16384, 256]⟩ : Shape).Idx → EReal) (ix3 b s L) = W b s.val L := fun b s L => by
    show _ = dite _ _ _
    rw [dif_pos s.isLt]
  refine (ref_apply _ _ _ Q K hQ hK W hW b p L).trans ?_
  exact ((arr_apply m c Q K hQ hK W hW b p L).trans (rowOut_eq p.val p.isLt _ _ _ _ L)).symm

end Cert.Att
-- ==== Proof.InProjOut.lean ====
/-
  The input projection kernel: the nine arrays that it leaves, element by element.
-/
module

public import proofs.«01_k».proof.Proof.Gen.InProjIdeal.Value
public import Idealize.ShloMosaic.Lib.Pipeline.ValueKit

@[expose] public section

set_option maxRecDepth 16384

noncomputable section

namespace Cert.Inp

open Idealize.ShloMosaic Idealize.ShloMosaic.TcCoe
open Cert.InProjIdeal Cert.InProjIdeal.Gen Cert.InProjIdeal.Value

/-- The places of the windows at a point: rows move with the point, the scale and the weight stay. -/
theorem places : ∀ t : Fin grid0.N,
    win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] ∧ win0_8.index t = ![(grid0.coords t 0).val, 0]
    ∧ win0_9.index t = ![(grid0.coords t 0).val, 0] ∧ win0_10.index t = ![(grid0.coords t 0).val, 0]
    ∧ win0_11.index t = ![(grid0.coords t 0).val, 0] := by
  decide +kernel

/-- The point of a block of rows. -/
theorem point_at : ∀ y : Fin 128, ∃ t : Fin grid0.N, (grid0.coords t 0).val = y.val := by
  decide +kernel

/-- An element of a normalised row: the row's element over the root of its mean square, scaled. -/
def normAt (x g : Fin 1024 → EReal) (k : Fin 1024) : EReal :=
  x k * Ideal.rsqrt (Ideal.div (∑ j, x j * x j) (Ideal.ofBits FTy.f32 0x44800000#32) + Ideal.ofBits FTy.f32 0x358637BD#32) * g k

/-- A normalised row against a column of the weight. -/
def projAt (x g : Fin 1024 → EReal) (w : Fin 1024 → EReal) : EReal := ∑ k, normAt x g k * w k

/-- Column `L` of the part of the weight that begins at column `o`. -/
def col (o : ℕ) {n : ℕ} (h : o + n ≤ 7424) (L : Fin n) : Fin 7424 := ⟨o + L.val, by omega⟩

section Block

variable (x0 : Vec Ideal S256x1024 .f32) (x1 : Vec Ideal S1x1024 .f32) (x2 : Vec Ideal S1024x7424 .bf16) (r : Fin 256)

/-- The normalised rows of a block. -/
theorem norm_apply (k : Fin 1024) :
    (k0_pay3 x0 x1 : S256x1024.Idx → EReal) (ix2 r k) = normAt (fun j => x0 (ix2 r j)) (fun j => x1 (ix2 0 j)) k := by
  pointwise [k0_pay3]
  rfl

/-- The normalised rows, as the later products read them. -/
theorem norm_apply' (k : Fin 1024) :
    (k0_pay14 x0 x1 x2 : S256x1024.Idx → EReal) (ix2 r k) = normAt (fun j => x0 (ix2 r j)) (fun j => x1 (ix2 0 j)) k := by
  unfold k0_pay14
  simp (disch := decide) only [View.ld_unit_lit']
  exact norm_apply x0 x1 r k

/-- A sum of products with a column of the weight, the column named another way. -/
theorem sum_col (f : Fin 1024 → EReal) (j i : Fin 7424) (h : j.val = i.val)
    (hf : ∀ k, f k = normAt (fun j => x0 (ix2 r j)) (fun j => x1 (ix2 0 j)) k) :
    ∑ k, f k * (x2 : S1024x7424.Idx → EReal) (ix2 k j)
      = projAt (fun j => x0 (ix2 r j)) (fun j => x1 (ix2 0 j)) (fun k => x2 (ix2 k i)) := by
  obtain rfl : j = i := Fin.ext h
  exact Finset.sum_congr rfl fun k _ => congrArg (fun a : EReal => a * (x2 : S1024x7424.Idx → EReal) (ix2 k j)) (hf k)

/-- One element of a block of the queries. -/
theorem out3_apply (L : Fin 256) :
    (out0_3 x0 x1 x2 : S256x256.Idx → EReal) (ix2 r L)
      = projAt (fun j => x0 (ix2 r j)) (fun j => x1 (ix2 0 j)) (fun k => x2 (ix2 k (col 0 (n := 256) (by norm_num) L))) * Named.named (F := Ideal) κ "q_scale" (φ := .f32) 0xBE38AA3B#32 := by
  frame_out
  pointwise [k0_pay4]
  exact congrArg (fun a : EReal => a * _) (sum_col x0 x1 x2 r _ _ (col 0 (n := 256) (by norm_num) L) (by simp [col]) (norm_apply x0 x1 r))

/-- One element of a block of the keys. -/
theorem out4_apply (L : Fin 256) :
    (out0_4 x0 x1 x2 : S256x256.Idx → EReal) (ix2 r L)
      = projAt (fun j => x0 (ix2 r j)) (fun j => x1 (ix2 0 j)) (fun k => x2 (ix2 k (col 256 (n := 256) (by norm_num) L))) := by
  frame_out
  pointwise [k0_pay5]
  exact sum_col x0 x1 x2 r _ _ (col 256 (n := 256) (by norm_num) L) (by simp [col]) (norm_apply x0 x1 r)

/-- One element of a block of the values. -/
theorem out5_apply (L : Fin 256) :
    (out0_5 x0 x1 x2 : S256x256.Idx → EReal) (ix2 r L)
      = projAt (fun j => x0 (ix2 r j)) (fun j => x1 (ix2 0 j)) (fun k => x2 (ix2 k (col 512 (n := 256) (by norm_num) L))) := by
  frame_out
  pointwise [k0_pay6]
  exact sum_col x0 x1 x2 r _ _ (col 512 (n := 256) (by norm_num) L) (by simp [col]) (norm_apply x0 x1 r)

/-- One element of a block of the narrow keys. -/
theorem out6_apply (L : Fin 256) :
    (out0_6 x0 x1 x2 : S256x256.Idx → EReal) (ix2 r L)
      = projAt (fun j => x0 (ix2 r j)) (fun j => x1 (ix2 0 j)) (fun k => x2 (ix2 k (col 256 (n := 256) (by norm_num) L))) := by
  frame_out
  pointwise [k0_pay7, k0_pay5]
  exact sum_col x0 x1 x2 r _ _ (col 256 (n := 256) (by norm_num) L) (by simp [col]) (norm_apply x0 x1 r)

/-- One element of a block of the narrow values. -/
theorem out7_apply (L : Fin 256) :
    (out0_7 x0 x1 x2 : S256x256.Idx → EReal) (ix2 r L)
      = projAt (fun j => x0 (ix2 r j)) (fun j => x1 (ix2 0 j)) (fun k => x2 (ix2 k (col 512 (n := 256) (by norm_num) L))) := by
  frame_out
  pointwise [k0_pay8, k0_pay6]
  exact sum_col x0 x1 x2 r _ _ (col 512 (n := 256) (by norm_num) L) (by simp [col]) (norm_apply x0 x1 r)

/-- One element of a block of the heads of the gated recurrence. -/
theorem out8_apply (L : Fin 1024) :
    (out0_8 x0 x1 x2 : S256x1024.Idx → EReal) (ix2 r L)
      = projAt (fun j => x0 (ix2 r j)) (fun j => x1 (ix2 0 j)) (fun k => x2 (ix2 k (col 768 (n := 1024) (by norm_num) L))) := by
  frame_out
  pointwise [k0_pay9]
  exact sum_col x0 x1 x2 r _ _ (col 768 (n := 1024) (by norm_num) L) (by simp [col]) (norm_apply' x0 x1 x2 r)

/-- One element of a block of the convolution inputs. -/
theorem out9_apply (L : Fin 512) :
    (out0_9 x0 x1 x2 : S256x512.Idx → EReal) (ix2 r L)
      = projAt (fun j => x0 (ix2 r j)) (fun j => x1 (ix2 0 j)) (fun k => x2 (ix2 k (col 1792 (n := 512) (by norm_num) L))) := by
  frame_out
  pointwise [k0_pay10]
  exact sum_col x0 x1 x2 r _ _ (col 1792 (n := 512) (by norm_num) L) (by simp [col]) (norm_apply' x0 x1 x2 r)

/-- One element of a block of the inputs of the last recurrence. -/
theorem out10_apply (L : Fin 1024) :
    (out0_10 x0 x1 x2 : S256x1024.Idx → EReal) (ix2 r L)
      = projAt (fun j => x0 (ix2 r j)) (fun j => x1 (ix2 0 j)) (fun k => x2 (ix2 k (col 2304 (n := 1024) (by norm_num) L))) := by
  frame_out
  pointwise [k0_pay11]
  exact sum_col x0 x1 x2 r _ _ (col 2304 (n := 1024) (by norm_num) L) (by simp [col]) (norm_apply' x0 x1 x2 r)

/-- One element of quarter 0 of the gates. -/
theorem gate0_apply (L : Fin 1024) :
    (k0_pay12 (k0_pay14 x0 x1 x2) (View.ld x2 r0_10) : S256x1024.Idx → EReal) (ix2 r L)
      = Ideal.logistic (projAt (fun j => x0 (ix2 r j)) (fun j => x1 (ix2 0 j)) (fun k => x2 (ix2 k (col 3328 (n := 1024) (by norm_num) L)))) := by
  pointwise [k0_pay12]
  exact congrArg Ideal.logistic (sum_col x0 x1 x2 r _ _ (col 3328 (n := 1024) (by norm_num) L) (by simp [col]) (norm_apply' x0 x1 x2 r))

/-- One element of quarter 1 of the gates. -/
theorem gate1_apply (L : Fin 1024) :
    (k0_pay13 (k0_pay14 x0 x1 x2) (View.ld x2 r0_12) : S256x1024.Idx → EReal) (ix2 r L)
      = Ideal.logistic (projAt (fun j => x0 (ix2 r j)) (fun j => x1 (ix2 0 j)) (fun k => x2 (ix2 k (col 4352 (n := 1024) (by norm_num) L)))) := by
  pointwise [k0_pay13]
  exact congrArg Ideal.logistic (sum_col x0 x1 x2 r _ _ (col 4352 (n := 1024) (by norm_num) L) (by simp [col]) (norm_apply' x0 x1 x2 r))

/-- One element of quarter 2 of the gates. -/
theorem gate2_apply (L : Fin 1024) :
    (k0_pay1 (k0_pay14 x0 x1 x2) (View.ld x2 r0_14) : S256x1024.Idx → EReal) (ix2 r L)
      = Ideal.logistic (projAt (fun j => x0 (ix2 r j)) (fun j => x1 (ix2 0 j)) (fun k => x2 (ix2 k (col 5376 (n := 1024) (by norm_num) L)))) := by
  pointwise [k0_pay1]
  exact congrArg Ideal.logistic (sum_col x0 x1 x2 r _ _ (col 5376 (n := 1024) (by norm_num) L) (by simp [col]) (norm_apply' x0 x1 x2 r))

/-- One element of quarter 3 of the gates. -/
theorem gate3_apply (L : Fin 1024) :
    (k0_pay2 (k0_pay14 x0 x1 x2) (View.ld x2 r0_16) : S256x1024.Idx → EReal) (ix2 r L)
      = Ideal.logistic (projAt (fun j => x0 (ix2 r j)) (fun j => x1 (ix2 0 j)) (fun k => x2 (ix2 k (col 6400 (n := 1024) (by norm_num) L)))) := by
  pointwise [k0_pay2]
  exact congrArg Ideal.logistic (sum_col x0 x1 x2 r _ _ (col 6400 (n := 1024) (by norm_num) L) (by simp [col]) (norm_apply' x0 x1 x2 r))

/-- One element of a block of the gates: the four quarters are stored side by side. -/
theorem out11_apply (L : Fin 4096) :
    (out0_11 x0 x1 x2 : S256x4096.Idx → EReal) (ix2 r L)
      = Ideal.logistic (projAt (fun j => x0 (ix2 r j)) (fun j => x1 (ix2 0 j)) (fun k => x2 (ix2 k (col 3328 (n := 4096) (by norm_num) L)))) := by
  frame_out
  refine View.canon_apply_of_pieces (Val := Elt Ideal) (e := .bf16) (fun y : S256x4096.Idx => Ideal.logistic (projAt (fun j => x0 (ix2 (y 0) j)) (fun j => x1 (ix2 0 j))
    (fun k => x2 (ix2 k (col 3328 (n := 4096) (by norm_num) (y 1)))))) _ (fun p hp j => ?_) (ix2 r L) (cover0_11 _ _ _ _ _)
  simp only [List.mem_cons, List.mem_nil_iff, or_false] at hp
  have hq : ∀ (o : ℕ) (h : o + 1024 ≤ 7424) (a a' : Fin 256) (b : Fin 1024) (b' : Fin 4096), a' = a → 3328 + b'.val = o + b.val →
      Ideal.logistic (projAt (fun j => x0 (ix2 a j)) (fun j => x1 (ix2 0 j)) (fun k => x2 (ix2 k (col o (n := 1024) h b))))
        = Ideal.logistic (projAt (fun j => x0 (ix2 a' j)) (fun j => x1 (ix2 0 j)) (fun k => x2 (ix2 k (col 3328 (n := 4096) (by norm_num) b')))) := by
    rintro o h a _ b b' rfl e
    exact congrArg (fun i => Ideal.logistic (projAt _ _ (fun k => x2 (ix2 k i)))) (Fin.ext e.symm)
  rcases hp with rfl | rfl | rfl | rfl <;>
    obtain ⟨a, b, rfl⟩ : ∃ (a : Fin 256) (b : Fin 1024), j = ix2 a b := ⟨j 0, j 1, funext fun a => by fin_cases a <;> rfl⟩
  · exact (gate3_apply x0 x1 x2 a b).trans (hq 6400 (by norm_num) a _ b _ (Fin.ext (by simp [View.emb, r0_17])) (by simp [View.emb, r0_17]; omega))
  · exact (gate2_apply x0 x1 x2 a b).trans (hq 5376 (by norm_num) a _ b _ (Fin.ext (by simp [View.emb, r0_15])) (by simp [View.emb, r0_15]; omega))
  · exact (gate1_apply x0 x1 x2 a b).trans (hq 4352 (by norm_num) a _ b _ (Fin.ext (by simp [View.emb, r0_13])) (by simp [View.emb, r0_13]; omega))
  · exact (gate0_apply x0 x1 x2 a b).trans (hq 3328 (by norm_num) a _ b _ (Fin.ext (by simp [View.emb, r0_11])) (by simp [View.emb, r0_11]))

end Block

section Array

variable (m : (ℓ : Loc nD τ sig) → Buf (Elt Ideal) ℓ) (c : Dev nD)

/-- The block of rows that a point reads. -/
theorem read_x (t : Fin grid0.N) (p : Fin 32768) (h0 : (grid0.coords t 0).val = p.val / 256) (k : Fin 1024) :
    (iblk m c 0 t : S256x1024.Idx → EReal) (ix2 ⟨p.val % 256, by omega⟩ k) = m ((c : Thread nD τ).loc main_arg0) (ix2 p k) := by
  obtain ⟨e0, -⟩ := places t
  blk_ext [iblk, V, e0]

/-- The scale that every point reads. -/
theorem read_g (t : Fin grid0.N) (k : Fin 1024) :
    (iblk m c 1 t : S1x1024.Idx → EReal) (ix2 0 k) = m ((c : Thread nD τ).loc main_arg1) (ix1 k) := by
  obtain ⟨-, e1, -⟩ := places t
  have hv : (V m c main_v1 : S1x1024.Idx → EReal)
      = (shapeCast S1x1024 (m ((c : Thread nD τ).loc main_arg1) : Vec Ideal S1024 .f32) shapeCasts_S1024_S1x1024) := rfl
  have he : (iblk m c 1 t : S1x1024.Idx → EReal) (ix2 0 k) = (V m c main_v1 : S1x1024.Idx → EReal) (ix2 0 k) := by
    blk_ext [iblk, e1]
  rw [he, hv]
  pointwise

/-- The weight that every point reads. -/
theorem read_w (t : Fin grid0.N) (k : Fin 1024) (i : Fin 7424) :
    (iblk m c 2 t : S1024x7424.Idx → EReal) (ix2 k i) = m ((c : Thread nD τ).loc main_arg2) (ix2 k i) := by
  obtain ⟨-, -, e2, -⟩ := places t
  blk_ext [iblk, V, e2]

/-- The array of the queries. -/
theorem arr3_apply (p : Fin 32768) (L : Fin 256) :
    ((dats m 0 c).arrAt 3 cfg0.N : S32768x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 0 (n := 256) (by norm_num) L))) * Named.named (F := Ideal) κ "q_scale" (φ := .f32) 0xBE38AA3B#32 := by
  obtain ⟨t, h0⟩ := point_at ⟨p.val / 256, by omega⟩
  have h0 : (grid0.coords t 0).val = p.val / 256 := h0
  obtain ⟨-, -, -, e3, -⟩ := places t
  have hb := congrFun (blocks3 m c t (flush0_3 t)) (ix2 (⟨p.val % 256, by omega⟩ : Fin 256) L)
  have hp : ((cfg0.win 3).blk t).view.emb (ix2 (⟨p.val % 256, by omega⟩ : Fin 256) L) = ix2 p L := by
    blk_ext [e3]
  have hl : ((cfg0.win 3).blk t).view.read (Elt Ideal) ((dats m 0 c).arrAt 3 cfg0.N)
      (ix2 (⟨p.val % 256, by omega⟩ : Fin 256) L) = (dats m 0 c).arrAt 3 cfg0.N (ix2 p L) := by
    rw [← hp]; rfl
  rw [← hl, hb, flushed3]
  refine (out3_apply _ _ _ ⟨p.val % 256, by omega⟩ L).trans ?_
  simp only [read_x m c t p h0, read_g m c t, read_w m c t]

/-- The array of the keys. -/
theorem arr4_apply (p : Fin 32768) (L : Fin 256) :
    ((dats m 0 c).arrAt 4 cfg0.N : S32768x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 256 (n := 256) (by norm_num) L))) := by
  obtain ⟨t, h0⟩ := point_at ⟨p.val / 256, by omega⟩
  have h0 : (grid0.coords t 0).val = p.val / 256 := h0
  obtain ⟨-, -, -, -, e4, -⟩ := places t
  have hb := congrFun (blocks4 m c t (flush0_4 t)) (ix2 (⟨p.val % 256, by omega⟩ : Fin 256) L)
  have hp : ((cfg0.win 4).blk t).view.emb (ix2 (⟨p.val % 256, by omega⟩ : Fin 256) L) = ix2 p L := by
    blk_ext [e4]
  have hl : ((cfg0.win 4).blk t).view.read (Elt Ideal) ((dats m 0 c).arrAt 4 cfg0.N)
      (ix2 (⟨p.val % 256, by omega⟩ : Fin 256) L) = (dats m 0 c).arrAt 4 cfg0.N (ix2 p L) := by
    rw [← hp]; rfl
  rw [← hl, hb, flushed4]
  refine (out4_apply _ _ _ ⟨p.val % 256, by omega⟩ L).trans ?_
  simp only [read_x m c t p h0, read_g m c t, read_w m c t]

/-- The array of the values. -/
theorem arr5_apply (p : Fin 32768) (L : Fin 256) :
    ((dats m 0 c).arrAt 5 cfg0.N : S32768x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 512 (n := 256) (by norm_num) L))) := by
  obtain ⟨t, h0⟩ := point_at ⟨p.val / 256, by omega⟩
  have h0 : (grid0.coords t 0).val = p.val / 256 := h0
  obtain ⟨-, -, -, -, -, e5, -⟩ := places t
  have hb := congrFun (blocks5 m c t (flush0_5 t)) (ix2 (⟨p.val % 256, by omega⟩ : Fin 256) L)
  have hp : ((cfg0.win 5).blk t).view.emb (ix2 (⟨p.val % 256, by omega⟩ : Fin 256) L) = ix2 p L := by
    blk_ext [e5]
  have hl : ((cfg0.win 5).blk t).view.read (Elt Ideal) ((dats m 0 c).arrAt 5 cfg0.N)
      (ix2 (⟨p.val % 256, by omega⟩ : Fin 256) L) = (dats m 0 c).arrAt 5 cfg0.N (ix2 p L) := by
    rw [← hp]; rfl
  rw [← hl, hb, flushed5]
  refine (out5_apply _ _ _ ⟨p.val % 256, by omega⟩ L).trans ?_
  simp only [read_x m c t p h0, read_g m c t, read_w m c t]

/-- The array of the narrow keys. -/
theorem arr6_apply (p : Fin 32768) (L : Fin 256) :
    ((dats m 0 c).arrAt 6 cfg0.N : S32768x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 256 (n := 256) (by norm_num) L))) := by
  obtain ⟨t, h0⟩ := point_at ⟨p.val / 256, by omega⟩
  have h0 : (grid0.coords t 0).val = p.val / 256 := h0
  obtain ⟨-, -, -, -, -, -, e6, -⟩ := places t
  have hb := congrFun (blocks6 m c t (flush0_6 t)) (ix2 (⟨p.val % 256, by omega⟩ : Fin 256) L)
  have hp : ((cfg0.win 6).blk t).view.emb (ix2 (⟨p.val % 256, by omega⟩ : Fin 256) L) = ix2 p L := by
    blk_ext [e6]
  have hl : ((cfg0.win 6).blk t).view.read (Elt Ideal) ((dats m 0 c).arrAt 6 cfg0.N)
      (ix2 (⟨p.val % 256, by omega⟩ : Fin 256) L) = (dats m 0 c).arrAt 6 cfg0.N (ix2 p L) := by
    rw [← hp]; rfl
  rw [← hl, hb, flushed6]
  refine (out6_apply _ _ _ ⟨p.val % 256, by omega⟩ L).trans ?_
  simp only [read_x m c t p h0, read_g m c t, read_w m c t]

/-- The array of the narrow values. -/
theorem arr7_apply (p : Fin 32768) (L : Fin 256) :
    ((dats m 0 c).arrAt 7 cfg0.N : S32768x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 512 (n := 256) (by norm_num) L))) := by
  obtain ⟨t, h0⟩ := point_at ⟨p.val / 256, by omega⟩
  have h0 : (grid0.coords t 0).val = p.val / 256 := h0
  obtain ⟨-, -, -, -, -, -, -, e7, -⟩ := places t
  have hb := congrFun (blocks7 m c t (flush0_7 t)) (ix2 (⟨p.val % 256, by omega⟩ : Fin 256) L)
  have hp : ((cfg0.win 7).blk t).view.emb (ix2 (⟨p.val % 256, by omega⟩ : Fin 256) L) = ix2 p L := by
    blk_ext [e7]
  have hl : ((cfg0.win 7).blk t).view.read (Elt Ideal) ((dats m 0 c).arrAt 7 cfg0.N)
      (ix2 (⟨p.val % 256, by omega⟩ : Fin 256) L) = (dats m 0 c).arrAt 7 cfg0.N (ix2 p L) := by
    rw [← hp]; rfl
  rw [← hl, hb, flushed7]
  refine (out7_apply _ _ _ ⟨p.val % 256, by omega⟩ L).trans ?_
  simp only [read_x m c t p h0, read_g m c t, read_w m c t]

/-- The array of the heads of the gated recurrence. -/
theorem arr8_apply (p : Fin 32768) (L : Fin 1024) :
    ((dats m 0 c).arrAt 8 cfg0.N : S32768x1024.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 768 (n := 1024) (by norm_num) L))) := by
  obtain ⟨t, h0⟩ := point_at ⟨p.val / 256, by omega⟩
  have h0 : (grid0.coords t 0).val = p.val / 256 := h0
  obtain ⟨-, -, -, -, -, -, -, -, e8, -⟩ := places t
  have hb := congrFun (blocks8 m c t (flush0_8 t)) (ix2 (⟨p.val % 256, by omega⟩ : Fin 256) L)
  have hp : ((cfg0.win 8).blk t).view.emb (ix2 (⟨p.val % 256, by omega⟩ : Fin 256) L) = ix2 p L := by
    blk_ext [e8]
  have hl : ((cfg0.win 8).blk t).view.read (Elt Ideal) ((dats m 0 c).arrAt 8 cfg0.N)
      (ix2 (⟨p.val % 256, by omega⟩ : Fin 256) L) = (dats m 0 c).arrAt 8 cfg0.N (ix2 p L) := by
    rw [← hp]; rfl
  rw [← hl, hb, flushed8]
  refine (out8_apply _ _ _ ⟨p.val % 256, by omega⟩ L).trans ?_
  simp only [read_x m c t p h0, read_g m c t, read_w m c t]

/-- The array of the convolution inputs. -/
theorem arr9_apply (p : Fin 32768) (L : Fin 512) :
    ((dats m 0 c).arrAt 9 cfg0.N : S32768x512.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 1792 (n := 512) (by norm_num) L))) := by
  obtain ⟨t, h0⟩ := point_at ⟨p.val / 256, by omega⟩
  have h0 : (grid0.coords t 0).val = p.val / 256 := h0
  obtain ⟨-, -, -, -, -, -, -, -, -, e9, -⟩ := places t
  have hb := congrFun (blocks9 m c t (flush0_9 t)) (ix2 (⟨p.val % 256, by omega⟩ : Fin 256) L)
  have hp : ((cfg0.win 9).blk t).view.emb (ix2 (⟨p.val % 256, by omega⟩ : Fin 256) L) = ix2 p L := by
    blk_ext [e9]
  have hl : ((cfg0.win 9).blk t).view.read (Elt Ideal) ((dats m 0 c).arrAt 9 cfg0.N)
      (ix2 (⟨p.val % 256, by omega⟩ : Fin 256) L) = (dats m 0 c).arrAt 9 cfg0.N (ix2 p L) := by
    rw [← hp]; rfl
  rw [← hl, hb, flushed9]
  refine (out9_apply _ _ _ ⟨p.val % 256, by omega⟩ L).trans ?_
  simp only [read_x m c t p h0, read_g m c t, read_w m c t]

/-- The array of the inputs of the last recurrence. -/
theorem arr10_apply (p : Fin 32768) (L : Fin 1024) :
    ((dats m 0 c).arrAt 10 cfg0.N : S32768x1024.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 2304 (n := 1024) (by norm_num) L))) := by
  obtain ⟨t, h0⟩ := point_at ⟨p.val / 256, by omega⟩
  have h0 : (grid0.coords t 0).val = p.val / 256 := h0
  obtain ⟨-, -, -, -, -, -, -, -, -, -, e10, -⟩ := places t
  have hb := congrFun (blocks10 m c t (flush0_10 t)) (ix2 (⟨p.val % 256, by omega⟩ : Fin 256) L)
  have hp : ((cfg0.win 10).blk t).view.emb (ix2 (⟨p.val % 256, by omega⟩ : Fin 256) L) = ix2 p L := by
    blk_ext [e10]
  have hl : ((cfg0.win 10).blk t).view.read (Elt Ideal) ((dats m 0 c).arrAt 10 cfg0.N)
      (ix2 (⟨p.val % 256, by omega⟩ : Fin 256) L) = (dats m 0 c).arrAt 10 cfg0.N (ix2 p L) := by
    rw [← hp]; rfl
  rw [← hl, hb, flushed10]
  refine (out10_apply _ _ _ ⟨p.val % 256, by omega⟩ L).trans ?_
  simp only [read_x m c t p h0, read_g m c t, read_w m c t]

/-- The array of the gates. -/
theorem arr11_apply (p : Fin 32768) (L : Fin 4096) :
    ((dats m 0 c).arrAt 11 cfg0.N : S32768x4096.Idx → EReal) (ix2 p L)
      = Ideal.logistic (projAt (fun j => m ((c : Thread nD τ).loc main_arg0) (ix2 p j)) (fun j => m ((c : Thread nD τ).loc main_arg1) (ix1 j))
        (fun k => m ((c : Thread nD τ).loc main_arg2) (ix2 k (col 3328 (n := 4096) (by norm_num) L)))) := by
  obtain ⟨t, h0⟩ := point_at ⟨p.val / 256, by omega⟩
  have h0 : (grid0.coords t 0).val = p.val / 256 := h0
  obtain ⟨-, -, -, -, -, -, -, -, -, -, -, e11⟩ := places t
  have hb := congrFun (blocks11 m c t (flush0_11 t)) (ix2 (⟨p.val % 256, by omega⟩ : Fin 256) L)
  have hp : ((cfg0.win 11).blk t).view.emb (ix2 (⟨p.val % 256, by omega⟩ : Fin 256) L) = ix2 p L := by
    blk_ext [e11]
  have hl : ((cfg0.win 11).blk t).view.read (Elt Ideal) ((dats m 0 c).arrAt 11 cfg0.N)
      (ix2 (⟨p.val % 256, by omega⟩ : Fin 256) L) = (dats m 0 c).arrAt 11 cfg0.N (ix2 p L) := by
    rw [← hp]; rfl
  rw [← hl, hb, flushed11]
  refine (out11_apply _ _ _ ⟨p.val % 256, by omega⟩ L).trans ?_
  simp only [read_x m c t p h0, read_g m c t, read_w m c t]

end Array

end Cert.Inp
-- ==== Proof.InProjRef.lean ====
/-
  The input projection as the reference writes it, element by element, and the claims about the input projection.
-/
module

public import proofs.«01_k».proof.Proof.InProjOut
public import proofs.«01_k».proof.Proof.Gen.InProjRefIdeal.Read
public import proofs.«01_k».proof.Defs
public import Idealize.ShloMosaic.Adequacy
public import Idealize.ShloMosaic.Lib.Pipeline.ValueKit

@[expose] public section

set_option maxRecDepth 16384

noncomputable section

namespace Cert.Inp

open Idealize.ShloMosaic Idealize.ShloMosaic.TcCoe
open Cert.InProjRefIdeal Cert.InProjRefIdeal.Gen Cert.InProjRefIdeal.Read

/-- The constant an eighth. -/
theorem eighth_bits : Ideal.ofBits .f32 0x3E000000#32 = ((1 / 8 : ℝ) : EReal) := by
  simp [Ideal.ofBits, Ideal.ieee, -EReal.coe_mul]; norm_num

/-- The constant two. -/
theorem two_bits : Ideal.ofBits .f32 0x40000000#32 = ((2 : ℝ) : EReal) := by
  simp [Ideal.ofBits, Ideal.ieee, -EReal.coe_mul]; norm_num

/-- Scaling a query by an eighth, changing its sign and dividing by the logarithm of two is multiplying it by the
    named constant. -/
theorem scale_eq (a : EReal) :
    Ideal.div (-(a * ((1 / 8 : ℝ) : EReal))) ((Real.log 2 : ℝ) : EReal) = a * ((-((1 / 8) * (Real.log 2)⁻¹) : ℝ) : EReal) := by
  rw [Ideal.div_coe (Real.log_pos (by norm_num : (1 : ℝ) < 2)).ne', EReal.coe_neg, EReal.coe_mul, one_div (Real.log 2), neg_mul, mul_neg, mul_assoc]

section Elements

variable (x0 : (⟨S32768x1024, .f32⟩ : BufTy).Contents (Elt Ideal)) (x1 : (⟨S1024, .f32⟩ : BufTy).Contents (Elt Ideal))
  (x2 : (⟨S1024x7424, .f32⟩ : BufTy).Contents (Elt Ideal)) (p : Fin 32768)

/-- The normalised rows. -/
theorem ref_norm (k : Fin 1024) :
    (val_main_v12 (F := Ideal) x0 x1 : S32768x1024.Idx → EReal) (ix2 p k) = normAt (fun j => x0 (ix2 p j)) (fun j => x1 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A sum of products with a column of the weight, the column named another way. -/
theorem ref_col (j i : Fin 7424) (h : j.val = i.val) :
    ∑ k, (val_main_v12 (F := Ideal) x0 x1 : S32768x1024.Idx → EReal) (ix2 p k) * (x2 : S1024x7424.Idx → EReal) (ix2 k j)
      = projAt (fun j => x0 (ix2 p j)) (fun j => x1 (ix1 j)) (fun k => x2 (ix2 k i)) := by
  obtain rfl : j = i := Fin.ext h
  exact Finset.sum_congr rfl fun k _ => congrArg (fun a : EReal => a * (x2 : S1024x7424.Idx → EReal) (ix2 k j)) (ref_norm x0 x1 p k)

/-- One element of the queries. -/
theorem ref3_apply (L : Fin 256) :
    (val_main_v29 (F := Ideal) x0 x1 x2 : S32768x256.Idx → EReal) (ix2 p L)
      = projAt (fun j => x0 (ix2 p j)) (fun j => x1 (ix1 j)) (fun k => x2 (ix2 k (col 0 (n := 256) (by norm_num) L))) * ((-((1 / 8) * (Real.log 2)⁻¹) : ℝ) : EReal) := by
  pointwise [val_main_v29, val_main_v28, val_main_v27, val_main_v26, val_main_v25, val_main_v24, val_main_v23, val_main_v22, val_main_v19, val_main_v14, val_main_v13, val_main_cst_2, val_main_cst_3]
  have hl : (id (Host.log (constant (F := Ideal) S_ .f32 0x40000000#32)) ix0 : EReal) = ((Real.log 2 : ℝ) : EReal) := by
    show Ideal.log (Ideal.ofBits .f32 0x40000000#32) = _
    rw [two_bits, Ideal.log_coe, if_neg (by norm_num)]
  refine (congrArg₂ Ideal.div (congrArg₂ (fun a b : EReal => -(a * b)) (ref_col x0 x1 x2 p _ (col 0 (n := 256) (by norm_num) L) (by simp [col])) eighth_bits) hl).trans (scale_eq _)

/-- One element of the keys. -/
theorem ref4_apply (L : Fin 256) :
    (val_main_v20 (F := Ideal) x0 x1 x2 : S32768x256.Idx → EReal) (ix2 p L)
      = projAt (fun j => x0 (ix2 p j)) (fun j => x1 (ix1 j)) (fun k => x2 (ix2 k (col 256 (n := 256) (by norm_num) L))) := by
  pointwise [val_main_v20, val_main_v14, val_main_v13]
  exact ref_col x0 x1 x2 p _ (col 256 (n := 256) (by norm_num) L) (by simp [col])

/-- One element of the values. -/
theorem ref5_apply (L : Fin 256) :
    (val_main_v21 (F := Ideal) x0 x1 x2 : S32768x256.Idx → EReal) (ix2 p L)
      = projAt (fun j => x0 (ix2 p j)) (fun j => x1 (ix1 j)) (fun k => x2 (ix2 k (col 512 (n := 256) (by norm_num) L))) := by
  pointwise [val_main_v21, val_main_v14, val_main_v13]
  exact ref_col x0 x1 x2 p _ (col 512 (n := 256) (by norm_num) L) (by simp [col])

/-- One element of the narrow keys. -/
theorem ref6_apply (L : Fin 256) :
    (val_main_v30 (F := Ideal) x0 x1 x2 : S32768x256.Idx → EReal) (ix2 p L)
      = projAt (fun j => x0 (ix2 p j)) (fun j => x1 (ix1 j)) (fun k => x2 (ix2 k (col 256 (n := 256) (by norm_num) L))) := by
  pointwise [val_main_v30, val_main_v20, val_main_v14, val_main_v13]
  exact ref_col x0 x1 x2 p _ (col 256 (n := 256) (by norm_num) L) (by simp [col])

/-- One element of the narrow values. -/
theorem ref7_apply (L : Fin 256) :
    (val_main_v31 (F := Ideal) x0 x1 x2 : S32768x256.Idx → EReal) (ix2 p L)
      = projAt (fun j => x0 (ix2 p j)) (fun j => x1 (ix1 j)) (fun k => x2 (ix2 k (col 512 (n := 256) (by norm_num) L))) := by
  pointwise [val_main_v31, val_main_v21, val_main_v14, val_main_v13]
  exact ref_col x0 x1 x2 p _ (col 512 (n := 256) (by norm_num) L) (by simp [col])

/-- One element of the heads of the gated recurrence. -/
theorem ref8_apply (L : Fin 1024) :
    (val_main_v15 (F := Ideal) x0 x1 x2 : S32768x1024.Idx → EReal) (ix2 p L)
      = projAt (fun j => x0 (ix2 p j)) (fun j => x1 (ix1 j)) (fun k => x2 (ix2 k (col 768 (n := 1024) (by norm_num) L))) := by
  pointwise [val_main_v15, val_main_v13]
  exact ref_col x0 x1 x2 p _ (col 768 (n := 1024) (by norm_num) L) (by simp [col])

/-- One element of the convolution inputs. -/
theorem ref9_apply (L : Fin 512) :
    (val_main_v16 (F := Ideal) x0 x1 x2 : S32768x512.Idx → EReal) (ix2 p L)
      = projAt (fun j => x0 (ix2 p j)) (fun j => x1 (ix1 j)) (fun k => x2 (ix2 k (col 1792 (n := 512) (by norm_num) L))) := by
  pointwise [val_main_v16, val_main_v13]
  exact ref_col x0 x1 x2 p _ (col 1792 (n := 512) (by norm_num) L) (by simp [col])

/-- One element of the inputs of the last recurrence. -/
theorem ref10_apply (L : Fin 1024) :
    (val_main_v17 (F := Ideal) x0 x1 x2 : S32768x1024.Idx → EReal) (ix2 p L)
      = projAt (fun j => x0 (ix2 p j)) (fun j => x1 (ix1 j)) (fun k => x2 (ix2 k (col 2304 (n := 1024) (by norm_num) L))) := by
  pointwise [val_main_v17, val_main_v13]
  exact ref_col x0 x1 x2 p _ (col 2304 (n := 1024) (by norm_num) L) (by simp [col])

/-- One element of the gates. -/
theorem ref11_apply (L : Fin 4096) :
    (val_main_v38 (F := Ideal) x0 x1 x2 : S32768x4096.Idx → EReal) (ix2 p L)
      = Ideal.logistic (projAt (fun j => x0 (ix2 p j)) (fun j => x1 (ix1 j)) (fun k => x2 (ix2 k (col 3328 (n := 4096) (by norm_num) L)))) := by
  pointwise [val_main_v38, val_main_v37, val_main_v36, val_main_v35, val_main_v34, val_main_v33, val_main_v32, val_main_v18, val_main_v13, val_main_cst_4, val_main_cst_5]
  exact congrArg Ideal.logistic (ref_col x0 x1 x2 p _ (col 3328 (n := 4096) (by norm_num) L) (by simp [col]))

end Elements

open Idealize.SL.Sem

/-- The reference ends with its arguments unchanged and every semaphore at zero. -/
theorem frame_ref : Cert.quiescent_InProjRefIdeal (hInProjRefIdeal := Cert.InProjRefIdeal.Gen.facts) := fun m ρ _ =>
  (θ_run Cert.InProjRefIdeal.defs _ _).mono (fun r h => ⟨fun c => (h c).2.2.2.2.2.2.2.2.2, sem_eq_zero_of_no_sems (by decide) r.2⟩)
    (Cert.InProjRefIdeal.Value.run (F := Ideal) m ρ)

/-- The named constant has the value stated of it. -/
theorem preserves : Cert.preserves_InProj_InProjIdeal :=
  IdealRules.named_const.statement Cert.InProjIdeal.κ "q_scale" .f32 0xBE38AA3B#32 _ rfl

/-- The value of the named constant. -/
theorem q_scale : Named.named (F := Ideal) Cert.InProjIdeal.κ "q_scale" (φ := .f32) 0xBE38AA3B#32
    = ((-((1 / 8) * (Real.log 2)⁻¹) : ℝ) : EReal) :=
  IdealRules.named_const.ideal_named_scalar _ _ _ _ rfl

/-- Kernel and reference leave the same nine arrays. -/
theorem algebraic : Cert.algebraic_InProjIdeal_InProjRefIdeal (hInProjIdeal := Cert.InProjIdeal.Gen.facts)
    (hInProjRefIdeal := Cert.InProjRefIdeal.Gen.facts) := by
  intro m g m' g' _ hagree
  refine ⟨fun c => (Cert.InProjIdeal.Gen.dats m 0 c).arrAt 3 Cert.InProjIdeal.cfg0.N,
    fun c => (Cert.InProjIdeal.Gen.dats m 0 c).arrAt 4 Cert.InProjIdeal.cfg0.N,
    fun c => (Cert.InProjIdeal.Gen.dats m 0 c).arrAt 5 Cert.InProjIdeal.cfg0.N,
    fun c => (Cert.InProjIdeal.Gen.dats m 0 c).arrAt 6 Cert.InProjIdeal.cfg0.N,
    fun c => (Cert.InProjIdeal.Gen.dats m 0 c).arrAt 7 Cert.InProjIdeal.cfg0.N,
    fun c => (Cert.InProjIdeal.Gen.dats m 0 c).arrAt 8 Cert.InProjIdeal.cfg0.N,
    fun c => (Cert.InProjIdeal.Gen.dats m 0 c).arrAt 9 Cert.InProjIdeal.cfg0.N,
    fun c => (Cert.InProjIdeal.Gen.dats m 0 c).arrAt 10 Cert.InProjIdeal.cfg0.N,
    fun c => (Cert.InProjIdeal.Gen.dats m 0 c).arrAt 11 Cert.InProjIdeal.cfg0.N,
    Cert.InProjIdeal.Value.run_blocks m g, (θ_run _ _ _).mono (fun r h c => ?_) (Cert.InProjRefIdeal.Value.run m' g')⟩
  obtain ⟨a0, a1, a2⟩ := hagree c
  obtain ⟨h0, h1, h2, h3, h4, h5, h6, h7, h8, hk⟩ := h c
  refine ⟨h0.trans ?_, h1.trans ?_, h2.trans ?_, h3.trans ?_, h4.trans ?_, h5.trans ?_, h6.trans ?_, h7.trans ?_, h8.trans ?_, hk⟩
  · rw [val_main_v29_eq, a0, a1, a2]
    funext i
    obtain ⟨p, L, rfl⟩ : ∃ (p : Fin 32768) (L : Fin 256), i = ix2 p L := ⟨i 0, i 1, funext fun a => by fin_cases a <;> rfl⟩
    exact ((ref3_apply _ _ _ p L).trans (congrArg _ q_scale.symm)).trans (arr3_apply m c p L).symm
  · rw [val_main_v20_eq, a0, a1, a2]
    funext i
    obtain ⟨p, L, rfl⟩ : ∃ (p : Fin 32768) (L : Fin 256), i = ix2 p L := ⟨i 0, i 1, funext fun a => by fin_cases a <;> rfl⟩
    exact (ref4_apply _ _ _ p L).trans (arr4_apply m c p L).symm
  · rw [val_main_v21_eq, a0, a1, a2]
    funext i
    obtain ⟨p, L, rfl⟩ : ∃ (p : Fin 32768) (L : Fin 256), i = ix2 p L := ⟨i 0, i 1, funext fun a => by fin_cases a <;> rfl⟩
    exact (ref5_apply _ _ _ p L).trans (arr5_apply m c p L).symm
  · rw [val_main_v30_eq, a0, a1, a2]
    funext i
    obtain ⟨p, L, rfl⟩ : ∃ (p : Fin 32768) (L : Fin 256), i = ix2 p L := ⟨i 0, i 1, funext fun a => by fin_cases a <;> rfl⟩
    exact (ref6_apply _ _ _ p L).trans (arr6_apply m c p L).symm
  · rw [val_main_v31_eq, a0, a1, a2]
    funext i
    obtain ⟨p, L, rfl⟩ : ∃ (p : Fin 32768) (L : Fin 256), i = ix2 p L := ⟨i 0, i 1, funext fun a => by fin_cases a <;> rfl⟩
    exact (ref7_apply _ _ _ p L).trans (arr7_apply m c p L).symm
  · rw [val_main_v15_eq, a0, a1, a2]
    funext i
    obtain ⟨p, L, rfl⟩ : ∃ (p : Fin 32768) (L : Fin 1024), i = ix2 p L := ⟨i 0, i 1, funext fun a => by fin_cases a <;> rfl⟩
    exact (ref8_apply _ _ _ p L).trans (arr8_apply m c p L).symm
  · rw [val_main_v16_eq, a0, a1, a2]
    funext i
    obtain ⟨p, L, rfl⟩ : ∃ (p : Fin 32768) (L : Fin 512), i = ix2 p L := ⟨i 0, i 1, funext fun a => by fin_cases a <;> rfl⟩
    exact (ref9_apply _ _ _ p L).trans (arr9_apply m c p L).symm
  · rw [val_main_v17_eq, a0, a1, a2]
    funext i
    obtain ⟨p, L, rfl⟩ : ∃ (p : Fin 32768) (L : Fin 1024), i = ix2 p L := ⟨i 0, i 1, funext fun a => by fin_cases a <;> rfl⟩
    exact (ref10_apply _ _ _ p L).trans (arr10_apply m c p L).symm
  · rw [val_main_v38_eq, a0, a1, a2]
    funext i
    obtain ⟨p, L, rfl⟩ : ∃ (p : Fin 32768) (L : Fin 4096), i = ix2 p L := ⟨i 0, i 1, funext fun a => by fin_cases a <;> rfl⟩
    exact (ref11_apply _ _ _ p L).trans (arr11_apply m c p L).symm

end Cert.Inp
-- ==== Proof.MergeOut.lean ====
/-
  The merge kernel: the array that it leaves, element by element.
-/
module

public import proofs.«01_k».proof.Proof.Gen.MergeIdeal.Value
public import Idealize.ShloMosaic.Lib.Pipeline.ValueKit

@[expose] public section

set_option maxRecDepth 16384

noncomputable section

namespace Cert.Mrg

open Idealize.ShloMosaic Idealize.ShloMosaic.TcCoe
open Cert.MergeIdeal Cert.MergeIdeal.Gen Cert.MergeIdeal.Value

/-- The places of the windows at a point: rows move with the point, weights stay. -/
theorem places : ∀ t : Fin grid0.N,
    win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![0, 0, 0] ∧ win0_7.index t = ![0, 0]
    ∧ win0_8.index t = ![(grid0.coords t 0).val, 0] := by
  decide +kernel

/-- The point of a block of rows. -/
theorem point_at : ∀ y : Fin 128, ∃ t : Fin grid0.N, (grid0.coords t 0).val = y.val := by
  decide +kernel

/-- What the merge leaves in one element, from a row of the input, the four branches' rows, the gates' row and the two
    weights: the gated products of the branches are added and taken against a column of the output weights. -/
def mergeAt (x : EReal) (br : Fin 4 → Fin 256 → EReal) (gate : Fin 4 → Fin 1024 → EReal) (wb : Fin 4 → Fin 256 → Fin 1024 → EReal)
    (wo : Fin 1024 → EReal) : EReal :=
  x + ∑ k : Fin 1024, (∑ n : Fin 4, (∑ c : Fin 256, br n c * wb n c k) * gate n k) * wo k

/-- The gate of branch `n` and column `k` stands in column `1024 n + k`. -/
def gateCol (n : Fin 4) (k : Fin 1024) : Fin 4096 := ⟨1024 * n.val + k.val, by omega⟩

/-- One element of a block. -/
theorem out_apply (x0 : Vec Ideal S256x1024 .f32) (x1 x2 x3 x4 : Vec Ideal S256x256 .f32) (x5 : Vec Ideal S256x4096 .bf16)
    (x6 : Vec Ideal S4x256x1024 .bf16) (x7 : Vec Ideal S1024x1024 .bf16) (r : Fin 256) (L : Fin 1024) :
    (out0_8 x0 x1 x2 x3 x4 x5 x6 x7 : S256x1024.Idx → EReal) (ix2 r L)
      = mergeAt (x0 (ix2 r L)) ![fun c => x1 (ix2 r c), fun c => x2 (ix2 r c), fun c => x3 (ix2 r c), fun c => x4 (ix2 r c)]
        (fun n k => x5 (ix2 r (gateCol n k))) (fun n c k => x6 (ix3 n c k)) (fun k => x7 (ix2 k L)) := by
  frame_out
  pointwise [k0_pay1, k0_pay2, k0_pay3, k0_pay4]
  unfold mergeAt
  refine congrArg _ (Finset.sum_congr rfl fun k _ => ?_)
  rw [Fin.sum_univ_four]
  have h : ∀ (n : Fin 4) (j : Fin 4096) (u : EReal), j.val = 1024 * n.val + k.val →
      u * (x5 : S256x4096.Idx → EReal) (ix2 r j) = u * (x5 : S256x4096.Idx → EReal) (ix2 r (gateCol n k)) := fun n j u h =>
    congrArg (fun a => u * (x5 : S256x4096.Idx → EReal) (ix2 r a)) (Fin.ext h)
  exact congrArg (fun a : EReal => a * (x7 : S1024x1024.Idx → EReal) (ix2 k L))
    (congrArg₂ (fun a b : EReal => a + b) (congrArg₂ (fun a b : EReal => a + b) (congrArg₂ (fun a b : EReal => a + b)
      (h 0 _ _ (by simp)) (h 1 _ _ (by simp))) (h 2 _ _ (by simp))) (h 3 _ _ (by simp)))

variable (m : (ℓ : Loc nD τ sig) → Buf (Elt Ideal) ℓ) (c : Dev nD)

/-- The result array: every element is `mergeAt` of its row. -/
theorem arr_apply (p : Fin 32768) (L : Fin 1024) :
    ((dats m 0 c).arrAt 8 cfg0.N : S32768x1024.Idx → EReal) (ix2 p L)
      = mergeAt (m ((c : Thread nD τ).loc main_arg0) (ix2 p L))
        ![fun k => m ((c : Thread nD τ).loc main_arg1) (ix2 p k), fun k => m ((c : Thread nD τ).loc main_arg2) (ix2 p k),
          fun k => m ((c : Thread nD τ).loc main_arg3) (ix2 p k), fun k => m ((c : Thread nD τ).loc main_arg4) (ix2 p k)]
        (fun n k => m ((c : Thread nD τ).loc main_arg5) (ix2 p (gateCol n k)))
        (fun n a k => m ((c : Thread nD τ).loc main_arg6) (ix3 n a k)) (fun k => m ((c : Thread nD τ).loc main_arg7) (ix2 k L)) := by
  obtain ⟨t, h0⟩ := point_at ⟨p.val / 256, by omega⟩
  have h0 : (grid0.coords t 0).val = p.val / 256 := h0
  obtain ⟨e0, e1, e2, e3, e4, e5, e6, e7, e8⟩ := places t
  have hb := congrFun (blocks8 m c t (flush0_8 t)) (ix2 (⟨p.val % 256, by omega⟩ : Fin 256) L)
  have hp : ((cfg0.win 8).blk t).view.emb (ix2 (⟨p.val % 256, by omega⟩ : Fin 256) L) = ix2 p L := by
    blk_ext [e8]
  have hl : ((cfg0.win 8).blk t).view.read (Elt Ideal) ((dats m 0 c).arrAt 8 cfg0.N)
      (ix2 (⟨p.val % 256, by omega⟩ : Fin 256) L) = (dats m 0 c).arrAt 8 cfg0.N (ix2 p L) := by
    rw [← hp]; rfl
  rw [← hl, hb, flushed8]
  refine (out_apply _ _ _ _ _ _ _ _ ⟨p.val % 256, by omega⟩ L).trans ?_
  have b0 : (iblk m c 0 t : S256x1024.Idx → EReal) (ix2 ⟨p.val % 256, by omega⟩ L) = m ((c : Thread nD τ).loc main_arg0) (ix2 p L) := by
    blk_ext [iblk, V, e0]
  have b1 : ∀ k, (iblk m c 1 t : S256x256.Idx → EReal) (ix2 ⟨p.val % 256, by omega⟩ k) = m ((c : Thread nD τ).loc main_arg1) (ix2 p k) := fun k => by
    blk_ext [iblk, V, e1]
  have b2 : ∀ k, (iblk m c 2 t : S256x256.Idx → EReal) (ix2 ⟨p.val % 256, by omega⟩ k) = m ((c : Thread nD τ).loc main_arg2) (ix2 p k) := fun k => by
    blk_ext [iblk, V, e2]
  have b3 : ∀ k, (iblk m c 3 t : S256x256.Idx → EReal) (ix2 ⟨p.val % 256, by omega⟩ k) = m ((c : Thread nD τ).loc main_arg3) (ix2 p k) := fun k => by
    blk_ext [iblk, V, e3]
  have b4 : ∀ k, (iblk m c 4 t : S256x256.Idx → EReal) (ix2 ⟨p.val % 256, by omega⟩ k) = m ((c : Thread nD τ).loc main_arg4) (ix2 p k) := fun k => by
    blk_ext [iblk, V, e4]
  have b5 : ∀ k, (iblk m c 5 t : S256x4096.Idx → EReal) (ix2 ⟨p.val % 256, by omega⟩ k) = m ((c : Thread nD τ).loc main_arg5) (ix2 p k) := fun k => by
    blk_ext [iblk, V, e5]
  have b6 : ∀ n a k, (iblk m c 6 t : S4x256x1024.Idx → EReal) (ix3 n a k) = m ((c : Thread nD τ).loc main_arg6) (ix3 n a k) := fun n a k => by
    blk_ext [iblk, V, e6]
  have b7 : ∀ k, (iblk m c 7 t : S1024x1024.Idx → EReal) (ix2 k L) = m ((c : Thread nD τ).loc main_arg7) (ix2 k L) := fun k => by
    blk_ext [iblk, V, e7]
  simp only [b0, b1, b2, b3, b4, b5, b6, b7]

end Cert.Mrg
-- ==== Proof.MergeRef.lean ====
/-
  The merge as the reference writes it, element by element, and the claims about the merge.
-/
module

public import proofs.«01_k».proof.Proof.MergeOut
public import proofs.«01_k».proof.Proof.Gen.MergeRefIdeal.Read
public import proofs.«01_k».proof.Defs
public import Idealize.ShloMosaic.Adequacy
public import Idealize.ShloMosaic.Lib.Pipeline.ValueKit

@[expose] public section

set_option maxRecDepth 16384

noncomputable section

namespace Cert.Mrg

open Idealize.ShloMosaic Idealize.ShloMosaic.TcCoe
open Cert.MergeRefIdeal Cert.MergeRefIdeal.Gen Cert.MergeRefIdeal.Read

/-- One element of the reference's result. -/
theorem ref_apply (x0 : (⟨S32768x1024, .f32⟩ : BufTy).Contents (Elt Ideal)) (x1 x2 x3 x4 : (⟨S32768x256, .f32⟩ : BufTy).Contents (Elt Ideal))
    (x5 : (⟨S32768x4096, .bf16⟩ : BufTy).Contents (Elt Ideal)) (x6 : (⟨S4x256x1024, .f32⟩ : BufTy).Contents (Elt Ideal))
    (x7 : (⟨S1024x1024, .f32⟩ : BufTy).Contents (Elt Ideal)) (p : Fin 32768) (L : Fin 1024) :
    (val_main_v12 (F := Ideal) x0 x1 x2 x3 x4 x5 x6 x7 : S32768x1024.Idx → EReal) (ix2 p L)
      = mergeAt (x0 (ix2 p L)) ![fun c => x1 (ix2 p c), fun c => x2 (ix2 p c), fun c => x3 (ix2 p c), fun c => x4 (ix2 p c)]
        (fun n k => x5 (ix2 p (gateCol n k))) (fun n c k => x6 (ix3 n c k)) (fun k => x7 (ix2 k L)) := by
  pointwise [val_main_v12, val_main_v11, val_main_v10, val_main_v9, val_main_v8, val_main_v7, val_main_v6, val_main_v5, val_main_v4, val_main_v3, val_main_v2, val_main_v1, val_main_v0, val_main_cst]
  unfold mergeAt
  refine congrArg _ (Finset.sum_congr rfl fun k _ => ?_)
  refine congrArg (fun a : EReal => a * (x7 : S1024x1024.Idx → EReal) (ix2 k L)) (Finset.sum_congr rfl fun n _ => ?_)
  refine congrArg₂ (fun a b : EReal => a * b) (Finset.sum_congr rfl fun c _ => (mul_comm _ _).trans ?_)
    (congrArg (fun a => (x5 : S32768x4096.Idx → EReal) (ix2 p a)) (Fin.ext (by simp [gateCol]; omega)))
  fin_cases n <;> rfl

open Idealize.SL.Sem

/-- The reference ends with its arguments unchanged and every semaphore at zero. -/
theorem frame_ref : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- Kernel and reference leave the same array. -/
theorem algebraic : Cert.algebraic_MergeIdeal_MergeRefIdeal (hMergeIdeal := Cert.MergeIdeal.Gen.facts)
    (hMergeRefIdeal := Cert.MergeRefIdeal.Gen.facts) := by
  intro m g m' g' _ hagree
  refine ⟨fun c => (Cert.MergeIdeal.Gen.dats m 0 c).arrAt 8 Cert.MergeIdeal.cfg0.N, Cert.MergeIdeal.Value.run_blocks m g,
    (θ_run _ _ _).mono (fun r h c => ⟨(h c).1.trans ?_, (h c).2⟩) (Cert.MergeRefIdeal.Value.run m' g')⟩
  obtain ⟨a0, a1, a2, a3, a4, a5, a6, a7⟩ := hagree c
  rw [Cert.MergeRefIdeal.Read.val_main_v12_eq, a0, a1, a2, a3, a4, a5, a6, a7]
  funext i
  obtain ⟨p, L, rfl⟩ : ∃ (p : Fin 32768) (L : Fin 1024), i = ix2 p L :=
    ⟨i 0, i 1, funext fun a => by fin_cases a <;> rfl⟩
  exact (ref_apply _ _ _ _ _ _ _ _ p L).trans (arr_apply m c p L).symm

end Cert.Mrg
-- ==== Proof.FinalNorm.lean ====
/-
  The final norm of the prompt: kernel and reference, element by element, and the claims about it.
-/
module

public import proofs.«01_k».proof.Proof.Gen.FinalNormIdeal.Value
public import proofs.«01_k».proof.Proof.Gen.FinalNormRefIdeal.Read
public import proofs.«01_k».proof.Defs
public import Idealize.ShloMosaic.Adequacy
public import Idealize.ShloMosaic.Lib.Pipeline.ValueKit

@[expose] public section

set_option maxRecDepth 16384

noncomputable section

namespace Cert.Fnm

open Idealize.ShloMosaic Idealize.ShloMosaic.TcCoe

/-- An element of a normalised row: the row's element over the root of its mean square, scaled. -/
def normAt (x g : Fin 1024 → EReal) (k : Fin 1024) : EReal :=
  x k * Ideal.rsqrt (Ideal.div (∑ j, x j * x j) (Ideal.ofBits FTy.f32 0x44800000#32) + Ideal.ofBits FTy.f32 0x358637BD#32) * g k

section
open Cert.FinalNormIdeal Cert.FinalNormIdeal.Gen Cert.FinalNormIdeal.Value

/-- The places of the windows at a point: rows move with the point, the scale stays. -/
theorem places : ∀ t : Fin grid0.N,
    win0_0.index t = ![(grid0.coords t 0).val, 0] ∧ win0_1.index t = ![0, 0]
    ∧ win0_2.index t = ![(grid0.coords t 0).val, 0] := by
  decide +kernel

/-- The point of a block of rows. -/
theorem point_at : ∀ y : Fin 64, ∃ t : Fin grid0.N, (grid0.coords t 0).val = y.val := by
  decide +kernel

/-- One element of a block. -/
theorem out_apply (x0 : Vec Ideal S512x1024 .f32) (x1 : Vec Ideal S1x1024 .f32) (r : Fin 512) (k : Fin 1024) :
    (out0_2 x0 x1 : S512x1024.Idx → EReal) (ix2 r k) = normAt (fun j => x0 (ix2 r j)) (fun j => x1 (ix2 0 j)) k := by
  frame_out
  pointwise [k0_pay1]
  rfl

variable (m : (ℓ : Loc nD τ sig) → Buf (Elt Ideal) ℓ) (c : Dev nD)

/-- The result array: every element is `normAt` of its row. -/
theorem arr_apply (p : Fin 32768) (L : Fin 1024) :
    ((dats m 0 c).arrAt 2 cfg0.N : S32768x1024.Idx → EReal) (ix2 p L)
      = normAt (fun j => m ((c : Thread nD τ).loc main_arg0) (ix2 p j)) (fun j => m ((c : Thread nD τ).loc main_arg1) (ix1 j)) L := by
  obtain ⟨t, h0⟩ := point_at ⟨p.val / 512, by omega⟩
  have h0 : (grid0.coords t 0).val = p.val / 512 := h0
  obtain ⟨e0, e1, e2⟩ := places t
  have hb := congrFun (blocks2 m c t (flush0_2 t)) (ix2 (⟨p.val % 512, by omega⟩ : Fin 512) L)
  have hp : ((cfg0.win 2).blk t).view.emb (ix2 (⟨p.val % 512, by omega⟩ : Fin 512) L) = ix2 p L := by
    blk_ext [e2]
  have hl : ((cfg0.win 2).blk t).view.read (Elt Ideal) ((dats m 0 c).arrAt 2 cfg0.N)
      (ix2 (⟨p.val % 512, by omega⟩ : Fin 512) L) = (dats m 0 c).arrAt 2 cfg0.N (ix2 p L) := by
    rw [← hp]; rfl
  rw [← hl, hb, flushed2]
  refine (out_apply _ _ ⟨p.val % 512, by omega⟩ L).trans ?_
  have b0 : ∀ k, (iblk m c 0 t : S512x1024.Idx → EReal) (ix2 ⟨p.val % 512, by omega⟩ k) = m ((c : Thread nD τ).loc main_arg0) (ix2 p k) := fun k => by
    blk_ext [iblk, V, e0]
  have b1 : ∀ k, (iblk m c 1 t : S1x1024.Idx → EReal) (ix2 0 k) = m ((c : Thread nD τ).loc main_arg1) (ix1 k) := fun k => by
    have hv : (V m c main_v0 : S1x1024.Idx → EReal)
        = (shapeCast S1x1024 (m ((c : Thread nD τ).loc main_arg1) : Vec Ideal S1024 .f32) shapeCasts_S1024_S1x1024) := rfl
    have he : (iblk m c 1 t : S1x1024.Idx → EReal) (ix2 0 k) = (V m c main_v0 : S1x1024.Idx → EReal) (ix2 0 k) := by
      blk_ext [iblk, e1]
    rw [he, hv]
    pointwise
  simp only [b0, b1]

end

section
open Cert.FinalNormRefIdeal Cert.FinalNormRefIdeal.Gen Cert.FinalNormRefIdeal.Read

/-- One element of the reference's result. -/
theorem ref_apply (x0 : (⟨S32768x1024, .f32⟩ : BufTy).Contents (Elt Ideal)) (x1 : (⟨S1024, .f32⟩ : BufTy).Contents (Elt Ideal))
    (p : Fin 32768) (L : Fin 1024) :
    (val_main_v12 (F := Ideal) x0 x1 : S32768x1024.Idx → EReal) (ix2 p L) = normAt (fun j => x0 (ix2 p j)) (fun j => x1 (ix1 j)) L := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

end

open Idealize.SL.Sem

/-- The reference ends with its arguments unchanged and every semaphore at zero. -/
theorem frame_ref : Cert.quiescent_FinalNormRefIdeal (hFinalNormRefIdeal := Cert.FinalNormRefIdeal.Gen.facts) := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

/-- Kernel and reference leave the same array. -/
theorem algebraic : Cert.algebraic_FinalNormIdeal_FinalNormRefIdeal (hFinalNormIdeal := Cert.FinalNormIdeal.Gen.facts)
    (hFinalNormRefIdeal := Cert.FinalNormRefIdeal.Gen.facts) := by
  intro m g m' g' _ hagree
  refine ⟨fun c => (Cert.FinalNormIdeal.Gen.dats m 0 c).arrAt 2 Cert.FinalNormIdeal.cfg0.N, Cert.FinalNormIdeal.Value.run_blocks m g,
    (θ_run _ _ _).mono (fun r h c => ⟨(h c).1.trans ?_, (h c).2⟩) (Cert.FinalNormRefIdeal.Value.run m' g')⟩
  obtain ⟨a0, a1⟩ := hagree c
  rw [Cert.FinalNormRefIdeal.Read.val_main_v12_eq, a0, a1]
  funext i
  obtain ⟨p, L, rfl⟩ : ∃ (p : Fin 32768) (L : Fin 1024), i = ix2 p L := ⟨i 0, i 1, funext fun a => by fin_cases a <;> rfl⟩
  exact (ref_apply _ _ p L).trans (arr_apply m c p L).symm

end Cert.Fnm
-- ==== Proof.FinalNormS.lean ====
/-
  The final norm of the sample: kernel and reference, element by element, and the claims about it.
-/
module

public import proofs.«01_k».proof.Proof.Gen.FinalNormSIdeal.Value
public import proofs.«01_k».proof.Proof.Gen.FinalNormSRefIdeal.Read
public import proofs.«01_k».proof.Defs
public import Idealize.ShloMosaic.Adequacy
public import Idealize.ShloMosaic.Lib.Pipeline.ValueKit

@[expose] public section

set_option maxRecDepth 16384

noncomputable section

namespace Cert.FnmS

open Idealize.ShloMosaic Idealize.ShloMosaic.TcCoe

/-- An element of a normalised row: the row's element over the root of its mean square, scaled. -/
def normAt (x g : Fin 1024 → EReal) (k : Fin 1024) : EReal :=
  x k * Ideal.rsqrt (Ideal.div (∑ j, x j * x j) (Ideal.ofBits FTy.f32 0x44800000#32) + Ideal.ofBits FTy.f32 0x358637BD#32) * g k

section
open Cert.FinalNormSIdeal Cert.FinalNormSIdeal.Gen Cert.FinalNormSIdeal.Value

/-- The places of the windows at a point: rows move with the point, the scale stays. -/
theorem places : ∀ t : Fin grid0.N,
    win0_0.index t = ![(grid0.coords t 0).val, 0] ∧ win0_1.index t = ![0, 0]
    ∧ win0_2.index t = ![(grid0.coords t 0).val, 0] := by
  decide +kernel

/-- The point of a block of rows. -/
theorem point_at : ∀ y : Fin 1, ∃ t : Fin grid0.N, (grid0.coords t 0).val = y.val := by
  decide +kernel

/-- One element of a block. -/
theorem out_apply (x0 : Vec Ideal S256x1024 .f32) (x1 : Vec Ideal S1x1024 .f32) (r : Fin 256) (k : Fin 1024) :
    (out0_2 x0 x1 : S256x1024.Idx → EReal) (ix2 r k) = normAt (fun j => x0 (ix2 r j)) (fun j => x1 (ix2 0 j)) k := by
  frame_out
  pointwise [k0_pay1]
  rfl

variable (m : (ℓ : Loc nD τ sig) → Buf (Elt Ideal) ℓ) (c : Dev nD)

/-- The result array: every element is `normAt` of its row. -/
theorem arr_apply (p : Fin 256) (L : Fin 1024) :
    ((dats m 0 c).arrAt 2 cfg0.N : S256x1024.Idx → EReal) (ix2 p L)
      = normAt (fun j => m ((c : Thread nD τ).loc main_arg0) (ix2 p j)) (fun j => m ((c : Thread nD τ).loc main_arg1) (ix1 j)) L := by
  obtain ⟨t, h0⟩ := point_at ⟨p.val / 256, by omega⟩
  have h0 : (grid0.coords t 0).val = p.val / 256 := h0
  obtain ⟨e0, e1, e2⟩ := places t
  have hb := congrFun (blocks2 m c t (flush0_2 t)) (ix2 (⟨p.val % 256, by omega⟩ : Fin 256) L)
  have hp : ((cfg0.win 2).blk t).view.emb (ix2 (⟨p.val % 256, by omega⟩ : Fin 256) L) = ix2 p L := by
    blk_ext [e2]
  have hl : ((cfg0.win 2).blk t).view.read (Elt Ideal) ((dats m 0 c).arrAt 2 cfg0.N)
      (ix2 (⟨p.val % 256, by omega⟩ : Fin 256) L) = (dats m 0 c).arrAt 2 cfg0.N (ix2 p L) := by
    rw [← hp]; rfl
  rw [← hl, hb, flushed2]
  refine (out_apply _ _ ⟨p.val % 256, by omega⟩ L).trans ?_
  have b0 : ∀ k, (iblk m c 0 t : S256x1024.Idx → EReal) (ix2 ⟨p.val % 256, by omega⟩ k) = m ((c : Thread nD τ).loc main_arg0) (ix2 p k) := fun k => by
    blk_ext [iblk, V, e0]
  have b1 : ∀ k, (iblk m c 1 t : S1x1024.Idx → EReal) (ix2 0 k) = m ((c : Thread nD τ).loc main_arg1) (ix1 k) := fun k => by
    have hv : (V m c main_v0 : S1x1024.Idx → EReal)
        = (shapeCast S1x1024 (m ((c : Thread nD τ).loc main_arg1) : Vec Ideal S1024 .f32) shapeCasts_S1024_S1x1024) := rfl
    have he : (iblk m c 1 t : S1x1024.Idx → EReal) (ix2 0 k) = (V m c main_v0 : S1x1024.Idx → EReal) (ix2 0 k) := by
      blk_ext [iblk, e1]
    rw [he, hv]
    pointwise
  simp only [b0, b1]

end

section
open Cert.FinalNormSRefIdeal Cert.FinalNormSRefIdeal.Gen Cert.FinalNormSRefIdeal.Read

/-- One element of the reference's result. -/
theorem ref_apply (x0 : (⟨S256x1024, .f32⟩ : BufTy).Contents (Elt Ideal)) (x1 : (⟨S1024, .f32⟩ : BufTy).Contents (Elt Ideal))
    (p : Fin 256) (L : Fin 1024) :
    (val_main_v12 (F := Ideal) x0 x1 : S256x1024.Idx → EReal) (ix2 p L) = normAt (fun j => x0 (ix2 p j)) (fun j => x1 (ix1 j)) L := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

end

open Idealize.SL.Sem

/-- The reference ends with its arguments unchanged and every semaphore at zero. -/
theorem frame_ref : Cert.quiescent_FinalNormSRefIdeal (hFinalNormSRefIdeal := Cert.FinalNormSRefIdeal.Gen.facts) := fun m ρ _ =>
  (θ_run Cert.FinalNormSRefIdeal.defs _ _).mono (fun r h => ⟨fun c => (h c).2, sem_eq_zero_of_no_sems (by decide) r.2⟩)
    (Cert.FinalNormSRefIdeal.Value.run (F := Ideal) m ρ)

/-- Kernel and reference leave the same array. -/
theorem algebraic : Cert.algebraic_FinalNormSIdeal_FinalNormSRefIdeal (hFinalNormSIdeal := Cert.FinalNormSIdeal.Gen.facts)
    (hFinalNormSRefIdeal := Cert.FinalNormSRefIdeal.Gen.facts) := by
  intro m g m' g' _ hagree
  refine ⟨fun c => (Cert.FinalNormSIdeal.Gen.dats m 0 c).arrAt 2 Cert.FinalNormSIdeal.cfg0.N, Cert.FinalNormSIdeal.Value.run_blocks m g,
    (θ_run _ _ _).mono (fun r h c => ⟨(h c).1.trans ?_, (h c).2⟩) (Cert.FinalNormSRefIdeal.Value.run m' g')⟩
  obtain ⟨a0, a1⟩ := hagree c
  rw [Cert.FinalNormSRefIdeal.Read.val_main_v12_eq, a0, a1]
  funext i
  obtain ⟨p, L, rfl⟩ : ∃ (p : Fin 256) (L : Fin 1024), i = ix2 p L := ⟨i 0, i 1, funext fun a => by fin_cases a <;> rfl⟩
  exact (ref_apply _ _ p L).trans (arr_apply m c p L).symm

end Cert.FnmS
-- ==== Proof.InProjSOut.lean ====
/-
  The input projection kernel at the rows of the sample: the nine arrays that it leaves, element by element.
-/
module

public import proofs.«01_k».proof.Proof.Gen.InProjSIdeal.Value
public import Idealize.ShloMosaic.Lib.Pipeline.ValueKit

@[expose] public section

set_option maxRecDepth 16384

noncomputable section

namespace Cert.InpS

open Idealize.ShloMosaic Idealize.ShloMosaic.TcCoe
open Cert.InProjSIdeal Cert.InProjSIdeal.Gen Cert.InProjSIdeal.Value

/-- The places of the windows at a point: rows move with the point, the scale and the weight stay. -/
theorem places : ∀ t : Fin grid0.N,
    win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] ∧ win0_8.index t = ![(grid0.coords t 0).val, 0]
    ∧ win0_9.index t = ![(grid0.coords t 0).val, 0] ∧ win0_10.index t = ![(grid0.coords t 0).val, 0]
    ∧ win0_11.index t = ![(grid0.coords t 0).val, 0] := by
  decide +kernel

/-- The point of a block of rows. -/
theorem point_at : ∀ y : Fin 1, ∃ t : Fin grid0.N, (grid0.coords t 0).val = y.val := by
  decide +kernel

/-- An element of a normalised row: the row's element over the root of its mean square, scaled. -/
def normAt (x g : Fin 1024 → EReal) (k : Fin 1024) : EReal :=
  x k * Ideal.rsqrt (Ideal.div (∑ j, x j * x j) (Ideal.ofBits FTy.f32 0x44800000#32) + Ideal.ofBits FTy.f32 0x358637BD#32) * g k

/-- A normalised row against a column of the weight. -/
def projAt (x g : Fin 1024 → EReal) (w : Fin 1024 → EReal) : EReal := ∑ k, normAt x g k * w k

/-- Column `L` of the part of the weight that begins at column `o`. -/
def col (o : ℕ) {n : ℕ} (h : o + n ≤ 7424) (L : Fin n) : Fin 7424 := ⟨o + L.val, by omega⟩

section Block

variable (x0 : Vec Ideal S256x1024 .f32) (x1 : Vec Ideal S1x1024 .f32) (x2 : Vec Ideal S1024x7424 .bf16) (r : Fin 256)

/-- The normalised rows of a block. -/
theorem norm_apply (k : Fin 1024) :
    (k0_pay3 x0 x1 : S256x1024.Idx → EReal) (ix2 r k) = normAt (fun j => x0 (ix2 r j)) (fun j => x1 (ix2 0 j)) k := by
  pointwise [k0_pay3]
  rfl

/-- The normalised rows, as the later products read them. -/
theorem norm_apply' (k : Fin 1024) :
    (k0_pay14 x0 x1 x2 : S256x1024.Idx → EReal) (ix2 r k) = normAt (fun j => x0 (ix2 r j)) (fun j => x1 (ix2 0 j)) k := by
  unfold k0_pay14
  simp (disch := decide) only [View.ld_unit_lit']
  exact norm_apply x0 x1 r k

/-- A sum of products with a column of the weight, the column named another way. -/
theorem sum_col (f : Fin 1024 → EReal) (j i : Fin 7424) (h : j.val = i.val)
    (hf : ∀ k, f k = normAt (fun j => x0 (ix2 r j)) (fun j => x1 (ix2 0 j)) k) :
    ∑ k, f k * (x2 : S1024x7424.Idx → EReal) (ix2 k j)
      = projAt (fun j => x0 (ix2 r j)) (fun j => x1 (ix2 0 j)) (fun k => x2 (ix2 k i)) := by
  obtain rfl : j = i := Fin.ext h
  exact Finset.sum_congr rfl fun k _ => congrArg (fun a : EReal => a * (x2 : S1024x7424.Idx → EReal) (ix2 k j)) (hf k)

/-- One element of a block of the queries. -/
theorem out3_apply (L : Fin 256) :
    (out0_3 x0 x1 x2 : S256x256.Idx → EReal) (ix2 r L)
      = projAt (fun j => x0 (ix2 r j)) (fun j => x1 (ix2 0 j)) (fun k => x2 (ix2 k (col 0 (n := 256) (by norm_num) L))) * Named.named (F := Ideal) κ "q_scale" (φ := .f32) 0xBE38AA3B#32 := by
  frame_out
  pointwise [k0_pay4]
  exact congrArg (fun a : EReal => a * _) (sum_col x0 x1 x2 r _ _ (col 0 (n := 256) (by norm_num) L) (by simp [col]) (norm_apply x0 x1 r))

/-- One element of a block of the keys. -/
theorem out4_apply (L : Fin 256) :
    (out0_4 x0 x1 x2 : S256x256.Idx → EReal) (ix2 r L)
      = projAt (fun j => x0 (ix2 r j)) (fun j => x1 (ix2 0 j)) (fun k => x2 (ix2 k (col 256 (n := 256) (by norm_num) L))) := by
  frame_out
  pointwise [k0_pay5]
  exact sum_col x0 x1 x2 r _ _ (col 256 (n := 256) (by norm_num) L) (by simp [col]) (norm_apply x0 x1 r)

/-- One element of a block of the values. -/
theorem out5_apply (L : Fin 256) :
    (out0_5 x0 x1 x2 : S256x256.Idx → EReal) (ix2 r L)
      = projAt (fun j => x0 (ix2 r j)) (fun j => x1 (ix2 0 j)) (fun k => x2 (ix2 k (col 512 (n := 256) (by norm_num) L))) := by
  frame_out
  pointwise [k0_pay6]
  exact sum_col x0 x1 x2 r _ _ (col 512 (n := 256) (by norm_num) L) (by simp [col]) (norm_apply x0 x1 r)

/-- One element of a block of the narrow keys. -/
theorem out6_apply (L : Fin 256) :
    (out0_6 x0 x1 x2 : S256x256.Idx → EReal) (ix2 r L)
      = projAt (fun j => x0 (ix2 r j)) (fun j => x1 (ix2 0 j)) (fun k => x2 (ix2 k (col 256 (n := 256) (by norm_num) L))) := by
  frame_out
  pointwise [k0_pay7, k0_pay5]
  exact sum_col x0 x1 x2 r _ _ (col 256 (n := 256) (by norm_num) L) (by simp [col]) (norm_apply x0 x1 r)

/-- One element of a block of the narrow values. -/
theorem out7_apply (L : Fin 256) :
    (out0_7 x0 x1 x2 : S256x256.Idx → EReal) (ix2 r L)
      = projAt (fun j => x0 (ix2 r j)) (fun j => x1 (ix2 0 j)) (fun k => x2 (ix2 k (col 512 (n := 256) (by norm_num) L))) := by
  frame_out
  pointwise [k0_pay8, k0_pay6]
  exact sum_col x0 x1 x2 r _ _ (col 512 (n := 256) (by norm_num) L) (by simp [col]) (norm_apply x0 x1 r)

/-- One element of a block of the heads of the gated recurrence. -/
theorem out8_apply (L : Fin 1024) :
    (out0_8 x0 x1 x2 : S256x1024.Idx → EReal) (ix2 r L)
      = projAt (fun j => x0 (ix2 r j)) (fun j => x1 (ix2 0 j)) (fun k => x2 (ix2 k (col 768 (n := 1024) (by norm_num) L))) := by
  frame_out
  pointwise [k0_pay9]
  exact sum_col x0 x1 x2 r _ _ (col 768 (n := 1024) (by norm_num) L) (by simp [col]) (norm_apply' x0 x1 x2 r)

/-- One element of a block of the convolution inputs. -/
theorem out9_apply (L : Fin 512) :
    (out0_9 x0 x1 x2 : S256x512.Idx → EReal) (ix2 r L)
      = projAt (fun j => x0 (ix2 r j)) (fun j => x1 (ix2 0 j)) (fun k => x2 (ix2 k (col 1792 (n := 512) (by norm_num) L))) := by
  frame_out
  pointwise [k0_pay10]
  exact sum_col x0 x1 x2 r _ _ (col 1792 (n := 512) (by norm_num) L) (by simp [col]) (norm_apply' x0 x1 x2 r)

/-- One element of a block of the inputs of the last recurrence. -/
theorem out10_apply (L : Fin 1024) :
    (out0_10 x0 x1 x2 : S256x1024.Idx → EReal) (ix2 r L)
      = projAt (fun j => x0 (ix2 r j)) (fun j => x1 (ix2 0 j)) (fun k => x2 (ix2 k (col 2304 (n := 1024) (by norm_num) L))) := by
  frame_out
  pointwise [k0_pay11]
  exact sum_col x0 x1 x2 r _ _ (col 2304 (n := 1024) (by norm_num) L) (by simp [col]) (norm_apply' x0 x1 x2 r)

/-- One element of quarter 0 of the gates. -/
theorem gate0_apply (L : Fin 1024) :
    (k0_pay12 (k0_pay14 x0 x1 x2) (View.ld x2 r0_10) : S256x1024.Idx → EReal) (ix2 r L)
      = Ideal.logistic (projAt (fun j => x0 (ix2 r j)) (fun j => x1 (ix2 0 j)) (fun k => x2 (ix2 k (col 3328 (n := 1024) (by norm_num) L)))) := by
  pointwise [k0_pay12]
  exact congrArg Ideal.logistic (sum_col x0 x1 x2 r _ _ (col 3328 (n := 1024) (by norm_num) L) (by simp [col]) (norm_apply' x0 x1 x2 r))

/-- One element of quarter 1 of the gates. -/
theorem gate1_apply (L : Fin 1024) :
    (k0_pay13 (k0_pay14 x0 x1 x2) (View.ld x2 r0_12) : S256x1024.Idx → EReal) (ix2 r L)
      = Ideal.logistic (projAt (fun j => x0 (ix2 r j)) (fun j => x1 (ix2 0 j)) (fun k => x2 (ix2 k (col 4352 (n := 1024) (by norm_num) L)))) := by
  pointwise [k0_pay13]
  exact congrArg Ideal.logistic (sum_col x0 x1 x2 r _ _ (col 4352 (n := 1024) (by norm_num) L) (by simp [col]) (norm_apply' x0 x1 x2 r))

/-- One element of quarter 2 of the gates. -/
theorem gate2_apply (L : Fin 1024) :
    (k0_pay1 (k0_pay14 x0 x1 x2) (View.ld x2 r0_14) : S256x1024.Idx → EReal) (ix2 r L)
      = Ideal.logistic (projAt (fun j => x0 (ix2 r j)) (fun j => x1 (ix2 0 j)) (fun k => x2 (ix2 k (col 5376 (n := 1024) (by norm_num) L)))) := by
  pointwise [k0_pay1]
  exact congrArg Ideal.logistic (sum_col x0 x1 x2 r _ _ (col 5376 (n := 1024) (by norm_num) L) (by simp [col]) (norm_apply' x0 x1 x2 r))

/-- One element of quarter 3 of the gates. -/
theorem gate3_apply (L : Fin 1024) :
    (k0_pay2 (k0_pay14 x0 x1 x2) (View.ld x2 r0_16) : S256x1024.Idx → EReal) (ix2 r L)
      = Ideal.logistic (projAt (fun j => x0 (ix2 r j)) (fun j => x1 (ix2 0 j)) (fun k => x2 (ix2 k (col 6400 (n := 1024) (by norm_num) L)))) := by
  pointwise [k0_pay2]
  exact congrArg Ideal.logistic (sum_col x0 x1 x2 r _ _ (col 6400 (n := 1024) (by norm_num) L) (by simp [col]) (norm_apply' x0 x1 x2 r))

/-- One element of a block of the gates: the four quarters are stored side by side. -/
theorem out11_apply (L : Fin 4096) :
    (out0_11 x0 x1 x2 : S256x4096.Idx → EReal) (ix2 r L)
      = Ideal.logistic (projAt (fun j => x0 (ix2 r j)) (fun j => x1 (ix2 0 j)) (fun k => x2 (ix2 k (col 3328 (n := 4096) (by norm_num) L)))) := by
  frame_out
  refine View.canon_apply_of_pieces (Val := Elt Ideal) (e := .bf16) (fun y : S256x4096.Idx => Ideal.logistic (projAt (fun j => x0 (ix2 (y 0) j)) (fun j => x1 (ix2 0 j))
    (fun k => x2 (ix2 k (col 3328 (n := 4096) (by norm_num) (y 1)))))) _ (fun p hp j => ?_) (ix2 r L) (cover0_11 _ _ _ _ _)
  simp only [List.mem_cons, List.mem_nil_iff, or_false] at hp
  have hq : ∀ (o : ℕ) (h : o + 1024 ≤ 7424) (a a' : Fin 256) (b : Fin 1024) (b' : Fin 4096), a' = a → 3328 + b'.val = o + b.val →
      Ideal.logistic (projAt (fun j => x0 (ix2 a j)) (fun j => x1 (ix2 0 j)) (fun k => x2 (ix2 k (col o (n := 1024) h b))))
        = Ideal.logistic (projAt (fun j => x0 (ix2 a' j)) (fun j => x1 (ix2 0 j)) (fun k => x2 (ix2 k (col 3328 (n := 4096) (by norm_num) b')))) := by
    rintro o h a _ b b' rfl e
    exact congrArg (fun i => Ideal.logistic (projAt _ _ (fun k => x2 (ix2 k i)))) (Fin.ext e.symm)
  rcases hp with rfl | rfl | rfl | rfl <;>
    obtain ⟨a, b, rfl⟩ : ∃ (a : Fin 256) (b : Fin 1024), j = ix2 a b := ⟨j 0, j 1, funext fun a => by fin_cases a <;> rfl⟩
  · exact (gate3_apply x0 x1 x2 a b).trans (hq 6400 (by norm_num) a _ b _ (Fin.ext (by simp [View.emb, r0_17])) (by simp [View.emb, r0_17]; omega))
  · exact (gate2_apply x0 x1 x2 a b).trans (hq 5376 (by norm_num) a _ b _ (Fin.ext (by simp [View.emb, r0_15])) (by simp [View.emb, r0_15]; omega))
  · exact (gate1_apply x0 x1 x2 a b).trans (hq 4352 (by norm_num) a _ b _ (Fin.ext (by simp [View.emb, r0_13])) (by simp [View.emb, r0_13]; omega))
  · exact (gate0_apply x0 x1 x2 a b).trans (hq 3328 (by norm_num) a _ b _ (Fin.ext (by simp [View.emb, r0_11])) (by simp [View.emb, r0_11]))

end Block

section Array

variable (m : (ℓ : Loc nD τ sig) → Buf (Elt Ideal) ℓ) (c : Dev nD)

/-- The block of rows that a point reads. -/
theorem read_x (t : Fin grid0.N) (p : Fin 256) (h0 : (grid0.coords t 0).val = p.val / 256) (k : Fin 1024) :
    (iblk m c 0 t : S256x1024.Idx → EReal) (ix2 ⟨p.val % 256, by omega⟩ k) = m ((c : Thread nD τ).loc main_arg0) (ix2 p k) := by
  obtain ⟨e0, -⟩ := places t
  blk_ext [iblk, V, e0]

/-- The scale that every point reads. -/
theorem read_g (t : Fin grid0.N) (k : Fin 1024) :
    (iblk m c 1 t : S1x1024.Idx → EReal) (ix2 0 k) = m ((c : Thread nD τ).loc main_arg1) (ix1 k) := by
  obtain ⟨-, e1, -⟩ := places t
  have hv : (V m c main_v1 : S1x1024.Idx → EReal)
      = (shapeCast S1x1024 (m ((c : Thread nD τ).loc main_arg1) : Vec Ideal S1024 .f32) shapeCasts_S1024_S1x1024) := rfl
  have he : (iblk m c 1 t : S1x1024.Idx → EReal) (ix2 0 k) = (V m c main_v1 : S1x1024.Idx → EReal) (ix2 0 k) := by
    blk_ext [iblk, e1]
  rw [he, hv]
  pointwise

/-- The weight that every point reads. -/
theorem read_w (t : Fin grid0.N) (k : Fin 1024) (i : Fin 7424) :
    (iblk m c 2 t : S1024x7424.Idx → EReal) (ix2 k i) = m ((c : Thread nD τ).loc main_arg2) (ix2 k i) := by
  obtain ⟨-, -, e2, -⟩ := places t
  blk_ext [iblk, V, e2]

/-- The array of the queries. -/
theorem arr3_apply (p : Fin 256) (L : Fin 256) :
    ((dats m 0 c).arrAt 3 cfg0.N : S256x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 0 (n := 256) (by norm_num) L))) * Named.named (F := Ideal) κ "q_scale" (φ := .f32) 0xBE38AA3B#32 := by
  obtain ⟨t, h0⟩ := point_at ⟨p.val / 256, by omega⟩
  have h0 : (grid0.coords t 0).val = p.val / 256 := h0
  obtain ⟨-, -, -, e3, -⟩ := places t
  have hb := congrFun (blocks3 m c t (flush0_3 t)) (ix2 (⟨p.val % 256, by omega⟩ : Fin 256) L)
  have hp : ((cfg0.win 3).blk t).view.emb (ix2 (⟨p.val % 256, by omega⟩ : Fin 256) L) = ix2 p L := by
    blk_ext [e3]
  have hl : ((cfg0.win 3).blk t).view.read (Elt Ideal) ((dats m 0 c).arrAt 3 cfg0.N)
      (ix2 (⟨p.val % 256, by omega⟩ : Fin 256) L) = (dats m 0 c).arrAt 3 cfg0.N (ix2 p L) := by
    rw [← hp]; rfl
  rw [← hl, hb, flushed3]
  refine (out3_apply _ _ _ ⟨p.val % 256, by omega⟩ L).trans ?_
  simp only [read_x m c t p h0, read_g m c t, read_w m c t]

/-- The array of the keys. -/
theorem arr4_apply (p : Fin 256) (L : Fin 256) :
    ((dats m 0 c).arrAt 4 cfg0.N : S256x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 256 (n := 256) (by norm_num) L))) := by
  obtain ⟨t, h0⟩ := point_at ⟨p.val / 256, by omega⟩
  have h0 : (grid0.coords t 0).val = p.val / 256 := h0
  obtain ⟨-, -, -, -, e4, -⟩ := places t
  have hb := congrFun (blocks4 m c t (flush0_4 t)) (ix2 (⟨p.val % 256, by omega⟩ : Fin 256) L)
  have hp : ((cfg0.win 4).blk t).view.emb (ix2 (⟨p.val % 256, by omega⟩ : Fin 256) L) = ix2 p L := by
    blk_ext [e4]
  have hl : ((cfg0.win 4).blk t).view.read (Elt Ideal) ((dats m 0 c).arrAt 4 cfg0.N)
      (ix2 (⟨p.val % 256, by omega⟩ : Fin 256) L) = (dats m 0 c).arrAt 4 cfg0.N (ix2 p L) := by
    rw [← hp]; rfl
  rw [← hl, hb, flushed4]
  refine (out4_apply _ _ _ ⟨p.val % 256, by omega⟩ L).trans ?_
  simp only [read_x m c t p h0, read_g m c t, read_w m c t]

/-- The array of the values. -/
theorem arr5_apply (p : Fin 256) (L : Fin 256) :
    ((dats m 0 c).arrAt 5 cfg0.N : S256x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 512 (n := 256) (by norm_num) L))) := by
  obtain ⟨t, h0⟩ := point_at ⟨p.val / 256, by omega⟩
  have h0 : (grid0.coords t 0).val = p.val / 256 := h0
  obtain ⟨-, -, -, -, -, e5, -⟩ := places t
  have hb := congrFun (blocks5 m c t (flush0_5 t)) (ix2 (⟨p.val % 256, by omega⟩ : Fin 256) L)
  have hp : ((cfg0.win 5).blk t).view.emb (ix2 (⟨p.val % 256, by omega⟩ : Fin 256) L) = ix2 p L := by
    blk_ext [e5]
  have hl : ((cfg0.win 5).blk t).view.read (Elt Ideal) ((dats m 0 c).arrAt 5 cfg0.N)
      (ix2 (⟨p.val % 256, by omega⟩ : Fin 256) L) = (dats m 0 c).arrAt 5 cfg0.N (ix2 p L) := by
    rw [← hp]; rfl
  rw [← hl, hb, flushed5]
  refine (out5_apply _ _ _ ⟨p.val % 256, by omega⟩ L).trans ?_
  simp only [read_x m c t p h0, read_g m c t, read_w m c t]

/-- The array of the narrow keys. -/
theorem arr6_apply (p : Fin 256) (L : Fin 256) :
    ((dats m 0 c).arrAt 6 cfg0.N : S256x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 256 (n := 256) (by norm_num) L))) := by
  obtain ⟨t, h0⟩ := point_at ⟨p.val / 256, by omega⟩
  have h0 : (grid0.coords t 0).val = p.val / 256 := h0
  obtain ⟨-, -, -, -, -, -, e6, -⟩ := places t
  have hb := congrFun (blocks6 m c t (flush0_6 t)) (ix2 (⟨p.val % 256, by omega⟩ : Fin 256) L)
  have hp : ((cfg0.win 6).blk t).view.emb (ix2 (⟨p.val % 256, by omega⟩ : Fin 256) L) = ix2 p L := by
    blk_ext [e6]
  have hl : ((cfg0.win 6).blk t).view.read (Elt Ideal) ((dats m 0 c).arrAt 6 cfg0.N)
      (ix2 (⟨p.val % 256, by omega⟩ : Fin 256) L) = (dats m 0 c).arrAt 6 cfg0.N (ix2 p L) := by
    rw [← hp]; rfl
  rw [← hl, hb, flushed6]
  refine (out6_apply _ _ _ ⟨p.val % 256, by omega⟩ L).trans ?_
  simp only [read_x m c t p h0, read_g m c t, read_w m c t]

/-- The array of the narrow values. -/
theorem arr7_apply (p : Fin 256) (L : Fin 256) :
    ((dats m 0 c).arrAt 7 cfg0.N : S256x256.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 512 (n := 256) (by norm_num) L))) := by
  obtain ⟨t, h0⟩ := point_at ⟨p.val / 256, by omega⟩
  have h0 : (grid0.coords t 0).val = p.val / 256 := h0
  obtain ⟨-, -, -, -, -, -, -, e7, -⟩ := places t
  have hb := congrFun (blocks7 m c t (flush0_7 t)) (ix2 (⟨p.val % 256, by omega⟩ : Fin 256) L)
  have hp : ((cfg0.win 7).blk t).view.emb (ix2 (⟨p.val % 256, by omega⟩ : Fin 256) L) = ix2 p L := by
    blk_ext [e7]
  have hl : ((cfg0.win 7).blk t).view.read (Elt Ideal) ((dats m 0 c).arrAt 7 cfg0.N)
      (ix2 (⟨p.val % 256, by omega⟩ : Fin 256) L) = (dats m 0 c).arrAt 7 cfg0.N (ix2 p L) := by
    rw [← hp]; rfl
  rw [← hl, hb, flushed7]
  refine (out7_apply _ _ _ ⟨p.val % 256, by omega⟩ L).trans ?_
  simp only [read_x m c t p h0, read_g m c t, read_w m c t]

/-- The array of the heads of the gated recurrence. -/
theorem arr8_apply (p : Fin 256) (L : Fin 1024) :
    ((dats m 0 c).arrAt 8 cfg0.N : S256x1024.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 768 (n := 1024) (by norm_num) L))) := by
  obtain ⟨t, h0⟩ := point_at ⟨p.val / 256, by omega⟩
  have h0 : (grid0.coords t 0).val = p.val / 256 := h0
  obtain ⟨-, -, -, -, -, -, -, -, e8, -⟩ := places t
  have hb := congrFun (blocks8 m c t (flush0_8 t)) (ix2 (⟨p.val % 256, by omega⟩ : Fin 256) L)
  have hp : ((cfg0.win 8).blk t).view.emb (ix2 (⟨p.val % 256, by omega⟩ : Fin 256) L) = ix2 p L := by
    blk_ext [e8]
  have hl : ((cfg0.win 8).blk t).view.read (Elt Ideal) ((dats m 0 c).arrAt 8 cfg0.N)
      (ix2 (⟨p.val % 256, by omega⟩ : Fin 256) L) = (dats m 0 c).arrAt 8 cfg0.N (ix2 p L) := by
    rw [← hp]; rfl
  rw [← hl, hb, flushed8]
  refine (out8_apply _ _ _ ⟨p.val % 256, by omega⟩ L).trans ?_
  simp only [read_x m c t p h0, read_g m c t, read_w m c t]

/-- The array of the convolution inputs. -/
theorem arr9_apply (p : Fin 256) (L : Fin 512) :
    ((dats m 0 c).arrAt 9 cfg0.N : S256x512.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 1792 (n := 512) (by norm_num) L))) := by
  obtain ⟨t, h0⟩ := point_at ⟨p.val / 256, by omega⟩
  have h0 : (grid0.coords t 0).val = p.val / 256 := h0
  obtain ⟨-, -, -, -, -, -, -, -, -, e9, -⟩ := places t
  have hb := congrFun (blocks9 m c t (flush0_9 t)) (ix2 (⟨p.val % 256, by omega⟩ : Fin 256) L)
  have hp : ((cfg0.win 9).blk t).view.emb (ix2 (⟨p.val % 256, by omega⟩ : Fin 256) L) = ix2 p L := by
    blk_ext [e9]
  have hl : ((cfg0.win 9).blk t).view.read (Elt Ideal) ((dats m 0 c).arrAt 9 cfg0.N)
      (ix2 (⟨p.val % 256, by omega⟩ : Fin 256) L) = (dats m 0 c).arrAt 9 cfg0.N (ix2 p L) := by
    rw [← hp]; rfl
  rw [← hl, hb, flushed9]
  refine (out9_apply _ _ _ ⟨p.val % 256, by omega⟩ L).trans ?_
  simp only [read_x m c t p h0, read_g m c t, read_w m c t]

/-- The array of the inputs of the last recurrence. -/
theorem arr10_apply (p : Fin 256) (L : Fin 1024) :
    ((dats m 0 c).arrAt 10 cfg0.N : S256x1024.Idx → EReal) (ix2 p L)
      = projAt (fun j => m ((c : Thread nD τ).loc main_arg0) (ix2 p j)) (fun j => m ((c : Thread nD τ).loc main_arg1) (ix1 j))
        (fun k => m ((c : Thread nD τ).loc main_arg2) (ix2 k (col 2304 (n := 1024) (by norm_num) L))) := by
  obtain ⟨t, h0⟩ := point_at ⟨p.val / 256, by omega⟩
  have h0 : (grid0.coords t 0).val = p.val / 256 := h0
  obtain ⟨-, -, -, -, -, -, -, -, -, -, e10, -⟩ := places t
  have hb := congrFun (blocks10 m c t (flush0_10 t)) (ix2 (⟨p.val % 256, by omega⟩ : Fin 256) L)
  have hp : ((cfg0.win 10).blk t).view.emb (ix2 (⟨p.val % 256, by omega⟩ : Fin 256) L) = ix2 p L := by
    blk_ext [e10]
  have hl : ((cfg0.win 10).blk t).view.read (Elt Ideal) ((dats m 0 c).arrAt 10 cfg0.N)
      (ix2 (⟨p.val % 256, by omega⟩ : Fin 256) L) = (dats m 0 c).arrAt 10 cfg0.N (ix2 p L) := by
    rw [← hp]; rfl
  rw [← hl, hb, flushed10]
  refine (out10_apply _ _ _ ⟨p.val % 256, by omega⟩ L).trans ?_
  simp only [read_x m c t p h0, read_g m c t, read_w m c t]

/-- The array of the gates. -/
theorem arr11_apply (p : Fin 256) (L : Fin 4096) :
    ((dats m 0 c).arrAt 11 cfg0.N : S256x4096.Idx → EReal) (ix2 p L)
      = Ideal.logistic (projAt (fun j => m ((c : Thread nD τ).loc main_arg0) (ix2 p j)) (fun j => m ((c : Thread nD τ).loc main_arg1) (ix1 j))
        (fun k => m ((c : Thread nD τ).loc main_arg2) (ix2 k (col 3328 (n := 4096) (by norm_num) L)))) := by
  obtain ⟨t, h0⟩ := point_at ⟨p.val / 256, by omega⟩
  have h0 : (grid0.coords t 0).val = p.val / 256 := h0
  obtain ⟨-, -, -, -, -, -, -, -, -, -, -, e11⟩ := places t
  have hb := congrFun (blocks11 m c t (flush0_11 t)) (ix2 (⟨p.val % 256, by omega⟩ : Fin 256) L)
  have hp : ((cfg0.win 11).blk t).view.emb (ix2 (⟨p.val % 256, by omega⟩ : Fin 256) L) = ix2 p L := by
    blk_ext [e11]
  have hl : ((cfg0.win 11).blk t).view.read (Elt Ideal) ((dats m 0 c).arrAt 11 cfg0.N)
      (ix2 (⟨p.val % 256, by omega⟩ : Fin 256) L) = (dats m 0 c).arrAt 11 cfg0.N (ix2 p L) := by
    rw [← hp]; rfl
  rw [← hl, hb, flushed11]
  refine (out11_apply _ _ _ ⟨p.val % 256, by omega⟩ L).trans ?_
  simp only [read_x m c t p h0, read_g m c t, read_w m c t]

end Array

end Cert.InpS
-- ==== Proof.InProjSRef.lean ====
/-
  The input projection at the rows of the sample as the reference writes it, element by element, and the claims about the input projection.
-/
module

public import proofs.«01_k».proof.Proof.InProjSOut
public import proofs.«01_k».proof.Proof.Gen.InProjSRefIdeal.Read
public import proofs.«01_k».proof.Defs
public import Idealize.ShloMosaic.Adequacy
public import Idealize.ShloMosaic.Lib.Pipeline.ValueKit

@[expose] public section

set_option maxRecDepth 16384

noncomputable section

namespace Cert.InpS

open Idealize.ShloMosaic Idealize.ShloMosaic.TcCoe
open Cert.InProjSRefIdeal Cert.InProjSRefIdeal.Gen Cert.InProjSRefIdeal.Read

/-- The constant an eighth. -/
theorem eighth_bits : Ideal.ofBits .f32 0x3E000000#32 = ((1 / 8 : ℝ) : EReal) := by
  simp [Ideal.ofBits, Ideal.ieee, -EReal.coe_mul]; norm_num

/-- The constant two. -/
theorem two_bits : Ideal.ofBits .f32 0x40000000#32 = ((2 : ℝ) : EReal) := by
  simp [Ideal.ofBits, Ideal.ieee, -EReal.coe_mul]; norm_num

/-- Scaling a query by an eighth, changing its sign and dividing by the logarithm of two is multiplying it by the
    named constant. -/
theorem scale_eq (a : EReal) :
    Ideal.div (-(a * ((1 / 8 : ℝ) : EReal))) ((Real.log 2 : ℝ) : EReal) = a * ((-((1 / 8) * (Real.log 2)⁻¹) : ℝ) : EReal) := by
  rw [Ideal.div_coe (Real.log_pos (by norm_num : (1 : ℝ) < 2)).ne', EReal.coe_neg, EReal.coe_mul, one_div (Real.log 2), neg_mul, mul_neg, mul_assoc]

section Elements

variable (x0 : (⟨S256x1024, .f32⟩ : BufTy).Contents (Elt Ideal)) (x1 : (⟨S1024, .f32⟩ : BufTy).Contents (Elt Ideal))
  (x2 : (⟨S1024x7424, .f32⟩ : BufTy).Contents (Elt Ideal)) (p : Fin 256)

/-- The normalised rows. -/
theorem ref_norm (k : Fin 1024) :
    (val_main_v12 (F := Ideal) x0 x1 : S256x1024.Idx → EReal) (ix2 p k) = normAt (fun j => x0 (ix2 p j)) (fun j => x1 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A sum of products with a column of the weight, the column named another way. -/
theorem ref_col (j i : Fin 7424) (h : j.val = i.val) :
    ∑ k, (val_main_v12 (F := Ideal) x0 x1 : S256x1024.Idx → EReal) (ix2 p k) * (x2 : S1024x7424.Idx → EReal) (ix2 k j)
      = projAt (fun j => x0 (ix2 p j)) (fun j => x1 (ix1 j)) (fun k => x2 (ix2 k i)) := by
  obtain rfl : j = i := Fin.ext h
  exact Finset.sum_congr rfl fun k _ => congrArg (fun a : EReal => a * (x2 : S1024x7424.Idx → EReal) (ix2 k j)) (ref_norm x0 x1 p k)

/-- One element of the queries. -/
theorem ref3_apply (L : Fin 256) :
    (val_main_v29 (F := Ideal) x0 x1 x2 : S256x256.Idx → EReal) (ix2 p L)
      = projAt (fun j => x0 (ix2 p j)) (fun j => x1 (ix1 j)) (fun k => x2 (ix2 k (col 0 (n := 256) (by norm_num) L))) * ((-((1 / 8) * (Real.log 2)⁻¹) : ℝ) : EReal) := by
  pointwise [val_main_v29, val_main_v28, val_main_v27, val_main_v26, val_main_v25, val_main_v24, val_main_v23, val_main_v22, val_main_v19, val_main_v14, val_main_v13, val_main_cst_2, val_main_cst_3]
  have hl : (id (Host.log (constant (F := Ideal) S_ .f32 0x40000000#32)) ix0 : EReal) = ((Real.log 2 : ℝ) : EReal) := by
    show Ideal.log (Ideal.ofBits .f32 0x40000000#32) = _
    rw [two_bits, Ideal.log_coe, if_neg (by norm_num)]
  refine (congrArg₂ Ideal.div (congrArg₂ (fun a b : EReal => -(a * b)) (ref_col x0 x1 x2 p _ (col 0 (n := 256) (by norm_num) L) (by simp [col])) eighth_bits) hl).trans (scale_eq _)

/-- One element of the keys. -/
theorem ref4_apply (L : Fin 256) :
    (val_main_v20 (F := Ideal) x0 x1 x2 : S256x256.Idx → EReal) (ix2 p L)
      = projAt (fun j => x0 (ix2 p j)) (fun j => x1 (ix1 j)) (fun k => x2 (ix2 k (col 256 (n := 256) (by norm_num) L))) := by
  pointwise [val_main_v20, val_main_v14, val_main_v13]
  exact ref_col x0 x1 x2 p _ (col 256 (n := 256) (by norm_num) L) (by simp [col])

/-- One element of the values. -/
theorem ref5_apply (L : Fin 256) :
    (val_main_v21 (F := Ideal) x0 x1 x2 : S256x256.Idx → EReal) (ix2 p L)
      = projAt (fun j => x0 (ix2 p j)) (fun j => x1 (ix1 j)) (fun k => x2 (ix2 k (col 512 (n := 256) (by norm_num) L))) := by
  pointwise [val_main_v21, val_main_v14, val_main_v13]
  exact ref_col x0 x1 x2 p _ (col 512 (n := 256) (by norm_num) L) (by simp [col])

/-- One element of the narrow keys. -/
theorem ref6_apply (L : Fin 256) :
    (val_main_v30 (F := Ideal) x0 x1 x2 : S256x256.Idx → EReal) (ix2 p L)
      = projAt (fun j => x0 (ix2 p j)) (fun j => x1 (ix1 j)) (fun k => x2 (ix2 k (col 256 (n := 256) (by norm_num) L))) := by
  pointwise [val_main_v30, val_main_v20, val_main_v14, val_main_v13]
  exact ref_col x0 x1 x2 p _ (col 256 (n := 256) (by norm_num) L) (by simp [col])

/-- One element of the narrow values. -/
theorem ref7_apply (L : Fin 256) :
    (val_main_v31 (F := Ideal) x0 x1 x2 : S256x256.Idx → EReal) (ix2 p L)
      = projAt (fun j => x0 (ix2 p j)) (fun j => x1 (ix1 j)) (fun k => x2 (ix2 k (col 512 (n := 256) (by norm_num) L))) := by
  pointwise [val_main_v31, val_main_v21, val_main_v14, val_main_v13]
  exact ref_col x0 x1 x2 p _ (col 512 (n := 256) (by norm_num) L) (by simp [col])

/-- One element of the heads of the gated recurrence. -/
theorem ref8_apply (L : Fin 1024) :
    (val_main_v15 (F := Ideal) x0 x1 x2 : S256x1024.Idx → EReal) (ix2 p L)
      = projAt (fun j => x0 (ix2 p j)) (fun j => x1 (ix1 j)) (fun k => x2 (ix2 k (col 768 (n := 1024) (by norm_num) L))) := by
  pointwise [val_main_v15, val_main_v13]
  exact ref_col x0 x1 x2 p _ (col 768 (n := 1024) (by norm_num) L) (by simp [col])

/-- One element of the convolution inputs. -/
theorem ref9_apply (L : Fin 512) :
    (val_main_v16 (F := Ideal) x0 x1 x2 : S256x512.Idx → EReal) (ix2 p L)
      = projAt (fun j => x0 (ix2 p j)) (fun j => x1 (ix1 j)) (fun k => x2 (ix2 k (col 1792 (n := 512) (by norm_num) L))) := by
  pointwise [val_main_v16, val_main_v13]
  exact ref_col x0 x1 x2 p _ (col 1792 (n := 512) (by norm_num) L) (by simp [col])

/-- One element of the inputs of the last recurrence. -/
theorem ref10_apply (L : Fin 1024) :
    (val_main_v17 (F := Ideal) x0 x1 x2 : S256x1024.Idx → EReal) (ix2 p L)
      = projAt (fun j => x0 (ix2 p j)) (fun j => x1 (ix1 j)) (fun k => x2 (ix2 k (col 2304 (n := 1024) (by norm_num) L))) := by
  pointwise [val_main_v17, val_main_v13]
  exact ref_col x0 x1 x2 p _ (col 2304 (n := 1024) (by norm_num) L) (by simp [col])

/-- One element of the gates. -/
theorem ref11_apply (L : Fin 4096) :
    (val_main_v38 (F := Ideal) x0 x1 x2 : S256x4096.Idx → EReal) (ix2 p L)
      = Ideal.logistic (projAt (fun j => x0 (ix2 p j)) (fun j => x1 (ix1 j)) (fun k => x2 (ix2 k (col 3328 (n := 4096) (by norm_num) L)))) := by
  pointwise [val_main_v38, val_main_v37, val_main_v36, val_main_v35, val_main_v34, val_main_v33, val_main_v32, val_main_v18, val_main_v13, val_main_cst_4, val_main_cst_5]
  exact congrArg Ideal.logistic (ref_col x0 x1 x2 p _ (col 3328 (n := 4096) (by norm_num) L) (by simp [col]))

end Elements

open Idealize.SL.Sem

/-- The reference ends with its arguments unchanged and every semaphore at zero. -/
theorem frame_ref : Cert.quiescent_InProjSRefIdeal (hInProjSRefIdeal := Cert.InProjSRefIdeal.Gen.facts) := fun m ρ _ =>
  (θ_run Cert.InProjSRefIdeal.defs _ _).mono (fun r h => ⟨fun c => (h c).2.2.2.2.2.2.2.2.2, sem_eq_zero_of_no_sems (by decide) r.2⟩)
    (Cert.InProjSRefIdeal.Value.run (F := Ideal) m ρ)

/-- The named constant has the value stated of it. -/
theorem preserves : Cert.preserves_InProjS_InProjSIdeal :=
  IdealRules.named_const.statement Cert.InProjSIdeal.κ "q_scale" .f32 0xBE38AA3B#32 _ rfl

/-- The value of the named constant. -/
theorem q_scale : Named.named (F := Ideal) Cert.InProjSIdeal.κ "q_scale" (φ := .f32) 0xBE38AA3B#32
    = ((-((1 / 8) * (Real.log 2)⁻¹) : ℝ) : EReal) :=
  IdealRules.named_const.ideal_named_scalar _ _ _ _ rfl

/-- Kernel and reference leave the same nine arrays. -/
theorem algebraic : Cert.algebraic_InProjSIdeal_InProjSRefIdeal (hInProjSIdeal := Cert.InProjSIdeal.Gen.facts)
    (hInProjSRefIdeal := Cert.InProjSRefIdeal.Gen.facts) := by
  intro m g m' g' _ hagree
  refine ⟨fun c => (Cert.InProjSIdeal.Gen.dats m 0 c).arrAt 3 Cert.InProjSIdeal.cfg0.N,
    fun c => (Cert.InProjSIdeal.Gen.dats m 0 c).arrAt 4 Cert.InProjSIdeal.cfg0.N,
    fun c => (Cert.InProjSIdeal.Gen.dats m 0 c).arrAt 5 Cert.InProjSIdeal.cfg0.N,
    fun c => (Cert.InProjSIdeal.Gen.dats m 0 c).arrAt 6 Cert.InProjSIdeal.cfg0.N,
    fun c => (Cert.InProjSIdeal.Gen.dats m 0 c).arrAt 7 Cert.InProjSIdeal.cfg0.N,
    fun c => (Cert.InProjSIdeal.Gen.dats m 0 c).arrAt 8 Cert.InProjSIdeal.cfg0.N,
    fun c => (Cert.InProjSIdeal.Gen.dats m 0 c).arrAt 9 Cert.InProjSIdeal.cfg0.N,
    fun c => (Cert.InProjSIdeal.Gen.dats m 0 c).arrAt 10 Cert.InProjSIdeal.cfg0.N,
    fun c => (Cert.InProjSIdeal.Gen.dats m 0 c).arrAt 11 Cert.InProjSIdeal.cfg0.N,
    Cert.InProjSIdeal.Value.run_blocks m g, (θ_run _ _ _).mono (fun r h c => ?_) (Cert.InProjSRefIdeal.Value.run m' g')⟩
  obtain ⟨a0, a1, a2⟩ := hagree c
  obtain ⟨h0, h1, h2, h3, h4, h5, h6, h7, h8, hk⟩ := h c
  refine ⟨h0.trans ?_, h1.trans ?_, h2.trans ?_, h3.trans ?_, h4.trans ?_, h5.trans ?_, h6.trans ?_, h7.trans ?_, h8.trans ?_, hk⟩
  · rw [val_main_v29_eq, a0, a1, a2]
    funext i
    obtain ⟨p, L, rfl⟩ : ∃ (p : Fin 256) (L : Fin 256), i = ix2 p L := ⟨i 0, i 1, funext fun a => by fin_cases a <;> rfl⟩
    exact ((ref3_apply _ _ _ p L).trans (congrArg _ q_scale.symm)).trans (arr3_apply m c p L).symm
  · rw [val_main_v20_eq, a0, a1, a2]
    funext i
    obtain ⟨p, L, rfl⟩ : ∃ (p : Fin 256) (L : Fin 256), i = ix2 p L := ⟨i 0, i 1, funext fun a => by fin_cases a <;> rfl⟩
    exact (ref4_apply _ _ _ p L).trans (arr4_apply m c p L).symm
  · rw [val_main_v21_eq, a0, a1, a2]
    funext i
    obtain ⟨p, L, rfl⟩ : ∃ (p : Fin 256) (L : Fin 256), i = ix2 p L := ⟨i 0, i 1, funext fun a => by fin_cases a <;> rfl⟩
    exact (ref5_apply _ _ _ p L).trans (arr5_apply m c p L).symm
  · rw [val_main_v30_eq, a0, a1, a2]
    funext i
    obtain ⟨p, L, rfl⟩ : ∃ (p : Fin 256) (L : Fin 256), i = ix2 p L := ⟨i 0, i 1, funext fun a => by fin_cases a <;> rfl⟩
    exact (ref6_apply _ _ _ p L).trans (arr6_apply m c p L).symm
  · rw [val_main_v31_eq, a0, a1, a2]
    funext i
    obtain ⟨p, L, rfl⟩ : ∃ (p : Fin 256) (L : Fin 256), i = ix2 p L := ⟨i 0, i 1, funext fun a => by fin_cases a <;> rfl⟩
    exact (ref7_apply _ _ _ p L).trans (arr7_apply m c p L).symm
  · rw [val_main_v15_eq, a0, a1, a2]
    funext i
    obtain ⟨p, L, rfl⟩ : ∃ (p : Fin 256) (L : Fin 1024), i = ix2 p L := ⟨i 0, i 1, funext fun a => by fin_cases a <;> rfl⟩
    exact (ref8_apply _ _ _ p L).trans (arr8_apply m c p L).symm
  · rw [val_main_v16_eq, a0, a1, a2]
    funext i
    obtain ⟨p, L, rfl⟩ : ∃ (p : Fin 256) (L : Fin 512), i = ix2 p L := ⟨i 0, i 1, funext fun a => by fin_cases a <;> rfl⟩
    exact (ref9_apply _ _ _ p L).trans (arr9_apply m c p L).symm
  · rw [val_main_v17_eq, a0, a1, a2]
    funext i
    obtain ⟨p, L, rfl⟩ : ∃ (p : Fin 256) (L : Fin 1024), i = ix2 p L := ⟨i 0, i 1, funext fun a => by fin_cases a <;> rfl⟩
    exact (ref10_apply _ _ _ p L).trans (arr10_apply m c p L).symm
  · rw [val_main_v38_eq, a0, a1, a2]
    funext i
    obtain ⟨p, L, rfl⟩ : ∃ (p : Fin 256) (L : Fin 4096), i = ix2 p L := ⟨i 0, i 1, funext fun a => by fin_cases a <;> rfl⟩
    exact (ref11_apply _ _ _ p L).trans (arr11_apply m c p L).symm

end Cert.InpS
-- ==== Proof.ConvBody.lean ====
/-
  The convolution kernel's arithmetic: what one block leaves, over the shifted rows that it loads.
-/
module

public import proofs.«01_k».proof.Proof.Gen.ConvIdeal.Value
public import Idealize.ShloMosaic.Lib.Pipeline.ValueKit

@[expose] public section

set_option maxRecDepth 16384

noncomputable section

namespace Cert.Cnv

open Idealize.ShloMosaic Idealize.ShloMosaic.TcCoe
open Cert.ConvIdeal Cert.ConvIdeal.Gen Cert.ConvIdeal.Value

/-- One channel before the norm: the bias and the 31 products of a row with its weight, added from the first to the last. -/
def tapSum (b : EReal) (row w : ℕ → EReal) : EReal := b + ∑ j ∈ Finset.range 31, row j * w j

/-- The mean of 256 channels. -/
def mean256 (f : Fin 256 → EReal) : EReal := Ideal.div (∑ k : Fin 256, f k) (Ideal.ofBits .f32 0x43800000#32)

/-- The inverse root of the variance of a row. -/
def invDev (y : Fin 256 → EReal) : EReal :=
  Ideal.rsqrt (mean256 (fun k => (y k - mean256 y) * (y k - mean256 y)) + Ideal.ofBits .f32 0x358637BD#32)

/-- The layer norm of one channel `l` of a row `y`, with scale `g` and shift `h`. -/
def normed (y : Fin 256 → EReal) (g h : EReal) (l : Fin 256) : EReal :=
  (y l - mean256 y) * invDev y * g + h

/-- The layer norm and the activation of one channel. -/
def normAct (y : Fin 256 → EReal) (g h : EReal) (l : Fin 256) : EReal :=
  normed y g h l * Ideal.logistic (normed y g h l)

/-- The sums of the first 27 products, as the body's parts hold them, over the loaded rows `T` and weights `W`. -/
def part27 (x3 : Vec Ideal S1x256 .f32) (T : ℕ → Vec Ideal S512x256 .f32) (W : ℕ → Vec Ideal S1x256 .f32) : FVec Ideal S512x256 .f32 :=
  k0_pay14 (k0_pay12 (k0_pay10 (k0_pay8 (k0_pay6 x3 (T 0) (W 0) (T 1) (W 1)) (k0_pay7 (T 2) (W 2)) (T 3) (W 3) (T 4) (W 4) (T 5) (W 5) (T 6) (W 6) (T 7) (W 7)) (k0_pay9 (T 8) (W 8)) (T 9) (W 9) (T 10) (W 10) (T 11) (W 11) (T 12) (W 12) (T 13) (W 13)) (k0_pay11 (T 14) (W 14)) (T 15) (W 15) (T 16) (W 16) (T 17) (W 17) (T 18) (W 18) (T 19) (W 19)) (k0_pay13 (T 20) (W 20)) (T 21) (W 21) (T 22) (W 22) (T 23) (W 23) (T 24) (W 24) (T 25) (W 25)

/-- What the body stores, over the loaded rows and weights. -/
def body (x3 x4 x5 : Vec Ideal S1x256 .f32) (T : ℕ → Vec Ideal S512x256 .f32) (W : ℕ → Vec Ideal S1x256 .f32) : FVec Ideal S1x512x256 .f32 :=
  k0_pay1 (k0_pay16 (part27 x3 T W) (k0_pay15 (T 26) (W 26)) (T 27) (W 27) (T 28) (W 28) (T 29) (W 29) (T 30) (W 30))
    (k0_pay17 (part27 x3 T W) (k0_pay15 (T 26) (W 26)) (T 27) (W 27) (T 28) (W 28) (T 29) (W 29) (T 30) (W 30)) x4 x5

/-- The row before the norm, in row `r` of a block. -/
def rowSum (x3 : Vec Ideal S1x256 .f32) (T : ℕ → Vec Ideal S512x256 .f32) (W : ℕ → Vec Ideal S1x256 .f32) (r : Fin 512) (l : Fin 256) : EReal :=
  tapSum ((x3 : S1x256.Idx → EReal) (ix2 0 l)) (fun j => (T j : S512x256.Idx → EReal) (ix2 r l)) (fun j => (W j : S1x256.Idx → EReal) (ix2 0 l))

/-- The first 27 products. -/
theorem part27_apply (x3 : Vec Ideal S1x256 .f32) (T : ℕ → Vec Ideal S512x256 .f32) (W : ℕ → Vec Ideal S1x256 .f32) (r : Fin 512) (l : Fin 256) :
    (part27 x3 T W : S512x256.Idx → EReal) (ix2 r l)
      = (x3 : S1x256.Idx → EReal) (ix2 0 l)
        + ∑ j ∈ Finset.range 26, (T j : S512x256.Idx → EReal) (ix2 r l) * (W j : S1x256.Idx → EReal) (ix2 0 l) := by
  unfold part27
  pointwise [k0_pay6, k0_pay7, k0_pay8, k0_pay9, k0_pay10, k0_pay11, k0_pay12, k0_pay13, k0_pay14]
  simp only [Finset.sum_range_succ, Finset.sum_range_zero, zero_add, ← add_assoc]

/-- The row less its mean. -/
theorem centred_apply (x3 : Vec Ideal S1x256 .f32) (T : ℕ → Vec Ideal S512x256 .f32) (W : ℕ → Vec Ideal S1x256 .f32) (r : Fin 512) (l : Fin 256) :
    (k0_pay16 (part27 x3 T W) (k0_pay15 (T 26) (W 26)) (T 27) (W 27) (T 28) (W 28) (T 29) (W 29) (T 30) (W 30) : S512x256.Idx → EReal) (ix2 r l)
      = rowSum x3 T W r l - mean256 (rowSum x3 T W r) := by
  have h : ∀ k : Fin 256, (part27 x3 T W : S512x256.Idx → EReal) (ix2 r k) + (T 26 : S512x256.Idx → EReal) (ix2 r k) * (W 26 : S1x256.Idx → EReal) (ix2 0 k)
      + (T 27 : S512x256.Idx → EReal) (ix2 r k) * (W 27 : S1x256.Idx → EReal) (ix2 0 k) + (T 28 : S512x256.Idx → EReal) (ix2 r k) * (W 28 : S1x256.Idx → EReal) (ix2 0 k)
      + (T 29 : S512x256.Idx → EReal) (ix2 r k) * (W 29 : S1x256.Idx → EReal) (ix2 0 k) + (T 30 : S512x256.Idx → EReal) (ix2 r k) * (W 30 : S1x256.Idx → EReal) (ix2 0 k)
      = rowSum x3 T W r k := fun k => by
    rw [part27_apply]
    unfold rowSum tapSum
    rw [Finset.sum_range_succ _ 30, Finset.sum_range_succ _ 29, Finset.sum_range_succ _ 28, Finset.sum_range_succ _ 27, Finset.sum_range_succ _ 26]
    simp only [add_assoc]
  pointwise [k0_pay16, k0_pay15]
  simp only [h]
  rfl

/-- The inverse deviation of the row. -/
theorem dev_apply (x3 : Vec Ideal S1x256 .f32) (T : ℕ → Vec Ideal S512x256 .f32) (W : ℕ → Vec Ideal S1x256 .f32) (r : Fin 512) :
    (k0_pay17 (part27 x3 T W) (k0_pay15 (T 26) (W 26)) (T 27) (W 27) (T 28) (W 28) (T 29) (W 29) (T 30) (W 30) : S512x1.Idx → EReal) (ix2 r 0)
      = invDev (rowSum x3 T W r) := by
  pointwise [k0_pay17]
  simp only [centred_apply]
  rfl

/-- What the body stores, element by element. -/
theorem body_apply (x3 x4 x5 : Vec Ideal S1x256 .f32) (T : ℕ → Vec Ideal S512x256 .f32) (W : ℕ → Vec Ideal S1x256 .f32) (r : Fin 512) (l : Fin 256) :
    (body x3 x4 x5 T W : S1x512x256.Idx → EReal) (ix3 0 r l)
      = normAct (rowSum x3 T W r) ((x4 : S1x256.Idx → EReal) (ix2 0 l)) ((x5 : S1x256.Idx → EReal) (ix2 0 l)) l := by
  unfold body
  pointwise [k0_pay1]
  simp only [centred_apply, dev_apply]
  rfl

end Cert.Cnv
end
-- ==== Proof.ConvRows.lean ====
/-
  The convolution kernel's scratch: the rows that a point finds in it, and the rows that its loads take.
-/
module

public import proofs.«01_k».proof.Proof.ConvBody
public import Idealize.ShloMosaic.Lib.WritesUnit

@[expose] public section

set_option maxRecDepth 16384

noncomputable section

namespace Cert.Cnv

open Idealize.ShloMosaic Idealize.ShloMosaic.TcCoe
open Cert.ConvIdeal Cert.ConvIdeal.Gen Cert.ConvIdeal.Value

/-- The scratch once a block's gated rows stand in it: 32 earlier rows, then the block. -/
def hist (X : Vec Ideal S544x256 .f32) (G : Vec Ideal S512x256 .f32) : Vec Ideal S544x256 .f32 := fun y =>
  if h : (y 0).val < 32 then X y else G (ix2 ⟨(y 0).val - 32, by have := (y 0).isLt; change (y 0).val < 544 at this; omega⟩ (y 1))

/-- 512 rows of the scratch, from row `a` on. -/
def rowsAt (H : Vec Ideal S544x256 .f32) (a : ℕ) : Vec Ideal S512x256 .f32 := fun y =>
  if h : a + (y 0).val < 544 then H (ix2 ⟨a + (y 0).val, h⟩ (y 1)) else 0

/-- One row of the padded weights. -/
def wRow (x : Vec Ideal S32x256 .f32) (j : ℕ) : Vec Ideal S1x256 .f32 := fun y =>
  if h : j < 32 then x (ix2 ⟨j, h⟩ (y 1)) else 0

/-- The last 32 rows of a block. -/
def lastRows (G : Vec Ideal S512x256 .f32) : Vec Ideal S32x256 .f32 := fun y =>
  G (ix2 ⟨480 + (y 0).val, by have := (y 0).isLt; change (y 0).val < 32 at this; omega⟩ (y 1))

/-- A load of 512 rows. -/
theorem ld_rows (H : Vec Ideal S544x256 .f32) (a : ℕ) (inb) :
    View.ld (Val := Elt Ideal) (e' := .f32) (S := S544x256) H (Rect.unit ![a, 0] ![512, 256] inb) = rowsAt H a := by
  funext y
  have ha := inb 0
  change a + 512 ≤ 544 at ha
  have h0 : (y 0).val < 512 := (y 0).isLt
  unfold rowsAt
  rw [dif_pos (by change a + (y 0).val < 544; omega)]
  exact View.ld_unit_apply_of H ![a, 0] ![512, 256] inb y (ix2 ⟨a + (y 0).val, by omega⟩ (y 1)) (Fin.forall_fin_two.mpr ⟨rfl, (Nat.zero_add (y 1).val).symm⟩)

/-- A load of a row of weights. -/
theorem ld_wRow (x : Vec Ideal S32x256 .f32) (j : ℕ) (inb) :
    View.ld (Val := Elt Ideal) (e' := .f32) (S := S32x256) x (Rect.unit ![j, 0] ![1, 256] inb) = wRow x j := by
  funext y
  have ha := inb 0
  change j + 1 ≤ 32 at ha
  have h0 : (y 0).val < 1 := (y 0).isLt
  unfold wRow
  rw [dif_pos (by omega)]
  exact View.ld_unit_apply_of x ![j, 0] ![1, 256] inb y (ix2 ⟨j, by omega⟩ (y 1)) (Fin.forall_fin_two.mpr ⟨by change j = j + (y 0).val; omega, (Nat.zero_add (y 1).val).symm⟩)

/-- What a view of the scratch's shape reads after a block's rows are stored over earlier contents. -/
theorem read_hist {κ : Kind} {sp : Space} (v : View sig κ sp S544x256 .f32) (f : v.ty.Contents (Elt Ideal)) (G : Vec Ideal S512x256 .f32) (inb) :
    v.read (Elt Ideal) (v.writes (Elt Ideal) f [⟨Rect.unit (s := S544x256) ![32, 0] ![512, 256] inb, G⟩]) = hist (v.read (Elt Ideal) f) G := by
  funext y
  unfold hist
  have hy : (y 0).val < 544 := (y 0).isLt
  by_cases hlt : (y 0).val < 32
  · rw [dif_pos hlt]
    exact View.read_writes_cons_rows_of_not_mem (o := 32) (W := 512) (d := ![544, 256]) _ _ inb G [] y rfl rfl (.inl hlt)
  · rw [dif_neg hlt]
    exact View.read_writes_cons_rows_of_mem (d := ![544, 256]) (o := 32) _ _ inb G [] y
      (ix2 ⟨(y 0).val - 32, by omega⟩ (y 1)) rfl (by change (y 0).val = 32 + ((y 0).val - 32); omega) rfl

/-- The same when the first rows were stored at this point. -/
theorem canon_hist (B : Vec Ideal S32x256 .f32) (G : Vec Ideal S512x256 .f32) (inb) (inb') :
    View.canon (Val := Elt Ideal) (e := .f32) [⟨Rect.unit (s := S544x256) ![32, 0] ![512, 256] inb, G⟩, ⟨Rect.unit (s := S544x256) ![0, 0] ![32, 256] inb', B⟩]
      = hist (View.canon (Val := Elt Ideal) (e := .f32) [⟨Rect.unit (s := S544x256) ![0, 0] ![32, 256] inb', B⟩]) G := by
  rw [← View.read_writes_junk_eq_canon (View.whole cc0_scratch0), ← View.read_writes_junk_eq_canon (View.whole cc0_scratch0)]
  funext y
  unfold hist
  have hy : (y 0).val < 544 := (y 0).isLt
  by_cases hlt : (y 0).val < 32
  · rw [dif_pos hlt]
    exact View.read_writes_cons_rows_of_not_mem (o := 32) (W := 512) (d := ![544, 256]) _ _ inb G _ y rfl rfl (.inl hlt)
  · rw [dif_neg hlt]
    exact View.read_writes_cons_rows_of_mem (d := ![544, 256]) (o := 32) _ _ inb G _ y
      (ix2 ⟨(y 0).val - 32, by omega⟩ (y 1)) rfl (by change (y 0).val = 32 + ((y 0).val - 32); omega) rfl

/-- A load of 512 rows at a sequence's first point. -/
theorem cov_rows {κ : Kind} {sp : Space} (v : View sig κ sp S544x256 .f32) (B : Vec Ideal S32x256 .f32) (G : Vec Ideal S512x256 .f32) (a : ℕ) (inb) (inb') (inb'') :
    v.readCov (Val := Elt Ideal) [⟨Rect.unit (s := S544x256) ![32, 0] ![512, 256] inb, G⟩, ⟨Rect.unit (s := S544x256) ![0, 0] ![32, 256] inb', B⟩]
        (Rect.unit (s := S544x256) ![a, 0] ![512, 256] inb'').toLoadRect
      = rowsAt (hist (View.canon (Val := Elt Ideal) (e := .f32) [⟨Rect.unit (s := S544x256) ![0, 0] ![32, 256] inb', B⟩]) G) a := by
  rw [View.readCov_eq_canon', canon_hist]
  exact ld_rows _ a inb''

/-- The block itself, as rows of the scratch. -/
theorem rowsAt_hist (X : Vec Ideal S544x256 .f32) (G : Vec Ideal S512x256 .f32) : rowsAt (hist X G) 32 = G := by
  funext y
  have h0 : (y 0).val < 512 := (y 0).isLt
  unfold rowsAt hist
  rw [dif_pos (by omega), dif_neg (by change ¬ 32 + (y 0).val < 32; omega)]
  refine congrArg G (funext fun a => ?_)
  refine Fin.ext ?_
  revert a
  exact Fin.forall_fin_two.mpr ⟨by change 32 + (y 0).val - 32 = (y 0).val; omega, rfl⟩

/-- A load of the rows that the next point will need. -/
theorem cov_last (G : Vec Ideal S512x256 .f32) (L : List (View.Piece (Elt Ideal) S544x256 .f32)) (inb) (inb') :
    (View.whole cc0_scratch0).readCov (Val := Elt Ideal) (⟨Rect.unit (s := S544x256) ![32, 0] ![512, 256] inb, G⟩ :: L)
        (Rect.unit (s := S544x256) ![512, 0] ![32, 256] inb').toLoadRect = lastRows G := by
  rw [View.readCov_eq_canon', ← View.read_writes_junk_eq_canon (View.whole cc0_scratch0)]
  funext y
  have h0 : (y 0).val < 32 := (y 0).isLt
  exact View.read_writes_cons_rows_of_mem (d := ![544, 256]) (o := 32) _ _ inb G _ _
    (ix2 ⟨480 + (y 0).val, by omega⟩ (y 1)) rfl (by change 512 + 1 * (y 0).val = 32 + (480 + (y 0).val); omega)
    (by change 0 + 1 * (y 1).val = (y 1).val; omega)

/-- The first rows of the scratch when a point is over. -/
theorem canon_first (B : Vec Ideal S32x256 .f32) (L : List (View.Piece (Elt Ideal) S544x256 .f32)) (inb) (n : Fin 32) (l : Fin 256) :
    View.canon (Val := Elt Ideal) (e := .f32) (⟨Rect.unit (s := S544x256) ![0, 0] ![32, 256] inb, B⟩ :: L) (ix2 (⟨n.val, by omega⟩ : Fin 544) l)
      = B (ix2 n l) := by
  rw [← View.read_writes_junk_eq_canon (View.whole cc0_scratch0)]
  exact View.read_writes_cons_rows_of_mem (d := ![544, 256]) (o := 0) _ _ inb B _ _ (ix2 n l) rfl (Nat.zero_add _).symm rfl

/-- The cast of the rows that are kept changes nothing. -/
theorem pay3_apply (x : Vec Ideal S32x256 .f32) (n : Fin 32) (l : Fin 256) :
    (k0_pay3 x : S32x256.Idx → EReal) (ix2 n l) = (x : S32x256.Idx → EReal) (ix2 n l) := by
  pointwise [k0_pay3]

variable (m : (ℓ : Loc nD τ sig) → Buf (Elt Ideal) ℓ) (c : Dev nD)

/-- After every point the first rows of the scratch are the block's last. -/
theorem carried (t : Fin cfg0.N) (n : Fin 32) (l : Fin 256) :
    ((outsAt0 m c t.val t.isLt).2.2 : S544x256.Idx → EReal) (ix2 (⟨n.val, by omega⟩ : Fin 544) l)
      = lastRows (k0_pay5 (iblk m c 0 t)) (ix2 n l) := by
  by_cases h0 : t.val % 32 = 0
  · have h1 : ¬t.val % 32 = 31 := by omega
    rw [outsAt0_A m c t h0 h1]
    frame_out
    generalize k0_pay5 (iblk m c 0 t) = G
    generalize k0_pay4 (iblk m c 1 t) = B
    rw [cov_last, canon_first, pay3_apply]
  · by_cases h1 : t.val % 32 = 31
    · rw [outsAt0_C m c t h0 h1]
      frame_out
      generalize k0_pay5 (iblk m c 0 t) = G
      rw [cov_last, canon_first, pay3_apply]
    · rw [outsAt0_B m c t h0 h1]
      frame_out
      generalize k0_pay5 (iblk m c 0 t) = G
      rw [cov_last, canon_first, pay3_apply]

/-- What is stored at a sequence's last point as the new buffer. -/
theorem stored_buf (t : Fin cfg0.N) (h0 : ¬t.val % 32 = 0) (h1 : t.val % 32 = 31) :
    (outsAt0 m c t.val t.isLt).2.1 = k0_pay2 (lastRows (k0_pay5 (iblk m c 0 t))) := by
  rw [outsAt0_C m c t h0 h1]
  frame_out
  rw [cov_last]

/-- What is stored at a sequence's first point. -/
theorem stored_first (t : Fin cfg0.N) (h0 : t.val % 32 = 0) (h1 : ¬t.val % 32 = 31) :
    ∃ X : Vec Ideal S544x256 .f32, (∀ (n : Fin 32) (l : Fin 256), (X : S544x256.Idx → EReal) (ix2 (⟨n.val, by omega⟩ : Fin 544) l) = k0_pay4 (iblk m c 1 t) (ix2 n l))
      ∧ (outsAt0 m c t.val t.isLt).1 = body (iblk m c 3 t) (iblk m c 4 t) (iblk m c 5 t)
          (fun j => rowsAt (hist X (k0_pay5 (iblk m c 0 t))) (2 + j)) (wRow (iblk m c 2 t)) := by
  rw [outsAt0_A m c t h0 h1]
  frame_out
  generalize k0_pay5 (iblk m c 0 t) = G
  generalize k0_pay4 (iblk m c 1 t) = B
  generalize iblk m c 2 t = W
  generalize iblk m c 3 t = x3
  generalize iblk m c 4 t = x4
  generalize iblk m c 5 t = x5
  refine ⟨View.canon (Val := Elt Ideal) (e := .f32) [⟨Rect.unit (s := S544x256) ![0, 0] ![32, 256] inb_S544x256_S32x256_0_0, B⟩],
    fun n l => canon_first _ _ _ n l, ?_⟩
  simp only [cov_rows, ld_wRow]
  dsimp only [body, part27]

/-- What is stored at a later point. -/
theorem stored_later (t : Fin cfg0.N) (h0 : ¬t.val % 32 = 0) :
    ∃ X : Vec Ideal S544x256 .f32, X = (outsAt0 m c (t.val - 1) (Nat.lt_of_le_of_lt (Nat.sub_le _ _) t.isLt)).2.2
      ∧ (outsAt0 m c t.val t.isLt).1 = body (iblk m c 3 t) (iblk m c 4 t) (iblk m c 5 t)
          (fun j => rowsAt (hist X (k0_pay5 (iblk m c 0 t))) (2 + j)) (wRow (iblk m c 2 t)) := by
  by_cases h1 : t.val % 32 = 31
  · rw [outsAt0_C m c t h0 h1]
    frame_out
    generalize k0_pay5 (iblk m c 0 t) = G
    generalize (outsAt0 m c (t.val - 1) (Nat.lt_of_le_of_lt (Nat.sub_le _ _) t.isLt)).2.2 = X
    generalize iblk m c 2 t = W
    generalize iblk m c 3 t = x3
    generalize iblk m c 4 t = x4
    generalize iblk m c 5 t = x5
    refine ⟨_, Memref.IsWhole.read_unread (m := scM0_0) (Memref.isWhole_whole _) X, ?_⟩
    simp only [read_hist, ld_rows, ld_wRow]
    rw [View.readCov_cons_toLoadRect]
    have e30 := rowsAt_hist (View.read (Elt Ideal) (View.whole cc0_scratch0) (Memref.IsWhole.unread (m := scM0_0) (Memref.isWhole_whole _) X)) G
    dsimp only [body, part27]
    rw [show (2 + 30 : ℕ) = 32 from rfl, e30]
  · rw [outsAt0_B m c t h0 h1]
    frame_out
    generalize k0_pay5 (iblk m c 0 t) = G
    generalize (outsAt0 m c (t.val - 1) (Nat.lt_of_le_of_lt (Nat.sub_le _ _) t.isLt)).2.2 = X
    generalize iblk m c 2 t = W
    generalize iblk m c 3 t = x3
    generalize iblk m c 4 t = x4
    generalize iblk m c 5 t = x5
    refine ⟨_, Memref.IsWhole.read_unread (m := scM0_0) (Memref.isWhole_whole _) X, ?_⟩
    simp only [read_hist, ld_rows, ld_wRow]
    rw [View.readCov_cons_toLoadRect]
    have e30 := rowsAt_hist (View.read (Elt Ideal) (View.whole cc0_scratch0) (Memref.IsWhole.unread (m := scM0_0) (Memref.isWhole_whole _) X)) G
    dsimp only [body, part27]
    rw [show (2 + 30 : ℕ) = 32 from rfl, e30]

end Cert.Cnv
end
-- ==== Proof.ConvOut.lean ====
/-
  The convolution kernel: the two arrays that it leaves, element by element.
-/
module

public import proofs.«01_k».proof.Proof.ConvRows
public import Idealize.ShloMosaic.Lib.Pipeline.ValueKit

@[expose] public section

set_option maxRecDepth 16384

noncomputable section

namespace Cert.Cnv

open Idealize.ShloMosaic Idealize.ShloMosaic.TcCoe

/-- Row `n` of a sequence: the 30 rows of the buffer, then the gated rows of the input. -/
def seqRow (z : Fin 16384 → Fin 512 → EReal) (buf : Fin 30 → Fin 256 → EReal) (n : ℕ) (l : Fin 256) : EReal :=
  if h : n < 30 then buf ⟨n, h⟩ l
  else if h' : n - 30 < 16384 then z ⟨n - 30, h'⟩ ⟨l.val, by omega⟩ * Ideal.logistic (z ⟨n - 30, h'⟩ ⟨256 + l.val, by omega⟩)
  else 0

/-- Row `j` of the weights. -/
def tapW (w : Fin 31 → Fin 256 → EReal) (j : ℕ) (l : Fin 256) : EReal := if h : j < 31 then w ⟨j, h⟩ l else 0

/-- An element of the convolution's result. -/
def convAt (z : Fin 16384 → Fin 512 → EReal) (buf : Fin 30 → Fin 256 → EReal) (w : Fin 31 → Fin 256 → EReal)
    (b g h : Fin 256 → EReal) (p : ℕ) (l : Fin 256) : EReal :=
  normAct (fun k => tapSum (b k) (fun j => seqRow z buf (p + j) k) (fun j => tapW w j k)) (g l) (h l) l

section
open Cert.ConvIdeal Cert.ConvIdeal.Gen Cert.ConvIdeal.Value

/-- A gated element of a block. -/
theorem pay5_apply (x : Vec Ideal S1x512x512 .f32) (r : Fin 512) (l : Fin 256) :
    (k0_pay5 x : S512x256.Idx → EReal) (ix2 r l)
      = x (ix3 0 r ⟨l.val, by omega⟩) * Ideal.logistic (x (ix3 0 r ⟨256 + l.val, by omega⟩)) := by
  pointwise [k0_pay5]

/-- A row of the buffer, as it is stored in the scratch. -/
theorem pay4_apply (x : Vec Ideal S1x32x256 .f32) (n : Fin 32) (l : Fin 256) :
    (k0_pay4 x : S32x256.Idx → EReal) (ix2 n l) = x (ix3 0 n l) := by
  pointwise [k0_pay4]

/-- A row of the buffer, as it leaves the scratch. -/
theorem pay2_apply (x : Vec Ideal S32x256 .f32) (n : Fin 32) (l : Fin 256) :
    (k0_pay2 x : S1x32x256.Idx → EReal) (ix3 0 n l) = x (ix2 n l) := by
  pointwise [k0_pay2]

/-- The places of the windows at a point: sequence `t / 32`, block `t % 32` of it. -/
theorem places : ∀ t : Fin grid0.N,
    win0_0.index t = ![t.val / 32, t.val % 32, 0] ∧ win0_1.index t = ![t.val / 32, 0, 0]
    ∧ win0_2.index t = ![0, 0] ∧ win0_3.index t = ![0, 0] ∧ win0_4.index t = ![0, 0] ∧ win0_5.index t = ![0, 0]
    ∧ win0_6.index t = ![t.val / 32, t.val % 32, 0] ∧ win0_7.index t = ![t.val / 32, 0, 0] := by
  decide +kernel

/-- The buffer is written back at a sequence's last point. -/
theorem flush_last : ∀ t : Fin grid0.N, t.val % 32 = 31 → win0_7.flush t = true := by
  decide +kernel

/-- The buffer behind two rows of padding. -/
theorem pad_buf (x : Vec Ideal S2x30x256 .f32) (v : Vec Ideal S_ .f32) (b : Fin 2) (n : Fin 30) (l : Fin 256) :
    (pad S2x32x256 ![0, 2, 0] ![0, 0, 0] ![0, 0, 0] x v pads_S2x30x256_S2x32x256_000_200_000 h_S_ : S2x32x256.Idx → EReal) (ix3 b ⟨2 + n.val, by omega⟩ l)
      = (x : S2x30x256.Idx → EReal) (ix3 b n l) := by
  pointwise

/-- The weights before one row of padding. -/
theorem pad_w (x : Vec Ideal S31x256 .f32) (v : Vec Ideal S_ .f32) (j : Fin 31) (l : Fin 256) :
    (pad S32x256 ![0, 0] ![1, 0] ![0, 0] x v pads_S31x256_S32x256_010_000 h_S_ : S32x256.Idx → EReal) (ix2 ⟨j.val, by omega⟩ l)
      = (x : S31x256.Idx → EReal) (ix2 j l) := by
  pointwise

variable (m : (ℓ : Loc nD τ sig) → Buf (Elt Ideal) ℓ) (c : Dev nD)

/-- The rows of a sequence's input. -/
def zOf (b : Fin 2) : Fin 16384 → Fin 512 → EReal := fun n k => (m ((c : Thread nD τ).loc main_arg0) : S2x16384x512.Idx → EReal) (ix3 b n k)

/-- The rows of a sequence's buffer. -/
def bufOf (b : Fin 2) : Fin 30 → Fin 256 → EReal := fun n k => (m ((c : Thread nD τ).loc main_arg1) : S2x30x256.Idx → EReal) (ix3 b n k)

/-- The input's block of a point. -/
theorem blk0 (t : Fin grid0.N) (b : Fin 2) (q : Fin 32) (hb : t.val / 32 = b.val) (hq : t.val % 32 = q.val) (r : Fin 512) (k : Fin 512) :
    (iblk m c 0 t : S1x512x512.Idx → EReal) (ix3 0 r k) = zOf m c b ⟨512 * q.val + r.val, by omega⟩ k := by
  obtain ⟨e0, e1, e2, e3, e4, e5, e6, e7⟩ := places t
  rw [hb, hq] at e0
  unfold zOf
  blk_ext [iblk, V, e0]

/-- The buffer's block of a point. -/
theorem blk1 (t : Fin grid0.N) (b : Fin 2) (hb : t.val / 32 = b.val) (n : Fin 30) (l : Fin 256) :
    (iblk m c 1 t : S1x32x256.Idx → EReal) (ix3 0 ⟨2 + n.val, by omega⟩ l) = bufOf m c b n l := by
  obtain ⟨e0, e1, e2, e3, e4, e5, e6, e7⟩ := places t
  rw [hb] at e1
  have hv : (V m c main_v0 : S2x32x256.Idx → EReal)
      = (pad S2x32x256 ![0, 2, 0] ![0, 0, 0] ![0, 0, 0] (m ((c : Thread nD τ).loc main_arg1) : Vec Ideal S2x30x256 .f32) (V m c main_call0_v0 : Vec Ideal S_ .f32) pads_S2x30x256_S2x32x256_000_200_000 h_S_) := rfl
  have he : (iblk m c 1 t : S1x32x256.Idx → EReal) (ix3 0 ⟨2 + n.val, by omega⟩ l) = (V m c main_v0 : S2x32x256.Idx → EReal) (ix3 b ⟨2 + n.val, by omega⟩ l) := by
    blk_ext [iblk, e1]
  rw [he, hv]
  exact pad_buf _ _ b n l

/-- The weights' block of a point. -/
theorem blk2 (t : Fin grid0.N) (j : Fin 31) (l : Fin 256) :
    (iblk m c 2 t : S32x256.Idx → EReal) (ix2 ⟨j.val, by omega⟩ l) = (m ((c : Thread nD τ).loc main_arg2) : S31x256.Idx → EReal) (ix2 j l) := by
  obtain ⟨e0, e1, e2, e3, e4, e5, e6, e7⟩ := places t
  have hv : (V m c main_v1 : S32x256.Idx → EReal)
      = (pad S32x256 ![0, 0] ![1, 0] ![0, 0] (m ((c : Thread nD τ).loc main_arg2) : Vec Ideal S31x256 .f32) (V m c main_call1_v0 : Vec Ideal S_ .f32) pads_S31x256_S32x256_010_000 h_S_) := rfl
  have he : (iblk m c 2 t : S32x256.Idx → EReal) (ix2 ⟨j.val, by omega⟩ l) = (V m c main_v1 : S32x256.Idx → EReal) (ix2 ⟨j.val, by omega⟩ l) := by
    blk_ext [iblk, e2]
  rw [he, hv]
  exact pad_w _ _ j l

/-- The bias. -/
theorem blk3 (t : Fin grid0.N) (l : Fin 256) :
    (iblk m c 3 t : S1x256.Idx → EReal) (ix2 0 l) = (m ((c : Thread nD τ).loc main_arg3) : S256.Idx → EReal) (ix1 l) := by
  obtain ⟨e0, e1, e2, e3, e4, e5, e6, e7⟩ := places t
  have hv : (V m c main_v2 : S1x256.Idx → EReal)
      = (shapeCast S1x256 (m ((c : Thread nD τ).loc main_arg3) : Vec Ideal S256 .f32) shapeCasts_S256_S1x256) := rfl
  have he : (iblk m c 3 t : S1x256.Idx → EReal) (ix2 0 l) = (V m c main_v2 : S1x256.Idx → EReal) (ix2 0 l) := by
    blk_ext [iblk, e3]
  rw [he, hv]
  pointwise

/-- The scale of the norm. -/
theorem blk4 (t : Fin grid0.N) (l : Fin 256) :
    (iblk m c 4 t : S1x256.Idx → EReal) (ix2 0 l) = (m ((c : Thread nD τ).loc main_arg4) : S256.Idx → EReal) (ix1 l) := by
  obtain ⟨e0, e1, e2, e3, e4, e5, e6, e7⟩ := places t
  have hv : (V m c main_v3 : S1x256.Idx → EReal)
      = (shapeCast S1x256 (m ((c : Thread nD τ).loc main_arg4) : Vec Ideal S256 .f32) shapeCasts_S256_S1x256) := rfl
  have he : (iblk m c 4 t : S1x256.Idx → EReal) (ix2 0 l) = (V m c main_v3 : S1x256.Idx → EReal) (ix2 0 l) := by
    blk_ext [iblk, e4]
  rw [he, hv]
  pointwise

/-- The shift of the norm. -/
theorem blk5 (t : Fin grid0.N) (l : Fin 256) :
    (iblk m c 5 t : S1x256.Idx → EReal) (ix2 0 l) = (m ((c : Thread nD τ).loc main_arg5) : S256.Idx → EReal) (ix1 l) := by
  obtain ⟨e0, e1, e2, e3, e4, e5, e6, e7⟩ := places t
  have hv : (V m c main_v4 : S1x256.Idx → EReal)
      = (shapeCast S1x256 (m ((c : Thread nD τ).loc main_arg5) : Vec Ideal S256 .f32) shapeCasts_S256_S1x256) := rfl
  have he : (iblk m c 5 t : S1x256.Idx → EReal) (ix2 0 l) = (V m c main_v4 : S1x256.Idx → EReal) (ix2 0 l) := by
    blk_ext [iblk, e5]
  rw [he, hv]
  pointwise

/-- The scratch of a point, once its block stands in it: rows of the sequence, from row `512 q` on. -/
theorem hist_apply (t : Fin cfg0.N) (b : Fin 2) (q : Fin 32) (hb : t.val / 32 = b.val) (hq : t.val % 32 = q.val) (X : Vec Ideal S544x256 .f32)
    (hX : ∀ (n : Fin 30) (l : Fin 256), (X : S544x256.Idx → EReal) (ix2 (⟨2 + n.val, by omega⟩ : Fin 544) l)
      = seqRow (zOf m c b) (bufOf m c b) (512 * q.val + n.val) l)
    (a : ℕ) (ha : 2 + a < 544) (l : Fin 256) :
    (hist X (k0_pay5 (iblk m c 0 t)) : S544x256.Idx → EReal) (ix2 ⟨2 + a, ha⟩ l) = seqRow (zOf m c b) (bufOf m c b) (512 * q.val + a) l := by
  by_cases h : a < 30
  · refine Eq.trans ?_ (hX ⟨a, h⟩ l)
    exact dif_pos (show 2 + a < 32 by omega)
  · refine (dif_neg (show ¬ 2 + a < 32 by omega)).trans ?_
    refine (pay5_apply (iblk m c 0 t) ⟨2 + a - 32, by omega⟩ l).trans ?_
    rw [blk0 m c t b q hb hq, blk0 m c t b q hb hq]
    have hn : ¬ 512 * q.val + a < 30 := by omega
    have hn' : 512 * q.val + a - 30 < 16384 := by omega
    have hi : (⟨512 * q.val + (2 + a - 32), by omega⟩ : Fin 16384) = ⟨512 * q.val + a - 30, hn'⟩ := Fin.ext (by simp only; omega)
    unfold seqRow
    rw [dif_neg hn, dif_pos hn']
    simp only [hi]

/-- The rows before a block, found in the scratch at every point. -/
theorem before_apply (t : Fin cfg0.N) (b : Fin 2) (q : Fin 32) (hb : t.val / 32 = b.val) (hq : t.val % 32 = q.val) :
    ∃ X : Vec Ideal S544x256 .f32, (∀ (n : Fin 30) (l : Fin 256), (X : S544x256.Idx → EReal) (ix2 (⟨2 + n.val, by omega⟩ : Fin 544) l)
        = seqRow (zOf m c b) (bufOf m c b) (512 * q.val + n.val) l)
      ∧ (outsAt0 m c t.val t.isLt).1 = body (iblk m c 3 t) (iblk m c 4 t) (iblk m c 5 t)
          (fun j => rowsAt (hist X (k0_pay5 (iblk m c 0 t))) (2 + j)) (wRow (iblk m c 2 t)) := by
  by_cases h0 : t.val % 32 = 0
  · obtain ⟨X, hX, hs⟩ := stored_first m c t h0 (by omega)
    refine ⟨X, fun n l => ?_, hs⟩
    have hn := n.isLt
    refine (hX ⟨2 + n.val, by omega⟩ l).trans ((pay4_apply _ _ l).trans ((blk1 m c t b hb n l).trans ?_))
    unfold seqRow
    rw [dif_pos (show 512 * q.val + n.val < 30 by omega)]
    exact congrArg (fun a => bufOf m c b a l) (Fin.ext (by simp only; omega))
  · obtain ⟨X, hX, hs⟩ := stored_later m c t h0
    refine ⟨X, fun n l => ?_, hs⟩
    have hn := n.isLt
    subst hX
    have ht : t.val - 1 < cfg0.N := Nat.lt_of_le_of_lt (Nat.sub_le _ _) t.isLt
    refine (carried m c ⟨t.val - 1, ht⟩ ⟨2 + n.val, by omega⟩ l).trans ?_
    refine (pay5_apply _ ⟨480 + (2 + n.val), by omega⟩ l).trans ?_
    rw [blk0 m c ⟨t.val - 1, ht⟩ b ⟨q.val - 1, by omega⟩ (by simp only; omega) (by simp only; omega),
      blk0 m c ⟨t.val - 1, ht⟩ b ⟨q.val - 1, by omega⟩ (by simp only; omega) (by simp only; omega)]
    have hn0 : ¬ 512 * q.val + n.val < 30 := by omega
    have hn' : 512 * q.val + n.val - 30 < 16384 := by omega
    have hi : (⟨512 * (q.val - 1) + (480 + (2 + n.val)), by omega⟩ : Fin 16384) = ⟨512 * q.val + n.val - 30, hn'⟩ := Fin.ext (by simp only; omega)
    unfold seqRow
    rw [dif_neg hn0, dif_pos hn']
    simp only [hi]

/-- What is stored at a point, element by element. -/
theorem stored_apply (t : Fin cfg0.N) (b : Fin 2) (q : Fin 32) (hb : t.val / 32 = b.val) (hq : t.val % 32 = q.val) (r : Fin 512) (l : Fin 256) :
    ((outsAt0 m c t.val t.isLt).1 : S1x512x256.Idx → EReal) (ix3 0 r l)
      = convAt (zOf m c b) (bufOf m c b) (fun j k => (m ((c : Thread nD τ).loc main_arg2) : S31x256.Idx → EReal) (ix2 j k))
          (fun k => (m ((c : Thread nD τ).loc main_arg3) : S256.Idx → EReal) (ix1 k))
          (fun k => (m ((c : Thread nD τ).loc main_arg4) : S256.Idx → EReal) (ix1 k))
          (fun k => (m ((c : Thread nD τ).loc main_arg5) : S256.Idx → EReal) (ix1 k)) (512 * q.val + r.val) l := by
  obtain ⟨X, hX, hs⟩ := before_apply m c t b q hb hq
  rw [hs]
  refine (body_apply _ _ _ _ _ r l).trans ?_
  rw [blk4, blk5]
  unfold convAt
  refine congrArg (fun y : Fin 256 → EReal => normAct y _ _ l) (funext fun k => ?_)
  unfold rowSum tapSum
  rw [blk3]
  refine congrArg _ (Finset.sum_congr rfl fun j hj => ?_)
  have hj : j < 31 := Finset.mem_range.mp hj
  have hr := r.isLt
  have e1 : (rowsAt (hist X (k0_pay5 (iblk m c 0 t))) (2 + j) : S512x256.Idx → EReal) (ix2 r k)
      = seqRow (zOf m c b) (bufOf m c b) (512 * q.val + r.val + j) k := by
    refine (dif_pos (show 2 + j + r.val < 544 by omega)).trans ?_
    have h := hist_apply m c t b q hb hq X hX (r.val + j) (by omega) k
    rw [show 512 * q.val + r.val + j = 512 * q.val + (r.val + j) by omega, ← h]
    exact congrArg (fun a : Fin 544 => (hist X (k0_pay5 (iblk m c 0 t)) : S544x256.Idx → EReal) (ix2 a k)) (Fin.ext (by change 2 + j + r.val = 2 + (r.val + j); omega))
  have e2 : (wRow (iblk m c 2 t) j : S1x256.Idx → EReal) (ix2 0 k)
      = tapW (fun j k => (m ((c : Thread nD τ).loc main_arg2) : S31x256.Idx → EReal) (ix2 j k)) j k := by
    refine (dif_pos (show j < 32 by omega)).trans ?_
    unfold tapW
    rw [dif_pos hj]
    exact blk2 m c t ⟨j, hj⟩ k
  exact congrArg₂ (fun u v : EReal => u * v) e1 e2

/-- The first array: every element is `convAt` of its sequence. -/
theorem arr6_apply (b : Fin 2) (p : Fin 16384) (l : Fin 256) :
    ((dats m 0 c).arrAt 6 cfg0.N : S2x16384x256.Idx → EReal) (ix3 b p l)
      = convAt (zOf m c b) (bufOf m c b) (fun j k => (m ((c : Thread nD τ).loc main_arg2) : S31x256.Idx → EReal) (ix2 j k))
          (fun k => (m ((c : Thread nD τ).loc main_arg3) : S256.Idx → EReal) (ix1 k))
          (fun k => (m ((c : Thread nD τ).loc main_arg4) : S256.Idx → EReal) (ix1 k))
          (fun k => (m ((c : Thread nD τ).loc main_arg5) : S256.Idx → EReal) (ix1 k)) p.val l := by
  have hN : cfg0.N = 64 := N_0
  have hp0 := p.isLt
  have hb0 := b.isLt
  let t : Fin cfg0.N := ⟨32 * b.val + p.val / 512, by omega⟩
  have hb : t.val / 32 = b.val := by change (32 * b.val + p.val / 512) / 32 = b.val; omega
  have hq : t.val % 32 = p.val / 512 := by change (32 * b.val + p.val / 512) % 32 = p.val / 512; omega
  obtain ⟨e0, e1, e2, e3, e4, e5, e6, e7⟩ := places t
  rw [hb, hq] at e6
  have hk := congrFun (blocks6 m c t (flush0_6 t)) (ix3 (0 : Fin 1) (⟨p.val % 512, by omega⟩ : Fin 512) l)
  have hp : ((cfg0.win 6).blk t).view.emb (ix3 (0 : Fin 1) (⟨p.val % 512, by omega⟩ : Fin 512) l) = ix3 b p l := by
    blk_ext [e6]
  have hl : ((cfg0.win 6).blk t).view.read (Elt Ideal) ((dats m 0 c).arrAt 6 cfg0.N)
      (ix3 (0 : Fin 1) (⟨p.val % 512, by omega⟩ : Fin 512) l) = (dats m 0 c).arrAt 6 cfg0.N (ix3 b p l) := by
    rw [← hp]; rfl
  rw [← hl, hk, flushed6]
  refine (stored_apply m c t b ⟨p.val / 512, by omega⟩ hb hq ⟨p.val % 512, by omega⟩ l).trans ?_
  rw [show 512 * (p.val / 512) + p.val % 512 = p.val by omega]

/-- The second array: the last 32 rows of every sequence. -/
theorem arr7_apply (b : Fin 2) (n : Fin 32) (l : Fin 256) :
    ((dats m 0 c).arrAt 7 cfg0.N : S2x32x256.Idx → EReal) (ix3 b n l) = seqRow (zOf m c b) (bufOf m c b) (16382 + n.val) l := by
  have hN : cfg0.N = 64 := N_0
  have hn0 := n.isLt
  have hb0 := b.isLt
  let t : Fin cfg0.N := ⟨32 * b.val + 31, by omega⟩
  have hb : t.val / 32 = b.val := by change (32 * b.val + 31) / 32 = b.val; omega
  have hq : t.val % 32 = 31 := by change (32 * b.val + 31) % 32 = 31; omega
  obtain ⟨e0, e1, e2, e3, e4, e5, e6, e7⟩ := places t
  rw [hb] at e7
  have hk := congrFun (flushed7_eq m c t (flush_last t hq)) (ix3 (0 : Fin 1) n l)
  have hp : ((cfg0.win 7).blk t).view.emb (ix3 (0 : Fin 1) n l) = ix3 b n l := by
    blk_ext [e7]
  have hl : ((cfg0.win 7).blk t).view.read (Elt Ideal) (G7 m c) (ix3 (0 : Fin 1) n l) = G7 m c (ix3 b n l) := by
    rw [← hp]; rfl
  rw [final7, ← hl, ← hk, flushed7, stored_buf m c t (by omega) hq]
  refine (pay2_apply _ n l).trans ?_
  refine (pay5_apply _ ⟨480 + n.val, by omega⟩ l).trans ?_
  rw [blk0 m c t b 31 hb hq, blk0 m c t b 31 hb hq]
  have h0 : ¬ 16382 + n.val < 30 := by omega
  have h' : 16382 + n.val - 30 < 16384 := by omega
  have hi : (⟨512 * (31 : Fin 32).val + (480 + n.val), by change 512 * 31 + (480 + n.val) < 16384; omega⟩ : Fin 16384) = ⟨16382 + n.val - 30, h'⟩ :=
    Fin.ext (by change 512 * 31 + (480 + n.val) = 16382 + n.val - 30; omega)
  unfold seqRow
  rw [dif_neg h0, dif_pos h']
  simp only [hi]

end

end Cert.Cnv
end
-- ==== Proof.ConvRef.lean ====
/-
  The convolution's reference: its two results, element by element.
-/
module

public import proofs.«01_k».proof.Proof.ConvOut
public import proofs.«01_k».proof.Proof.Gen.ConvRefIdeal.Read

@[expose] public section

set_option maxRecDepth 16384

noncomputable section

namespace Cert.Cnv

open Idealize.ShloMosaic Idealize.ShloMosaic.TcCoe
open Cert.ConvRefIdeal Cert.ConvRefIdeal.Gen Cert.ConvRefIdeal.Read

section Sums

variable (x0 : (⟨S2x16384x512, .f32⟩ : BufTy).Contents (Elt Ideal)) (x1 : (⟨S2x30x256, .f32⟩ : BufTy).Contents (Elt Ideal))
  (x2 : (⟨S31x256, .f32⟩ : BufTy).Contents (Elt Ideal)) (b : Fin 2)

/-- A gated element. -/
theorem ref_gated (n : Fin 16384) (l : Fin 256) :
    (val_main_v8 (F := Ideal) x0 : S2x16384x256.Idx → EReal) (ix3 b n l)
      = x0 (ix3 b n ⟨l.val, by omega⟩) * Ideal.logistic (x0 (ix3 b n ⟨256 + l.val, by omega⟩)) := by
  pointwise [val_main_v8, val_main_v7, val_main_v6, val_main_v5, val_main_v4, val_main_v3, val_main_v2, val_main_v1, val_main_v0, val_main_cst, val_main_cst_0]
  rfl

/-- A row of the sequence. -/
theorem ref_row (n : Fin 16414) (l : Fin 256) :
    (val_main_v9 (F := Ideal) x0 x1 : S2x16414x256.Idx → EReal) (ix3 b n l)
      = seqRow (fun p k => x0 (ix3 b p k)) (fun p k => x1 (ix3 b p k)) n.val l := by
  pointwise [val_main_v9]
  unfold seqRow
  by_cases h : n.val < 30
  · rw [dif_pos h, dif_pos h]
  · rw [dif_neg h, dif_neg h, dif_pos (show n.val - 30 < 16384 by omega)]
    exact ref_gated x0 b _ l

variable (p : Fin 16384) (l : Fin 256)

/-- A product of a row of the sequence and a row of the weights. -/
def refTap (j : ℕ) : EReal := seqRow (fun n k => x0 (ix3 b n k)) (fun n k => x1 (ix3 b n k)) (p.val + j) l * tapW (fun n k => x2 (ix2 n k)) j l

/-- The reference's product, for the row and the weight that it slices. -/
theorem tap_eq (j : Fin 31) (n : Fin 16414) (hn : n.val = p.val + j.val) :
    (val_main_v9 (F := Ideal) x0 x1 : S2x16414x256.Idx → EReal) (ix3 b n l) * (x2 : S31x256.Idx → EReal) (ix2 j l) = refTap x0 x1 x2 b p l j.val := by
  unfold refTap tapW
  rw [ref_row, hn, dif_pos j.isLt]

/-- The 31 products of an element, added from the first to the last. -/
theorem ref_sum : (val_main_v227 (F := Ideal) x0 x1 x2 : S2x16384x256.Idx → EReal) (ix3 b p l) = ∑ i ∈ Finset.range 31, refTap x0 x1 x2 b p l i := by
  pointwise [val_main_v10, val_main_v11, val_main_v12, val_main_v13, val_main_v14, val_main_v15, val_main_v16, val_main_v17, val_main_v18,
    val_main_v19, val_main_v20, val_main_v21, val_main_v22, val_main_v23, val_main_v24, val_main_v25, val_main_v26, val_main_v27,
    val_main_v28, val_main_v29, val_main_v30, val_main_v31, val_main_v32, val_main_v33, val_main_v34, val_main_v35, val_main_v36,
    val_main_v37, val_main_v38, val_main_v39, val_main_v40, val_main_v41, val_main_v42, val_main_v43, val_main_v44, val_main_v45,
    val_main_v46, val_main_v47, val_main_v48, val_main_v49, val_main_v50, val_main_v51, val_main_v52, val_main_v53, val_main_v54,
    val_main_v55, val_main_v56, val_main_v57, val_main_v58, val_main_v59, val_main_v60, val_main_v61, val_main_v62, val_main_v63,
    val_main_v64, val_main_v65, val_main_v66, val_main_v67, val_main_v68, val_main_v69, val_main_v70, val_main_v71, val_main_v72,
    val_main_v73, val_main_v74, val_main_v75, val_main_v76, val_main_v77, val_main_v78, val_main_v79, val_main_v80, val_main_v81,
    val_main_v82, val_main_v83, val_main_v84, val_main_v85, val_main_v86, val_main_v87, val_main_v88, val_main_v89, val_main_v90,
    val_main_v91, val_main_v92, val_main_v93, val_main_v94, val_main_v95, val_main_v96, val_main_v97, val_main_v98, val_main_v99,
    val_main_v100, val_main_v101, val_main_v102, val_main_v103, val_main_v104, val_main_v105, val_main_v106, val_main_v107, val_main_v108,
    val_main_v109, val_main_v110, val_main_v111, val_main_v112, val_main_v113, val_main_v114, val_main_v115, val_main_v116, val_main_v117,
    val_main_v118, val_main_v119, val_main_v120, val_main_v121, val_main_v122, val_main_v123, val_main_v124, val_main_v125, val_main_v126,
    val_main_v127, val_main_v128, val_main_v129, val_main_v130, val_main_v131, val_main_v132, val_main_v133, val_main_v134, val_main_v135,
    val_main_v136, val_main_v137, val_main_v138, val_main_v139, val_main_v140, val_main_v141, val_main_v142, val_main_v143, val_main_v144,
    val_main_v145, val_main_v146, val_main_v147, val_main_v148, val_main_v149, val_main_v150, val_main_v151, val_main_v152, val_main_v153,
    val_main_v154, val_main_v155, val_main_v156, val_main_v157, val_main_v158, val_main_v159, val_main_v160, val_main_v161, val_main_v162,
    val_main_v163, val_main_v164, val_main_v165, val_main_v166, val_main_v167, val_main_v168, val_main_v169, val_main_v170, val_main_v171,
    val_main_v172, val_main_v173, val_main_v174, val_main_v175, val_main_v176, val_main_v177, val_main_v178, val_main_v179, val_main_v180,
    val_main_v181, val_main_v182, val_main_v183, val_main_v184, val_main_v185, val_main_v186, val_main_v187, val_main_v188, val_main_v189,
    val_main_v190, val_main_v191, val_main_v192, val_main_v193, val_main_v194, val_main_v195, val_main_v196, val_main_v197, val_main_v198,
    val_main_v199, val_main_v200, val_main_v201, val_main_v202, val_main_v203, val_main_v204, val_main_v205, val_main_v206, val_main_v207,
    val_main_v208, val_main_v209, val_main_v210, val_main_v211, val_main_v212, val_main_v213, val_main_v214, val_main_v215, val_main_v216,
    val_main_v217, val_main_v218, val_main_v219, val_main_v220, val_main_v221, val_main_v222, val_main_v223, val_main_v224, val_main_v225,
    val_main_v226, val_main_v227, val_main_cst_1]
  simp only [Finset.sum_range_succ, Finset.sum_range_zero, zero_add]
  iterate 30 refine congrArg₂ (fun u v : EReal => u + v) ?_ ?_
  all_goals first | exact tap_eq x0 x1 x2 b p l _ _ (Nat.add_comm _ _) | exact tap_eq x0 x1 x2 b p l 0 _ (by simp)

end Sums

section Elements

variable (x0 : (⟨S2x16384x512, .f32⟩ : BufTy).Contents (Elt Ideal)) (x1 : (⟨S2x30x256, .f32⟩ : BufTy).Contents (Elt Ideal))
  (x2 : (⟨S31x256, .f32⟩ : BufTy).Contents (Elt Ideal)) (x3 x4 x5 : (⟨S256, .f32⟩ : BufTy).Contents (Elt Ideal)) (b : Fin 2) (p : Fin 16384)

/-- A row before the norm. -/
def refRow (k : Fin 256) : EReal := tapSum (x3 (ix1 k)) (fun j => seqRow (fun n k => x0 (ix3 b n k)) (fun n k => x1 (ix3 b n k)) (p.val + j) k) (fun j => tapW (fun n k => x2 (ix2 n k)) j k)

/-- The bias is added last in the reference. -/
theorem ref_before (l : Fin 256) : (val_main_v230 (F := Ideal) x0 x1 x2 x3 : S2x16384x256.Idx → EReal) (ix3 b p l) = refRow x0 x1 x2 x3 b p l := by
  pointwise [val_main_v230, val_main_v229, val_main_v228]
  unfold refRow tapSum
  rw [ref_sum]
  exact add_comm _ _

/-- The mean of a row. -/
theorem ref_mean : (val_main_v234 (F := Ideal) x0 x1 x2 x3 : S2x16384x1.Idx → EReal) (ix3 b p 0) = mean256 (refRow x0 x1 x2 x3 b p) := by
  pointwise [val_main_v234, val_main_v233, val_main_v232, val_main_v231, val_main_cst_2, val_main_cst_3]
  simp only [ref_before]
  rfl

/-- The inverse root of the variance of a row. -/
theorem ref_dev : (val_main_v246 (F := Ideal) x0 x1 x2 x3 : S2x16384x1.Idx → EReal) (ix3 b p 0) = invDev (refRow x0 x1 x2 x3 b p) := by
  pointwise [val_main_v246, val_main_v245, val_main_v244, val_main_v241, val_main_v240, val_main_v239, val_main_v238, val_main_v237, val_main_v236, val_main_v235, val_main_cst_4, val_main_cst_5, val_main_cst_6]
  simp only [ref_before, ref_mean]
  rfl

/-- An element before the activation. -/
theorem ref_normed (l : Fin 256) : (val_main_v254 (F := Ideal) x0 x1 x2 x3 x4 x5 : S2x16384x256.Idx → EReal) (ix3 b p l)
    = normed (refRow x0 x1 x2 x3 b p) (x4 (ix1 l)) (x5 (ix1 l)) l := by
  pointwise [val_main_v254, val_main_v253, val_main_v252, val_main_v251, val_main_v250, val_main_v249, val_main_v248, val_main_v247, val_main_v243, val_main_v242]
  simp only [ref_before, ref_mean, ref_dev]
  rfl

/-- An element of the first result. -/
theorem ref_first (l : Fin 256) : (val_main_v255 (F := Ideal) x0 x1 x2 x3 x4 x5 : S2x16384x256.Idx → EReal) (ix3 b p l)
    = convAt (fun n k => x0 (ix3 b n k)) (fun n k => x1 (ix3 b n k)) (fun n k => x2 (ix2 n k)) (fun k => x3 (ix1 k)) (fun k => x4 (ix1 k)) (fun k => x5 (ix1 k)) p.val l := by
  pointwise [val_main_v255, val_main_call0_v5, val_main_call0_v4, val_main_call0_v3, val_main_call0_v2, val_main_call0_v1, val_main_call0_v0, val_main_call0_cst, val_main_call0_cst_0]
  simp only [ref_normed]
  rfl

/-- An element of the second result. -/
theorem ref_second (n : Fin 32) (l : Fin 256) : (val_main_v256 (F := Ideal) x0 x1 : S2x32x256.Idx → EReal) (ix3 b n l)
    = seqRow (fun n k => x0 (ix3 b n k)) (fun n k => x1 (ix3 b n k)) (16382 + n.val) l := by
  pointwise [val_main_v256]
  exact ref_row x0 x1 b _ l

end Elements

end Cert.Cnv
end
-- ==== Proof.ConvClaims.lean ====
/-
  The convolution: the claims about it.
-/
module

public import proofs.«01_k».proof.Proof.ConvRef
public import proofs.«01_k».proof.Defs
public import Idealize.ShloMosaic.Adequacy

@[expose] public section

set_option maxRecDepth 16384

noncomputable section

namespace Cert.Cnv

open Idealize.ShloMosaic Idealize.ShloMosaic.TcCoe
open Idealize.SL.Sem

/-- The reference ends with its arguments unchanged and every semaphore at zero. -/
theorem frame_ref : Cert.quiescent_ConvRefIdeal (hConvRefIdeal := Cert.ConvRefIdeal.Gen.facts) := fun m ρ _ =>
  (θ_run Cert.ConvRefIdeal.defs _ _).mono (fun r h => ⟨fun c => (h c).2.2, sem_eq_zero_of_no_sems (by decide) r.2⟩)
    (Cert.ConvRefIdeal.Value.run (F := Ideal) m ρ)

/-- Kernel and reference leave the same two arrays. -/
theorem algebraic : Cert.algebraic_ConvIdeal_ConvRefIdeal (hConvIdeal := Cert.ConvIdeal.Gen.facts)
    (hConvRefIdeal := Cert.ConvRefIdeal.Gen.facts) := by
  intro m g m' g' _ hagree
  refine ⟨fun c => (Cert.ConvIdeal.Gen.dats m 0 c).arrAt 6 Cert.ConvIdeal.cfg0.N,
    fun c => (Cert.ConvIdeal.Gen.dats m 0 c).arrAt 7 Cert.ConvIdeal.cfg0.N,
    Cert.ConvIdeal.Value.run_blocks m g, (θ_run _ _ _).mono (fun r h c => ?_) (Cert.ConvRefIdeal.Value.run m' g')⟩
  obtain ⟨a0, a1, a2, a3, a4, a5⟩ := hagree c
  obtain ⟨h0, h1, hk⟩ := h c
  have e0 : StableHlo.launchContents m' c (Proc.tc.devRef Cert.ConvRefIdeal.main_arg0) = m ((c.tc : Thread Cert.ConvIdeal.nD Cert.ConvIdeal.τ).loc Cert.ConvIdeal.main_arg0) := a0
  have e1 : StableHlo.launchContents m' c (Proc.tc.devRef Cert.ConvRefIdeal.main_arg1) = m ((c.tc : Thread Cert.ConvIdeal.nD Cert.ConvIdeal.τ).loc Cert.ConvIdeal.main_arg1) := a1
  have e2 : StableHlo.launchContents m' c (Proc.tc.devRef Cert.ConvRefIdeal.main_arg2) = m ((c.tc : Thread Cert.ConvIdeal.nD Cert.ConvIdeal.τ).loc Cert.ConvIdeal.main_arg2) := a2
  have e3 : StableHlo.launchContents m' c (Proc.tc.devRef Cert.ConvRefIdeal.main_arg3) = m ((c.tc : Thread Cert.ConvIdeal.nD Cert.ConvIdeal.τ).loc Cert.ConvIdeal.main_arg3) := a3
  have e4 : StableHlo.launchContents m' c (Proc.tc.devRef Cert.ConvRefIdeal.main_arg4) = m ((c.tc : Thread Cert.ConvIdeal.nD Cert.ConvIdeal.τ).loc Cert.ConvIdeal.main_arg4) := a4
  have e5 : StableHlo.launchContents m' c (Proc.tc.devRef Cert.ConvRefIdeal.main_arg5) = m ((c.tc : Thread Cert.ConvIdeal.nD Cert.ConvIdeal.τ).loc Cert.ConvIdeal.main_arg5) := a5
  refine ⟨h0.trans ?_, h1.trans ?_, hk⟩
  · rw [Cert.ConvRefIdeal.Read.val_main_v255_eq, e0, e1, e2, e3, e4, e5]
    funext i
    obtain ⟨b, p, L, rfl⟩ : ∃ (b : Fin 2) (p : Fin 16384) (L : Fin 256), i = ix3 b p L := ⟨i 0, i 1, i 2, funext fun a => by fin_cases a <;> rfl⟩
    exact (ref_first _ _ _ _ _ _ b p L).trans (arr6_apply m c b p L).symm
  · rw [Cert.ConvRefIdeal.Read.val_main_v256_eq, e0, e1]
    funext i
    obtain ⟨b, n, L, rfl⟩ : ∃ (b : Fin 2) (n : Fin 32) (L : Fin 256), i = ix3 b n L := ⟨i 0, i 1, i 2, funext fun a => by fin_cases a <;> rfl⟩
    exact (ref_second _ _ b n L).trans (arr7_apply m c b n L).symm

end Cert.Cnv
-- ==== Proof.ConvSBody.lean ====
/-
  The convolution kernel's arithmetic at the sample's shape: what one block leaves, over the shifted rows that it loads.
-/
module

public import proofs.«01_k».proof.Proof.ConvOut
public import proofs.«01_k».proof.Proof.Gen.ConvSIdeal.Value
public import Idealize.ShloMosaic.Lib.Pipeline.ValueKit

@[expose] public section

set_option maxRecDepth 16384

noncomputable section

namespace Cert.CnvS

open Idealize.ShloMosaic Idealize.ShloMosaic.TcCoe
open Cert.Cnv (tapSum mean256 invDev normed normAct tapW)
open Cert.ConvSIdeal Cert.ConvSIdeal.Gen Cert.ConvSIdeal.Value

/-- The sums of the first 27 products, as the body's parts hold them, over the loaded rows `T` and weights `W`. -/
def part27 (x3 : Vec Ideal S1x256 .f32) (T : ℕ → Vec Ideal S32x256 .f32) (W : ℕ → Vec Ideal S1x256 .f32) : FVec Ideal S32x256 .f32 :=
  k0_pay14 (k0_pay12 (k0_pay10 (k0_pay8 (k0_pay6 x3 (T 0) (W 0) (T 1) (W 1)) (k0_pay7 (T 2) (W 2)) (T 3) (W 3) (T 4) (W 4) (T 5) (W 5) (T 6) (W 6) (T 7) (W 7)) (k0_pay9 (T 8) (W 8)) (T 9) (W 9) (T 10) (W 10) (T 11) (W 11) (T 12) (W 12) (T 13) (W 13)) (k0_pay11 (T 14) (W 14)) (T 15) (W 15) (T 16) (W 16) (T 17) (W 17) (T 18) (W 18) (T 19) (W 19)) (k0_pay13 (T 20) (W 20)) (T 21) (W 21) (T 22) (W 22) (T 23) (W 23) (T 24) (W 24) (T 25) (W 25)

/-- What the body stores, over the loaded rows and weights. -/
def body (x3 x4 x5 : Vec Ideal S1x256 .f32) (T : ℕ → Vec Ideal S32x256 .f32) (W : ℕ → Vec Ideal S1x256 .f32) : FVec Ideal S1x32x256 .f32 :=
  k0_pay1 (k0_pay16 (part27 x3 T W) (k0_pay15 (T 26) (W 26)) (T 27) (W 27) (T 28) (W 28) (T 29) (W 29) (T 30) (W 30))
    (k0_pay17 (part27 x3 T W) (k0_pay15 (T 26) (W 26)) (T 27) (W 27) (T 28) (W 28) (T 29) (W 29) (T 30) (W 30)) x4 x5

/-- The row before the norm, in row `r` of a block. -/
def rowSum (x3 : Vec Ideal S1x256 .f32) (T : ℕ → Vec Ideal S32x256 .f32) (W : ℕ → Vec Ideal S1x256 .f32) (r : Fin 32) (l : Fin 256) : EReal :=
  tapSum ((x3 : S1x256.Idx → EReal) (ix2 0 l)) (fun j => (T j : S32x256.Idx → EReal) (ix2 r l)) (fun j => (W j : S1x256.Idx → EReal) (ix2 0 l))

/-- The first 27 products. -/
theorem part27_apply (x3 : Vec Ideal S1x256 .f32) (T : ℕ → Vec Ideal S32x256 .f32) (W : ℕ → Vec Ideal S1x256 .f32) (r : Fin 32) (l : Fin 256) :
    (part27 x3 T W : S32x256.Idx → EReal) (ix2 r l)
      = (x3 : S1x256.Idx → EReal) (ix2 0 l)
        + ∑ j ∈ Finset.range 26, (T j : S32x256.Idx → EReal) (ix2 r l) * (W j : S1x256.Idx → EReal) (ix2 0 l) := by
  unfold part27
  pointwise [k0_pay6, k0_pay7, k0_pay8, k0_pay9, k0_pay10, k0_pay11, k0_pay12, k0_pay13, k0_pay14]
  simp only [Finset.sum_range_succ, Finset.sum_range_zero, zero_add, ← add_assoc]

/-- The row less its mean. -/
theorem centred_apply (x3 : Vec Ideal S1x256 .f32) (T : ℕ → Vec Ideal S32x256 .f32) (W : ℕ → Vec Ideal S1x256 .f32) (r : Fin 32) (l : Fin 256) :
    (k0_pay16 (part27 x3 T W) (k0_pay15 (T 26) (W 26)) (T 27) (W 27) (T 28) (W 28) (T 29) (W 29) (T 30) (W 30) : S32x256.Idx → EReal) (ix2 r l)
      = rowSum x3 T W r l - mean256 (rowSum x3 T W r) := by
  have h : ∀ k : Fin 256, (part27 x3 T W : S32x256.Idx → EReal) (ix2 r k) + (T 26 : S32x256.Idx → EReal) (ix2 r k) * (W 26 : S1x256.Idx → EReal) (ix2 0 k)
      + (T 27 : S32x256.Idx → EReal) (ix2 r k) * (W 27 : S1x256.Idx → EReal) (ix2 0 k) + (T 28 : S32x256.Idx → EReal) (ix2 r k) * (W 28 : S1x256.Idx → EReal) (ix2 0 k)
      + (T 29 : S32x256.Idx → EReal) (ix2 r k) * (W 29 : S1x256.Idx → EReal) (ix2 0 k) + (T 30 : S32x256.Idx → EReal) (ix2 r k) * (W 30 : S1x256.Idx → EReal) (ix2 0 k)
      = rowSum x3 T W r k := fun k => by
    rw [part27_apply]
    unfold rowSum tapSum
    rw [Finset.sum_range_succ _ 30, Finset.sum_range_succ _ 29, Finset.sum_range_succ _ 28, Finset.sum_range_succ _ 27, Finset.sum_range_succ _ 26]
    simp only [add_assoc]
  pointwise [k0_pay16, k0_pay15]
  simp only [h]
  rfl

/-- The inverse deviation of the row. -/
theorem dev_apply (x3 : Vec Ideal S1x256 .f32) (T : ℕ → Vec Ideal S32x256 .f32) (W : ℕ → Vec Ideal S1x256 .f32) (r : Fin 32) :
    (k0_pay17 (part27 x3 T W) (k0_pay15 (T 26) (W 26)) (T 27) (W 27) (T 28) (W 28) (T 29) (W 29) (T 30) (W 30) : S32x1.Idx → EReal) (ix2 r 0)
      = invDev (rowSum x3 T W r) := by
  pointwise [k0_pay17]
  simp only [centred_apply]
  rfl

/-- What the body stores, element by element. -/
theorem body_apply (x3 x4 x5 : Vec Ideal S1x256 .f32) (T : ℕ → Vec Ideal S32x256 .f32) (W : ℕ → Vec Ideal S1x256 .f32) (r : Fin 32) (l : Fin 256) :
    (body x3 x4 x5 T W : S1x32x256.Idx → EReal) (ix3 0 r l)
      = normAct (rowSum x3 T W r) ((x4 : S1x256.Idx → EReal) (ix2 0 l)) ((x5 : S1x256.Idx → EReal) (ix2 0 l)) l := by
  unfold body
  pointwise [k0_pay1]
  simp only [centred_apply, dev_apply]
  rfl

end Cert.CnvS
end
-- ==== Proof.ConvSRows.lean ====
/-
  The convolution kernel's scratch at the sample's shape: the rows that a point finds in it, and the rows that its loads take.
-/
module

public import proofs.«01_k».proof.Proof.ConvSBody
public import Idealize.ShloMosaic.Lib.WritesUnit

@[expose] public section

set_option maxRecDepth 16384

noncomputable section

namespace Cert.CnvS

open Idealize.ShloMosaic Idealize.ShloMosaic.TcCoe
open Cert.Cnv (tapSum mean256 invDev normed normAct tapW)
open Cert.ConvSIdeal Cert.ConvSIdeal.Gen Cert.ConvSIdeal.Value

/-- The scratch once a block's gated rows stand in it: 32 earlier rows, then the block. -/
def hist (X : Vec Ideal S64x256 .f32) (G : Vec Ideal S32x256 .f32) : Vec Ideal S64x256 .f32 := fun y =>
  if h : (y 0).val < 32 then X y else G (ix2 ⟨(y 0).val - 32, by have := (y 0).isLt; change (y 0).val < 64 at this; omega⟩ (y 1))

/-- 32 rows of the scratch, from row `a` on. -/
def rowsAt (H : Vec Ideal S64x256 .f32) (a : ℕ) : Vec Ideal S32x256 .f32 := fun y =>
  if h : a + (y 0).val < 64 then H (ix2 ⟨a + (y 0).val, h⟩ (y 1)) else 0

/-- One row of the padded weights. -/
def wRow (x : Vec Ideal S32x256 .f32) (j : ℕ) : Vec Ideal S1x256 .f32 := fun y =>
  if h : j < 32 then x (ix2 ⟨j, h⟩ (y 1)) else 0

/-- A load of 32 rows. -/
theorem ld_rows (H : Vec Ideal S64x256 .f32) (a : ℕ) (inb) :
    View.ld (Val := Elt Ideal) (e' := .f32) (S := S64x256) H (Rect.unit ![a, 0] ![32, 256] inb) = rowsAt H a := by
  funext y
  have ha := inb 0
  change a + 32 ≤ 64 at ha
  have h0 : (y 0).val < 32 := (y 0).isLt
  unfold rowsAt
  rw [dif_pos (by change a + (y 0).val < 64; omega)]
  exact View.ld_unit_apply_of H ![a, 0] ![32, 256] inb y (ix2 ⟨a + (y 0).val, by omega⟩ (y 1)) (Fin.forall_fin_two.mpr ⟨rfl, (Nat.zero_add (y 1).val).symm⟩)

/-- A load of a row of weights. -/
theorem ld_wRow (x : Vec Ideal S32x256 .f32) (j : ℕ) (inb) :
    View.ld (Val := Elt Ideal) (e' := .f32) (S := S32x256) x (Rect.unit ![j, 0] ![1, 256] inb) = wRow x j := by
  funext y
  have ha := inb 0
  change j + 1 ≤ 32 at ha
  have h0 : (y 0).val < 1 := (y 0).isLt
  unfold wRow
  rw [dif_pos (by omega)]
  exact View.ld_unit_apply_of x ![j, 0] ![1, 256] inb y (ix2 ⟨j, by omega⟩ (y 1)) (Fin.forall_fin_two.mpr ⟨by change j = j + (y 0).val; omega, (Nat.zero_add (y 1).val).symm⟩)

/-- What the scratch holds after a block's rows are stored behind the rows held over. -/
theorem canon_hist (B : Vec Ideal S32x256 .f32) (G : Vec Ideal S32x256 .f32) (inb) (inb') :
    View.canon (Val := Elt Ideal) (e := .f32) [⟨Rect.unit (s := S64x256) ![32, 0] ![32, 256] inb, G⟩, ⟨Rect.unit (s := S64x256) ![0, 0] ![32, 256] inb', B⟩]
      = hist (View.canon (Val := Elt Ideal) (e := .f32) [⟨Rect.unit (s := S64x256) ![0, 0] ![32, 256] inb', B⟩]) G := by
  rw [← View.read_writes_junk_eq_canon (View.whole cc0_scratch0), ← View.read_writes_junk_eq_canon (View.whole cc0_scratch0)]
  funext y
  unfold hist
  have hy : (y 0).val < 64 := (y 0).isLt
  by_cases hlt : (y 0).val < 32
  · rw [dif_pos hlt]
    exact View.read_writes_cons_rows_of_not_mem (o := 32) (W := 32) (d := ![64, 256]) _ _ inb G _ y rfl rfl (.inl hlt)
  · rw [dif_neg hlt]
    exact View.read_writes_cons_rows_of_mem (d := ![64, 256]) (o := 32) _ _ inb G _ y
      (ix2 ⟨(y 0).val - 32, by omega⟩ (y 1)) rfl (by change (y 0).val = 32 + ((y 0).val - 32); omega) rfl

/-- A load of 32 rows . -/
theorem cov_rows {κ : Kind} {sp : Space} (v : View sig κ sp S64x256 .f32) (B : Vec Ideal S32x256 .f32) (G : Vec Ideal S32x256 .f32) (a : ℕ) (inb) (inb') (inb'') :
    v.readCov (Val := Elt Ideal) [⟨Rect.unit (s := S64x256) ![32, 0] ![32, 256] inb, G⟩, ⟨Rect.unit (s := S64x256) ![0, 0] ![32, 256] inb', B⟩]
        (Rect.unit (s := S64x256) ![a, 0] ![32, 256] inb'').toLoadRect
      = rowsAt (hist (View.canon (Val := Elt Ideal) (e := .f32) [⟨Rect.unit (s := S64x256) ![0, 0] ![32, 256] inb', B⟩]) G) a := by
  rw [View.readCov_eq_canon', canon_hist]
  exact ld_rows _ a inb''

/-- The block itself, as rows of the scratch. -/
theorem rowsAt_hist (X : Vec Ideal S64x256 .f32) (G : Vec Ideal S32x256 .f32) : rowsAt (hist X G) 32 = G := by
  funext y
  have h0 : (y 0).val < 32 := (y 0).isLt
  unfold rowsAt hist
  rw [dif_pos (by omega), dif_neg (by change ¬ 32 + (y 0).val < 32; omega)]
  refine congrArg G (funext fun a => ?_)
  refine Fin.ext ?_
  revert a
  exact Fin.forall_fin_two.mpr ⟨by change 32 + (y 0).val - 32 = (y 0).val; omega, rfl⟩

/-- A load of the block's own rows. -/
theorem cov_last {κ : Kind} {sp : Space} (v : View sig κ sp S64x256 .f32) (G : Vec Ideal S32x256 .f32) (L : List (View.Piece (Elt Ideal) S64x256 .f32)) (inb) (inb') :
    v.readCov (Val := Elt Ideal) (⟨Rect.unit (s := S64x256) ![32, 0] ![32, 256] inb, G⟩ :: L)
        (Rect.unit (s := S64x256) ![32, 0] ![32, 256] inb').toLoadRect = G :=
  View.readCov_cons_toLoadRect ..

/-- The rows held over, in the scratch. -/
theorem canon_first (B : Vec Ideal S32x256 .f32) (L : List (View.Piece (Elt Ideal) S64x256 .f32)) (inb) (n : Fin 32) (l : Fin 256) :
    View.canon (Val := Elt Ideal) (e := .f32) (⟨Rect.unit (s := S64x256) ![0, 0] ![32, 256] inb, B⟩ :: L) (ix2 (⟨n.val, by omega⟩ : Fin 64) l)
      = B (ix2 n l) := by
  rw [← View.read_writes_junk_eq_canon (View.whole cc0_scratch0)]
  exact View.read_writes_cons_rows_of_mem (d := ![64, 256]) (o := 0) _ _ inb B _ _ (ix2 n l) rfl (Nat.zero_add _).symm rfl

variable (m : (ℓ : Loc nD τ sig) → Buf (Elt Ideal) ℓ) (c : Dev nD)

/-- What a point stores as the new buffer. -/
theorem stored_buf (t : Fin cfg0.N) : (outsAt0 m c t).2 = k0_pay2 (k0_pay5 (iblk m c 0 t)) := by
  unfold outsAt0
  frame_out
  rw [cov_last]

/-- What a point stores as its block of the result. -/
theorem stored (t : Fin cfg0.N) :
    ∃ X : Vec Ideal S64x256 .f32, (∀ (n : Fin 32) (l : Fin 256), (X : S64x256.Idx → EReal) (ix2 (⟨n.val, by omega⟩ : Fin 64) l) = k0_pay4 (iblk m c 1 t) (ix2 n l))
      ∧ (outsAt0 m c t).1 = body (iblk m c 3 t) (iblk m c 4 t) (iblk m c 5 t)
          (fun j => rowsAt (hist X (k0_pay5 (iblk m c 0 t))) (2 + j)) (wRow (iblk m c 2 t)) := by
  unfold outsAt0
  frame_out
  generalize k0_pay5 (iblk m c 0 t) = G
  generalize k0_pay4 (iblk m c 1 t) = B
  generalize iblk m c 2 t = W
  generalize iblk m c 3 t = x3
  generalize iblk m c 4 t = x4
  generalize iblk m c 5 t = x5
  refine ⟨View.canon (Val := Elt Ideal) (e := .f32) [⟨Rect.unit (s := S64x256) ![0, 0] ![32, 256] inb_S64x256_S32x256_0_0, B⟩],
    fun n l => canon_first _ _ _ n l, ?_⟩
  simp only [cov_rows, ld_wRow]
  dsimp only [body, part27]

end Cert.CnvS
end
-- ==== Proof.ConvSOut.lean ====
/-
  The convolution kernel at the sample's shape: the two arrays that it leaves, element by element.
-/
module

public import proofs.«01_k».proof.Proof.ConvSRows
public import Idealize.ShloMosaic.Lib.Pipeline.ValueKit

@[expose] public section

set_option maxRecDepth 16384

noncomputable section

namespace Cert.CnvS

open Idealize.ShloMosaic Idealize.ShloMosaic.TcCoe
open Cert.Cnv (tapSum mean256 invDev normed normAct tapW)

/-- Row `n` of a sequence: the 30 rows of the buffer, then the gated rows of the input. -/
def seqRow (z : Fin 32 → Fin 512 → EReal) (buf : Fin 30 → Fin 256 → EReal) (n : ℕ) (l : Fin 256) : EReal :=
  if h : n < 30 then buf ⟨n, h⟩ l
  else if h' : n - 30 < 32 then z ⟨n - 30, h'⟩ ⟨l.val, by omega⟩ * Ideal.logistic (z ⟨n - 30, h'⟩ ⟨256 + l.val, by omega⟩)
  else 0

/-- An element of the convolution's result. -/
def convAt (z : Fin 32 → Fin 512 → EReal) (buf : Fin 30 → Fin 256 → EReal) (w : Fin 31 → Fin 256 → EReal)
    (b g h : Fin 256 → EReal) (p : ℕ) (l : Fin 256) : EReal :=
  normAct (fun k => tapSum (b k) (fun j => seqRow z buf (p + j) k) (fun j => tapW w j k)) (g l) (h l) l

section
open Cert.ConvSIdeal Cert.ConvSIdeal.Gen Cert.ConvSIdeal.Value

/-- A gated element of a block. -/
theorem pay5_apply (x : Vec Ideal S1x32x512 .f32) (r : Fin 32) (l : Fin 256) :
    (k0_pay5 x : S32x256.Idx → EReal) (ix2 r l)
      = x (ix3 0 r ⟨l.val, by omega⟩) * Ideal.logistic (x (ix3 0 r ⟨256 + l.val, by omega⟩)) := by
  pointwise [k0_pay5]

/-- A row of the buffer, as it is stored in the scratch. -/
theorem pay4_apply (x : Vec Ideal S1x32x256 .f32) (n : Fin 32) (l : Fin 256) :
    (k0_pay4 x : S32x256.Idx → EReal) (ix2 n l) = x (ix3 0 n l) := by
  pointwise [k0_pay4]

/-- A row of the buffer, as it leaves the scratch. -/
theorem pay2_apply (x : Vec Ideal S32x256 .f32) (n : Fin 32) (l : Fin 256) :
    (k0_pay2 x : S1x32x256.Idx → EReal) (ix3 0 n l) = x (ix2 n l) := by
  pointwise [k0_pay2]

/-- The places of the windows at a point: one sequence. -/
theorem places : ∀ t : Fin grid0.N,
    win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![t.val, 0, 0] ∧ win0_7.index t = ![t.val, 0, 0] := by
  decide +kernel

/-- The buffer behind two rows of padding. -/
theorem pad_buf (x : Vec Ideal S8x30x256 .f32) (v : Vec Ideal S_ .f32) (b : Fin 8) (n : Fin 30) (l : Fin 256) :
    (pad S8x32x256 ![0, 2, 0] ![0, 0, 0] ![0, 0, 0] x v pads_S8x30x256_S8x32x256_000_200_000 h_S_ : S8x32x256.Idx → EReal) (ix3 b ⟨2 + n.val, by omega⟩ l)
      = (x : S8x30x256.Idx → EReal) (ix3 b n l) := by
  pointwise

/-- The weights before one row of padding. -/
theorem pad_w (x : Vec Ideal S31x256 .f32) (v : Vec Ideal S_ .f32) (j : Fin 31) (l : Fin 256) :
    (pad S32x256 ![0, 0] ![1, 0] ![0, 0] x v pads_S31x256_S32x256_010_000 h_S_ : S32x256.Idx → EReal) (ix2 ⟨j.val, by omega⟩ l)
      = (x : S31x256.Idx → EReal) (ix2 j l) := by
  pointwise

variable (m : (ℓ : Loc nD τ sig) → Buf (Elt Ideal) ℓ) (c : Dev nD)

/-- The rows of a sequence's input. -/
def zOf (b : Fin 8) : Fin 32 → Fin 512 → EReal := fun n k => (m ((c : Thread nD τ).loc main_arg0) : S8x32x512.Idx → EReal) (ix3 b n k)

/-- The rows of a sequence's buffer. -/
def bufOf (b : Fin 8) : Fin 30 → Fin 256 → EReal := fun n k => (m ((c : Thread nD τ).loc main_arg1) : S8x30x256.Idx → EReal) (ix3 b n k)

/-- The input's block of a point. -/
theorem blk0 (t : Fin grid0.N) (b : Fin 8) (hb : t.val = b.val) (r : Fin 32) (k : Fin 512) :
    (iblk m c 0 t : S1x32x512.Idx → EReal) (ix3 0 r k) = zOf m c b r k := by
  obtain ⟨e0, e1, e2, e3, e4, e5, e6, e7⟩ := places t
  rw [hb] at e0
  unfold zOf
  blk_ext [iblk, V, e0]

/-- The buffer's block of a point. -/
theorem blk1 (t : Fin grid0.N) (b : Fin 8) (hb : t.val = b.val) (n : Fin 30) (l : Fin 256) :
    (iblk m c 1 t : S1x32x256.Idx → EReal) (ix3 0 ⟨2 + n.val, by omega⟩ l) = bufOf m c b n l := by
  obtain ⟨e0, e1, e2, e3, e4, e5, e6, e7⟩ := places t
  rw [hb] at e1
  have hv : (V m c main_v0 : S8x32x256.Idx → EReal)
      = (pad S8x32x256 ![0, 2, 0] ![0, 0, 0] ![0, 0, 0] (m ((c : Thread nD τ).loc main_arg1) : Vec Ideal S8x30x256 .f32) (V m c main_call0_v0 : Vec Ideal S_ .f32) pads_S8x30x256_S8x32x256_000_200_000 h_S_) := rfl
  have he : (iblk m c 1 t : S1x32x256.Idx → EReal) (ix3 0 ⟨2 + n.val, by omega⟩ l) = (V m c main_v0 : S8x32x256.Idx → EReal) (ix3 b ⟨2 + n.val, by omega⟩ l) := by
    blk_ext [iblk, e1]
  rw [he, hv]
  exact pad_buf _ _ b n l

/-- The weights' block of a point. -/
theorem blk2 (t : Fin grid0.N) (j : Fin 31) (l : Fin 256) :
    (iblk m c 2 t : S32x256.Idx → EReal) (ix2 ⟨j.val, by omega⟩ l) = (m ((c : Thread nD τ).loc main_arg2) : S31x256.Idx → EReal) (ix2 j l) := by
  obtain ⟨e0, e1, e2, e3, e4, e5, e6, e7⟩ := places t
  have hv : (V m c main_v1 : S32x256.Idx → EReal)
      = (pad S32x256 ![0, 0] ![1, 0] ![0, 0] (m ((c : Thread nD τ).loc main_arg2) : Vec Ideal S31x256 .f32) (V m c main_call1_v0 : Vec Ideal S_ .f32) pads_S31x256_S32x256_010_000 h_S_) := rfl
  have he : (iblk m c 2 t : S32x256.Idx → EReal) (ix2 ⟨j.val, by omega⟩ l) = (V m c main_v1 : S32x256.Idx → EReal) (ix2 ⟨j.val, by omega⟩ l) := by
    blk_ext [iblk, e2]
  rw [he, hv]
  exact pad_w _ _ j l

/-- The bias. -/
theorem blk3 (t : Fin grid0.N) (l : Fin 256) :
    (iblk m c 3 t : S1x256.Idx → EReal) (ix2 0 l) = (m ((c : Thread nD τ).loc main_arg3) : S256.Idx → EReal) (ix1 l) := by
  obtain ⟨e0, e1, e2, e3, e4, e5, e6, e7⟩ := places t
  have hv : (V m c main_v2 : S1x256.Idx → EReal)
      = (shapeCast S1x256 (m ((c : Thread nD τ).loc main_arg3) : Vec Ideal S256 .f32) shapeCasts_S256_S1x256) := rfl
  have he : (iblk m c 3 t : S1x256.Idx → EReal) (ix2 0 l) = (V m c main_v2 : S1x256.Idx → EReal) (ix2 0 l) := by
    blk_ext [iblk, e3]
  rw [he, hv]
  pointwise

/-- The scale of the norm. -/
theorem blk4 (t : Fin grid0.N) (l : Fin 256) :
    (iblk m c 4 t : S1x256.Idx → EReal) (ix2 0 l) = (m ((c : Thread nD τ).loc main_arg4) : S256.Idx → EReal) (ix1 l) := by
  obtain ⟨e0, e1, e2, e3, e4, e5, e6, e7⟩ := places t
  have hv : (V m c main_v3 : S1x256.Idx → EReal)
      = (shapeCast S1x256 (m ((c : Thread nD τ).loc main_arg4) : Vec Ideal S256 .f32) shapeCasts_S256_S1x256) := rfl
  have he : (iblk m c 4 t : S1x256.Idx → EReal) (ix2 0 l) = (V m c main_v3 : S1x256.Idx → EReal) (ix2 0 l) := by
    blk_ext [iblk, e4]
  rw [he, hv]
  pointwise

/-- The shift of the norm. -/
theorem blk5 (t : Fin grid0.N) (l : Fin 256) :
    (iblk m c 5 t : S1x256.Idx → EReal) (ix2 0 l) = (m ((c : Thread nD τ).loc main_arg5) : S256.Idx → EReal) (ix1 l) := by
  obtain ⟨e0, e1, e2, e3, e4, e5, e6, e7⟩ := places t
  have hv : (V m c main_v4 : S1x256.Idx → EReal)
      = (shapeCast S1x256 (m ((c : Thread nD τ).loc main_arg5) : Vec Ideal S256 .f32) shapeCasts_S256_S1x256) := rfl
  have he : (iblk m c 5 t : S1x256.Idx → EReal) (ix2 0 l) = (V m c main_v4 : S1x256.Idx → EReal) (ix2 0 l) := by
    blk_ext [iblk, e5]
  rw [he, hv]
  pointwise

/-- What is stored at a point, element by element. -/
theorem stored_apply (t : Fin cfg0.N) (b : Fin 8) (hb : t.val = b.val) (r : Fin 32) (l : Fin 256) :
    ((outsAt0 m c t).1 : S1x32x256.Idx → EReal) (ix3 0 r l)
      = convAt (zOf m c b) (bufOf m c b) (fun j k => (m ((c : Thread nD τ).loc main_arg2) : S31x256.Idx → EReal) (ix2 j k))
          (fun k => (m ((c : Thread nD τ).loc main_arg3) : S256.Idx → EReal) (ix1 k))
          (fun k => (m ((c : Thread nD τ).loc main_arg4) : S256.Idx → EReal) (ix1 k))
          (fun k => (m ((c : Thread nD τ).loc main_arg5) : S256.Idx → EReal) (ix1 k)) r.val l := by
  obtain ⟨X, hX, hs⟩ := stored m c t
  rw [hs]
  refine (body_apply _ _ _ _ _ r l).trans ?_
  rw [blk4, blk5]
  unfold convAt
  refine congrArg (fun y : Fin 256 → EReal => normAct y _ _ l) (funext fun k => ?_)
  unfold rowSum tapSum
  rw [blk3]
  refine congrArg _ (Finset.sum_congr rfl fun j hj => ?_)
  have hj : j < 31 := Finset.mem_range.mp hj
  have hr := r.isLt
  have e1 : (rowsAt (hist X (k0_pay5 (iblk m c 0 t))) (2 + j) : S32x256.Idx → EReal) (ix2 r k) = seqRow (zOf m c b) (bufOf m c b) (r.val + j) k := by
    refine (dif_pos (show 2 + j + r.val < 64 by omega)).trans ?_
    by_cases h : r.val + j < 30
    · refine (dif_pos (show 2 + j + r.val < 32 by omega)).trans ?_
      refine (hX ⟨2 + j + r.val, by omega⟩ k).trans ((pay4_apply _ _ k).trans ?_)
      have hi : (⟨2 + j + r.val, by omega⟩ : Fin 32) = ⟨2 + (⟨r.val + j, h⟩ : Fin 30).val, by change 2 + (r.val + j) < 32; omega⟩ :=
        Fin.ext (by change 2 + j + r.val = 2 + (r.val + j); omega)
      rw [hi, blk1 m c t b hb ⟨r.val + j, h⟩ k]
      unfold seqRow
      rw [dif_pos h]
    · refine (dif_neg (show ¬ 2 + j + r.val < 32 by omega)).trans ?_
      refine (pay5_apply (iblk m c 0 t) ⟨2 + j + r.val - 32, by omega⟩ k).trans ?_
      rw [blk0 m c t b hb, blk0 m c t b hb]
      have hi : (⟨2 + j + r.val - 32, by omega⟩ : Fin 32) = ⟨r.val + j - 30, by omega⟩ := Fin.ext (by simp only; omega)
      unfold seqRow
      rw [dif_neg h, dif_pos (show r.val + j - 30 < 32 by omega)]
      simp only [hi]
  have e2 : (wRow (iblk m c 2 t) j : S1x256.Idx → EReal) (ix2 0 k)
      = tapW (fun j k => (m ((c : Thread nD τ).loc main_arg2) : S31x256.Idx → EReal) (ix2 j k)) j k := by
    refine (dif_pos (show j < 32 by omega)).trans ?_
    unfold tapW
    rw [dif_pos hj]
    exact blk2 m c t ⟨j, hj⟩ k
  exact congrArg₂ (fun u v : EReal => u * v) e1 e2

/-- The first array: every element is `convAt` of its sequence. -/
theorem arr6_apply (b : Fin 8) (p : Fin 32) (l : Fin 256) :
    ((dats m 0 c).arrAt 6 cfg0.N : S8x32x256.Idx → EReal) (ix3 b p l)
      = convAt (zOf m c b) (bufOf m c b) (fun j k => (m ((c : Thread nD τ).loc main_arg2) : S31x256.Idx → EReal) (ix2 j k))
          (fun k => (m ((c : Thread nD τ).loc main_arg3) : S256.Idx → EReal) (ix1 k))
          (fun k => (m ((c : Thread nD τ).loc main_arg4) : S256.Idx → EReal) (ix1 k))
          (fun k => (m ((c : Thread nD τ).loc main_arg5) : S256.Idx → EReal) (ix1 k)) p.val l := by
  have hN : cfg0.N = 8 := N_0
  have hb0 := b.isLt
  let t : Fin cfg0.N := ⟨b.val, by omega⟩
  obtain ⟨e0, e1, e2, e3, e4, e5, e6, e7⟩ := places t
  have hb : t.val = b.val := rfl
  rw [hb] at e6
  have hk := congrFun (blocks6 m c t (flush0_6 t)) (ix3 (0 : Fin 1) p l)
  have hp : ((cfg0.win 6).blk t).view.emb (ix3 (0 : Fin 1) p l) = ix3 b p l := by
    blk_ext [e6]
  have hl : ((cfg0.win 6).blk t).view.read (Elt Ideal) ((dats m 0 c).arrAt 6 cfg0.N) (ix3 (0 : Fin 1) p l)
      = (dats m 0 c).arrAt 6 cfg0.N (ix3 b p l) := by
    rw [← hp]; rfl
  rw [← hl, hk, flushed6]
  exact stored_apply m c t b rfl p l

/-- The second array: the last 32 rows of every sequence, which are the sample's own. -/
theorem arr7_apply (b : Fin 8) (n : Fin 32) (l : Fin 256) :
    ((dats m 0 c).arrAt 7 cfg0.N : S8x32x256.Idx → EReal) (ix3 b n l) = seqRow (zOf m c b) (bufOf m c b) (30 + n.val) l := by
  have hN : cfg0.N = 8 := N_0
  have hn0 := n.isLt
  have hb0 := b.isLt
  let t : Fin cfg0.N := ⟨b.val, by omega⟩
  obtain ⟨e0, e1, e2, e3, e4, e5, e6, e7⟩ := places t
  have hb : t.val = b.val := rfl
  rw [hb] at e7
  have hk := congrFun (blocks7 m c t (flush0_7 t)) (ix3 (0 : Fin 1) n l)
  have hp : ((cfg0.win 7).blk t).view.emb (ix3 (0 : Fin 1) n l) = ix3 b n l := by
    blk_ext [e7]
  have hl : ((cfg0.win 7).blk t).view.read (Elt Ideal) ((dats m 0 c).arrAt 7 cfg0.N) (ix3 (0 : Fin 1) n l)
      = (dats m 0 c).arrAt 7 cfg0.N (ix3 b n l) := by
    rw [← hp]; rfl
  rw [← hl, hk, flushed7, stored_buf m c t]
  refine (pay2_apply _ n l).trans ?_
  refine (pay5_apply _ n l).trans ?_
  rw [blk0 m c t b rfl, blk0 m c t b rfl]
  have hi : (⟨30 + n.val - 30, by omega⟩ : Fin 32) = n := Fin.ext (by simp only; omega)
  unfold seqRow
  rw [dif_neg (show ¬ 30 + n.val < 30 by omega), dif_pos (show 30 + n.val - 30 < 32 by omega)]
  simp only [hi]

end

end Cert.CnvS
end
-- ==== Proof.ConvSRef.lean ====
/-
  The convolution's reference at the sample's shape: its two results, element by element.
-/
module

public import proofs.«01_k».proof.Proof.ConvSOut
public import proofs.«01_k».proof.Proof.Gen.ConvSRefIdeal.Read

@[expose] public section

set_option maxRecDepth 16384

noncomputable section

namespace Cert.CnvS

open Idealize.ShloMosaic Idealize.ShloMosaic.TcCoe
open Cert.Cnv (tapSum mean256 invDev normed normAct tapW)
open Cert.ConvSRefIdeal Cert.ConvSRefIdeal.Gen Cert.ConvSRefIdeal.Read

section Sums

variable (x0 : (⟨S8x32x512, .f32⟩ : BufTy).Contents (Elt Ideal)) (x1 : (⟨S8x30x256, .f32⟩ : BufTy).Contents (Elt Ideal))
  (x2 : (⟨S31x256, .f32⟩ : BufTy).Contents (Elt Ideal)) (b : Fin 8)

/-- A gated element. -/
theorem ref_gated (n : Fin 32) (l : Fin 256) :
    (val_main_v8 (F := Ideal) x0 : S8x32x256.Idx → EReal) (ix3 b n l)
      = x0 (ix3 b n ⟨l.val, by omega⟩) * Ideal.logistic (x0 (ix3 b n ⟨256 + l.val, by omega⟩)) := by
  pointwise [val_main_v8, val_main_v7, val_main_v6, val_main_v5, val_main_v4, val_main_v3, val_main_v2, val_main_v1, val_main_v0, val_main_cst, val_main_cst_0]
  rfl

/-- A row of the sequence. -/
theorem ref_row (n : Fin 62) (l : Fin 256) :
    (val_main_v9 (F := Ideal) x0 x1 : S8x62x256.Idx → EReal) (ix3 b n l)
      = seqRow (fun p k => x0 (ix3 b p k)) (fun p k => x1 (ix3 b p k)) n.val l := by
  pointwise [val_main_v9]
  unfold seqRow
  by_cases h : n.val < 30
  · rw [dif_pos h, dif_pos h]
  · rw [dif_neg h, dif_neg h, dif_pos (show n.val - 30 < 32 by omega)]
    exact ref_gated x0 b _ l

variable (p : Fin 32) (l : Fin 256)

/-- A product of a row of the sequence and a row of the weights. -/
def refTap (j : ℕ) : EReal := seqRow (fun n k => x0 (ix3 b n k)) (fun n k => x1 (ix3 b n k)) (p.val + j) l * tapW (fun n k => x2 (ix2 n k)) j l

/-- The reference's product, for the row and the weight that it slices. -/
theorem tap_eq (j : Fin 31) (n : Fin 62) (hn : n.val = p.val + j.val) :
    (val_main_v9 (F := Ideal) x0 x1 : S8x62x256.Idx → EReal) (ix3 b n l) * (x2 : S31x256.Idx → EReal) (ix2 j l) = refTap x0 x1 x2 b p l j.val := by
  unfold refTap tapW
  rw [ref_row, hn, dif_pos j.isLt]

/-- The 31 products of an element, added from the first to the last. -/
theorem ref_sum : (val_main_v227 (F := Ideal) x0 x1 x2 : S8x32x256.Idx → EReal) (ix3 b p l) = ∑ i ∈ Finset.range 31, refTap x0 x1 x2 b p l i := by
  pointwise [val_main_v10, val_main_v11, val_main_v12, val_main_v13, val_main_v14, val_main_v15, val_main_v16, val_main_v17, val_main_v18,
    val_main_v19, val_main_v20, val_main_v21, val_main_v22, val_main_v23, val_main_v24, val_main_v25, val_main_v26, val_main_v27,
    val_main_v28, val_main_v29, val_main_v30, val_main_v31, val_main_v32, val_main_v33, val_main_v34, val_main_v35, val_main_v36,
    val_main_v37, val_main_v38, val_main_v39, val_main_v40, val_main_v41, val_main_v42, val_main_v43, val_main_v44, val_main_v45,
    val_main_v46, val_main_v47, val_main_v48, val_main_v49, val_main_v50, val_main_v51, val_main_v52, val_main_v53, val_main_v54,
    val_main_v55, val_main_v56, val_main_v57, val_main_v58, val_main_v59, val_main_v60, val_main_v61, val_main_v62, val_main_v63,
    val_main_v64, val_main_v65, val_main_v66, val_main_v67, val_main_v68, val_main_v69, val_main_v70, val_main_v71, val_main_v72,
    val_main_v73, val_main_v74, val_main_v75, val_main_v76, val_main_v77, val_main_v78, val_main_v79, val_main_v80, val_main_v81,
    val_main_v82, val_main_v83, val_main_v84, val_main_v85, val_main_v86, val_main_v87, val_main_v88, val_main_v89, val_main_v90,
    val_main_v91, val_main_v92, val_main_v93, val_main_v94, val_main_v95, val_main_v96, val_main_v97, val_main_v98, val_main_v99,
    val_main_v100, val_main_v101, val_main_v102, val_main_v103, val_main_v104, val_main_v105, val_main_v106, val_main_v107, val_main_v108,
    val_main_v109, val_main_v110, val_main_v111, val_main_v112, val_main_v113, val_main_v114, val_main_v115, val_main_v116, val_main_v117,
    val_main_v118, val_main_v119, val_main_v120, val_main_v121, val_main_v122, val_main_v123, val_main_v124, val_main_v125, val_main_v126,
    val_main_v127, val_main_v128, val_main_v129, val_main_v130, val_main_v131, val_main_v132, val_main_v133, val_main_v134, val_main_v135,
    val_main_v136, val_main_v137, val_main_v138, val_main_v139, val_main_v140, val_main_v141, val_main_v142, val_main_v143, val_main_v144,
    val_main_v145, val_main_v146, val_main_v147, val_main_v148, val_main_v149, val_main_v150, val_main_v151, val_main_v152, val_main_v153,
    val_main_v154, val_main_v155, val_main_v156, val_main_v157, val_main_v158, val_main_v159, val_main_v160, val_main_v161, val_main_v162,
    val_main_v163, val_main_v164, val_main_v165, val_main_v166, val_main_v167, val_main_v168, val_main_v169, val_main_v170, val_main_v171,
    val_main_v172, val_main_v173, val_main_v174, val_main_v175, val_main_v176, val_main_v177, val_main_v178, val_main_v179, val_main_v180,
    val_main_v181, val_main_v182, val_main_v183, val_main_v184, val_main_v185, val_main_v186, val_main_v187, val_main_v188, val_main_v189,
    val_main_v190, val_main_v191, val_main_v192, val_main_v193, val_main_v194, val_main_v195, val_main_v196, val_main_v197, val_main_v198,
    val_main_v199, val_main_v200, val_main_v201, val_main_v202, val_main_v203, val_main_v204, val_main_v205, val_main_v206, val_main_v207,
    val_main_v208, val_main_v209, val_main_v210, val_main_v211, val_main_v212, val_main_v213, val_main_v214, val_main_v215, val_main_v216,
    val_main_v217, val_main_v218, val_main_v219, val_main_v220, val_main_v221, val_main_v222, val_main_v223, val_main_v224, val_main_v225,
    val_main_v226, val_main_v227, val_main_cst_1]
  simp only [Finset.sum_range_succ, Finset.sum_range_zero, zero_add]
  iterate 30 refine congrArg₂ (fun u v : EReal => u + v) ?_ ?_
  all_goals first | exact tap_eq x0 x1 x2 b p l _ _ (Nat.add_comm _ _) | exact tap_eq x0 x1 x2 b p l 0 _ (by simp)

end Sums

section Elements

variable (x0 : (⟨S8x32x512, .f32⟩ : BufTy).Contents (Elt Ideal)) (x1 : (⟨S8x30x256, .f32⟩ : BufTy).Contents (Elt Ideal))
  (x2 : (⟨S31x256, .f32⟩ : BufTy).Contents (Elt Ideal)) (x3 x4 x5 : (⟨S256, .f32⟩ : BufTy).Contents (Elt Ideal)) (b : Fin 8) (p : Fin 32)

/-- A row before the norm. -/
def refRow (k : Fin 256) : EReal := tapSum (x3 (ix1 k)) (fun j => seqRow (fun n k => x0 (ix3 b n k)) (fun n k => x1 (ix3 b n k)) (p.val + j) k) (fun j => tapW (fun n k => x2 (ix2 n k)) j k)

/-- The bias is added last in the reference. -/
theorem ref_before (l : Fin 256) : (val_main_v230 (F := Ideal) x0 x1 x2 x3 : S8x32x256.Idx → EReal) (ix3 b p l) = refRow x0 x1 x2 x3 b p l := by
  pointwise [val_main_v230, val_main_v229, val_main_v228]
  unfold refRow tapSum
  rw [ref_sum]
  exact add_comm _ _

/-- The mean of a row. -/
theorem ref_mean : (val_main_v234 (F := Ideal) x0 x1 x2 x3 : S8x32x1.Idx → EReal) (ix3 b p 0) = mean256 (refRow x0 x1 x2 x3 b p) := by
  pointwise [val_main_v234, val_main_v233, val_main_v232, val_main_v231, val_main_cst_2, val_main_cst_3]
  simp only [ref_before]
  rfl

/-- The inverse root of the variance of a row. -/
theorem ref_dev : (val_main_v246 (F := Ideal) x0 x1 x2 x3 : S8x32x1.Idx → EReal) (ix3 b p 0) = invDev (refRow x0 x1 x2 x3 b p) := by
  pointwise [val_main_v246, val_main_v245, val_main_v244, val_main_v241, val_main_v240, val_main_v239, val_main_v238, val_main_v237, val_main_v236, val_main_v235, val_main_cst_4, val_main_cst_5, val_main_cst_6]
  simp only [ref_before, ref_mean]
  rfl

/-- An element before the activation. -/
theorem ref_normed (l : Fin 256) : (val_main_v254 (F := Ideal) x0 x1 x2 x3 x4 x5 : S8x32x256.Idx → EReal) (ix3 b p l)
    = normed (refRow x0 x1 x2 x3 b p) (x4 (ix1 l)) (x5 (ix1 l)) l := by
  pointwise [val_main_v254, val_main_v253, val_main_v252, val_main_v251, val_main_v250, val_main_v249, val_main_v248, val_main_v247, val_main_v243, val_main_v242]
  simp only [ref_before, ref_mean, ref_dev]
  rfl

/-- An element of the first result. -/
theorem ref_first (l : Fin 256) : (val_main_v255 (F := Ideal) x0 x1 x2 x3 x4 x5 : S8x32x256.Idx → EReal) (ix3 b p l)
    = convAt (fun n k => x0 (ix3 b n k)) (fun n k => x1 (ix3 b n k)) (fun n k => x2 (ix2 n k)) (fun k => x3 (ix1 k)) (fun k => x4 (ix1 k)) (fun k => x5 (ix1 k)) p.val l := by
  pointwise [val_main_v255, val_main_call0_v5, val_main_call0_v4, val_main_call0_v3, val_main_call0_v2, val_main_call0_v1, val_main_call0_v0, val_main_call0_cst, val_main_call0_cst_0]
  simp only [ref_normed]
  rfl

/-- An element of the second result. -/
theorem ref_second (n : Fin 32) (l : Fin 256) : (val_main_v256 (F := Ideal) x0 x1 : S8x32x256.Idx → EReal) (ix3 b n l)
    = seqRow (fun n k => x0 (ix3 b n k)) (fun n k => x1 (ix3 b n k)) (30 + n.val) l := by
  pointwise [val_main_v256]
  exact ref_row x0 x1 b _ l

end Elements

end Cert.CnvS
end
-- ==== Proof.ConvSClaims.lean ====
/-
  The convolution at the sample's shape: the claims about it.
-/
module

public import proofs.«01_k».proof.Proof.ConvSRef
public import proofs.«01_k».proof.Defs
public import Idealize.ShloMosaic.Adequacy

@[expose] public section

set_option maxRecDepth 16384

noncomputable section

namespace Cert.CnvS

open Idealize.ShloMosaic Idealize.ShloMosaic.TcCoe
open Idealize.SL.Sem

/-- The reference ends with its arguments unchanged and every semaphore at zero. -/
theorem frame_ref : Cert.quiescent_ConvSRefIdeal (hConvSRefIdeal := Cert.ConvSRefIdeal.Gen.facts) := fun m ρ _ =>
  (θ_run Cert.ConvSRefIdeal.defs _ _).mono (fun r h => ⟨fun c => (h c).2.2, sem_eq_zero_of_no_sems (by decide) r.2⟩)
    (Cert.ConvSRefIdeal.Value.run (F := Ideal) m ρ)

/-- Kernel and reference leave the same two arrays. -/
theorem algebraic : Cert.algebraic_ConvSIdeal_ConvSRefIdeal (hConvSIdeal := Cert.ConvSIdeal.Gen.facts)
    (hConvSRefIdeal := Cert.ConvSRefIdeal.Gen.facts) := by
  intro m g m' g' _ hagree
  refine ⟨fun c => (Cert.ConvSIdeal.Gen.dats m 0 c).arrAt 6 Cert.ConvSIdeal.cfg0.N,
    fun c => (Cert.ConvSIdeal.Gen.dats m 0 c).arrAt 7 Cert.ConvSIdeal.cfg0.N,
    Cert.ConvSIdeal.Value.run_blocks m g, (θ_run _ _ _).mono (fun r h c => ?_) (Cert.ConvSRefIdeal.Value.run m' g')⟩
  obtain ⟨a0, a1, a2, a3, a4, a5⟩ := hagree c
  obtain ⟨h0, h1, hk⟩ := h c
  have e0 : StableHlo.launchContents m' c (Proc.tc.devRef Cert.ConvSRefIdeal.main_arg0) = m ((c.tc : Thread Cert.ConvSIdeal.nD Cert.ConvSIdeal.τ).loc Cert.ConvSIdeal.main_arg0) := a0
  have e1 : StableHlo.launchContents m' c (Proc.tc.devRef Cert.ConvSRefIdeal.main_arg1) = m ((c.tc : Thread Cert.ConvSIdeal.nD Cert.ConvSIdeal.τ).loc Cert.ConvSIdeal.main_arg1) := a1
  have e2 : StableHlo.launchContents m' c (Proc.tc.devRef Cert.ConvSRefIdeal.main_arg2) = m ((c.tc : Thread Cert.ConvSIdeal.nD Cert.ConvSIdeal.τ).loc Cert.ConvSIdeal.main_arg2) := a2
  have e3 : StableHlo.launchContents m' c (Proc.tc.devRef Cert.ConvSRefIdeal.main_arg3) = m ((c.tc : Thread Cert.ConvSIdeal.nD Cert.ConvSIdeal.τ).loc Cert.ConvSIdeal.main_arg3) := a3
  have e4 : StableHlo.launchContents m' c (Proc.tc.devRef Cert.ConvSRefIdeal.main_arg4) = m ((c.tc : Thread Cert.ConvSIdeal.nD Cert.ConvSIdeal.τ).loc Cert.ConvSIdeal.main_arg4) := a4
  have e5 : StableHlo.launchContents m' c (Proc.tc.devRef Cert.ConvSRefIdeal.main_arg5) = m ((c.tc : Thread Cert.ConvSIdeal.nD Cert.ConvSIdeal.τ).loc Cert.ConvSIdeal.main_arg5) := a5
  refine ⟨h0.trans ?_, h1.trans ?_, hk⟩
  · rw [Cert.ConvSRefIdeal.Read.val_main_v255_eq, e0, e1, e2, e3, e4, e5]
    funext i
    obtain ⟨b, p, L, rfl⟩ : ∃ (b : Fin 8) (p : Fin 32) (L : Fin 256), i = ix3 b p L := ⟨i 0, i 1, i 2, funext fun a => by fin_cases a <;> rfl⟩
    exact (ref_first _ _ _ _ _ _ b p L).trans (arr6_apply m c b p L).symm
  · rw [Cert.ConvSRefIdeal.Read.val_main_v256_eq, e0, e1]
    funext i
    obtain ⟨b, n, L, rfl⟩ : ∃ (b : Fin 8) (n : Fin 32) (L : Fin 256), i = ix3 b n L := ⟨i 0, i 1, i 2, funext fun a => by fin_cases a <;> rfl⟩
    exact (ref_second _ _ b n L).trans (arr7_apply m c b n L).symm

end Cert.CnvS
-- ==== Proof.MergeSOut.lean ====
/-
  The merge kernel at the rows of the sample: the array that it leaves, element by element.
-/
module

public import proofs.«01_k».proof.Proof.MergeOut
public import proofs.«01_k».proof.Proof.Gen.MergeSIdeal.Value
public import Idealize.ShloMosaic.Lib.Pipeline.ValueKit

@[expose] public section

set_option maxRecDepth 16384

noncomputable section

namespace Cert.MrgS

open Idealize.ShloMosaic Idealize.ShloMosaic.TcCoe
open Cert.Mrg (mergeAt gateCol)
open Cert.MergeSIdeal Cert.MergeSIdeal.Gen Cert.MergeSIdeal.Value

/-- The places of the windows at a point: rows move with the point, weights stay. -/
theorem places : ∀ t : Fin grid0.N,
    win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![0, 0, 0] ∧ win0_7.index t = ![0, 0]
    ∧ win0_8.index t = ![(grid0.coords t 0).val, 0] := by
  decide +kernel

/-- The point of a block of rows. -/
theorem point_at : ∀ y : Fin 1, ∃ t : Fin grid0.N, (grid0.coords t 0).val = y.val := by
  decide +kernel

/-- One element of a block. -/
theorem out_apply (x0 : Vec Ideal S256x1024 .f32) (x1 x2 x3 x4 : Vec Ideal S256x256 .f32) (x5 : Vec Ideal S256x4096 .bf16)
    (x6 : Vec Ideal S4x256x1024 .bf16) (x7 : Vec Ideal S1024x1024 .bf16) (r : Fin 256) (L : Fin 1024) :
    (out0_8 x0 x1 x2 x3 x4 x5 x6 x7 : S256x1024.Idx → EReal) (ix2 r L)
      = mergeAt (x0 (ix2 r L)) ![fun c => x1 (ix2 r c), fun c => x2 (ix2 r c), fun c => x3 (ix2 r c), fun c => x4 (ix2 r c)]
        (fun n k => x5 (ix2 r (gateCol n k))) (fun n c k => x6 (ix3 n c k)) (fun k => x7 (ix2 k L)) := by
  frame_out
  pointwise [k0_pay1, k0_pay2, k0_pay3, k0_pay4]
  unfold mergeAt
  refine congrArg _ (Finset.sum_congr rfl fun k _ => ?_)
  rw [Fin.sum_univ_four]
  have h : ∀ (n : Fin 4) (j : Fin 4096) (u : EReal), j.val = 1024 * n.val + k.val →
      u * (x5 : S256x4096.Idx → EReal) (ix2 r j) = u * (x5 : S256x4096.Idx → EReal) (ix2 r (gateCol n k)) := fun n j u h =>
    congrArg (fun a => u * (x5 : S256x4096.Idx → EReal) (ix2 r a)) (Fin.ext h)
  exact congrArg (fun a : EReal => a * (x7 : S1024x1024.Idx → EReal) (ix2 k L))
    (congrArg₂ (fun a b : EReal => a + b) (congrArg₂ (fun a b : EReal => a + b) (congrArg₂ (fun a b : EReal => a + b)
      (h 0 _ _ (by simp)) (h 1 _ _ (by simp))) (h 2 _ _ (by simp))) (h 3 _ _ (by simp)))

variable (m : (ℓ : Loc nD τ sig) → Buf (Elt Ideal) ℓ) (c : Dev nD)

/-- The result array: every element is `mergeAt` of its row. -/
theorem arr_apply (p : Fin 256) (L : Fin 1024) :
    ((dats m 0 c).arrAt 8 cfg0.N : S256x1024.Idx → EReal) (ix2 p L)
      = mergeAt (m ((c : Thread nD τ).loc main_arg0) (ix2 p L))
        ![fun k => m ((c : Thread nD τ).loc main_arg1) (ix2 p k), fun k => m ((c : Thread nD τ).loc main_arg2) (ix2 p k),
          fun k => m ((c : Thread nD τ).loc main_arg3) (ix2 p k), fun k => m ((c : Thread nD τ).loc main_arg4) (ix2 p k)]
        (fun n k => m ((c : Thread nD τ).loc main_arg5) (ix2 p (gateCol n k)))
        (fun n a k => m ((c : Thread nD τ).loc main_arg6) (ix3 n a k)) (fun k => m ((c : Thread nD τ).loc main_arg7) (ix2 k L)) := by
  obtain ⟨t, h0⟩ := point_at ⟨p.val / 256, by omega⟩
  have h0 : (grid0.coords t 0).val = p.val / 256 := h0
  obtain ⟨e0, e1, e2, e3, e4, e5, e6, e7, e8⟩ := places t
  have hb := congrFun (blocks8 m c t (flush0_8 t)) (ix2 (⟨p.val % 256, by omega⟩ : Fin 256) L)
  have hp : ((cfg0.win 8).blk t).view.emb (ix2 (⟨p.val % 256, by omega⟩ : Fin 256) L) = ix2 p L := by
    blk_ext [e8]
  have hl : ((cfg0.win 8).blk t).view.read (Elt Ideal) ((dats m 0 c).arrAt 8 cfg0.N)
      (ix2 (⟨p.val % 256, by omega⟩ : Fin 256) L) = (dats m 0 c).arrAt 8 cfg0.N (ix2 p L) := by
    rw [← hp]; rfl
  rw [← hl, hb, flushed8]
  refine (out_apply _ _ _ _ _ _ _ _ ⟨p.val % 256, by omega⟩ L).trans ?_
  have b0 : (iblk m c 0 t : S256x1024.Idx → EReal) (ix2 ⟨p.val % 256, by omega⟩ L) = m ((c : Thread nD τ).loc main_arg0) (ix2 p L) := by
    blk_ext [iblk, V, e0]
  have b1 : ∀ k, (iblk m c 1 t : S256x256.Idx → EReal) (ix2 ⟨p.val % 256, by omega⟩ k) = m ((c : Thread nD τ).loc main_arg1) (ix2 p k) := fun k => by
    blk_ext [iblk, V, e1]
  have b2 : ∀ k, (iblk m c 2 t : S256x256.Idx → EReal) (ix2 ⟨p.val % 256, by omega⟩ k) = m ((c : Thread nD τ).loc main_arg2) (ix2 p k) := fun k => by
    blk_ext [iblk, V, e2]
  have b3 : ∀ k, (iblk m c 3 t : S256x256.Idx → EReal) (ix2 ⟨p.val % 256, by omega⟩ k) = m ((c : Thread nD τ).loc main_arg3) (ix2 p k) := fun k => by
    blk_ext [iblk, V, e3]
  have b4 : ∀ k, (iblk m c 4 t : S256x256.Idx → EReal) (ix2 ⟨p.val % 256, by omega⟩ k) = m ((c : Thread nD τ).loc main_arg4) (ix2 p k) := fun k => by
    blk_ext [iblk, V, e4]
  have b5 : ∀ k, (iblk m c 5 t : S256x4096.Idx → EReal) (ix2 ⟨p.val % 256, by omega⟩ k) = m ((c : Thread nD τ).loc main_arg5) (ix2 p k) := fun k => by
    blk_ext [iblk, V, e5]
  have b6 : ∀ n a k, (iblk m c 6 t : S4x256x1024.Idx → EReal) (ix3 n a k) = m ((c : Thread nD τ).loc main_arg6) (ix3 n a k) := fun n a k => by
    blk_ext [iblk, V, e6]
  have b7 : ∀ k, (iblk m c 7 t : S1024x1024.Idx → EReal) (ix2 k L) = m ((c : Thread nD τ).loc main_arg7) (ix2 k L) := fun k => by
    blk_ext [iblk, V, e7]
  simp only [b0, b1, b2, b3, b4, b5, b6, b7]

end Cert.MrgS
-- ==== Proof.MergeSRef.lean ====
/-
  The merge at the rows of the sample, as the reference writes it, element by element, and the claims about the merge.
-/
module

public import proofs.«01_k».proof.Proof.MergeSOut
public import proofs.«01_k».proof.Proof.Gen.MergeSRefIdeal.Read
public import proofs.«01_k».proof.Defs
public import Idealize.ShloMosaic.Adequacy
public import Idealize.ShloMosaic.Lib.Pipeline.ValueKit

@[expose] public section

set_option maxRecDepth 16384

noncomputable section

namespace Cert.MrgS

open Idealize.ShloMosaic Idealize.ShloMosaic.TcCoe
open Cert.Mrg (mergeAt gateCol)
open Cert.MergeSRefIdeal Cert.MergeSRefIdeal.Gen Cert.MergeSRefIdeal.Read

/-- One element of the reference's result. -/
theorem ref_apply (x0 : (⟨S256x1024, .f32⟩ : BufTy).Contents (Elt Ideal)) (x1 x2 x3 x4 : (⟨S256x256, .f32⟩ : BufTy).Contents (Elt Ideal))
    (x5 : (⟨S256x4096, .bf16⟩ : BufTy).Contents (Elt Ideal)) (x6 : (⟨S4x256x1024, .f32⟩ : BufTy).Contents (Elt Ideal))
    (x7 : (⟨S1024x1024, .f32⟩ : BufTy).Contents (Elt Ideal)) (p : Fin 256) (L : Fin 1024) :
    (val_main_v12 (F := Ideal) x0 x1 x2 x3 x4 x5 x6 x7 : S256x1024.Idx → EReal) (ix2 p L)
      = mergeAt (x0 (ix2 p L)) ![fun c => x1 (ix2 p c), fun c => x2 (ix2 p c), fun c => x3 (ix2 p c), fun c => x4 (ix2 p c)]
        (fun n k => x5 (ix2 p (gateCol n k))) (fun n c k => x6 (ix3 n c k)) (fun k => x7 (ix2 k L)) := by
  pointwise [val_main_v12, val_main_v11, val_main_v10, val_main_v9, val_main_v8, val_main_v7, val_main_v6, val_main_v5, val_main_v4, val_main_v3, val_main_v2, val_main_v1, val_main_v0, val_main_cst]
  unfold mergeAt
  refine congrArg _ (Finset.sum_congr rfl fun k _ => ?_)
  refine congrArg (fun a : EReal => a * (x7 : S1024x1024.Idx → EReal) (ix2 k L)) (Finset.sum_congr rfl fun n _ => ?_)
  refine congrArg₂ (fun a b : EReal => a * b) (Finset.sum_congr rfl fun c _ => (mul_comm _ _).trans ?_)
    (congrArg (fun a => (x5 : S256x4096.Idx → EReal) (ix2 p a)) (Fin.ext (by simp [gateCol]; omega)))
  fin_cases n <;> rfl

open Idealize.SL.Sem

/-- The reference ends with its arguments unchanged and every semaphore at zero. -/
theorem frame_ref : Cert.quiescent_MergeSRefIdeal (hMergeSRefIdeal := Cert.MergeSRefIdeal.Gen.facts) := fun m ρ _ =>
  (θ_run Cert.MergeSRefIdeal.defs _ _).mono (fun r h => ⟨fun c => (h c).2, sem_eq_zero_of_no_sems (by decide) r.2⟩)
    (Cert.MergeSRefIdeal.Value.run (F := Ideal) m ρ)

/-- Kernel and reference leave the same array. -/
theorem algebraic : Cert.algebraic_MergeSIdeal_MergeSRefIdeal (hMergeSIdeal := Cert.MergeSIdeal.Gen.facts)
    (hMergeSRefIdeal := Cert.MergeSRefIdeal.Gen.facts) := by
  intro m g m' g' _ hagree
  refine ⟨fun c => (Cert.MergeSIdeal.Gen.dats m 0 c).arrAt 8 Cert.MergeSIdeal.cfg0.N, Cert.MergeSIdeal.Value.run_blocks m g,
    (θ_run _ _ _).mono (fun r h c => ⟨(h c).1.trans ?_, (h c).2⟩) (Cert.MergeSRefIdeal.Value.run m' g')⟩
  obtain ⟨a0, a1, a2, a3, a4, a5, a6, a7⟩ := hagree c
  rw [Cert.MergeSRefIdeal.Read.val_main_v12_eq, a0, a1, a2, a3, a4, a5, a6, a7]
  funext i
  obtain ⟨p, L, rfl⟩ : ∃ (p : Fin 256) (L : Fin 1024), i = ix2 p L :=
    ⟨i 0, i 1, funext fun a => by fin_cases a <;> rfl⟩
  exact (ref_apply _ _ _ _ _ _ _ _ p L).trans (arr_apply m c p L).symm

end Cert.MrgS
-- ==== Proof.HgrnMath.lean ====
/-
  The mathematics of the gated recurrence's state: the logarithm of the gate, and what the rows make of an element.
-/
module

public import proofs.«01_k».proof.Proof.Ref
public import Idealize.ShloMosaic.PureOps.Ideal.Laws

@[expose] public section

set_option maxRecDepth 16384

noncomputable section

namespace Cert.Hgr

open Idealize.ShloMosaic

/-- The logarithm of the sum of two exponentials, as the kernel computes it. -/
def lse (x y : EReal) : EReal := max x y + Ideal.log (Ideal.exp (x - max x y) + Ideal.exp (y - max x y))

/-- The logarithm of the sum of two exponentials, as the reference computes it. -/
def lae (x y : EReal) : EReal :=
  Scalar.select (FloatOps.cmpf (F := Ideal) (φ := .f32) .une (x - y) (x - y)) (x + y)
    (max x y + Ideal.log1p (Ideal.exp (-(max (x - y) (-(x - y))))))

theorem lae_eq (x y : EReal) : lae x y = max x y + Ideal.log1p (Ideal.exp (-(max (x - y) (-(x - y))))) := by
  have hc : FloatOps.cmpf (F := Ideal) (φ := .f32) .une (x - y) (x - y) = 0#1 := by
    show BitVec.ofBool _ = _
    simp
  unfold lae
  rw [hc]
  rfl

theorem log_zero_add_one : Ideal.log (0 + 1) = 0 := by
  rw [zero_add, ← EReal.coe_one, Ideal.log_coe, if_neg (by norm_num), Real.log_one, EReal.coe_zero]

theorem exp_bot : Ideal.exp ⊥ = 0 := rfl

theorem exp_sub_self (q : ℝ) : Ideal.exp ((q : EReal) - q) = 1 := by
  rw [← EReal.coe_sub, sub_self, Ideal.exp_coe, Real.exp_zero, EReal.coe_one]

/-- The larger of two reals, as an extended real. -/
theorem coe_max' (p q : ℝ) : max (p : EReal) (q : EReal) = ((max p q : ℝ) : EReal) := (EReal.coe_strictMono.monotone.map_max).symm

/-- Both forms agree on a real and on minus infinity. -/
theorem lse_bot_left (q : ℝ) : lse ⊥ q = q ∧ lae ⊥ q = q := by
  constructor
  · unfold lse
    rw [max_eq_right bot_le, EReal.bot_sub, exp_bot, exp_sub_self, log_zero_add_one, add_zero]
  · rw [lae_eq, max_eq_right bot_le, EReal.bot_sub, EReal.neg_bot, max_eq_right bot_le, EReal.neg_top, exp_bot, Ideal.log1p,
      add_comm (1 : EReal), log_zero_add_one, add_zero]

theorem lse_bot_right (p : ℝ) : lse p ⊥ = p ∧ lae p ⊥ = p := by
  constructor
  · unfold lse
    rw [max_eq_left bot_le, EReal.bot_sub, exp_bot, exp_sub_self, add_comm (1 : EReal), log_zero_add_one, add_zero]
  · have h : (p : EReal) - ⊥ = ⊤ := EReal.coe_sub_bot p
    rw [lae_eq, h, max_eq_left bot_le, EReal.neg_top, max_eq_left bot_le, EReal.neg_top, exp_bot, Ideal.log1p,
      add_comm (1 : EReal), log_zero_add_one, add_zero]

/-- Both forms agree on two reals, and are real. -/
theorem lse_real (p q : ℝ) : ∃ g : ℝ, lse p q = g ∧ lae p q = g := by
  refine ⟨max p q + Real.log (1 + Real.exp (-|p - q|)), ?_, ?_⟩
  · unfold lse
    have hpos : 0 < Real.exp (p - max p q) + Real.exp (q - max p q) := by positivity
    rw [coe_max', ← EReal.coe_sub, ← EReal.coe_sub, Ideal.exp_coe, Ideal.exp_coe, ← EReal.coe_add, Ideal.log_coe,
      if_neg (not_le.mpr hpos), ← EReal.coe_add]
    congr 3
    rcases le_total p q with h | h
    · rw [max_eq_right h, sub_self, Real.exp_zero, abs_of_nonpos (by linarith), neg_neg, add_comm]
    · rw [max_eq_left h, sub_self, Real.exp_zero, abs_of_nonneg (by linarith), neg_sub]
  · have hpos : 0 < 1 + Real.exp (-|p - q|) := by positivity
    rw [lae_eq, coe_max', ← EReal.coe_sub, ← EReal.coe_neg, coe_max', ← abs_eq_max_neg, ← EReal.coe_neg, Ideal.exp_coe, Ideal.log1p,
      ← EReal.coe_one, ← EReal.coe_add, Ideal.log_coe, if_neg (not_le.mpr hpos), ← EReal.coe_add]

/-- Both forms agree where neither argument is plus infinity, and are not plus infinity. -/
theorem lse_eq (x y : EReal) (hx : x ≠ ⊤) (hy : y ≠ ⊤) : lse x y = lae x y ∧ lse x y ≠ ⊤ := by
  induction x using EReal.rec with
  | top => exact absurd rfl hx
  | bot =>
    induction y using EReal.rec with
    | top => exact absurd rfl hy
    | bot =>
      have h : lse ⊥ ⊥ = ⊥ ∧ lae ⊥ ⊥ = ⊥ := by
        constructor
        · unfold lse; rw [max_self, EReal.bot_add]
        · rw [lae_eq, max_self, EReal.bot_add]
      exact ⟨h.1.trans h.2.symm, fun e => by rw [h.1] at e; exact absurd e bot_ne_top⟩
    | coe q =>
      have h := lse_bot_left q
      exact ⟨h.1.trans h.2.symm, fun e => EReal.coe_ne_top q (h.1.symm.trans e)⟩
  | coe p =>
    induction y using EReal.rec with
    | top => exact absurd rfl hy
    | bot =>
      have h := lse_bot_right p
      exact ⟨h.1.trans h.2.symm, fun e => EReal.coe_ne_top p (h.1.symm.trans e)⟩
    | coe q =>
      obtain ⟨g, h1, h2⟩ := lse_real p q
      exact ⟨h1.trans h2.symm, fun e => EReal.coe_ne_top g (h1.symm.trans e)⟩

/-- The logarithm of the sigmoid, as the kernel computes it. -/
theorem logSig_real (x : ℝ) :
    min (x : EReal) 0 - Ideal.log (1 + Ideal.exp (0 - max (x : EReal) (-(x : EReal)))) = ((-Cert.Att.sp (-x) : ℝ) : EReal) := by
  have hm : min (x : EReal) 0 = ((min x 0 : ℝ) : EReal) := (EReal.coe_strictMono.monotone.map_min (a := x) (b := 0)).symm
  have hpos : (0 : ℝ) < 1 + Real.exp (0 - |x|) := by positivity
  rw [hm, ← EReal.coe_neg, coe_max', ← abs_eq_max_neg, ← EReal.coe_zero, ← EReal.coe_sub, Ideal.exp_coe, ← EReal.coe_one, ← EReal.coe_add,
    Ideal.log_coe, if_neg (not_le.mpr hpos), ← EReal.coe_sub]
  unfold Cert.Att.sp
  rw [abs_neg, zero_sub]
  congr 1
  rcases le_total 0 x with h | h
  · rw [min_eq_right h, max_eq_right (by linarith)]; ring
  · rw [min_eq_left h, max_eq_left (by linarith)]; ring

/-- The logarithm of the sigmoid, as the kernel computes it. -/
def logSig (x : EReal) : EReal := min x 0 - Ideal.log (1 + Ideal.exp (0 - max x (-x)))

/-- The softplus, as the reference computes it. -/
def splus (x : EReal) : EReal :=
  Scalar.select (FloatOps.cmpf (F := Ideal) (φ := .f32) .une (x - 0) (x - 0)) (x + 0)
    (max x 0 + Ideal.log1p (Ideal.exp (-(max (x - 0) (-(x - 0))))))

theorem splus_eq (x : EReal) : splus x = max x 0 + Ideal.log1p (Ideal.exp (-(max x (-x)))) := by
  have hc : FloatOps.cmpf (F := Ideal) (φ := .f32) .une (x - 0) (x - 0) = 0#1 := by
    show BitVec.ofBool _ = _
    simp
  unfold splus
  rw [hc]
  show max x 0 + _ = _
  rw [sub_zero]

/-- The logarithm of the sigmoid is the negated softplus of the negated argument, and is not plus infinity. -/
theorem logSig_eq (x : EReal) : logSig x = -splus (-x) ∧ logSig x ≠ ⊤ := by
  induction x using EReal.rec with
  | top =>
    have h : logSig ⊤ = 0 := by
      unfold logSig
      rw [min_eq_right le_top, EReal.neg_top, max_eq_left bot_le, show (0 : EReal) - ⊤ = ⊥ by rw [zero_sub, EReal.neg_top], exp_bot, add_comm,
        log_zero_add_one, sub_zero]
    have h' : splus (-⊤) = 0 := by
      rw [splus_eq, EReal.neg_top, max_eq_right bot_le, EReal.neg_bot, max_eq_right bot_le, EReal.neg_top, exp_bot, Ideal.log1p,
        add_comm (1 : EReal), log_zero_add_one, add_zero]
    rw [h, h', neg_zero]
    exact ⟨rfl, EReal.zero_ne_top⟩
  | bot =>
    have h : logSig ⊥ = ⊥ := by
      unfold logSig
      rw [min_eq_left bot_le, EReal.bot_sub]
    have h' : splus (-⊥) = ⊤ := by
      rw [splus_eq, EReal.neg_bot, max_eq_left le_top, EReal.neg_top, max_eq_left bot_le, EReal.neg_top, exp_bot, Ideal.log1p,
        add_comm (1 : EReal), log_zero_add_one, add_zero]
    rw [h, h', EReal.neg_top]
    exact ⟨rfl, bot_ne_top⟩
  | coe x =>
    have h : logSig x = ((-Cert.Att.sp (-x) : ℝ) : EReal) := logSig_real x
    have h' : splus (-(x : EReal)) = (Cert.Att.sp (-x) : EReal) := by
      rw [← EReal.coe_neg]; exact Cert.Att.softplus_real (-x)
    rw [h, h', ← EReal.coe_neg]
    exact ⟨rfl, EReal.coe_ne_top _⟩

/-- The logarithm of the gate of a lower bound `lb` and an input `z`. -/
def logGate (lb z : EReal) : EReal := lse (Ideal.log lb) (Ideal.log1p (-lb) + logSig z)

/-- With a real lower bound, the reference's form is the kernel's, and it is not plus infinity. -/
theorem logGate_eq (lb : ℝ) (z : EReal) :
    lae (Ideal.log lb) (Ideal.log1p (-(lb : EReal)) + -splus (-z)) = logGate lb z ∧ logGate lb z ≠ ⊤ := by
  have hp : Ideal.log lb ≠ ⊤ := by
    rw [Ideal.log_coe]
    split_ifs
    · exact bot_ne_top
    · exact EReal.coe_ne_top _
  have hq : Ideal.log1p (-(lb : EReal)) ≠ ⊤ := by
    rw [Ideal.log1p, ← EReal.coe_neg, ← EReal.coe_one, ← EReal.coe_add, Ideal.log_coe]
    split_ifs
    · exact bot_ne_top
    · exact EReal.coe_ne_top _
  obtain ⟨e, hz⟩ := logSig_eq z
  obtain ⟨h, h'⟩ := lse_eq _ _ hp (EReal.add_ne_top hq hz)
  unfold logGate
  exact ⟨by rw [← e]; exact h.symm, h'⟩

/-- What a head's rows make of an element of its state: `V` the values of the element's column, `G` the log gates of its row,
    `last` the last row. -/
def newElem {n : ℕ} (last : Fin n) (s : EReal) (V G : Fin n → EReal) : EReal :=
  let B : Fin n → EReal := fun t => ∑ r : Fin n, if r ≤ t then G r else 0
  s * Ideal.exp (B last) + ∑ r : Fin n, V r * ((1 - Ideal.exp (G r)) * Ideal.exp (B last - B r))

end Cert.Hgr
-- ==== Proof.HgrnSBody.lean ====
/-
  The state of the gated recurrence at the sample's shape: what one block's rows make of it.
-/
module

public import proofs.«01_k».proof.Proof.HgrnMath
public import proofs.«01_k».proof.Proof.Gen.HgrnSIdeal.Value
public import Idealize.ShloMosaic.Lib.Pipeline.ValueKit
public import Idealize.ShloMosaic.Lib.WordCmp

@[expose] public section

set_option maxRecDepth 16384

noncomputable section

namespace Cert.HgrS

open Idealize.ShloMosaic Idealize.ShloMosaic.TcCoe
open Cert.Hgr Cert.Att
open Cert.HgrnSIdeal Cert.HgrnSIdeal.Gen Cert.HgrnSIdeal.Value

/-- The mask of the heads' own blocks, as the body holds it. -/
def mask : IVec S256x256 1 :=
  k0_pay15 k0_pay12 (iota .tc S256x256 32 [1] iota_S256x256_d1_w32) 64#32 k0_pay13 k0_pay14 1#32 0#32

/-- The new state, over the block, the two rows of the lower bound and the old state. -/
def newState (z : Vec Ideal S1x32x1024 .f32) (x2 x3 : Vec Ideal S1x256 .f32) (s : Vec Ideal S256x256 .f32) : FVec Ideal S256x256 .f32 :=
  k0_pay97 (k0_pay5 z) (k0_pay8 z x2 x3) (k0_pay11 (k0_pay7 z x2 x3) k0_pay10) mask s

variable (m : (ℓ : Loc nD τ sig) → Buf (Elt Ideal) ℓ) (c : Dev nD)

/-- What a point stores as the new state. -/
theorem stored (t : Fin cfg0.N) :
    (outsAt0 m c t).2 = (k0_pay2 (newState (iblk m c 0 t) (iblk m c 2 t) (iblk m c 3 t) (k0_pay3 (iblk m c 1 t))) : FVec Ideal S1x256x256 .f32) := by
  unfold outsAt0
  frame_out
  rfl

/-- The head of a row or of a column. -/
theorem pay12_apply (i j : Fin 256) : k0_pay12 (ix2 i j) = BitVec.ofNat 32 (i.val / 64) := by
  have h : ∀ i : Fin 256, k0_pay12 (ix2 i (0 : Fin 256)) = BitVec.ofNat 32 (i.val / 64) := by decide +kernel
  exact h i

/-- The mask holds where row and column are of one head. -/
theorem mask_apply (i j : Fin 256) : mask (ix2 i j) = 1#1 ↔ i.val / 64 = j.val / 64 := by
  have h : ∀ j : Fin 256, select (andi (cmpi .ne k0_pay14 (broadcast S256x256 (Scalar.subi 1#32 (Scalar.extui (Scalar.cmpi .slt 64#32 0#32)))))
      (cmpi .ne (remsi (iota .tc S256x256 32 [1] iota_S256x256_d1_w32) (broadcast S256x256 64#32)) (broadcast S256x256 0#32)))
      (subi k0_pay13 (broadcast S256x256 1#32)) k0_pay13 (ix2 (0 : Fin 256) j) = BitVec.ofNat 32 (j.val / 64) := by decide +kernel
  have hm : mask (ix2 i j) = IntOp.cmpi .eq (k0_pay12 (ix2 i j)) (BitVec.ofNat 32 (j.val / 64)) := by rw [← h j]; rfl
  rw [hm, pay12_apply, WordCmp.cmpi_eq_ofNat (by omega) (by omega)]
  by_cases h : i.val / 64 = j.val / 64 <;> simp [h]

/-- The logarithm of the gate. -/
theorem pay7_apply (z : Vec Ideal S1x32x1024 .f32) (x2 x3 : Vec Ideal S1x256 .f32) (r : Fin 32) (j : Fin 256) :
    (k0_pay7 z x2 x3 : S32x256.Idx → EReal) (ix2 r j)
      = lse ((x2 : S1x256.Idx → EReal) (ix2 0 j)) ((x3 : S1x256.Idx → EReal) (ix2 0 j)
          + logSig ((z : S1x32x1024.Idx → EReal) (ix3 0 r ⟨256 + j.val, by omega⟩))) := by
  pointwise [k0_pay7, k0_pay4]
  rfl

/-- The factor one minus the gate. -/
theorem pay8_apply (z : Vec Ideal S1x32x1024 .f32) (x2 x3 : Vec Ideal S1x256 .f32) (r : Fin 32) (j : Fin 256) :
    (k0_pay8 z x2 x3 : S32x256.Idx → EReal) (ix2 r j) = 1 - Ideal.exp ((k0_pay7 z x2 x3 : S32x256.Idx → EReal) (ix2 r j)) := by
  pointwise [k0_pay8]

/-- The values' lanes. -/
theorem pay5_apply (z : Vec Ideal S1x32x1024 .f32) (r : Fin 32) (i : Fin 256) :
    (k0_pay5 z : S32x256.Idx → EReal) (ix2 r i) = (z : S1x32x1024.Idx → EReal) (ix3 0 r ⟨512 + i.val, by omega⟩) := by
  pointwise [k0_pay5, k0_pay4]

/-- The triangle's element: one where the column is not past the row. -/
theorem ge_apply (t x : Fin 32) :
    (FloatOps.sitofp (F := Ideal) FTy.f32 (BitVec.setWidth 32 (IntOp.cmpi CmpIPredicate.sge (BitVec.ofNat 32 t.val) (BitVec.ofNat 32 x.val))) : EReal)
      = if x ≤ t then 1 else 0 := by
  have h : ∀ t x : Fin 32, IntOp.cmpi CmpIPredicate.sge (BitVec.ofNat 32 t.val) (BitVec.ofNat 32 x.val) = if x ≤ t then 1#1 else 0#1 := by decide +kernel
  rw [h]
  by_cases hx : x ≤ t
  · rw [if_pos hx, if_pos hx]
    change (((1 : ℤ) : ℝ) : EReal) = 1
    norm_num
  · rw [if_neg hx, if_neg hx]
    change (((0 : ℤ) : ℝ) : EReal) = 0
    norm_num

/-- The running sums of the log gates, none of which is plus infinity. -/
theorem pay11_apply (L : FVec Ideal S32x256 .f32) (j : Fin 256) (hL : ∀ r : Fin 32, (L : S32x256.Idx → EReal) (ix2 r j) ≠ ⊤)
    (t : Fin 32) : (k0_pay11 L k0_pay10 : S32x256.Idx → EReal) (ix2 t j) = ∑ r : Fin 32, if r ≤ t then (L : S32x256.Idx → EReal) (ix2 r j) else 0 := by
  pointwise [k0_pay11, k0_pay10]
  simp only [ge_apply]
  rw [← Finset.sum_add_distrib]
  refine Finset.sum_congr rfl fun r _ => ?_
  have h := hL r
  revert h
  generalize (L : S32x256.Idx → EReal) (ix2 r j) = g
  intro h
  by_cases hr : r ≤ t
  · simp only [if_pos hr, one_mul]
    induction g using EReal.rec with
    | top => exact absurd rfl h
    | bot => rw [EReal.bot_add]
    | coe g => rw [← EReal.coe_sub, sub_self, EReal.coe_zero, add_zero]
  · simp only [if_neg hr, zero_mul, add_zero]

/-- The new state, element by element. -/
theorem pay97_apply (V K B : FVec Ideal S32x256 .f32) (M : IVec S256x256 1) (s : Vec Ideal S256x256 .f32) (i j : Fin 256) :
    (k0_pay97 V K B M s : S256x256.Idx → EReal) (ix2 i j)
      = (s : S256x256.Idx → EReal) (ix2 i j) * Ideal.exp ((B : S32x256.Idx → EReal) (ix2 31 j))
        + Scalar.select (M (ix2 i j)) (∑ r : Fin 32, (V : S32x256.Idx → EReal) (ix2 r i)
            * ((K : S32x256.Idx → EReal) (ix2 r j) * Ideal.exp ((B : S32x256.Idx → EReal) (ix2 31 j) - (B : S32x256.Idx → EReal) (ix2 r j)))) 0 := by
  pointwise [k0_pay97]

theorem select_one (x y : EReal) : Scalar.select 1#1 x y = x := rfl

theorem select_zero (x y : EReal) : Scalar.select 0#1 x y = y := rfl

/-- The new state's element, where row and column are of one head. -/
theorem newState_same (z : Vec Ideal S1x32x1024 .f32) (x2 x3 : Vec Ideal S1x256 .f32) (s : Vec Ideal S256x256 .f32) (i j : Fin 256) (h : i.val / 64 = j.val / 64)
    (lb : ℝ) (h2 : (x2 : S1x256.Idx → EReal) (ix2 0 j) = Ideal.log lb) (h3 : (x3 : S1x256.Idx → EReal) (ix2 0 j) = Ideal.log1p (-(lb : EReal))) :
    (newState z x2 x3 s : S256x256.Idx → EReal) (ix2 i j)
      = newElem 31 ((s : S256x256.Idx → EReal) (ix2 i j)) (fun r => (z : S1x32x1024.Idx → EReal) (ix3 0 r ⟨512 + i.val, by omega⟩))
          (fun r => logGate lb ((z : S1x32x1024.Idx → EReal) (ix3 0 r ⟨256 + j.val, by omega⟩))) := by
  have h7 : ∀ r : Fin 32, (k0_pay7 z x2 x3 : S32x256.Idx → EReal) (ix2 r j) = logGate lb ((z : S1x32x1024.Idx → EReal) (ix3 0 r ⟨256 + j.val, by omega⟩)) := fun r => by
    rw [pay7_apply, h2, h3]; rfl
  have hL : ∀ r : Fin 32, (k0_pay7 z x2 x3 : S32x256.Idx → EReal) (ix2 r j) ≠ ⊤ := fun r => by
    rw [h7]; exact (logGate_eq lb _).2
  unfold newState
  rw [pay97_apply, (mask_apply i j).mpr h, select_one]
  unfold newElem
  refine congrArg₂ (fun p q : EReal => _ * Ideal.exp p + q) ?_ (Finset.sum_congr rfl fun r _ => ?_)
  · rw [pay11_apply _ j hL]
    simp only [h7]
  · rw [pay11_apply _ j hL, pay11_apply _ j hL, pay8_apply, pay5_apply]
    simp only [h7]

/-- The new state's element elsewhere, where the old one is zero. -/
theorem newState_other (z : Vec Ideal S1x32x1024 .f32) (x2 x3 : Vec Ideal S1x256 .f32) (s : Vec Ideal S256x256 .f32) (i j : Fin 256) (h : ¬ i.val / 64 = j.val / 64)
    (hs : (s : S256x256.Idx → EReal) (ix2 i j) = 0) : (newState z x2 x3 s : S256x256.Idx → EReal) (ix2 i j) = 0 := by
  have hm : mask (ix2 i j) = 0#1 := by
    have : ¬ mask (ix2 i j) = 1#1 := fun e => h ((mask_apply i j).mp e)
    revert this
    generalize mask (ix2 i j) = x
    revert x
    decide
  unfold newState
  rw [pay97_apply, hm, hs, zero_mul, zero_add, select_zero]

end Cert.HgrS
-- ==== Proof.HgrnSOut.lean ====
/-
  The state of the gated recurrence at the sample's shape: the array that the kernel leaves, element by element.
-/
module

public import proofs.«01_k».proof.Proof.HgrnSBody

@[expose] public section

set_option maxRecDepth 16384

noncomputable section

namespace Cert.HgrS

open Idealize.ShloMosaic Idealize.ShloMosaic.TcCoe
open Cert.Hgr Cert.Att
open Cert.HgrnSIdeal Cert.HgrnSIdeal.Gen Cert.HgrnSIdeal.Value

/-- The places of the windows at a point: one sequence. -/
theorem places : ∀ t : Fin grid0.N,
    win0_0.index t = ![t.val, 0, 0] ∧ win0_1.index t = ![t.val, 0, 0]
    ∧ win0_2.index t = ![0, 0] ∧ win0_3.index t = ![0, 0] ∧ win0_6.index t = ![t.val, 0, 0] := by
  decide +kernel

/-- The table that is one on its diagonal. -/
def eye : FVec Ideal S4x4 .f32 :=
  uitofp .f32 (cmpi .eq (addi (iotaInDim S4x4 32 0) (broadcastInDim S4x4 ![] bcast_S_S4x4 (constantI S_ 32 0#32))) (iotaInDim S4x4 32 1))

theorem eye_apply (p q : Fin 4) : (eye : S4x4.Idx → EReal) (ix2 p q) = if p = q then 1 else 0 := by
  have h : ∀ p q : Fin 4, (cmpi .eq (addi (iotaInDim S4x4 32 0) (broadcastInDim S4x4 ![] bcast_S_S4x4 (constantI S_ 32 0#32))) (iotaInDim S4x4 32 1) : IVec S4x4 1) (ix2 p q)
      = if p = q then 1#1 else 0#1 := by decide +kernel
  show (FloatOps.uitofp (F := Ideal) FTy.f32 ((cmpi .eq (addi (iotaInDim S4x4 32 0) (broadcastInDim S4x4 ![] bcast_S_S4x4 (constantI S_ 32 0#32))) (iotaInDim S4x4 32 1) : IVec S4x4 1) (ix2 p q)) : EReal) = _
  rw [h]
  by_cases e : p = q
  · rw [if_pos e, if_pos e]
    change (((1 : ℕ) : ℝ) : EReal) = 1
    norm_num
  · rw [if_neg e, if_neg e]
    change (((0 : ℕ) : ℝ) : EReal) = 0
    norm_num

/-- The heads' states, transposed, laid out as the diagonal blocks of one matrix. -/
theorem bd_apply (s : FVec Ideal S8x4x64x64 .f32) (e : FVec Ideal S4x4 .f32) (b : Fin 8) (i j : Fin 256) :
    (shapeCast S8x256x256 (mulf (F := Ideal) (φ := .f32)
        (broadcastInDim S8x4x64x4x64 ![0, 1, 2, 3, 4] bcast_S8x4x64x1x64_S8x4x64x4x64_0_1_2_3_4
          (broadcastInDim S8x4x64x1x64 ![0, 1, 2, 4] bcast_S8x4x64x64_S8x4x64x1x64_0_1_2_4 (transpose S8x4x64x64 [0, 1, 3, 2] s transposes_S8x4x64x64_S8x4x64x64_0_1_3_2)))
        (broadcastInDim S8x4x64x4x64 ![0, 1, 2, 3, 4] bcast_S1x4x1x4x1_S8x4x64x4x64_0_1_2_3_4
          (broadcastInDim S1x4x1x4x1 ![1, 3] bcast_S4x4_S1x4x1x4x1_1_3 e))) shapeCasts_S8x4x64x4x64_S8x256x256 : S8x256x256.Idx → EReal) (ix3 b i j)
      = (s : S8x4x64x64.Idx → EReal) (ix4 b (⟨i.val / 64, by omega⟩ : Fin 4) (⟨j.val % 64, by omega⟩ : Fin 64) (⟨i.val % 64, by omega⟩ : Fin 64))
        * (e : S4x4.Idx → EReal) (ix2 (⟨i.val / 64, by omega⟩ : Fin 4) (⟨j.val / 64, by omega⟩ : Fin 4)) := by
  have hb := b.isLt; have hi := i.isLt; have hj := j.isLt
  rw [shapeCast_apply _ shapeCasts_S8x4x64x4x64_S8x256x256 (ix3 b i j)
    (ix5 b (⟨i.val / 64, by omega⟩ : Fin 4) (⟨i.val % 64, by omega⟩ : Fin 64) (⟨j.val / 64, by omega⟩ : Fin 4) (⟨j.val % 64, by omega⟩ : Fin 64))
    (by rw [Shape.rowMajor_val_five, Shape.rowMajor_val_three]
        show (((b.val * 4 + i.val / 64) * 64 + i.val % 64) * 4 + j.val / 64) * 64 + j.val % 64 = (b.val * 256 + i.val) * 256 + j.val
        omega)]
  pointwise

variable (m : (ℓ : Loc nD τ sig) → Buf (Elt Ideal) ℓ) (c : Dev nD)

/-- The input, the old states and the lower bounds. -/
abbrev zArg : FVec Ideal S8x32x1024 .f32 := m ((c : Thread nD τ).loc main_arg0)
abbrev sArg : FVec Ideal S8x4x64x64 .f32 := m ((c : Thread nD τ).loc main_arg1)
abbrev lbArg : FVec Ideal S256 .f32 := m ((c : Thread nD τ).loc main_arg2)

/-- The input's block of a point. -/
theorem blk0 (t : Fin grid0.N) (b : Fin 8) (hb : t.val = b.val) (r : Fin 32) (k : Fin 1024) :
    (iblk m c 0 t : S1x32x1024.Idx → EReal) (ix3 0 r k) = (zArg m c : S8x32x1024.Idx → EReal) (ix3 b r k) := by
  obtain ⟨e0, e1, e2, e3, e6⟩ := places t
  rw [hb] at e0
  blk_ext [iblk, V, e0]

/-- The old state's block of a point. -/
theorem blk1 (t : Fin grid0.N) (b : Fin 8) (hb : t.val = b.val) (i j : Fin 256) :
    (iblk m c 1 t : S1x256x256.Idx → EReal) (ix3 0 i j)
      = (sArg m c : S8x4x64x64.Idx → EReal) (ix4 b (⟨i.val / 64, by omega⟩ : Fin 4) (⟨j.val % 64, by omega⟩ : Fin 64) (⟨i.val % 64, by omega⟩ : Fin 64))
        * (if i.val / 64 = j.val / 64 then (1 : EReal) else 0) := by
  obtain ⟨e0, e1, e2, e3, e6⟩ := places t
  rw [hb] at e1
  have he : (iblk m c 1 t : S1x256x256.Idx → EReal) (ix3 0 i j) = (V m c main_v12 : S8x256x256.Idx → EReal) (ix3 b i j) := by
    blk_ext [iblk, e1]
  rw [he]
  refine (bd_apply (sArg m c) eye b i j).trans ?_
  rw [eye_apply]
  simp only [Fin.mk.injEq]

/-- The logarithm of the lower bound. -/
theorem blk2 (t : Fin grid0.N) (j : Fin 256) :
    (iblk m c 2 t : S1x256.Idx → EReal) (ix2 0 j) = Ideal.log ((lbArg m c : S256.Idx → EReal) (ix1 j)) := by
  obtain ⟨e0, e1, e2, e3, e6⟩ := places t
  have hv : (V m c main_v14 : S1x256.Idx → EReal)
      = (shapeCast S1x256 (Host.log (lbArg m c)) shapeCasts_S256_S1x256) := rfl
  have he : (iblk m c 2 t : S1x256.Idx → EReal) (ix2 0 j) = (V m c main_v14 : S1x256.Idx → EReal) (ix2 0 j) := by
    blk_ext [iblk, e2]
  rw [he, hv]
  pointwise

/-- The logarithm of one minus the lower bound. -/
theorem blk3 (t : Fin grid0.N) (j : Fin 256) :
    (iblk m c 3 t : S1x256.Idx → EReal) (ix2 0 j) = Ideal.log1p (-((lbArg m c : S256.Idx → EReal) (ix1 j))) := by
  obtain ⟨e0, e1, e2, e3, e6⟩ := places t
  have hv : (V m c main_v17 : S1x256.Idx → EReal)
      = (shapeCast S1x256 (Host.log1p (Host.negf (lbArg m c))) shapeCasts_S256_S1x256) := rfl
  have he : (iblk m c 3 t : S1x256.Idx → EReal) (ix2 0 j) = (V m c main_v17 : S1x256.Idx → EReal) (ix2 0 j) := by
    blk_ext [iblk, e3]
  rw [he, hv]
  pointwise

/-- The block of the state, as a matrix, and the matrix as a block. -/
theorem pay3_apply (x : Vec Ideal S1x256x256 .f32) (i j : Fin 256) : (k0_pay3 x : S256x256.Idx → EReal) (ix2 i j) = x (ix3 0 i j) := by
  pointwise [k0_pay3]

theorem pay2_apply (x : Vec Ideal S256x256 .f32) (i j : Fin 256) : (k0_pay2 x : S1x256x256.Idx → EReal) (ix3 0 i j) = x (ix2 i j) := by
  pointwise [k0_pay2]

/-- The array of the states: the heads' new states, transposed, on the diagonal, and zero elsewhere. -/
theorem arr6_apply (b : Fin 8) (i j : Fin 256) (x : ℝ) (hx : (lbArg m c : S256.Idx → EReal) (ix1 j) = x) :
    ((dats m 0 c).arrAt 6 cfg0.N : S8x256x256.Idx → EReal) (ix3 b i j)
      = if i.val / 64 = j.val / 64 then
          newElem 31 ((sArg m c : S8x4x64x64.Idx → EReal)
              (ix4 b (⟨j.val / 64, by omega⟩ : Fin 4) (⟨j.val % 64, by omega⟩ : Fin 64) (⟨i.val % 64, by omega⟩ : Fin 64)))
            (fun r => (zArg m c : S8x32x1024.Idx → EReal) (ix3 b r ⟨512 + i.val, by omega⟩))
            (fun r => logGate x ((zArg m c : S8x32x1024.Idx → EReal) (ix3 b r ⟨256 + j.val, by omega⟩)))
        else 0 := by
  have hN : cfg0.N = 8 := N_0
  have hb0 := b.isLt
  let t : Fin cfg0.N := ⟨b.val, by omega⟩
  obtain ⟨e0, e1, e2, e3, e6⟩ := places t
  have hb : t.val = b.val := rfl
  rw [hb] at e6
  have hk := congrFun (blocks6 m c t (flush0_6 t)) (ix3 (0 : Fin 1) i j)
  have hp : ((cfg0.win 6).blk t).view.emb (ix3 (0 : Fin 1) i j) = ix3 b i j := by
    blk_ext [e6]
  have hl : ((cfg0.win 6).blk t).view.read (Elt Ideal) ((dats m 0 c).arrAt 6 cfg0.N) (ix3 (0 : Fin 1) i j)
      = (dats m 0 c).arrAt 6 cfg0.N (ix3 b i j) := by
    rw [← hp]; rfl
  rw [← hl, hk, flushed6, stored m c t]
  refine (pay2_apply _ i j).trans ?_
  have hs := (pay3_apply (iblk m c 1 t) i j).trans (blk1 m c t b rfl i j)
  split_ifs with h
  · rw [if_pos h, mul_one] at hs
    refine (newState_same _ _ _ _ i j h x ((blk2 m c t j).trans (by rw [hx])) ((blk3 m c t j).trans (by rw [hx]))).trans ?_
    rw [hs]
    have hq : (⟨i.val / 64, by omega⟩ : Fin 4) = (⟨j.val / 64, by omega⟩ : Fin 4) := Fin.ext h
    rw [hq]
    simp only [blk0 m c t b rfl]
  · rw [if_neg h, mul_zero] at hs
    exact newState_other _ _ _ _ i j h hs

end Cert.HgrS
end
-- ==== Proof.Earlier.lean ====
/-
  A window sum over the middle axis that reaches from the start to each element: the sum of the element and all earlier ones.
-/
module

public import proofs.«01_k».proof.Proof.Later

@[expose] public section

noncomputable section

namespace Cert.Att

open Idealize.ShloMosaic

/-- The window sum at an element is the sum over the elements from the start of its column to it. -/
theorem window_sum_below {A C N M : ℕ} (hM : M + 1 = N) (x : (⟨3, ![A, N, C]⟩ : Shape).Idx → EReal)
    (h : (⟨3, ![A, N, C]⟩ : Shape).ReduceWindows ![1, N, 1] ![1, 1, 1] ![0, M, 0] ![0, 0, 0] ⟨3, ![A, N, C]⟩)
    (a : Fin A) (s : Fin N) (c : Fin C) (F : ℕ → EReal) (hF : ∀ t : Fin N, x (ix3 a t c) = F t.val) :
    Ideal.hostReduceWindowAdd ![1, N, 1] ![1, 1, 1] ![0, M, 0] ![0, 0, 0] h x 0 (ix3 a s c) = ∑ t ∈ Finset.range (s.val + 1), F t := by
  unfold Ideal.hostReduceWindowAdd Host.reduceWindow
  dsimp only
  rw [foldl_sum, zero_add, ← Fin.sum_univ_def]
  let G : (⟨3, ![1, N, 1]⟩ : Shape).Idx → EReal := fun w =>
    if M ≤ s.val + (w 1).val then F (s.val + (w 1).val - M) else 0
  refine (Finset.sum_congr rfl fun n _ => ?_ : _ = ∑ n, G ((Shape.rowMajor ⟨3, ![1, N, 1]⟩).symm n)).trans ?_
  · set w := (Shape.rowMajor ⟨3, ![1, N, 1]⟩).symm n
    have w0 : (w 0).val < 1 := (w 0).isLt
    have w1 : (w 1).val < N := (w 1).isLt
    have w2 : (w 2).val < 1 := (w 2).isLt
    have hs := s.isLt
    have e0 : a.val * 1 + (w 0).val - 0 = a.val := by omega
    have e1 : s.val * 1 + (w 1).val - M = s.val + (w 1).val - M := by omega
    have hN : s.val + (w 1).val - M < N := by omega
    have e2 : c.val * 1 + (w 2).val - 0 = c.val := by omega
    show _ = if M ≤ s.val + (w 1).val then F (s.val + (w 1).val - M) else 0
    split
    · next hin =>
      have h1 : M ≤ s.val * 1 + (w 1).val := (hin 1).1
      rw [if_pos (by omega)]
      refine Eq.trans (congrArg x (funext fun y => Fin.ext ?_)) (hF ⟨s.val + (w 1).val - M, by omega⟩)
      match y with
      | ⟨0, _⟩ => exact e0
      | ⟨1, _⟩ => exact e1
      | ⟨2, _⟩ => exact e2
    · next hin =>
      rw [if_neg fun hle => hin fun y => ?_]
      match y with
      | ⟨0, _⟩ => exact ⟨Nat.zero_le _, lt_of_eq_of_lt e0 a.isLt⟩
      | ⟨1, _⟩ => exact ⟨(by omega : M ≤ s.val * 1 + (w 1).val), lt_of_eq_of_lt e1 hN⟩
      | ⟨2, _⟩ => exact ⟨Nat.zero_le _, lt_of_eq_of_lt e2 c.isLt⟩
  · rw [Equiv.sum_comp]
    have hbij : Function.Bijective (fun t : Fin N => (ix3 (0 : Fin 1) t (0 : Fin 1) : (⟨3, ![1, N, 1]⟩ : Shape).Idx)) := by
      refine ⟨fun t u e => congrFun e 1, fun w => ⟨w 1, funext fun y => Fin.ext ?_⟩⟩
      match y with
      | ⟨0, _⟩ => exact (Nat.lt_one_iff.mp (w 0).isLt).symm
      | ⟨1, _⟩ => rfl
      | ⟨2, _⟩ => exact (Nat.lt_one_iff.mp (w 2).isLt).symm
    rw [← hbij.sum_comp G]
    show (∑ t : Fin N, if M ≤ s.val + t.val then F (s.val + t.val - M) else 0) = _
    have hs := s.isLt
    rw [Fin.sum_univ_eq_sum_range (fun t => if M ≤ s.val + t then F (s.val + t - M) else 0) N, ← Finset.sum_filter]
    have hset : Finset.filter (fun t => M ≤ s.val + t) (Finset.range N) = Finset.Ico (M - s.val) N := by
      ext t
      simp only [Finset.mem_filter, Finset.mem_range, Finset.mem_Ico]
      omega
    rw [hset, Finset.sum_Ico_eq_sum_range, show N - (M - s.val) = s.val + 1 by omega]
    refine Finset.sum_congr rfl fun t _ => congrArg F ?_
    omega

end Cert.Att
-- ==== Proof.HgrnSRef.lean ====
/-
  The state of the gated recurrence at the sample's shape: the reference's result at an index.
-/
module

public import proofs.«01_k».proof.Proof.HgrnMath
public import proofs.«01_k».proof.Proof.Earlier
public import proofs.«01_k».proof.Proof.Gen.HgrnSRefIdeal.Read

@[expose] public section

set_option maxRecDepth 16384

noncomputable section

namespace Cert.HgrS

open Idealize.ShloMosaic
open Cert.Hgr Cert.Att
open Cert.HgrnSRefIdeal Cert.HgrnSRefIdeal.Gen Cert.HgrnSRefIdeal.Read

variable (z : (⟨S8x32x1024, .f32⟩ : BufTy).Contents (Elt Ideal)) (s : (⟨S8x4x64x64, .f32⟩ : BufTy).Contents (Elt Ideal))
  (lb : (⟨S256, .f32⟩ : BufTy).Contents (Elt Ideal))

/-- The logarithm of the gate. -/
theorem v24_apply (b : Fin 8) (r : Fin 32) (j : Fin 256) (x : ℝ) (hx : (lb : S256.Idx → EReal) (ix1 j) = x) :
    (val_main_v24 (F := Ideal) z lb : S8x32x256.Idx → EReal) (ix3 b r j)
      = logGate x ((z : S8x32x1024.Idx → EReal) (ix3 b r ⟨256 + j.val, by omega⟩)) := by
  rw [← (logGate_eq x _).1, ← hx]
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v1_apply,
    val_main_call0_v1_apply, val_main_call0_call0_v4_apply, val_main_call0_call0_v6_apply,
    val_main_call0_call0_v11_apply, val_main_call0_call0_v10_apply, val_main_call0_call0_v9_apply,
    val_main_call0_call0_v8_apply, val_main_call0_call0_v7_apply, val_main_call0_call0_v1_apply,
    val_main_call0_call0_v3_apply, val_main_call0_call0_v0_apply, val_main_call0_call0_v2_apply,
    val_main_call0_call0_v5_apply, val_main_call0_v0_apply, val_main_call0_call0_cst_apply]
  have ez : idx_main_v1 (ix3 b r j) = ix3 b r (⟨256 + j.val, by omega⟩ : Fin 1024) := funext fun a => Fin.ext (by fin_cases a <;> rfl)
  have e1 : idx_main_v8 (idx_main_v9 (ix3 b r j)) = ix1 j := funext fun a => Fin.ext (by fin_cases a; rfl)
  have e2 : idx_main_v11 (idx_main_v12 (ix3 b r j)) = ix1 j := funext fun a => Fin.ext (by fin_cases a; rfl)
  have e3 : idx_main_v11 (idx_main_v14 (ix3 b r j)) = ix1 j := funext fun a => Fin.ext (by fin_cases a; rfl)
  have e4 : idx_main_v11 (idx_main_v17 (ix3 b r j)) = ix1 j := funext fun a => Fin.ext (by fin_cases a; rfl)
  simp only [ez, e1, e2, e3, e4]
  generalize (z : S8x32x1024.Idx → EReal) (ix3 b r (⟨256 + j.val, by omega⟩ : Fin 1024)) = g
  generalize (lb : S256.Idx → EReal) (ix1 j) = l
  unfold lae splus
  rw [← zero_bits]
  rfl

/-- The running sum of the log gates. -/
theorem v27_apply (b : Fin 8) (t : Fin 32) (j : Fin 256) (x : ℝ) (hx : (lb : S256.Idx → EReal) (ix1 j) = x) :
    (val_main_v27 (F := Ideal) z lb : S8x32x256.Idx → EReal) (ix3 b t j)
      = ∑ r : Fin 32, if r ≤ t then logGate x ((z : S8x32x1024.Idx → EReal) (ix3 b r ⟨256 + j.val, by omega⟩)) else 0 := by
  have hz : val_main_call1_v0 (F := Ideal) (Shape.Idx.first h_S_) = 0 := by
    rw [val_main_call1_v0_apply, val_main_call1_cst_apply]; exact zero_bits
  let F : ℕ → EReal := fun r => if h : r < 32 then logGate x ((z : S8x32x1024.Idx → EReal) (ix3 b (⟨r, h⟩ : Fin 32) ⟨256 + j.val, by omega⟩)) else 0
  have hF : ∀ r : Fin 32, F r.val = logGate x ((z : S8x32x1024.Idx → EReal) (ix3 b r ⟨256 + j.val, by omega⟩)) := fun r => dif_pos r.isLt
  unfold val_main_v27 Host.reduceWindowAdd
  rw [hz]
  refine (window_sum_below (M := 31) rfl _ _ b t j F fun r => (v24_apply z lb b r j x hx).trans (hF r).symm).trans ?_
  have h1 := Fin.sum_univ_eq_sum_range (fun r => if r ≤ t.val then F r else 0) 32
  have hset : Finset.filter (fun r => r ≤ t.val) (Finset.range 32) = Finset.range (t.val + 1) := by
    ext r
    simp only [Finset.mem_filter, Finset.mem_range]
    omega
  rw [← hset, Finset.sum_filter, ← h1]
  exact Finset.sum_congr rfl fun r _ => by rw [hF r]; rfl

/-- The negated exponential minus one. -/
theorem neg_expm1 (g : EReal) : FloatOps.hostNegf (F := Ideal) (φ := .f32) (FloatOps.hostUnary (F := Ideal) (φ := .f32) .expm1 g) = 1 - Ideal.exp g := by
  show -(Ideal.exp g - 1) = 1 - Ideal.exp g
  rw [EReal.neg_sub (by right; exact EReal.coe_ne_bot 1) (by right; exact EReal.coe_ne_top 1), sub_eq_add_neg, add_comm]

/-- The new states' element. -/
theorem v40_apply (b : Fin 8) (h : Fin 4) (k v : Fin 64) (x : ℝ) (hx : (lb : S256.Idx → EReal) (ix1 ⟨64 * h.val + k.val, by omega⟩) = x) :
    (val_main_v40 (F := Ideal) z s lb : S8x4x64x64.Idx → EReal) (ix4 b h k v)
      = newElem 31 ((s : S8x4x64x64.Idx → EReal) (ix4 b h k v)) (fun r => (z : S8x32x1024.Idx → EReal) (ix3 b r ⟨512 + (64 * h.val + v.val), by omega⟩))
          (fun r => logGate x ((z : S8x32x1024.Idx → EReal) (ix3 b r ⟨256 + (64 * h.val + k.val), by omega⟩))) := by
  have hb := b.isLt; have hh := h.isLt; have hk := k.isLt; have hv := v.isLt
  have i30 : idx_main_v28 (idx_main_v30 (idx_main_v31 (ix4 b h k v))) = ix3 b (31 : Fin 32) (⟨64 * h.val + k.val, by omega⟩ : Fin 256) := by
    funext a
    apply Fin.ext
    fin_cases a
    · show (((b.val * 4 + h.val) * 64 + k.val) * 1 + 0) / 256 = b.val; omega
    · rfl
    · show (((b.val * 4 + h.val) * 64 + k.val) * 1 + 0) % 256 = 64 * h.val + k.val; omega
  rw [val_main_v40_apply, val_main_v32_apply, val_main_v31_apply, val_main_v30_apply, val_main_v29_apply, val_main_v28_apply, i30,
    v27_apply z lb b 31 _ x hx, val_main_v39_apply]
  unfold newElem
  refine congrArg₂ (fun p q : EReal => p + q) (mul_comm _ _) (Finset.sum_congr rfl fun r _ => ?_)
  have hr := r.isLt
  have i37 : idx_main_v37 (lidx_main_v39 (ix4 b h k v) r) = ix3 b r (⟨64 * h.val + k.val, by omega⟩ : Fin 256) := by
    funext a
    apply Fin.ext
    fin_cases a
    · show (((b.val * 32 + r.val) * 4 + h.val) * 64 + k.val) / 8192 = b.val; omega
    · show (((b.val * 32 + r.val) * 4 + h.val) * 64 + k.val) / 256 % 32 = r.val; omega
    · show (((b.val * 32 + r.val) * 4 + h.val) * 64 + k.val) % 256 = 64 * h.val + k.val; omega
  have i38 : idx_main_v2 (idx_main_v38 (ridx_main_v39 (ix4 b h k v) r)) = ix3 b r (⟨512 + (64 * h.val + v.val), by omega⟩ : Fin 1024) := by
    funext a
    apply Fin.ext
    fin_cases a
    · show (((b.val * 32 + r.val) * 4 + h.val) * 64 + v.val) / 8192 = b.val; omega
    · show (((b.val * 32 + r.val) * 4 + h.val) * 64 + v.val) / 256 % 32 = r.val; omega
    · show 512 + (((b.val * 32 + r.val) * 4 + h.val) * 64 + v.val) % 256 = 512 + (64 * h.val + v.val); omega
  have i28 : idx_main_v28 (idx_main_v33 (ix3 b r (⟨64 * h.val + k.val, by omega⟩ : Fin 256))) = ix3 b (31 : Fin 32) (⟨64 * h.val + k.val, by omega⟩ : Fin 256) :=
    funext fun a => Fin.ext (by fin_cases a <;> rfl)
  rw [val_main_v37_apply, i37, val_main_v38_apply, val_main_v2_apply, i38, val_main_v36_apply, val_main_v35_apply, val_main_v34_apply,
    val_main_v33_apply, val_main_v28_apply, i28, v27_apply z lb b 31 _ x hx, v27_apply z lb b r _ x hx, val_main_v26_apply, val_main_v25_apply,
    v24_apply z lb b r _ x hx]
  refine (mul_comm _ _).trans (congrArg (fun p : EReal => _ * (p * _)) ?_)
  exact neg_expm1 _

/-- The mask: row and column of one head. -/
theorem v46_apply (p q : Fin 4) : val_main_v46 (F := Ideal) (ix2 p q) = 1#1 ↔ p = q := by
  rw [val_main_v46_apply, val_main_v45_apply, val_main_v44_apply, val_main_v43_apply, val_main_v42_apply, val_main_v41_apply, val_main_v41_apply]
  show IntOp.cmpi .eq (BitVec.ofNat 32 p.val) (BitVec.ofNat 32 q.val) = 1#1 ↔ _
  revert p q
  decide

/-- The reference's result: the heads' new states, transposed, on the diagonal, and zero elsewhere. -/
theorem ref_apply (b : Fin 8) (i j : Fin 256) (x : ℝ) (hx : (lb : S256.Idx → EReal) (ix1 j) = x) :
    (val_main_v51 (F := Ideal) z s lb : S8x256x256.Idx → EReal) (ix3 b i j)
      = if i.val / 64 = j.val / 64 then
          newElem 31 ((s : S8x4x64x64.Idx → EReal) (ix4 b (⟨j.val / 64, by omega⟩ : Fin 4) (⟨j.val % 64, by omega⟩ : Fin 64) (⟨i.val % 64, by omega⟩ : Fin 64)))
            (fun r => (z : S8x32x1024.Idx → EReal) (ix3 b r ⟨512 + i.val, by omega⟩))
            (fun r => logGate x ((z : S8x32x1024.Idx → EReal) (ix3 b r ⟨256 + j.val, by omega⟩)))
        else 0 := by
  have hb := b.isLt; have hi := i.isLt; have hj := j.isLt
  have i51 : idx_main_v51 (ix3 b i j) = (ix5 b (⟨i.val / 64, by omega⟩ : Fin 4) (⟨i.val % 64, by omega⟩ : Fin 64) (⟨j.val / 64, by omega⟩ : Fin 4) (⟨j.val % 64, by omega⟩ : Fin 64)) := by
    funext a
    apply Fin.ext
    fin_cases a
    · show ((b.val * 256 + i.val) * 256 + j.val) / 65536 = b.val; omega
    · show ((b.val * 256 + i.val) * 256 + j.val) / 16384 % 4 = i.val / 64; omega
    · show ((b.val * 256 + i.val) * 256 + j.val) / 256 % 64 = i.val % 64; omega
    · show ((b.val * 256 + i.val) * 256 + j.val) / 64 % 4 = j.val / 64; omega
    · show ((b.val * 256 + i.val) * 256 + j.val) % 64 = j.val % 64; omega
  rw [val_main_v51_apply, i51, val_main_v50_apply, val_main_call2_v1_apply, val_main_v47_apply, val_main_call2_v2_apply, val_main_v49_apply, val_main_v48_apply,
    val_main_call2_v3_apply, val_main_call2_v0_apply, val_main_cst_apply]
  have im : idx_main_v47 (idx_main_call2_v1 (ix5 b (⟨i.val / 64, by omega⟩ : Fin 4) (⟨i.val % 64, by omega⟩ : Fin 64) (⟨j.val / 64, by omega⟩ : Fin 4) (⟨j.val % 64, by omega⟩ : Fin 64)))
      = ix2 (⟨i.val / 64, by omega⟩ : Fin 4) (⟨j.val / 64, by omega⟩ : Fin 4) := funext fun a => Fin.ext (by fin_cases a <;> rfl)
  have iv : idx_main_v48 (idx_main_v49 (idx_main_call2_v2 (ix5 b (⟨i.val / 64, by omega⟩ : Fin 4) (⟨i.val % 64, by omega⟩ : Fin 64) (⟨j.val / 64, by omega⟩ : Fin 4) (⟨j.val % 64, by omega⟩ : Fin 64))))
      = ix4 b (⟨i.val / 64, by omega⟩ : Fin 4) (⟨j.val % 64, by omega⟩ : Fin 64) (⟨i.val % 64, by omega⟩ : Fin 64) := funext fun a => Fin.ext (by fin_cases a <;> rfl)
  rw [im, iv, select_of _ _ (v46_apply _ _)]
  have hh : ((⟨i.val / 64, by omega⟩ : Fin 4) = (⟨j.val / 64, by omega⟩ : Fin 4)) ↔ i.val / 64 = j.val / 64 := by rw [Fin.mk.injEq]
  simp only [hh]
  split_ifs with h
  · have hq : (⟨i.val / 64, by omega⟩ : Fin 4) = (⟨j.val / 64, by omega⟩ : Fin 4) := hh.mpr h
    rw [hq]
    have ej : (⟨64 * (j.val / 64) + j.val % 64, by omega⟩ : Fin 256) = j := Fin.ext (Nat.div_add_mod j.val 64)
    refine (v40_apply z s lb b (⟨j.val / 64, by omega⟩ : Fin 4) (⟨j.val % 64, by omega⟩ : Fin 64) (⟨i.val % 64, by omega⟩ : Fin 64) x (by rw [ej]; exact hx)).trans ?_
    have e1 : (64 * (j.val / 64) + i.val % 64) = i.val := by omega
    have e2 : (64 * (j.val / 64) + j.val % 64) = j.val := by omega
    simp only [e1, e2]
  · exact zero_bits

end Cert.HgrS
end
-- ==== Proof.HgrnSClaims.lean ====
/-
  The state of the gated recurrence at the sample's shape: the claims about it.
-/
module

public import proofs.«01_k».proof.Proof.HgrnSOut
public import proofs.«01_k».proof.Proof.HgrnSRef
public import proofs.«01_k».proof.Proof.Finite
public import proofs.«01_k».proof.Defs
public import Idealize.ShloMosaic.Adequacy

@[expose] public section

set_option maxRecDepth 16384

noncomputable section

namespace Cert.HgrS

open Idealize.ShloMosaic Idealize.ShloMosaic.TcCoe
open Idealize.SL.Sem

/-- The shape relations that the precondition's operations take. -/
theorem pre_facts : Cert.Pre_finite_lb.Facts := ⟨by decide, by decide, by decide⟩

/-- Under the precondition the lower bounds are real. -/
theorem finite_real [Cert.Pre_finite_lb.Facts] (x0 : (⟨3, ![8, 32, 1024]⟩ : Shape).Idx → EReal) (x1 : (⟨4, ![8, 4, 64, 64]⟩ : Shape).Idx → EReal)
    (x2 : (⟨1, ![256]⟩ : Shape).Idx → EReal) (x3 : (⟨1, ![64]⟩ : Shape).Idx → EReal)
    (h : Cert.Pre_finite_lb.fn (F := Ideal) x0 x1 x2 x3 = fun _ => 1#1) (i : (⟨1, ![256]⟩ : Shape).Idx) : x2 i = ((x2 i).toReal : EReal) := by
  have h0 := congrFun h ix0
  dsimp only [Cert.Pre_finite_lb.fn] at h0
  haveI : Subsingleton Cert.Pre_finite_lb.S_.Idx := ⟨fun a b => funext fun k => k.elim0⟩
  exact Cert.Att.real_of_abs_lt _ (Host.reduce_andi_all _ _ _ _ _ h0 i)

/-- The reference ends with its arguments unchanged and every semaphore at zero. -/
theorem frame_ref : Cert.quiescent_HgrnSRefIdeal (hHgrnSRefIdeal := Cert.HgrnSRefIdeal.Gen.facts) := fun m ρ _ =>
  (θ_run Cert.HgrnSRefIdeal.defs _ _).mono (fun r h => ⟨fun c => (h c).2, sem_eq_zero_of_no_sems (by decide) r.2⟩)
    (Cert.HgrnSRefIdeal.Value.run (F := Ideal) m ρ)

/-- Kernel and reference leave the same states. -/
theorem algebraic : Cert.algebraic_HgrnSIdeal_HgrnSRefIdeal_pre_finite_lb (hHgrnSIdeal := Cert.HgrnSIdeal.Gen.facts)
    (hHgrnSRefIdeal := Cert.HgrnSRefIdeal.Gen.facts) (hPre_finite_lb := pre_facts) := by
  intro m g m' g' hpre hagree
  refine ⟨fun c => (Cert.HgrnSIdeal.Gen.dats m 0 c).arrAt 6 Cert.HgrnSIdeal.cfg0.N,
    (θ_run _ _ _).mono (fun r h c => (h c).2) (Cert.HgrnSIdeal.Value.run_blocks m g), (θ_run _ _ _).mono (fun r h c => ?_) (Cert.HgrnSRefIdeal.Value.run m' g')⟩
  obtain ⟨a0, a1, a2, a3⟩ := hagree c
  obtain ⟨h0, hk⟩ := h c
  haveI := pre_facts
  have hf := fun i => finite_real _ _ _ _ (hpre c) i
  refine ⟨h0.trans ?_, hk⟩
  rw [Cert.HgrnSRefIdeal.Read.val_main_v51_eq, a0, a1, a2]
  funext i
  obtain ⟨b, p, L, rfl⟩ : ∃ (b : Fin 8) (p : Fin 256) (L : Fin 256), i = ix3 b p L := ⟨i 0, i 1, i 2, funext fun a => by fin_cases a <;> rfl⟩
  exact (ref_apply _ _ _ b p L _ (hf (ix1 L))).trans (arr6_apply m c b p L _ (hf (ix1 L))).symm

end Cert.HgrS
end
-- ==== Proof.RwkvSClaims.lean ====
/-
  The shift that RWKV-7 hands on, at the sample's shape: the array that the kernel leaves, and the claims about it.
-/
module

public import proofs.«01_k».proof.Proof.Gen.RwkvSIdeal.Value
public import proofs.«01_k».proof.Proof.Gen.RwkvSRefIdeal.Read
public import proofs.«01_k».proof.Defs
public import Idealize.ShloMosaic.Lib.Pipeline.ValueKit
public import Idealize.ShloMosaic.Adequacy

@[expose] public section

set_option maxRecDepth 16384

noncomputable section

namespace Cert.RwkS

open Idealize.ShloMosaic Idealize.ShloMosaic.TcCoe
open Idealize.SL.Sem

section
open Cert.RwkvSIdeal Cert.RwkvSIdeal.Gen Cert.RwkvSIdeal.Value

variable (m : (ℓ : Loc nD τ sig) → Buf (Elt Ideal) ℓ) (c : Dev nD)

/-- The places of the input and of the shift at a point: one sequence. -/
theorem places : ∀ t : Fin grid0.N, win0_0.index t = ![t.val, 0, 0] ∧ win0_16.index t = ![t.val, 0, 0] := by
  decide +kernel

/-- The input's block of a point. -/
theorem blk0 (t : Fin grid0.N) (b : Fin 8) (hb : t.val = b.val) (r : Fin 32) (k : Fin 1024) :
    (iblk m c 0 t : S1x32x1024.Idx → EReal) (ix3 0 r k) = (m ((c : Thread nD τ).loc main_arg0) : S8x32x1024.Idx → EReal) (ix3 b r k) := by
  obtain ⟨e0, e1⟩ := places t
  rw [hb] at e0
  blk_ext [iblk, V, e0]

/-- What a point stores as the shift: the last row of its block. -/
theorem stored (t : Fin cfg0.N) (k : Fin 1024) :
    ((outsAt0 m c t).2.2 : S1x1x1024.Idx → EReal) (ix3 0 0 k) = (iblk m c 0 t : S1x32x1024.Idx → EReal) (ix3 0 31 k) := by
  unfold outsAt0
  frame_out
  pointwise [k0_pay3, k0_pay6]

/-- The array of the shifts: every sequence's last row. -/
theorem arr16_apply (b : Fin 8) (k : Fin 1024) :
    ((dats m 0 c).arrAt 16 cfg0.N : S8x1x1024.Idx → EReal) (ix3 b 0 k) = (m ((c : Thread nD τ).loc main_arg0) : S8x32x1024.Idx → EReal) (ix3 b 31 k) := by
  have hN : cfg0.N = 8 := N_0
  have hb0 := b.isLt
  let t : Fin cfg0.N := ⟨b.val, by omega⟩
  obtain ⟨e0, e1⟩ := places t
  have hb : t.val = b.val := rfl
  rw [hb] at e1
  have hk := congrFun (blocks16 m c t (flush0_16 t)) (ix3 (0 : Fin 1) (0 : Fin 1) k)
  have hp : ((cfg0.win 16).blk t).view.emb (ix3 (0 : Fin 1) (0 : Fin 1) k) = ix3 b (0 : Fin 1) k := by
    blk_ext [e1]
  have hl : ((cfg0.win 16).blk t).view.read (Elt Ideal) ((dats m 0 c).arrAt 16 cfg0.N) (ix3 (0 : Fin 1) (0 : Fin 1) k)
      = (dats m 0 c).arrAt 16 cfg0.N (ix3 b (0 : Fin 1) k) := by
    rw [← hp]; rfl
  rw [← hl, hk, flushed16]
  exact (stored m c t k).trans (blk0 m c t b rfl 31 k)

end

/-- The reference ends with its arguments unchanged and every semaphore at zero. -/
theorem frame_ref : Cert.quiescent_RwkvSRefIdeal (hRwkvSRefIdeal := Cert.RwkvSRefIdeal.Gen.facts) := fun m ρ _ =>
  (θ_run Cert.RwkvSRefIdeal.defs _ _).mono (fun r h => ⟨fun c => (h c).2, sem_eq_zero_of_no_sems (by decide) r.2⟩)
    (Cert.RwkvSRefIdeal.Value.run (F := Ideal) m ρ)

/-- Kernel and reference leave the same shifts. -/
theorem algebraic : Cert.algebraic_RwkvSIdeal_RwkvSRefIdeal (hRwkvSIdeal := Cert.RwkvSIdeal.Gen.facts)
    (hRwkvSRefIdeal := Cert.RwkvSRefIdeal.Gen.facts) := by
  intro m g m' g' _ hagree
  refine ⟨fun c => (Cert.RwkvSIdeal.Gen.dats m 0 c).arrAt 16 Cert.RwkvSIdeal.cfg0.N,
    (θ_run _ _ _).mono (fun r h c => (h c).2.2) (Cert.RwkvSIdeal.Value.run_blocks m g), (θ_run _ _ _).mono (fun r h c => ?_) (Cert.RwkvSRefIdeal.Value.run m' g')⟩
  have a0 := (hagree c).1
  obtain ⟨h0, hk⟩ := h c
  refine ⟨h0.trans ?_, hk⟩
  rw [Cert.RwkvSRefIdeal.Read.val_main_v0_eq, a0]
  funext i
  obtain ⟨b, p, L, rfl⟩ : ∃ (b : Fin 8) (p : Fin 1) (L : Fin 1024), i = ix3 b p L := ⟨i 0, i 1, i 2, funext fun a => by fin_cases a <;> rfl⟩
  obtain rfl : p = 0 := Subsingleton.elim _ _
  refine Eq.trans ?_ (arr16_apply m c b L).symm
  rw [Cert.RwkvSRefIdeal.Read.val_main_v0_apply]
  refine congrArg _ (funext fun a => Fin.ext ?_)
  fin_cases a <;> rfl

end Cert.RwkS
end
-- ==== Proof.HgrnRows.lean ====
/-
  The mathematics of the gated recurrence's state over real gates: rows after rows.
-/
module

public import proofs.«01_k».proof.Proof.HgrnMath

@[expose] public section

set_option maxRecDepth 16384

noncomputable section

namespace Cert.Hgr

open Idealize.ShloMosaic

/-- Over reals the logarithm of the gate is real. -/
theorem logGate_real (lb z : ℝ) : logGate lb z = ((logGate lb z).toReal : EReal) := by
  have key : ∃ g : ℝ, logGate lb z = g := by
    unfold logGate
    have hz : logSig z = ((-Cert.Att.sp (-z) : ℝ) : EReal) := logSig_real z
    rw [hz, Ideal.log1p, ← EReal.coe_neg, ← EReal.coe_one, ← EReal.coe_add, Ideal.log_coe, Ideal.log_coe]
    by_cases h0 : lb ≤ 0
    · rw [if_pos h0, if_neg (by linarith), ← EReal.coe_add]
      exact ⟨_, (lse_bot_left _).1⟩
    · rw [if_neg h0]
      by_cases h1 : 1 + -lb ≤ 0
      · rw [if_pos h1, EReal.bot_add]
        exact ⟨_, (lse_bot_right _).1⟩
      · rw [if_neg h1, ← EReal.coe_add]
        obtain ⟨g, h, _⟩ := lse_real (Real.log lb) (Real.log (1 + -lb) + -Cert.Att.sp (-z))
        exact ⟨g, h⟩
  obtain ⟨g, h⟩ := key
  rw [h, EReal.toReal_coe]

/-- What `T` rows with log gates `g` and values `v` make of an element `s` of the state. -/
def after (T : ℕ) (g : ℕ → ℝ) (v : ℕ → EReal) (s : EReal) : EReal :=
  s * ((Real.exp (∑ t ∈ Finset.range T, g t) : ℝ) : EReal)
    + ∑ n ∈ Finset.range T, v n * (((1 - Real.exp (g n)) * Real.exp (∑ t ∈ Finset.Ico (n + 1) T, g t) : ℝ) : EReal)

/-- No rows leave the state. -/
theorem after_zero (g : ℕ → ℝ) (v : ℕ → EReal) (s : EReal) : after 0 g v s = s := by
  simp [after]

theorem mul_pos_real (x y : EReal) (r : ℝ) (h : 0 ≤ r) : (x + y) * (r : EReal) = x * r + y * r :=
  EReal.right_distrib_of_nonneg_of_ne_top (EReal.coe_nonneg.mpr h) (EReal.coe_ne_top r) x y

theorem sum_mul_real (n : ℕ) (f : ℕ → EReal) (r : ℝ) (h : 0 ≤ r) :
    (∑ i ∈ Finset.range n, f i) * (r : EReal) = ∑ i ∈ Finset.range n, f i * r := by
  induction n with
  | zero => simp
  | succ n ih => rw [Finset.sum_range_succ, mul_pos_real _ _ _ h, ih, Finset.sum_range_succ]

/-- Rows after rows. -/
theorem after_add (A T : ℕ) (g : ℕ → ℝ) (v : ℕ → EReal) (s : EReal) :
    after T (fun n => g (A + n)) (fun n => v (A + n)) (after A g v s) = after (A + T) g v s := by
  unfold after
  have hR : ∑ t ∈ Finset.range (A + T), g t = ∑ t ∈ Finset.range A, g t + ∑ t ∈ Finset.range T, g (A + t) := Finset.sum_range_add _ _ _
  rw [mul_pos_real _ _ _ (Real.exp_pos _).le, mul_assoc, ← EReal.coe_mul, ← Real.exp_add, ← hR, add_assoc,
    Finset.sum_range_add (fun n => v n * (((1 - Real.exp (g n)) * Real.exp (∑ t ∈ Finset.Ico (n + 1) (A + T), g t) : ℝ) : EReal)) A T,
    sum_mul_real _ _ _ (Real.exp_pos _).le]
  refine congrArg (fun x : EReal => _ + x) (congrArg₂ (fun x y : EReal => x + y) (Finset.sum_congr rfl fun n hn => ?_) (Finset.sum_congr rfl fun n hn => ?_))
  · have hn : n < A := Finset.mem_range.mp hn
    have hI : ∑ t ∈ Finset.Ico (n + 1) (A + T), g t = ∑ t ∈ Finset.Ico (n + 1) A, g t + ∑ t ∈ Finset.range T, g (A + t) := by
      rw [← Finset.sum_Ico_consecutive g (show n + 1 ≤ A by omega) (show A ≤ A + T by omega), Finset.sum_Ico_eq_sum_range g A (A + T),
        show A + T - A = T by omega]
    rw [mul_assoc, ← EReal.coe_mul, mul_assoc, ← Real.exp_add, ← hI]
  · have hJ : ∑ t ∈ Finset.Ico (n + 1) T, g (A + t) = ∑ t ∈ Finset.Ico (A + n + 1) (A + T), g t := by
      rw [show A + n + 1 = n + 1 + A by omega, add_comm A T]
      exact (Finset.sum_Ico_add g (n + 1) T A)
    rw [hJ]

/-- A finite sum of reals, as an extended real. -/
theorem coe_sum (n : ℕ) (g : ℕ → ℝ) : ∑ r ∈ Finset.range n, (g r : EReal) = ((∑ r ∈ Finset.range n, g r : ℝ) : EReal) := by
  induction n with
  | zero => simp
  | succ n ih => rw [Finset.sum_range_succ, Finset.sum_range_succ, ih, EReal.coe_add]

/-- The sum up to a row, written as a sum over all rows. -/
theorem sum_upto {T : ℕ} (t : Fin T) (g : ℕ → ℝ) :
    (∑ r : Fin T, if r ≤ t then (g r.val : EReal) else 0) = ((∑ r ∈ Finset.range (t.val + 1), g r : ℝ) : EReal) := by
  have ht := t.isLt
  have hset : Finset.filter (fun r => r ≤ t.val) (Finset.range T) = Finset.range (t.val + 1) := by
    ext r
    simp only [Finset.mem_filter, Finset.mem_range]
    omega
  rw [← coe_sum, ← hset, Finset.sum_filter, ← Fin.sum_univ_eq_sum_range (fun r => if r ≤ t.val then (g r : EReal) else 0) T]
  exact Finset.sum_congr rfl fun r _ => rfl

/-- The rows' effect, written with running sums as the programs compute it. -/
theorem newElem_eq {T : ℕ} (last : Fin T) (hlast : last.val + 1 = T) (s : EReal) (V G : Fin T → EReal) (g : ℕ → ℝ) (v : ℕ → EReal)
    (hG : ∀ r, G r = (g r.val : EReal)) (hV : ∀ r, V r = v r.val) : newElem last s V G = after T g v s := by
  unfold newElem after
  simp only [hG, hV, sum_upto, hlast, Ideal.exp_coe]
  rw [← Fin.sum_univ_eq_sum_range (fun n => v n * (((1 - Real.exp (g n)) * Real.exp (∑ t ∈ Finset.Ico (n + 1) T, g t) : ℝ) : EReal))]
  refine congrArg (fun x : EReal => _ + x) (Finset.sum_congr rfl fun r _ => ?_)
  have hr := r.isLt
  have hd : ∑ t ∈ Finset.range T, g t - ∑ t ∈ Finset.range (r.val + 1), g t = ∑ t ∈ Finset.Ico (r.val + 1) T, g t :=
    (Finset.sum_Ico_eq_sub g (show r.val + 1 ≤ T by omega)).symm
  rw [← EReal.coe_sub, hd, Ideal.exp_coe, ← EReal.coe_one, ← EReal.coe_sub, ← EReal.coe_mul]

end Cert.Hgr
end
-- ==== Proof.HgrnBody.lean ====
/-
  The state of the gated recurrence at the prompt's shape: what a block's rows make of it.
-/
module

public import proofs.«01_k».proof.Proof.HgrnRows
public import proofs.«01_k».proof.Proof.Gen.HgrnIdeal.Value
public import Idealize.ShloMosaic.Lib.Pipeline.ValueKit
public import Idealize.ShloMosaic.Lib.Pipeline.ReadBack
public import Idealize.ShloMosaic.Lib.WordCmp

@[expose] public section

set_option maxRecDepth 16384

noncomputable section

namespace Cert.Hgr

open Idealize.ShloMosaic Idealize.ShloMosaic.TcCoe
open Cert.Att
open Cert.HgrnIdeal Cert.HgrnIdeal.Gen Cert.HgrnIdeal.Value

/-- The mask of the heads' own blocks, as the body holds it. -/
def mask : IVec S256x256 1 :=
  k0_pay16 k0_pay13 (iota .tc S256x256 32 [1] iota_S256x256_d1_w32) 64#32 k0_pay14 k0_pay15 1#32 0#32

/-- The running sums of the log gates, as the body holds them. -/
def gateSums (z : Vec Ideal S1x64x1024 .f32) (x2 x3 : Vec Ideal S1x256 .f32) : FVec Ideal S64x256 .f32 :=
  k0_pay12 (k0_pay8 z x2 x3) k0_pay11

/-- The new state, over the block, the two rows of the lower bound and the old state. -/
def newState (z : Vec Ideal S1x64x1024 .f32) (x2 x3 : Vec Ideal S1x256 .f32) (s : Vec Ideal S256x256 .f32) : FVec Ideal S256x256 .f32 :=
  k0_pay1 mask (k0_pay284 (k0_pay6 z) (k0_pay9 z x2 x3) (k0_pay283 (gateSums z x2 x3))) (k0_pay285 s (k0_pay282 (gateSums z x2 x3))) k0_pay286

variable (m : (ℓ : Loc nD τ sig) → Buf (Elt Ideal) ℓ) (c : Dev nD)

/-- What a sequence's first point leaves in the scratch. -/
theorem carried_first (t : Fin cfg0.N) (h0 : t.val % 256 = 0) (h1 : ¬t.val % 256 = 255) :
    (outsAt0 m c t.val t.isLt).2.2 = (newState (iblk m c 0 t) (iblk m c 2 t) (iblk m c 3 t) (k0_pay4 (iblk m c 1 t)) : FVec Ideal S256x256 .f32) := by
  rw [outsAt0_A m c t h0 h1]
  frame_out
  rfl

/-- What any other point leaves in the scratch. -/
theorem carried_later (t : Fin cfg0.N) (h0 : ¬t.val % 256 = 0) :
    (outsAt0 m c t.val t.isLt).2.2 = (newState (iblk m c 0 t) (iblk m c 2 t) (iblk m c 3 t)
      (outsAt0 m c (t.val - 1) (Nat.lt_of_le_of_lt (Nat.sub_le _ _) t.isLt)).2.2 : FVec Ideal S256x256 .f32) := by
  by_cases h1 : t.val % 256 = 255
  · rw [outsAt0_C m c t h0 h1]
    frame_out
    rw [read_unread_whole]
    rfl
  · rw [outsAt0_B m c t h0 h1]
    frame_out
    rw [read_unread_whole]
    rfl

/-- What a sequence's last point stores as the state. -/
theorem stored (t : Fin cfg0.N) (h0 : ¬t.val % 256 = 0) (h1 : t.val % 256 = 255) :
    (outsAt0 m c t.val t.isLt).2.1 = (k0_pay3 (newState (iblk m c 0 t) (iblk m c 2 t) (iblk m c 3 t)
      (outsAt0 m c (t.val - 1) (Nat.lt_of_le_of_lt (Nat.sub_le _ _) t.isLt)).2.2) : FVec Ideal S1x256x256 .f32) := by
  rw [outsAt0_C m c t h0 h1]
  frame_out
  rw [read_unread_whole]
  rfl

/-- The head of a row. -/
theorem row_head (i j : Fin 256) : k0_pay13 (ix2 i j) = BitVec.ofNat 32 (i.val / 64) := by
  have h : ∀ i : Fin 256, k0_pay13 (ix2 i (0 : Fin 256)) = BitVec.ofNat 32 (i.val / 64) := by decide +kernel
  exact h i

/-- The mask holds where row and column are of one head. -/
theorem mask_apply (i j : Fin 256) : mask (ix2 i j) = 1#1 ↔ i.val / 64 = j.val / 64 := by
  have h : ∀ j : Fin 256, select (andi (cmpi .ne k0_pay15 (broadcast S256x256 (Scalar.subi 1#32 (Scalar.extui (Scalar.cmpi .slt 64#32 0#32)))))
      (cmpi .ne (remsi (iota .tc S256x256 32 [1] iota_S256x256_d1_w32) (broadcast S256x256 64#32)) (broadcast S256x256 0#32)))
      (subi k0_pay14 (broadcast S256x256 1#32)) k0_pay14 (ix2 (0 : Fin 256) j) = BitVec.ofNat 32 (j.val / 64) := by decide +kernel
  have hm : mask (ix2 i j) = IntOp.cmpi .eq (k0_pay13 (ix2 i j)) (BitVec.ofNat 32 (j.val / 64)) := by rw [← h j]; rfl
  rw [hm, row_head, WordCmp.cmpi_eq_ofNat (by omega) (by omega)]
  by_cases h : i.val / 64 = j.val / 64 <;> simp [h]

/-- The logarithm of the gate. -/
theorem pay8_apply (z : Vec Ideal S1x64x1024 .f32) (x2 x3 : Vec Ideal S1x256 .f32) (r : Fin 64) (j : Fin 256) :
    (k0_pay8 z x2 x3 : S64x256.Idx → EReal) (ix2 r j)
      = lse ((x2 : S1x256.Idx → EReal) (ix2 0 j)) ((x3 : S1x256.Idx → EReal) (ix2 0 j)
          + logSig ((z : S1x64x1024.Idx → EReal) (ix3 0 r ⟨256 + j.val, by omega⟩))) := by
  pointwise [k0_pay8, k0_pay5]
  rfl

/-- The factor one minus the gate. -/
theorem pay9_apply (z : Vec Ideal S1x64x1024 .f32) (x2 x3 : Vec Ideal S1x256 .f32) (r : Fin 64) (j : Fin 256) :
    (k0_pay9 z x2 x3 : S64x256.Idx → EReal) (ix2 r j) = 1 - Ideal.exp ((k0_pay8 z x2 x3 : S64x256.Idx → EReal) (ix2 r j)) := by
  pointwise [k0_pay9]

/-- The values' lanes. -/
theorem pay6_apply (z : Vec Ideal S1x64x1024 .f32) (r : Fin 64) (i : Fin 256) :
    (k0_pay6 z : S64x256.Idx → EReal) (ix2 r i) = (z : S1x64x1024.Idx → EReal) (ix3 0 r ⟨512 + i.val, by omega⟩) := by
  pointwise [k0_pay6, k0_pay5]

/-- The triangle's element: one where the column is not past the row. -/
theorem ge_apply (t x : Fin 64) :
    (FloatOps.sitofp (F := Ideal) FTy.f32 (BitVec.setWidth 32 (IntOp.cmpi CmpIPredicate.sge (BitVec.ofNat 32 t.val) (BitVec.ofNat 32 x.val))) : EReal)
      = if x ≤ t then 1 else 0 := by
  have h : ∀ t x : Fin 64, IntOp.cmpi CmpIPredicate.sge (BitVec.ofNat 32 t.val) (BitVec.ofNat 32 x.val) = if x ≤ t then 1#1 else 0#1 := by decide +kernel
  rw [h]
  by_cases hx : x ≤ t
  · rw [if_pos hx, if_pos hx]
    change (((1 : ℤ) : ℝ) : EReal) = 1
    norm_num
  · rw [if_neg hx, if_neg hx]
    change (((0 : ℤ) : ℝ) : EReal) = 0
    norm_num

/-- The running sums of log gates that are real. -/
theorem pay12_apply (L : FVec Ideal S64x256 .f32) (j : Fin 256) (g : ℕ → ℝ) (hL : ∀ r : Fin 64, (L : S64x256.Idx → EReal) (ix2 r j) = (g r.val : EReal))
    (t : Fin 64) : (k0_pay12 L k0_pay11 : S64x256.Idx → EReal) (ix2 t j) = ((∑ r ∈ Finset.range (t.val + 1), g r : ℝ) : EReal) := by
  pointwise [k0_pay12, k0_pay11]
  simp only [ge_apply]
  rw [← Finset.sum_add_distrib, ← sum_upto]
  refine Finset.sum_congr rfl fun r _ => ?_
  rw [hL r]
  by_cases hr : r ≤ t
  · simp only [if_pos hr, one_mul]
    rw [← EReal.coe_sub, sub_self, EReal.coe_zero, add_zero]
  · simp only [if_neg hr, zero_mul, add_zero]

/-- The new state, element by element. -/
theorem pay1_apply (V K B : FVec Ideal S64x256 .f32) (M : IVec S256x256 1) (s : Vec Ideal S256x256 .f32) (i j : Fin 256) :
    (k0_pay1 M (k0_pay284 V K (k0_pay283 B)) (k0_pay285 s (k0_pay282 B)) k0_pay286 : S256x256.Idx → EReal) (ix2 i j)
      = (s : S256x256.Idx → EReal) (ix2 i j) * Ideal.exp ((B : S64x256.Idx → EReal) (ix2 63 j))
        + Scalar.select (M (ix2 i j)) (∑ r : Fin 64, (V : S64x256.Idx → EReal) (ix2 r i)
            * ((K : S64x256.Idx → EReal) (ix2 r j) * Ideal.exp ((B : S64x256.Idx → EReal) (ix2 63 j) - (B : S64x256.Idx → EReal) (ix2 r j)))) 0 := by
  pointwise [k0_pay1, k0_pay282, k0_pay283, k0_pay284, k0_pay285, k0_pay286]

theorem select_one (x y : EReal) : Scalar.select 1#1 x y = x := rfl

theorem select_zero (x y : EReal) : Scalar.select 0#1 x y = y := rfl

/-- The new state's element, where row and column are of one head: the block's rows after the old state. -/
theorem newState_same (z : Vec Ideal S1x64x1024 .f32) (x2 x3 : Vec Ideal S1x256 .f32) (s : Vec Ideal S256x256 .f32) (i j : Fin 256) (h : i.val / 64 = j.val / 64)
    (lb : ℝ) (h2 : (x2 : S1x256.Idx → EReal) (ix2 0 j) = Ideal.log lb) (h3 : (x3 : S1x256.Idx → EReal) (ix2 0 j) = Ideal.log1p (-(lb : EReal)))
    (g : ℕ → ℝ) (v : ℕ → EReal) (hg : ∀ r : Fin 64, logGate lb ((z : S1x64x1024.Idx → EReal) (ix3 0 r ⟨256 + j.val, by omega⟩)) = (g r.val : EReal))
    (hv : ∀ r : Fin 64, (z : S1x64x1024.Idx → EReal) (ix3 0 r ⟨512 + i.val, by omega⟩) = v r.val) :
    (newState z x2 x3 s : S256x256.Idx → EReal) (ix2 i j) = after 64 g v ((s : S256x256.Idx → EReal) (ix2 i j)) := by
  have h8 : ∀ r : Fin 64, (k0_pay8 z x2 x3 : S64x256.Idx → EReal) (ix2 r j) = (g r.val : EReal) := fun r => by
    rw [pay8_apply, h2, h3, ← hg]; rfl
  have hB : ∀ t : Fin 64, (gateSums z x2 x3 : S64x256.Idx → EReal) (ix2 t j) = ((∑ r ∈ Finset.range (t.val + 1), g r : ℝ) : EReal) :=
    fun t => pay12_apply _ j g h8 t
  unfold newState
  rw [pay1_apply, (mask_apply i j).mpr h, select_one,
    ← newElem_eq 63 rfl _ (fun r => v r.val) (fun r => (g r.val : EReal)) g v (fun r => rfl) (fun r => rfl)]
  unfold newElem
  simp only [sum_upto, hB, pay9_apply, pay6_apply, h8, hv]

/-- The new state's element elsewhere, where the old one is zero. -/
theorem newState_other (z : Vec Ideal S1x64x1024 .f32) (x2 x3 : Vec Ideal S1x256 .f32) (s : Vec Ideal S256x256 .f32) (i j : Fin 256) (h : ¬ i.val / 64 = j.val / 64)
    (hs : (s : S256x256.Idx → EReal) (ix2 i j) = 0) : (newState z x2 x3 s : S256x256.Idx → EReal) (ix2 i j) = 0 := by
  have hm : mask (ix2 i j) = 0#1 := by
    have : ¬ mask (ix2 i j) = 1#1 := fun e => h ((mask_apply i j).mp e)
    revert this
    generalize mask (ix2 i j) = x
    revert x
    decide
  unfold newState
  rw [pay1_apply, hm, hs, zero_mul, zero_add, select_zero]

end Cert.Hgr
end
-- ==== Proof.HgrnOut.lean ====
/-
  The state of the gated recurrence at the prompt's shape: the array that the kernel leaves, element by element.
-/
module

public import proofs.«01_k».proof.Proof.HgrnBody

@[expose] public section

set_option maxRecDepth 16384

noncomputable section

namespace Cert.Hgr

open Idealize.ShloMosaic Idealize.ShloMosaic.TcCoe
open Cert.Att
open Cert.HgrnIdeal Cert.HgrnIdeal.Gen Cert.HgrnIdeal.Value

/-- The places of the windows at a point: block `t % 256` of sequence `t / 256`. -/
theorem places : ∀ t : Fin grid0.N,
    win0_0.index t = ![t.val / 256, t.val % 256, 0] ∧ win0_1.index t = ![t.val / 256, 0, 0]
    ∧ win0_2.index t = ![0, 0] ∧ win0_3.index t = ![0, 0] ∧ win0_6.index t = ![t.val / 256, 0, 0] := by
  decide +kernel

/-- The state is written back at a sequence's last point. -/
theorem flush_last : ∀ t : Fin grid0.N, t.val % 256 = 255 → win0_6.flush t = true := by
  decide +kernel

/-- The table that is one on its diagonal. -/
def eye : FVec Ideal S4x4 .f32 :=
  uitofp .f32 (cmpi .eq (addi (iotaInDim S4x4 32 0) (broadcastInDim S4x4 ![] bcast_S_S4x4 (constantI S_ 32 0#32))) (iotaInDim S4x4 32 1))

theorem eye_apply (p q : Fin 4) : (eye : S4x4.Idx → EReal) (ix2 p q) = if p = q then 1 else 0 := by
  have h : ∀ p q : Fin 4, (cmpi .eq (addi (iotaInDim S4x4 32 0) (broadcastInDim S4x4 ![] bcast_S_S4x4 (constantI S_ 32 0#32))) (iotaInDim S4x4 32 1) : IVec S4x4 1) (ix2 p q)
      = if p = q then 1#1 else 0#1 := by decide +kernel
  show (FloatOps.uitofp (F := Ideal) FTy.f32 ((cmpi .eq (addi (iotaInDim S4x4 32 0) (broadcastInDim S4x4 ![] bcast_S_S4x4 (constantI S_ 32 0#32))) (iotaInDim S4x4 32 1) : IVec S4x4 1) (ix2 p q)) : EReal) = _
  rw [h]
  by_cases e : p = q
  · rw [if_pos e, if_pos e]
    change (((1 : ℕ) : ℝ) : EReal) = 1
    norm_num
  · rw [if_neg e, if_neg e]
    change (((0 : ℕ) : ℝ) : EReal) = 0
    norm_num

/-- The heads' states, transposed, laid out as the diagonal blocks of one matrix. -/
theorem bd_apply (s : FVec Ideal S2x4x64x64 .f32) (e : FVec Ideal S4x4 .f32) (b : Fin 2) (i j : Fin 256) :
    (shapeCast S2x256x256 (mulf (F := Ideal) (φ := .f32)
        (broadcastInDim S2x4x64x4x64 ![0, 1, 2, 3, 4] bcast_S2x4x64x1x64_S2x4x64x4x64_0_1_2_3_4
          (broadcastInDim S2x4x64x1x64 ![0, 1, 2, 4] bcast_S2x4x64x64_S2x4x64x1x64_0_1_2_4 (transpose S2x4x64x64 [0, 1, 3, 2] s transposes_S2x4x64x64_S2x4x64x64_0_1_3_2)))
        (broadcastInDim S2x4x64x4x64 ![0, 1, 2, 3, 4] bcast_S1x4x1x4x1_S2x4x64x4x64_0_1_2_3_4
          (broadcastInDim S1x4x1x4x1 ![1, 3] bcast_S4x4_S1x4x1x4x1_1_3 e))) shapeCasts_S2x4x64x4x64_S2x256x256 : S2x256x256.Idx → EReal) (ix3 b i j)
      = (s : S2x4x64x64.Idx → EReal) (ix4 b (⟨i.val / 64, by omega⟩ : Fin 4) (⟨j.val % 64, by omega⟩ : Fin 64) (⟨i.val % 64, by omega⟩ : Fin 64))
        * (e : S4x4.Idx → EReal) (ix2 (⟨i.val / 64, by omega⟩ : Fin 4) (⟨j.val / 64, by omega⟩ : Fin 4)) := by
  have hb := b.isLt; have hi := i.isLt; have hj := j.isLt
  rw [shapeCast_apply _ shapeCasts_S2x4x64x4x64_S2x256x256 (ix3 b i j)
    (ix5 b (⟨i.val / 64, by omega⟩ : Fin 4) (⟨i.val % 64, by omega⟩ : Fin 64) (⟨j.val / 64, by omega⟩ : Fin 4) (⟨j.val % 64, by omega⟩ : Fin 64))
    (by rw [Shape.rowMajor_val_five, Shape.rowMajor_val_three]
        show (((b.val * 4 + i.val / 64) * 64 + i.val % 64) * 4 + j.val / 64) * 64 + j.val % 64 = (b.val * 256 + i.val) * 256 + j.val
        omega)]
  pointwise

variable (m : (ℓ : Loc nD τ sig) → Buf (Elt Ideal) ℓ) (c : Dev nD)

/-- The input, the old states and the lower bounds. -/
abbrev zArg : FVec Ideal S2x16384x1024 .f32 := m ((c : Thread nD τ).loc main_arg0)
abbrev sArg : FVec Ideal S2x4x64x64 .f32 := m ((c : Thread nD τ).loc main_arg1)
abbrev lbArg : FVec Ideal S256 .f32 := m ((c : Thread nD τ).loc main_arg2)

/-- The input's block of a point. -/
theorem blk0 (t : Fin grid0.N) (b : Fin 2) (q : Fin 256) (hb : t.val / 256 = b.val) (hq : t.val % 256 = q.val) (r : Fin 64) (k : Fin 1024) :
    (iblk m c 0 t : S1x64x1024.Idx → EReal) (ix3 0 r k) = (zArg m c : S2x16384x1024.Idx → EReal) (ix3 b ⟨64 * q.val + r.val, by omega⟩ k) := by
  obtain ⟨e0, e1, e2, e3, e6⟩ := places t
  rw [hb, hq] at e0
  blk_ext [iblk, V, e0]

/-- The old state's block of a point. -/
theorem blk1 (t : Fin grid0.N) (b : Fin 2) (hb : t.val / 256 = b.val) (i j : Fin 256) :
    (iblk m c 1 t : S1x256x256.Idx → EReal) (ix3 0 i j)
      = (sArg m c : S2x4x64x64.Idx → EReal) (ix4 b (⟨i.val / 64, by omega⟩ : Fin 4) (⟨j.val % 64, by omega⟩ : Fin 64) (⟨i.val % 64, by omega⟩ : Fin 64))
        * (if i.val / 64 = j.val / 64 then (1 : EReal) else 0) := by
  obtain ⟨e0, e1, e2, e3, e6⟩ := places t
  rw [hb] at e1
  have he : (iblk m c 1 t : S1x256x256.Idx → EReal) (ix3 0 i j) = (V m c main_v12 : S2x256x256.Idx → EReal) (ix3 b i j) := by
    blk_ext [iblk, e1]
  rw [he]
  refine (bd_apply (sArg m c) eye b i j).trans ?_
  rw [eye_apply]
  simp only [Fin.mk.injEq]

/-- The logarithm of the lower bound. -/
theorem blk2 (t : Fin grid0.N) (j : Fin 256) :
    (iblk m c 2 t : S1x256.Idx → EReal) (ix2 0 j) = Ideal.log ((lbArg m c : S256.Idx → EReal) (ix1 j)) := by
  obtain ⟨e0, e1, e2, e3, e6⟩ := places t
  have hv : (V m c main_v14 : S1x256.Idx → EReal)
      = (shapeCast S1x256 (Host.log (lbArg m c)) shapeCasts_S256_S1x256) := rfl
  have he : (iblk m c 2 t : S1x256.Idx → EReal) (ix2 0 j) = (V m c main_v14 : S1x256.Idx → EReal) (ix2 0 j) := by
    blk_ext [iblk, e2]
  rw [he, hv]
  pointwise

/-- The logarithm of one minus the lower bound. -/
theorem blk3 (t : Fin grid0.N) (j : Fin 256) :
    (iblk m c 3 t : S1x256.Idx → EReal) (ix2 0 j) = Ideal.log1p (-((lbArg m c : S256.Idx → EReal) (ix1 j))) := by
  obtain ⟨e0, e1, e2, e3, e6⟩ := places t
  have hv : (V m c main_v17 : S1x256.Idx → EReal)
      = (shapeCast S1x256 (Host.log1p (Host.negf (lbArg m c))) shapeCasts_S256_S1x256) := rfl
  have he : (iblk m c 3 t : S1x256.Idx → EReal) (ix2 0 j) = (V m c main_v17 : S1x256.Idx → EReal) (ix2 0 j) := by
    blk_ext [iblk, e3]
  rw [he, hv]
  pointwise

/-- The block of the state, as a matrix, and the matrix as a block. -/
theorem pay4_apply (x : Vec Ideal S1x256x256 .f32) (i j : Fin 256) : (k0_pay4 x : S256x256.Idx → EReal) (ix2 i j) = x (ix3 0 i j) := by
  pointwise [k0_pay4]

theorem pay3_apply (x : Vec Ideal S256x256 .f32) (i j : Fin 256) : (k0_pay3 x : S1x256x256.Idx → EReal) (ix3 0 i j) = x (ix2 i j) := by
  pointwise [k0_pay3]

/-- The log gates of a sequence's column, and the values of another, row by row. -/
def gOf (b : Fin 2) (j : Fin 256) (x : ℝ) (n : ℕ) : ℝ :=
  if h : n < 16384 then (logGate x ((zArg m c : S2x16384x1024.Idx → EReal) (ix3 b (⟨n, h⟩ : Fin 16384) ⟨256 + j.val, by omega⟩))).toReal else 0

def vOf (b : Fin 2) (i : Fin 256) (n : ℕ) : EReal :=
  if h : n < 16384 then (zArg m c : S2x16384x1024.Idx → EReal) (ix3 b (⟨n, h⟩ : Fin 16384) ⟨512 + i.val, by omega⟩) else 0

/-- The log gate and the value of a row of the sequence. -/
theorem gOf_row (b : Fin 2) (j : Fin 256) (x y : ℝ) (r : Fin 16384)
    (hy : (zArg m c : S2x16384x1024.Idx → EReal) (ix3 b r ⟨256 + j.val, by omega⟩) = y) :
    logGate x ((zArg m c : S2x16384x1024.Idx → EReal) (ix3 b r ⟨256 + j.val, by omega⟩)) = ((gOf m c b j x r.val : ℝ) : EReal) := by
  unfold gOf
  rw [dif_pos r.isLt, hy]
  exact logGate_real x y

theorem vOf_row (b : Fin 2) (i : Fin 256) (r : Fin 16384) :
    (zArg m c : S2x16384x1024.Idx → EReal) (ix3 b r ⟨512 + i.val, by omega⟩) = vOf m c b i r.val := by
  unfold vOf
  rw [dif_pos r.isLt]

/-- The old state's element that belongs to row `i` and column `j`. -/
def sOf (b : Fin 2) (i j : Fin 256) : EReal :=
  (sArg m c : S2x4x64x64.Idx → EReal) (ix4 b (⟨j.val / 64, by omega⟩ : Fin 4) (⟨j.val % 64, by omega⟩ : Fin 64) (⟨i.val % 64, by omega⟩ : Fin 64))

section
variable (b : Fin 2) (i j : Fin 256) (x : ℝ) (hx : (lbArg m c : S256.Idx → EReal) (ix1 j) = x)
  (hz : ∀ n : Fin 16384, ∃ y : ℝ, (zArg m c : S2x16384x1024.Idx → EReal) (ix3 b n ⟨256 + j.val, by omega⟩) = y)
include hx hz

/-- One block after the old state. -/
theorem step (t : Fin cfg0.N) (q : Fin 256) (hb : t.val / 256 = b.val) (hq : t.val % 256 = q.val) (h : i.val / 64 = j.val / 64) (s : Vec Ideal S256x256 .f32)
    (hs : (s : S256x256.Idx → EReal) (ix2 i j) = after (64 * q.val) (gOf m c b j x) (vOf m c b i) (sOf m c b i j)) :
    (newState (iblk m c 0 t) (iblk m c 2 t) (iblk m c 3 t) s : S256x256.Idx → EReal) (ix2 i j)
      = after (64 * (q.val + 1)) (gOf m c b j x) (vOf m c b i) (sOf m c b i j) := by
  have hq0 := q.isLt
  rw [show 64 * (q.val + 1) = 64 * q.val + 64 by omega, ← after_add, ← hs]
  refine newState_same _ _ _ _ i j h x ((blk2 m c t j).trans (by rw [hx])) ((blk3 m c t j).trans (by rw [hx])) _ _ (fun r => ?_) (fun r => ?_)
  · have hr := r.isLt
    rw [blk0 m c t b q hb hq]
    unfold gOf
    rw [dif_pos (show 64 * q.val + r.val < 16384 by omega)]
    obtain ⟨y, hy⟩ := hz ⟨64 * q.val + r.val, by omega⟩
    rw [hy]
    exact logGate_real x y
  · have hr := r.isLt
    rw [blk0 m c t b q hb hq]
    unfold vOf
    rw [dif_pos (show 64 * q.val + r.val < 16384 by omega)]

/-- The scratch after a point: all rows so far. -/
theorem carried_same (h : i.val / 64 = j.val / 64) (q : ℕ) (hq : q < 256) (hn : 256 * b.val + q < cfg0.N) :
    ((outsAt0 m c (256 * b.val + q) hn).2.2 : S256x256.Idx → EReal) (ix2 i j)
      = after (64 * (q + 1)) (gOf m c b j x) (vOf m c b i) (sOf m c b i j) := by
  induction q with
  | zero =>
    have hb : (256 * b.val + 0) / 256 = b.val := by omega
    rw [carried_first m c ⟨256 * b.val + 0, hn⟩ (by simp only; omega) (by simp only; omega)]
    refine step m c b i j x hx hz ⟨256 * b.val + 0, hn⟩ 0 hb (by simp only; change _ = 0; omega) h _ ?_
    change _ = after 0 _ _ _
    rw [after_zero]
    refine (pay4_apply _ i j).trans ((blk1 m c ⟨256 * b.val + 0, hn⟩ b hb i j).trans ?_)
    rw [if_pos h, mul_one]
    unfold sOf
    have hq : (⟨i.val / 64, by omega⟩ : Fin 4) = (⟨j.val / 64, by omega⟩ : Fin 4) := Fin.ext h
    rw [hq]
  | succ q ih =>
    have hb : (256 * b.val + (q + 1)) / 256 = b.val := by omega
    rw [carried_later m c ⟨256 * b.val + (q + 1), hn⟩ (by simp only; omega)]
    exact step m c b i j x hx hz ⟨256 * b.val + (q + 1), hn⟩ ⟨q + 1, hq⟩ hb (by simp only; omega) h _ (ih (by omega) (by omega))

end

/-- The scratch after a point, where row and column are of different heads: zero. -/
theorem carried_other (b : Fin 2) (i j : Fin 256) (h : ¬ i.val / 64 = j.val / 64) (q : ℕ) (hq : q < 256) (hn : 256 * b.val + q < cfg0.N) :
    ((outsAt0 m c (256 * b.val + q) hn).2.2 : S256x256.Idx → EReal) (ix2 i j) = 0 := by
  induction q with
  | zero =>
    have hb : (256 * b.val + 0) / 256 = b.val := by omega
    rw [carried_first m c ⟨256 * b.val + 0, hn⟩ (by simp only; omega) (by simp only; omega)]
    refine newState_other _ _ _ _ i j h ((pay4_apply _ i j).trans ((blk1 m c ⟨256 * b.val + 0, hn⟩ b hb i j).trans ?_))
    rw [if_neg h, mul_zero]
  | succ q ih =>
    rw [carried_later m c ⟨256 * b.val + (q + 1), hn⟩ (by simp only; omega)]
    exact newState_other _ _ _ _ i j h (ih (by omega) (by omega))

/-- The array of the states: the heads' new states, transposed, on the diagonal, and zero elsewhere. -/
theorem arr6_apply (b : Fin 2) (i j : Fin 256) (x : ℝ) (hx : (lbArg m c : S256.Idx → EReal) (ix1 j) = x)
    (hz : ∀ n : Fin 16384, ∃ y : ℝ, (zArg m c : S2x16384x1024.Idx → EReal) (ix3 b n ⟨256 + j.val, by omega⟩) = y) :
    ((dats m 0 c).arrAt 6 cfg0.N : S2x256x256.Idx → EReal) (ix3 b i j)
      = if i.val / 64 = j.val / 64 then after 16384 (gOf m c b j x) (vOf m c b i) (sOf m c b i j) else 0 := by
  have hN : cfg0.N = 512 := N_0
  have hb0 := b.isLt
  have hn : 256 * b.val + 255 < cfg0.N := by omega
  let t : Fin cfg0.N := ⟨256 * b.val + 255, hn⟩
  have hb : t.val / 256 = b.val := by change (256 * b.val + 255) / 256 = b.val; omega
  have hq : t.val % 256 = 255 := by change (256 * b.val + 255) % 256 = 255; omega
  obtain ⟨e0, e1, e2, e3, e6⟩ := places t
  rw [hb] at e6
  have hk := congrFun (flushed6_eq m c t (flush_last t hq)) (ix3 (0 : Fin 1) i j)
  have hp : ((cfg0.win 6).blk t).view.emb (ix3 (0 : Fin 1) i j) = ix3 b i j := by
    blk_ext [e6]
  have hl : ((cfg0.win 6).blk t).view.read (Elt Ideal) (G6 m c) (ix3 (0 : Fin 1) i j) = G6 m c (ix3 b i j) := by
    rw [← hp]; rfl
  rw [final6, ← hl, ← hk, flushed6, stored m c t (by omega) hq, ← carried_later m c t (by omega)]
  refine (pay3_apply _ i j).trans ?_
  split_ifs with h
  · exact carried_same m c b i j x hx hz h 255 (by omega) hn
  · exact carried_other m c b i j h 255 (by omega) hn

end Cert.Hgr
end
-- ==== Proof.HgrnRef.lean ====
/-
  The state of the gated recurrence at the prompt's shape: the reference's result at an index.
-/
module

public import proofs.«01_k».proof.Proof.HgrnRows
public import proofs.«01_k».proof.Proof.Earlier
public import proofs.«01_k».proof.Proof.Gen.HgrnRefIdeal.Read

@[expose] public section

set_option maxRecDepth 16384

noncomputable section

namespace Cert.Hgr

open Idealize.ShloMosaic
open Cert.Att
open Cert.HgrnRefIdeal Cert.HgrnRefIdeal.Gen Cert.HgrnRefIdeal.Read

variable (z : (⟨S2x16384x1024, .f32⟩ : BufTy).Contents (Elt Ideal)) (s : (⟨S2x4x64x64, .f32⟩ : BufTy).Contents (Elt Ideal))
  (lb : (⟨S256, .f32⟩ : BufTy).Contents (Elt Ideal))

/-- The logarithm of the gate. -/
theorem v24_apply (b : Fin 2) (r : Fin 16384) (j : Fin 256) (x : ℝ) (hx : (lb : S256.Idx → EReal) (ix1 j) = x) :
    (val_main_v24 (F := Ideal) z lb : S2x16384x256.Idx → EReal) (ix3 b r j)
      = logGate x ((z : S2x16384x1024.Idx → EReal) (ix3 b r ⟨256 + j.val, by omega⟩)) := by
  rw [← (logGate_eq x _).1, ← hx]
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v1_apply,
    val_main_call0_v1_apply, val_main_call0_call0_v4_apply, val_main_call0_call0_v6_apply,
    val_main_call0_call0_v11_apply, val_main_call0_call0_v10_apply, val_main_call0_call0_v9_apply,
    val_main_call0_call0_v8_apply, val_main_call0_call0_v7_apply, val_main_call0_call0_v1_apply,
    val_main_call0_call0_v3_apply, val_main_call0_call0_v0_apply, val_main_call0_call0_v2_apply,
    val_main_call0_call0_v5_apply, val_main_call0_v0_apply, val_main_call0_call0_cst_apply]
  have ez : idx_main_v1 (ix3 b r j) = ix3 b r (⟨256 + j.val, by omega⟩ : Fin 1024) := funext fun a => Fin.ext (by fin_cases a <;> rfl)
  have e1 : idx_main_v8 (idx_main_v9 (ix3 b r j)) = ix1 j := funext fun a => Fin.ext (by fin_cases a; rfl)
  have e2 : idx_main_v11 (idx_main_v12 (ix3 b r j)) = ix1 j := funext fun a => Fin.ext (by fin_cases a; rfl)
  have e3 : idx_main_v11 (idx_main_v14 (ix3 b r j)) = ix1 j := funext fun a => Fin.ext (by fin_cases a; rfl)
  have e4 : idx_main_v11 (idx_main_v17 (ix3 b r j)) = ix1 j := funext fun a => Fin.ext (by fin_cases a; rfl)
  simp only [ez, e1, e2, e3, e4]
  generalize (z : S2x16384x1024.Idx → EReal) (ix3 b r (⟨256 + j.val, by omega⟩ : Fin 1024)) = g
  generalize (lb : S256.Idx → EReal) (ix1 j) = l
  unfold lae splus
  rw [← zero_bits]
  rfl

/-- The running sum of the log gates. -/
theorem v27_apply (b : Fin 2) (t : Fin 16384) (j : Fin 256) (x : ℝ) (hx : (lb : S256.Idx → EReal) (ix1 j) = x) :
    (val_main_v27 (F := Ideal) z lb : S2x16384x256.Idx → EReal) (ix3 b t j)
      = ∑ r : Fin 16384, if r ≤ t then logGate x ((z : S2x16384x1024.Idx → EReal) (ix3 b r ⟨256 + j.val, by omega⟩)) else 0 := by
  have hz : val_main_call1_v0 (F := Ideal) (Shape.Idx.first h_S_) = 0 := by
    rw [val_main_call1_v0_apply, val_main_call1_cst_apply]; exact zero_bits
  let F : ℕ → EReal := fun r => if h : r < 16384 then logGate x ((z : S2x16384x1024.Idx → EReal) (ix3 b (⟨r, h⟩ : Fin 16384) ⟨256 + j.val, by omega⟩)) else 0
  have hF : ∀ r : Fin 16384, F r.val = logGate x ((z : S2x16384x1024.Idx → EReal) (ix3 b r ⟨256 + j.val, by omega⟩)) := fun r => dif_pos r.isLt
  unfold val_main_v27 Host.reduceWindowAdd
  rw [hz]
  refine (window_sum_below (M := 16383) rfl _ _ b t j F fun r => (v24_apply z lb b r j x hx).trans (hF r).symm).trans ?_
  have h1 := Fin.sum_univ_eq_sum_range (fun r => if r ≤ t.val then F r else 0) 16384
  have hset : Finset.filter (fun r => r ≤ t.val) (Finset.range 16384) = Finset.range (t.val + 1) := by
    ext r
    simp only [Finset.mem_filter, Finset.mem_range]
    omega
  rw [← hset, Finset.sum_filter, ← h1]
  exact Finset.sum_congr rfl fun r _ => by rw [hF r]; rfl

/-- The negated exponential minus one. -/
theorem neg_expm1 (g : EReal) : FloatOps.hostNegf (F := Ideal) (φ := .f32) (FloatOps.hostUnary (F := Ideal) (φ := .f32) .expm1 g) = 1 - Ideal.exp g := by
  show -(Ideal.exp g - 1) = 1 - Ideal.exp g
  rw [EReal.neg_sub (by right; exact EReal.coe_ne_bot 1) (by right; exact EReal.coe_ne_top 1), sub_eq_add_neg, add_comm]

/-- The old state's part. -/
theorem head_eq (B s : EReal) : FloatOps.mulf (F := Ideal) (φ := .f32) (FloatOps.hostUnary (F := Ideal) (φ := .f32) .exp B) s = s * Ideal.exp B :=
  mul_comm (Ideal.exp B) s

/-- One row's part. -/
theorem term_eq (g B C v : EReal) :
    FloatOps.mulf (F := Ideal) (φ := .f32) (FloatOps.hostNegf (F := Ideal) (φ := .f32) (FloatOps.hostUnary (F := Ideal) (φ := .f32) .expm1 g))
        (FloatOps.hostUnary (F := Ideal) (φ := .f32) .exp (FloatOps.subf (F := Ideal) (φ := .f32) B C)) * v
      = v * ((1 - Ideal.exp g) * Ideal.exp (B - C)) := by
  rw [neg_expm1]
  exact mul_comm ((1 - Ideal.exp g) * Ideal.exp (B - C)) v

/-- The new states' element. -/
theorem v40_apply (last : Fin 16384) (hl : last.val = 16383) (b : Fin 2) (h : Fin 4) (k v : Fin 64) (x : ℝ) (hx : (lb : S256.Idx → EReal) (ix1 ⟨64 * h.val + k.val, by omega⟩) = x) :
    (val_main_v40 (F := Ideal) z s lb : S2x4x64x64.Idx → EReal) (ix4 b h k v)
      = newElem last ((s : S2x4x64x64.Idx → EReal) (ix4 b h k v)) (fun r => (z : S2x16384x1024.Idx → EReal) (ix3 b r ⟨512 + (64 * h.val + v.val), by omega⟩))
          (fun r => logGate x ((z : S2x16384x1024.Idx → EReal) (ix3 b r ⟨256 + (64 * h.val + k.val), by omega⟩))) := by
  have hb := b.isLt; have hh := h.isLt; have hk := k.isLt; have hv := v.isLt
  have i30 : idx_main_v28 (idx_main_v30 (idx_main_v31 (ix4 b h k v))) = ix3 b last (⟨64 * h.val + k.val, by omega⟩ : Fin 256) := by
    funext a
    apply Fin.ext
    fin_cases a
    · show (((b.val * 4 + h.val) * 64 + k.val) * 1 + 0) / 256 = b.val; omega
    · exact hl.symm
    · show (((b.val * 4 + h.val) * 64 + k.val) * 1 + 0) % 256 = 64 * h.val + k.val; omega
  rw [val_main_v40_apply, val_main_v32_apply, val_main_v31_apply, val_main_v30_apply, val_main_v29_apply, val_main_v28_apply, i30,
    v27_apply z lb b last _ x hx, val_main_v39_apply]
  unfold newElem
  refine congrArg₂ (fun p q : EReal => p + q) ?_ (Finset.sum_congr rfl fun r _ => ?_)
  · dsimp only
    exact head_eq _ _
  have hr := r.isLt
  have i37 : idx_main_v37 (lidx_main_v39 (ix4 b h k v) r) = ix3 b r (⟨64 * h.val + k.val, by omega⟩ : Fin 256) := by
    funext a
    apply Fin.ext
    fin_cases a
    · show (((b.val * 16384 + r.val) * 4 + h.val) * 64 + k.val) / 4194304 = b.val; omega
    · show (((b.val * 16384 + r.val) * 4 + h.val) * 64 + k.val) / 256 % 16384 = r.val; omega
    · show (((b.val * 16384 + r.val) * 4 + h.val) * 64 + k.val) % 256 = 64 * h.val + k.val; omega
  have i38 : idx_main_v2 (idx_main_v38 (ridx_main_v39 (ix4 b h k v) r)) = ix3 b r (⟨512 + (64 * h.val + v.val), by omega⟩ : Fin 1024) := by
    funext a
    apply Fin.ext
    fin_cases a
    · show (((b.val * 16384 + r.val) * 4 + h.val) * 64 + v.val) / 4194304 = b.val; omega
    · show (((b.val * 16384 + r.val) * 4 + h.val) * 64 + v.val) / 256 % 16384 = r.val; omega
    · show 512 + (((b.val * 16384 + r.val) * 4 + h.val) * 64 + v.val) % 256 = 512 + (64 * h.val + v.val); omega
  have i28 : idx_main_v28 (idx_main_v33 (ix3 b r (⟨64 * h.val + k.val, by omega⟩ : Fin 256))) = ix3 b last (⟨64 * h.val + k.val, by omega⟩ : Fin 256) :=
    funext fun a => Fin.ext (by
      fin_cases a
      · rfl
      · exact hl.symm
      · rfl)
  rw [val_main_v37_apply, i37, val_main_v38_apply, val_main_v2_apply, i38, val_main_v36_apply, val_main_v35_apply, val_main_v34_apply,
    val_main_v33_apply, val_main_v28_apply, i28, v27_apply z lb b last _ x hx, v27_apply z lb b r _ x hx, val_main_v26_apply, val_main_v25_apply,
    v24_apply z lb b r _ x hx]
  dsimp only
  exact term_eq _ _ _ _

/-- The mask: row and column of one head. -/
theorem v46_apply (p q : Fin 4) : val_main_v46 (F := Ideal) (ix2 p q) = 1#1 ↔ p = q := by
  rw [val_main_v46_apply, val_main_v45_apply, val_main_v44_apply, val_main_v43_apply, val_main_v42_apply, val_main_v41_apply, val_main_v41_apply]
  show IntOp.cmpi .eq (BitVec.ofNat 32 p.val) (BitVec.ofNat 32 q.val) = 1#1 ↔ _
  revert p q
  decide

/-- The reference's result: the heads' new states, transposed, on the diagonal, and zero elsewhere. -/
theorem ref_apply (last : Fin 16384) (hl : last.val = 16383) (b : Fin 2) (i j : Fin 256) (x : ℝ) (hx : (lb : S256.Idx → EReal) (ix1 j) = x) :
    (val_main_v51 (F := Ideal) z s lb : S2x256x256.Idx → EReal) (ix3 b i j)
      = if i.val / 64 = j.val / 64 then
          newElem last ((s : S2x4x64x64.Idx → EReal) (ix4 b (⟨j.val / 64, by omega⟩ : Fin 4) (⟨j.val % 64, by omega⟩ : Fin 64) (⟨i.val % 64, by omega⟩ : Fin 64)))
            (fun r => (z : S2x16384x1024.Idx → EReal) (ix3 b r ⟨512 + i.val, by omega⟩))
            (fun r => logGate x ((z : S2x16384x1024.Idx → EReal) (ix3 b r ⟨256 + j.val, by omega⟩)))
        else 0 := by
  have hb := b.isLt; have hi := i.isLt; have hj := j.isLt
  have i51 : idx_main_v51 (ix3 b i j) = (ix5 b (⟨i.val / 64, by omega⟩ : Fin 4) (⟨i.val % 64, by omega⟩ : Fin 64) (⟨j.val / 64, by omega⟩ : Fin 4) (⟨j.val % 64, by omega⟩ : Fin 64)) := by
    funext a
    apply Fin.ext
    fin_cases a
    · show ((b.val * 256 + i.val) * 256 + j.val) / 65536 = b.val; omega
    · show ((b.val * 256 + i.val) * 256 + j.val) / 16384 % 4 = i.val / 64; omega
    · show ((b.val * 256 + i.val) * 256 + j.val) / 256 % 64 = i.val % 64; omega
    · show ((b.val * 256 + i.val) * 256 + j.val) / 64 % 4 = j.val / 64; omega
    · show ((b.val * 256 + i.val) * 256 + j.val) % 64 = j.val % 64; omega
  rw [val_main_v51_apply, i51, val_main_v50_apply, val_main_call2_v1_apply, val_main_v47_apply, val_main_call2_v2_apply, val_main_v49_apply, val_main_v48_apply,
    val_main_call2_v3_apply, val_main_call2_v0_apply, val_main_cst_apply]
  have im : idx_main_v47 (idx_main_call2_v1 (ix5 b (⟨i.val / 64, by omega⟩ : Fin 4) (⟨i.val % 64, by omega⟩ : Fin 64) (⟨j.val / 64, by omega⟩ : Fin 4) (⟨j.val % 64, by omega⟩ : Fin 64)))
      = ix2 (⟨i.val / 64, by omega⟩ : Fin 4) (⟨j.val / 64, by omega⟩ : Fin 4) := funext fun a => Fin.ext (by fin_cases a <;> rfl)
  have iv : idx_main_v48 (idx_main_v49 (idx_main_call2_v2 (ix5 b (⟨i.val / 64, by omega⟩ : Fin 4) (⟨i.val % 64, by omega⟩ : Fin 64) (⟨j.val / 64, by omega⟩ : Fin 4) (⟨j.val % 64, by omega⟩ : Fin 64))))
      = ix4 b (⟨i.val / 64, by omega⟩ : Fin 4) (⟨j.val % 64, by omega⟩ : Fin 64) (⟨i.val % 64, by omega⟩ : Fin 64) := funext fun a => Fin.ext (by fin_cases a <;> rfl)
  rw [im, iv, select_of _ _ (v46_apply _ _)]
  have hh : ((⟨i.val / 64, by omega⟩ : Fin 4) = (⟨j.val / 64, by omega⟩ : Fin 4)) ↔ i.val / 64 = j.val / 64 := by rw [Fin.mk.injEq]
  simp only [hh]
  split_ifs with h
  · have hq : (⟨i.val / 64, by omega⟩ : Fin 4) = (⟨j.val / 64, by omega⟩ : Fin 4) := hh.mpr h
    rw [hq]
    have ej : (⟨64 * (j.val / 64) + j.val % 64, by omega⟩ : Fin 256) = j := Fin.ext (Nat.div_add_mod j.val 64)
    refine (v40_apply z s lb last hl b (⟨j.val / 64, by omega⟩ : Fin 4) (⟨j.val % 64, by omega⟩ : Fin 64) (⟨i.val % 64, by omega⟩ : Fin 64) x (by rw [ej]; exact hx)).trans ?_
    have e1 : (64 * (j.val / 64) + i.val % 64) = i.val := by omega
    have e2 : (64 * (j.val / 64) + j.val % 64) = j.val := by omega
    simp only [e1, e2]
  · exact zero_bits

end Cert.Hgr
end
-- ==== Proof.HgrnClaims.lean ====
/-
  The state of the gated recurrence at the prompt's shape: the claims about it.
-/
module

public import proofs.«01_k».proof.Proof.HgrnOut
public import proofs.«01_k».proof.Proof.HgrnRef
public import proofs.«01_k».proof.Proof.Finite
public import proofs.«01_k».proof.Defs
public import Idealize.ShloMosaic.Adequacy

@[expose] public section

set_option maxRecDepth 16384

noncomputable section

namespace Cert.Hgr

open Idealize.ShloMosaic Idealize.ShloMosaic.TcCoe
open Idealize.SL.Sem

/-- The shape relations that the precondition's operations take. -/
theorem pre_facts : Cert.Pre_finite_gates.Facts := ⟨by decide, by decide, by decide, by decide, by decide, by decide⟩

/-- Under the precondition the gates' inputs and the lower bounds are real. -/
theorem finite_real [Cert.Pre_finite_gates.Facts] (x0 : (⟨3, ![2, 16384, 1024]⟩ : Shape).Idx → EReal) (x1 : (⟨4, ![2, 4, 64, 64]⟩ : Shape).Idx → EReal)
    (x2 : (⟨1, ![256]⟩ : Shape).Idx → EReal) (x3 : (⟨1, ![64]⟩ : Shape).Idx → EReal)
    (h : Cert.Pre_finite_gates.fn (F := Ideal) x0 x1 x2 x3 = fun _ => 1#1) :
    (∀ (b : Fin 2) (n : Fin 16384) (j : Fin 256), ∃ y : ℝ, x0 (ix3 b n ⟨256 + j.val, by omega⟩) = y) ∧ ∀ i, x2 i = ((x2 i).toReal : EReal) := by
  have h0 := congrFun h ix0
  dsimp only [Cert.Pre_finite_gates.fn] at h0
  haveI : Subsingleton Cert.Pre_finite_gates.S_.Idx := ⟨fun a b => funext fun k => k.elim0⟩
  obtain ⟨hz, hl⟩ := IntOp.andi_eq_one.mp h0
  refine ⟨fun b n j => ?_, fun i => Cert.Att.real_of_abs_lt _ (Host.reduce_andi_all _ _ _ _ _ hl i)⟩
  have hr := Cert.Att.real_of_abs_lt _ (Host.reduce_andi_all _ _ _ _ _ hz (ix3 b n j))
  refine ⟨_, Eq.trans ?_ hr⟩
  refine congrArg x0 (funext fun a => Fin.ext ?_)
  fin_cases a
  · exact (Nat.zero_add _).symm
  · exact (Nat.zero_add _).symm
  · rfl

/-- The reference ends with its arguments unchanged and every semaphore at zero. -/
theorem frame_ref : Cert.quiescent_HgrnRefIdeal (hHgrnRefIdeal := Cert.HgrnRefIdeal.Gen.facts) := fun m ρ _ =>
  (θ_run Cert.HgrnRefIdeal.defs _ _).mono (fun r h => ⟨fun c => (h c).2, sem_eq_zero_of_no_sems (by decide) r.2⟩)
    (Cert.HgrnRefIdeal.Value.run (F := Ideal) m ρ)

/-- Kernel and reference leave the same states. -/
theorem algebraic : Cert.algebraic_HgrnIdeal_HgrnRefIdeal_pre_finite_gates (hHgrnIdeal := Cert.HgrnIdeal.Gen.facts)
    (hHgrnRefIdeal := Cert.HgrnRefIdeal.Gen.facts) (hPre_finite_gates := pre_facts) := by
  intro m g m' g' hpre hagree
  refine ⟨fun c => (Cert.HgrnIdeal.Gen.dats m 0 c).arrAt 6 Cert.HgrnIdeal.cfg0.N,
    (θ_run _ _ _).mono (fun r h c => (h c).2) (Cert.HgrnIdeal.Value.run_blocks m g), (θ_run _ _ _).mono (fun r h c => ?_) (Cert.HgrnRefIdeal.Value.run m' g')⟩
  obtain ⟨a0, a1, a2, a3⟩ := hagree c
  obtain ⟨h0, hk⟩ := h c
  haveI := pre_facts
  obtain ⟨hz, hl⟩ := finite_real _ _ _ _ (hpre c)
  refine ⟨h0.trans ?_, hk⟩
  rw [Cert.HgrnRefIdeal.Read.val_main_v51_eq, a0, a1, a2]
  funext i
  obtain ⟨b, p, L, rfl⟩ : ∃ (b : Fin 2) (p : Fin 256) (L : Fin 256), i = ix3 b p L := ⟨i 0, i 1, i 2, funext fun a => by fin_cases a <;> rfl⟩
  refine (ref_apply _ _ _ ⟨16383, by norm_num⟩ rfl b p L _ (hl (ix1 L))).trans (Eq.trans ?_ (arr6_apply m c b p L _ (hl (ix1 L)) (fun n => hz b n L)).symm)
  refine if_congr Iff.rfl ?_ rfl
  refine newElem_eq _ rfl _ _ _ _ _ (fun r => ?_) (fun r => ?_)
  · obtain ⟨y, hy⟩ := hz b r L
    exact gOf_row m c b L _ y r hy
  · exact vOf_row m c b p r

end Cert.Hgr
end
-- ==== Proof.RwkvClaims.lean ====
/-
  The shift that RWKV-7 hands on, at the prompt's shape: the array that the kernel leaves, and the claims about it.
-/
module

public import proofs.«01_k».proof.Proof.Gen.RwkvIdeal.Value
public import proofs.«01_k».proof.Proof.Gen.RwkvRefIdeal.Read
public import proofs.«01_k».proof.Defs
public import Idealize.ShloMosaic.Lib.Pipeline.ValueKit
public import Idealize.ShloMosaic.Adequacy

@[expose] public section

set_option maxRecDepth 16384

noncomputable section

namespace Cert.Rwk

open Idealize.ShloMosaic Idealize.ShloMosaic.TcCoe
open Idealize.SL.Sem

section
open Cert.RwkvIdeal Cert.RwkvIdeal.Gen Cert.RwkvIdeal.Value

variable (m : (ℓ : Loc nD τ sig) → Buf (Elt Ideal) ℓ) (c : Dev nD)

/-- The places of the input and of the shift at a point: block `t % 256` of sequence `t / 256`. -/
theorem places : ∀ t : Fin grid0.N, win0_0.index t = ![t.val / 256, t.val % 256, 0] ∧ win0_16.index t = ![t.val / 256, 0, 0] := by
  decide +kernel

/-- The shift is written back at a sequence's last point. -/
theorem flush_last : ∀ t : Fin grid0.N, t.val % 256 = 255 → win0_16.flush t = true := by
  decide +kernel

/-- The input's last block of a sequence. -/
theorem blk0 (t : Fin grid0.N) (b : Fin 2) (hb : t.val / 256 = b.val) (hq : t.val % 256 = 255) (k : Fin 1024) :
    (iblk m c 0 t : S1x64x1024.Idx → EReal) (ix3 0 63 k) = (m ((c : Thread nD τ).loc main_arg0) : S2x16384x1024.Idx → EReal) (ix3 b 16383 k) := by
  obtain ⟨e0, e1⟩ := places t
  rw [hb, hq] at e0
  blk_ext [iblk, V, e0]

/-- What a sequence's last point stores as the shift: the last row of its block. -/
theorem stored (t : Fin cfg0.N) (h0 : ¬t.val % 256 = 0) (h1 : t.val % 256 = 255) (k : Fin 1024) :
    ((outsAt0 m c t.val t.isLt).2.2.1 : S1x1x1024.Idx → EReal) (ix3 0 0 k) = (iblk m c 0 t : S1x64x1024.Idx → EReal) (ix3 0 63 k) := by
  rw [outsAt0_C m c t h0 h1]
  frame_out
  pointwise [k0_pay3, k0_pay6]

/-- The array of the shifts: every sequence's last row. -/
theorem arr16_apply (b : Fin 2) (k : Fin 1024) :
    ((dats m 0 c).arrAt 16 cfg0.N : S2x1x1024.Idx → EReal) (ix3 b 0 k) = (m ((c : Thread nD τ).loc main_arg0) : S2x16384x1024.Idx → EReal) (ix3 b 16383 k) := by
  have hN : cfg0.N = 512 := N_0
  have hb0 := b.isLt
  let t : Fin cfg0.N := ⟨256 * b.val + 255, by omega⟩
  have hb : t.val / 256 = b.val := by change (256 * b.val + 255) / 256 = b.val; omega
  have hq : t.val % 256 = 255 := by change (256 * b.val + 255) % 256 = 255; omega
  obtain ⟨e0, e1⟩ := places t
  rw [hb] at e1
  have hk := congrFun (flushed16_eq m c t (flush_last t hq)) (ix3 (0 : Fin 1) (0 : Fin 1) k)
  have hp : ((cfg0.win 16).blk t).view.emb (ix3 (0 : Fin 1) (0 : Fin 1) k) = ix3 b (0 : Fin 1) k := by
    blk_ext [e1]
  have hl : ((cfg0.win 16).blk t).view.read (Elt Ideal) (G16 m c) (ix3 (0 : Fin 1) (0 : Fin 1) k) = G16 m c (ix3 b (0 : Fin 1) k) := by
    rw [← hp]; rfl
  rw [final16, ← hl, ← hk, flushed16]
  exact (stored m c t (by omega) hq k).trans (blk0 m c t b hb hq k)

end

/-- The reference ends with its arguments unchanged and every semaphore at zero. -/
theorem frame_ref : Cert.quiescent_RwkvRefIdeal (hRwkvRefIdeal := Cert.RwkvRefIdeal.Gen.facts) := fun m ρ _ =>
  (θ_run Cert.RwkvRefIdeal.defs _ _).mono (fun r h => ⟨fun c => (h c).2, sem_eq_zero_of_no_sems (by decide) r.2⟩)
    (Cert.RwkvRefIdeal.Value.run (F := Ideal) m ρ)

/-- Kernel and reference leave the same shifts. -/
theorem algebraic : Cert.algebraic_RwkvIdeal_RwkvRefIdeal (hRwkvIdeal := Cert.RwkvIdeal.Gen.facts)
    (hRwkvRefIdeal := Cert.RwkvRefIdeal.Gen.facts) := by
  intro m g m' g' _ hagree
  refine ⟨fun c => (Cert.RwkvIdeal.Gen.dats m 0 c).arrAt 16 Cert.RwkvIdeal.cfg0.N,
    (θ_run _ _ _).mono (fun r h c => (h c).2.2) (Cert.RwkvIdeal.Value.run_blocks m g), (θ_run _ _ _).mono (fun r h c => ?_) (Cert.RwkvRefIdeal.Value.run m' g')⟩
  have a0 := (hagree c).1
  obtain ⟨h0, hk⟩ := h c
  refine ⟨h0.trans ?_, hk⟩
  rw [Cert.RwkvRefIdeal.Read.val_main_v0_eq, a0]
  funext i
  obtain ⟨b, p, L, rfl⟩ : ∃ (b : Fin 2) (p : Fin 1) (L : Fin 1024), i = ix3 b p L := ⟨i 0, i 1, i 2, funext fun a => by fin_cases a <;> rfl⟩
  obtain rfl : p = 0 := Subsingleton.elim _ _
  refine Eq.trans ?_ (arr16_apply m c b L).symm
  rw [Cert.RwkvRefIdeal.Read.val_main_v0_apply]
  refine congrArg _ (funext fun a => Fin.ext ?_)
  fin_cases a <;> rfl

end Cert.Rwk
end
-- ==== Proof.lean ====
/-
  The certificate's claim, put together from the claims of each program.
-/
module

public import proofs.«01_k».proof.Defs
public import proofs.«01_k».proof.Proof.Gen.Kernel.Frame
public import proofs.«01_k».proof.Proof.Gen.KernelIdeal.Frame
public import proofs.«01_k».proof.Proof.Attention
public import proofs.«01_k».proof.Proof.InProjRef
public import proofs.«01_k».proof.Proof.MergeRef
public import proofs.«01_k».proof.Proof.FinalNorm
public import proofs.«01_k».proof.Proof.FinalNormS
public import proofs.«01_k».proof.Proof.InProjSRef
public import proofs.«01_k».proof.Proof.ConvClaims
public import proofs.«01_k».proof.Proof.ConvSClaims
public import proofs.«01_k».proof.Proof.MergeSRef
public import proofs.«01_k».proof.Proof.HgrnSClaims
public import proofs.«01_k».proof.Proof.RwkvSClaims
public import proofs.«01_k».proof.Proof.HgrnClaims
public import proofs.«01_k».proof.Proof.RwkvClaims
public import proofs.«01_k».proof.Proof.Gen.InProj.Frame
public import proofs.«01_k».proof.Proof.Gen.InProjIdeal.Value
public import proofs.«01_k».proof.Proof.Gen.InProjRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.InProjRefIdeal.Read
public import proofs.«01_k».proof.Proof.Gen.MergeRefIdeal.Read
public import proofs.«01_k».proof.Proof.Gen.FinalNorm.Frame
public import proofs.«01_k».proof.Proof.Gen.FinalNormIdeal.Value
public import proofs.«01_k».proof.Proof.Gen.FinalNormRefIdeal.Run
public import proofs.«01_k».proof.Proof.Gen.FinalNormRefIdeal.Read
public import proofs.«01_k».proof.Proof.Gen.FinalNormS.Frame
public import proofs.«01_k».proof.Proof.Gen.FinalNormSIdeal.Value
public import proofs.«01_k».proof.Proof.Gen.FinalNormSRefIdeal.Run
public import proofs.«01_k».proof.Proof.Gen.FinalNormSRefIdeal.Read
public import proofs.«01_k».proof.Proof.Gen.InProjS.Frame
public import proofs.«01_k».proof.Proof.Gen.InProjSIdeal.Value
public import proofs.«01_k».proof.Proof.Gen.InProjSRefIdeal.Run
public import proofs.«01_k».proof.Proof.Gen.InProjSRefIdeal.Read
public import proofs.«01_k».proof.Proof.Gen.Conv.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.ConvS.Frame
public import proofs.«01_k».proof.Proof.Gen.ConvSIdeal.Value
public import proofs.«01_k».proof.Proof.Gen.ConvSRefIdeal.Run
public import proofs.«01_k».proof.Proof.Gen.ConvSRefIdeal.Read
public import proofs.«01_k».proof.Proof.Gen.MergeS.Frame
public import proofs.«01_k».proof.Proof.Gen.MergeSIdeal.Value
public import proofs.«01_k».proof.Proof.Gen.MergeSRefIdeal.Run
public import proofs.«01_k».proof.Proof.Gen.MergeSRefIdeal.Read
public import proofs.«01_k».proof.Proof.Gen.HgrnS.Frame
public import proofs.«01_k».proof.Proof.Gen.HgrnSIdeal.Value
public import proofs.«01_k».proof.Proof.Gen.HgrnSRefIdeal.Run
public import proofs.«01_k».proof.Proof.Gen.HgrnSRefIdeal.Read
public import proofs.«01_k».proof.Proof.Gen.RwkvS.Frame
public import proofs.«01_k».proof.Proof.Gen.RwkvSIdeal.Value
public import proofs.«01_k».proof.Proof.Gen.RwkvSRefIdeal.Run
public import proofs.«01_k».proof.Proof.Gen.RwkvSRefIdeal.Read
public import proofs.«01_k».proof.Proof.Gen.Hgrn.Frame
public import proofs.«01_k».proof.Proof.Gen.HgrnIdeal.Value
public import proofs.«01_k».proof.Proof.Gen.HgrnRefIdeal.Run
public import proofs.«01_k».proof.Proof.Gen.HgrnRefIdeal.Read
public import proofs.«01_k».proof.Proof.Gen.Rwkv.Frame
public import proofs.«01_k».proof.Proof.Gen.RwkvIdeal.Value
public import proofs.«01_k».proof.Proof.Gen.RwkvRefIdeal.Run
public import proofs.«01_k».proof.Proof.Gen.RwkvRefIdeal.Read
public import Idealize.ShloMosaic.Adequacy
public import Idealize.ShloMosaic.Init

@[expose] public section

noncomputable section

namespace Cert.Proof

open Idealize.ShloMosaic Idealize.SL.Sem

/-- Every claim holds. -/
theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.Merge.Gen.facts, Cert.MergeIdeal.Gen.facts, Cert.MergeRefIdeal.Gen.facts,
    Cert.FinalNorm.Gen.facts, Cert.FinalNormIdeal.Gen.facts, Cert.FinalNormRefIdeal.Gen.facts,
    Cert.FinalNormS.Gen.facts, Cert.FinalNormSIdeal.Gen.facts, Cert.FinalNormSRefIdeal.Gen.facts,
    Cert.InProjS.Gen.facts, Cert.InProjSIdeal.Gen.facts, Cert.InProjSRefIdeal.Gen.facts,
    Cert.Conv.Gen.facts, Cert.ConvIdeal.Gen.facts, Cert.ConvRefIdeal.Gen.facts,
    Cert.ConvS.Gen.facts, Cert.ConvSIdeal.Gen.facts, Cert.ConvSRefIdeal.Gen.facts,
    Cert.MergeS.Gen.facts, Cert.MergeSIdeal.Gen.facts, Cert.MergeSRefIdeal.Gen.facts,
    Cert.HgrnS.Gen.facts, Cert.HgrnSIdeal.Gen.facts, Cert.HgrnSRefIdeal.Gen.facts,
    Cert.RwkvS.Gen.facts, Cert.RwkvSIdeal.Gen.facts, Cert.RwkvSRefIdeal.Gen.facts,
    Cert.Hgrn.Gen.facts, Cert.HgrnIdeal.Gen.facts, Cert.HgrnRefIdeal.Gen.facts,
    Cert.Rwkv.Gen.facts, Cert.RwkvIdeal.Gen.facts, Cert.RwkvRefIdeal.Gen.facts,
    Cert.Att.pre_facts, Cert.HgrS.pre_facts, Cert.Hgr.pre_facts,
    fun m ρ _ => Cert.Kernel.Gen.frame m ρ, fun m ρ _ => Cert.KernelIdeal.Gen.frame m ρ,
    fun m ρ _ => Cert.KernelIdeal.Gen.frame m ρ, Cert.Att.frame_ref, fun m ρ _ => Cert.Att.frame_ref m ρ trivial,
    fun m ρ _ => Cert.InProj.Gen.frame m ρ, fun m ρ _ => Cert.InProjIdeal.Gen.frame m ρ,
    Cert.Inp.frame_ref,
    fun m ρ _ => Cert.Merge.Gen.frame m ρ, fun m ρ _ => Cert.MergeIdeal.Gen.frame m ρ,
    Cert.Mrg.frame_ref,
    fun m ρ _ => Cert.FinalNorm.Gen.frame m ρ, fun m ρ _ => Cert.FinalNormIdeal.Gen.frame m ρ,
    Cert.Fnm.frame_ref,
    fun m ρ _ => Cert.FinalNormS.Gen.frame m ρ, fun m ρ _ => Cert.FinalNormSIdeal.Gen.frame m ρ,
    Cert.FnmS.frame_ref,
    fun m ρ _ => Cert.InProjS.Gen.frame m ρ, fun m ρ _ => Cert.InProjSIdeal.Gen.frame m ρ,
    Cert.InpS.frame_ref,
    fun m ρ _ => Cert.Conv.Gen.frame m ρ, fun m ρ _ => Cert.ConvIdeal.Gen.frame m ρ,
    Cert.Cnv.frame_ref,
    fun m ρ _ => Cert.ConvS.Gen.frame m ρ, fun m ρ _ => Cert.ConvSIdeal.Gen.frame m ρ,
    Cert.CnvS.frame_ref,
    fun m ρ _ => Cert.MergeS.Gen.frame m ρ, fun m ρ _ => Cert.MergeSIdeal.Gen.frame m ρ,
    Cert.MrgS.frame_ref,
    fun m ρ _ => Cert.HgrnS.Gen.frame m ρ, fun m ρ _ => Cert.HgrnSIdeal.Gen.frame m ρ,
    fun m ρ _ => Cert.HgrnSIdeal.Gen.frame m ρ, Cert.HgrS.frame_ref, fun m ρ _ => Cert.HgrS.frame_ref m ρ trivial,
    fun m ρ _ => Cert.RwkvS.Gen.frame m ρ, fun m ρ _ => Cert.RwkvSIdeal.Gen.frame m ρ,
    Cert.RwkS.frame_ref,
    fun m ρ _ => Cert.Hgrn.Gen.frame m ρ, fun m ρ _ => Cert.HgrnIdeal.Gen.frame m ρ,
    fun m ρ _ => Cert.HgrnIdeal.Gen.frame m ρ, Cert.Hgr.frame_ref, fun m ρ _ => Cert.Hgr.frame_ref m ρ trivial,
    fun m ρ _ => Cert.Rwkv.Gen.frame m ρ, fun m ρ _ => Cert.RwkvIdeal.Gen.frame m ρ,
    Cert.Rwk.frame_ref,
    Cert.Att.preserves, Cert.Att.algebraic,
    Cert.Inp.preserves, Cert.Inp.algebraic,
    trivial, Cert.Mrg.algebraic,
    trivial, Cert.Fnm.algebraic,
    trivial, Cert.FnmS.algebraic,
    Cert.InpS.preserves, Cert.InpS.algebraic,
    trivial, Cert.Cnv.algebraic,
    trivial, Cert.CnvS.algebraic,
    trivial, Cert.MrgS.algebraic,
    trivial, Cert.HgrS.algebraic,
    trivial, Cert.RwkS.algebraic,
    trivial, Cert.Hgr.algebraic,
    trivial, Cert.Rwk.algebraic⟩

end Cert.Proof

end
